-- ==== Defs.lean ====
def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpReferenceIdeal (m : (ℓ : Loc Cert.MlpReferenceIdeal.nD Cert.MlpReferenceIdeal.τ Cert.MlpReferenceIdeal.sig) → Buf (Elt Ideal) ℓ) : Prop :=
  True

def Pre_Mla (m : (ℓ : Loc Cert.Mla.nD Cert.Mla.τ Cert.Mla.sig) → Buf (Elt Bits) ℓ) : Prop :=
  True

def Pre_MlaIdeal (m : (ℓ : Loc Cert.MlaIdeal.nD Cert.MlaIdeal.τ Cert.MlaIdeal.sig) → Buf (Elt Ideal) ℓ) : Prop :=
  True

def Pre_MlaIdeal_finite_latents [hPre_finite_latents : Cert.Pre_finite_latents.Facts] (m : (ℓ : Loc Cert.MlaIdeal.nD Cert.MlaIdeal.τ Cert.MlaIdeal.sig) → Buf (Elt Ideal) ℓ) : Prop :=
  ∀ c : Dev Cert.MlaIdeal.nD,
    (Cert.Pre_finite_latents.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3))).1 = (fun _ => 1#1)
    ∧ (Cert.Pre_finite_latents.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3))).2.1 = (fun _ => 1#1)
    ∧ (Cert.Pre_finite_latents.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3))).2.2.1 = (fun _ => 1#1)
    ∧ (Cert.Pre_finite_latents.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3))).2.2.2.1 = (fun _ => 1#1)
    ∧ (Cert.Pre_finite_latents.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3))).2.2.2.2 = (fun _ => 1#1)

def Pre_MlaReferenceIdeal (m : (ℓ : Loc Cert.MlaReferenceIdeal.nD Cert.MlaReferenceIdeal.τ Cert.MlaReferenceIdeal.sig) → Buf (Elt Ideal) ℓ) : Prop :=
  True

def Pre_MlaReferenceIdeal_finite_latents [hPre_finite_latents : Cert.Pre_finite_latents.Facts] (m : (ℓ : Loc Cert.MlaReferenceIdeal.nD Cert.MlaReferenceIdeal.τ Cert.MlaReferenceIdeal.sig) → Buf (Elt Ideal) ℓ) : Prop :=
  ∀ c : Dev Cert.MlaReferenceIdeal.nD,
    (Cert.Pre_finite_latents.fn (F := Ideal) (m ((c.tc : Thread Cert.MlaReferenceIdeal.nD Cert.MlaReferenceIdeal.τ).loc Cert.MlaReferenceIdeal.main_arg0)) (m ((c.tc : Thread Cert.MlaReferenceIdeal.nD Cert.MlaReferenceIdeal.τ).loc Cert.MlaReferenceIdeal.main_arg1)) (m ((c.tc : Thread Cert.MlaReferenceIdeal.nD Cert.MlaReferenceIdeal.τ).loc Cert.MlaReferenceIdeal.main_arg2)) (m ((c.tc : Thread Cert.MlaReferenceIdeal.nD Cert.MlaReferenceIdeal.τ).loc Cert.MlaReferenceIdeal.main_arg3))).1 = (fun _ => 1#1)
    ∧ (Cert.Pre_finite_latents.fn (F := Ideal) (m ((c.tc : Thread Cert.MlaReferenceIdeal.nD Cert.MlaReferenceIdeal.τ).loc Cert.MlaReferenceIdeal.main_arg0)) (m ((c.tc : Thread Cert.MlaReferenceIdeal.nD Cert.MlaReferenceIdeal.τ).loc Cert.MlaReferenceIdeal.main_arg1)) (m ((c.tc : Thread Cert.MlaReferenceIdeal.nD Cert.MlaReferenceIdeal.τ).loc Cert.MlaReferenceIdeal.main_arg2)) (m ((c.tc : Thread Cert.MlaReferenceIdeal.nD Cert.MlaReferenceIdeal.τ).loc Cert.MlaReferenceIdeal.main_arg3))).2.1 = (fun _ => 1#1)
    ∧ (Cert.Pre_finite_latents.fn (F := Ideal) (m ((c.tc : Thread Cert.MlaReferenceIdeal.nD Cert.MlaReferenceIdeal.τ).loc Cert.MlaReferenceIdeal.main_arg0)) (m ((c.tc : Thread Cert.MlaReferenceIdeal.nD Cert.MlaReferenceIdeal.τ).loc Cert.MlaReferenceIdeal.main_arg1)) (m ((c.tc : Thread Cert.MlaReferenceIdeal.nD Cert.MlaReferenceIdeal.τ).loc Cert.MlaReferenceIdeal.main_arg2)) (m ((c.tc : Thread Cert.MlaReferenceIdeal.nD Cert.MlaReferenceIdeal.τ).loc Cert.MlaReferenceIdeal.main_arg3))).2.2.1 = (fun _ => 1#1)
    ∧ (Cert.Pre_finite_latents.fn (F := Ideal) (m ((c.tc : Thread Cert.MlaReferenceIdeal.nD Cert.MlaReferenceIdeal.τ).loc Cert.MlaReferenceIdeal.main_arg0)) (m ((c.tc : Thread Cert.MlaReferenceIdeal.nD Cert.MlaReferenceIdeal.τ).loc Cert.MlaReferenceIdeal.main_arg1)) (m ((c.tc : Thread Cert.MlaReferenceIdeal.nD Cert.MlaReferenceIdeal.τ).loc Cert.MlaReferenceIdeal.main_arg2)) (m ((c.tc : Thread Cert.MlaReferenceIdeal.nD Cert.MlaReferenceIdeal.τ).loc Cert.MlaReferenceIdeal.main_arg3))).2.2.2.1 = (fun _ => 1#1)
    ∧ (Cert.Pre_finite_latents.fn (F := Ideal) (m ((c.tc : Thread Cert.MlaReferenceIdeal.nD Cert.MlaReferenceIdeal.τ).loc Cert.MlaReferenceIdeal.main_arg0)) (m ((c.tc : Thread Cert.MlaReferenceIdeal.nD Cert.MlaReferenceIdeal.τ).loc Cert.MlaReferenceIdeal.main_arg1)) (m ((c.tc : Thread Cert.MlaReferenceIdeal.nD Cert.MlaReferenceIdeal.τ).loc Cert.MlaReferenceIdeal.main_arg2)) (m ((c.tc : Thread Cert.MlaReferenceIdeal.nD Cert.MlaReferenceIdeal.τ).loc Cert.MlaReferenceIdeal.main_arg3))).2.2.2.2 = (fun _ => 1#1)

def Pre_Oproj (m : (ℓ : Loc Cert.Oproj.nD Cert.Oproj.τ Cert.Oproj.sig) → Buf (Elt Bits) ℓ) : Prop :=
  True

def Pre_OprojIdeal (m : (ℓ : Loc Cert.OprojIdeal.nD Cert.OprojIdeal.τ Cert.OprojIdeal.sig) → Buf (Elt Ideal) ℓ) : Prop :=
  True

def Pre_OprojReferenceIdeal (m : (ℓ : Loc Cert.OprojReferenceIdeal.nD Cert.OprojReferenceIdeal.τ Cert.OprojReferenceIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojReferenceIdeal (m : (ℓ : Loc Cert.InprojReferenceIdeal.nD Cert.InprojReferenceIdeal.τ Cert.InprojReferenceIdeal.sig) → Buf (Elt Ideal) ℓ) : Prop :=
  True

def Pre_MlpFirst (m : (ℓ : Loc Cert.MlpFirst.nD Cert.MlpFirst.τ Cert.MlpFirst.sig) → Buf (Elt Bits) ℓ) : Prop :=
  True

def Pre_MlpFirstIdeal (m : (ℓ : Loc Cert.MlpFirstIdeal.nD Cert.MlpFirstIdeal.τ Cert.MlpFirstIdeal.sig) → Buf (Elt Ideal) ℓ) : Prop :=
  True

def Pre_MlpFirstReferenceIdeal (m : (ℓ : Loc Cert.MlpFirstReferenceIdeal.nD Cert.MlpFirstReferenceIdeal.τ Cert.MlpFirstReferenceIdeal.sig) → Buf (Elt Ideal) ℓ) : Prop :=
  True

def Pre_OprojFirst (m : (ℓ : Loc Cert.OprojFirst.nD Cert.OprojFirst.τ Cert.OprojFirst.sig) → Buf (Elt Bits) ℓ) : Prop :=
  True

def Pre_OprojFirstIdeal (m : (ℓ : Loc Cert.OprojFirstIdeal.nD Cert.OprojFirstIdeal.τ Cert.OprojFirstIdeal.sig) → Buf (Elt Ideal) ℓ) : Prop :=
  True

def Pre_OprojFirstReferenceIdeal (m : (ℓ : Loc Cert.OprojFirstReferenceIdeal.nD Cert.OprojFirstReferenceIdeal.τ Cert.OprojFirstReferenceIdeal.sig) → Buf (Elt Ideal) ℓ) : Prop :=
  True

def Pre_MlaPrep (m : (ℓ : Loc Cert.MlaPrep.nD Cert.MlaPrep.τ Cert.MlaPrep.sig) → Buf (Elt Bits) ℓ) : Prop :=
  True

def Pre_MlaPrepIdeal (m : (ℓ : Loc Cert.MlaPrepIdeal.nD Cert.MlaPrepIdeal.τ Cert.MlaPrepIdeal.sig) → Buf (Elt Ideal) ℓ) : Prop :=
  True

def Pre_MlaPrepReferenceIdeal (m : (ℓ : Loc Cert.MlaPrepReferenceIdeal.nD Cert.MlaPrepReferenceIdeal.τ Cert.MlaPrepReferenceIdeal.sig) → Buf (Elt Ideal) ℓ) : Prop :=
  True

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ r.2.sem = fun _ => 0)

def quiescent_MlpReferenceIdeal [hMlpReferenceIdeal : Cert.MlpReferenceIdeal.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
      ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3)
      ∧ r.2.mem ((c.tc : Thread Cert.MlpReferenceIdeal.nD Cert.MlpReferenceIdeal.τ).loc Cert.MlpReferenceIdeal.main_arg4) = m ((c.tc : Thread Cert.MlpReferenceIdeal.nD Cert.MlpReferenceIdeal.τ).loc Cert.MlpReferenceIdeal.main_arg4))
      ∧ r.2.sem = fun _ => 0)

def quiescent_Mla [hMla : Cert.Mla.Facts] : Prop :=
  ∀ (m : (ℓ : Loc Cert.Mla.nD Cert.Mla.τ Cert.Mla.sig) → Buf (Elt Bits) ℓ) (g : Dev Cert.Mla.nD → PrngReg), Pre_Mla m →
    θ_run (Cert.Mla.defs (F := Bits)) (onTc (τ := Cert.Mla.τ) (Cert.Mla.main (F := Bits))) ⟨m, fun _ => 0, g⟩ (fun r => (∀ c : Dev Cert.Mla.nD,
      r.2.mem ((c.tc : Thread Cert.Mla.nD Cert.Mla.τ).loc Cert.Mla.main_arg0) = m ((c.tc : Thread Cert.Mla.nD Cert.Mla.τ).loc Cert.Mla.main_arg0)
      ∧ r.2.mem ((c.tc : Thread Cert.Mla.nD Cert.Mla.τ).loc Cert.Mla.main_arg1) = m ((c.tc : Thread Cert.Mla.nD Cert.Mla.τ).loc Cert.Mla.main_arg1)
      ∧ r.2.mem ((c.tc : Thread Cert.Mla.nD Cert.Mla.τ).loc Cert.Mla.main_arg2) = m ((c.tc : Thread Cert.Mla.nD Cert.Mla.τ).loc Cert.Mla.main_arg2)
      ∧ r.2.mem ((c.tc : Thread Cert.Mla.nD Cert.Mla.τ).loc Cert.Mla.main_arg3) = m ((c.tc : Thread Cert.Mla.nD Cert.Mla.τ).loc Cert.Mla.main_arg3))
      ∧ r.2.sem = fun _ => 0)

def quiescent_MlaIdeal [hMlaIdeal : Cert.MlaIdeal.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3))
      ∧ r.2.sem = fun _ => 0)

def quiescent_MlaIdeal_pre_finite_latents [hMlaIdeal : Cert.MlaIdeal.Facts] [hPre_finite_latents : Cert.Pre_finite_latents.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal_finite_latents m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3))
      ∧ r.2.sem = fun _ => 0)

def quiescent_MlaReferenceIdeal [hMlaReferenceIdeal : Cert.MlaReferenceIdeal.Facts] : Prop :=
  ∀ (m : (ℓ : Loc Cert.MlaReferenceIdeal.nD Cert.MlaReferenceIdeal.τ Cert.MlaReferenceIdeal.sig) → Buf (Elt Ideal) ℓ) (g : Dev Cert.MlaReferenceIdeal.nD → PrngReg), Pre_MlaReferenceIdeal m →
    θ_run (Cert.MlaReferenceIdeal.defs (F := Ideal)) (onTc (τ := Cert.MlaReferenceIdeal.τ) (Cert.MlaReferenceIdeal.main (F := Ideal))) ⟨m, fun _ => 0, g⟩ (fun r => (∀ c : Dev Cert.MlaReferenceIdeal.nD,
      r.2.mem ((c.tc : Thread Cert.MlaReferenceIdeal.nD Cert.MlaReferenceIdeal.τ).loc Cert.MlaReferenceIdeal.main_arg0) = m ((c.tc : Thread Cert.MlaReferenceIdeal.nD Cert.MlaReferenceIdeal.τ).loc Cert.MlaReferenceIdeal.main_arg0)
      ∧ r.2.mem ((c.tc : Thread Cert.MlaReferenceIdeal.nD Cert.MlaReferenceIdeal.τ).loc Cert.MlaReferenceIdeal.main_arg1) = m ((c.tc : Thread Cert.MlaReferenceIdeal.nD Cert.MlaReferenceIdeal.τ).loc Cert.MlaReferenceIdeal.main_arg1)
      ∧ r.2.mem ((c.tc : Thread Cert.MlaReferenceIdeal.nD Cert.MlaReferenceIdeal.τ).loc Cert.MlaReferenceIdeal.main_arg2) = m ((c.tc : Thread Cert.MlaReferenceIdeal.nD Cert.MlaReferenceIdeal.τ).loc Cert.MlaReferenceIdeal.main_arg2)
      ∧ r.2.mem ((c.tc : Thread Cert.MlaReferenceIdeal.nD Cert.MlaReferenceIdeal.τ).loc Cert.MlaReferenceIdeal.main_arg3) = m ((c.tc : Thread Cert.MlaReferenceIdeal.nD Cert.MlaReferenceIdeal.τ).loc Cert.MlaReferenceIdeal.main_arg3))
      ∧ r.2.sem = fun _ => 0)

def quiescent_MlaReferenceIdeal_pre_finite_latents [hMlaReferenceIdeal : Cert.MlaReferenceIdeal.Facts] [hPre_finite_latents : Cert.Pre_finite_latents.Facts] : Prop :=
  ∀ (m : (ℓ : Loc Cert.MlaReferenceIdeal.nD Cert.MlaReferenceIdeal.τ Cert.MlaReferenceIdeal.sig) → Buf (Elt Ideal) ℓ) (g : Dev Cert.MlaReferenceIdeal.nD → PrngReg), Pre_MlaReferenceIdeal_finite_latents m →
    θ_run (Cert.MlaReferenceIdeal.defs (F := Ideal)) (onTc (τ := Cert.MlaReferenceIdeal.τ) (Cert.MlaReferenceIdeal.main (F := Ideal))) ⟨m, fun _ => 0, g⟩ (fun r => (∀ c : Dev Cert.MlaReferenceIdeal.nD,
      r.2.mem ((c.tc : Thread Cert.MlaReferenceIdeal.nD Cert.MlaReferenceIdeal.τ).loc Cert.MlaReferenceIdeal.main_arg0) = m ((c.tc : Thread Cert.MlaReferenceIdeal.nD Cert.MlaReferenceIdeal.τ).loc Cert.MlaReferenceIdeal.main_arg0)
      ∧ r.2.mem ((c.tc : Thread Cert.MlaReferenceIdeal.nD Cert.MlaReferenceIdeal.τ).loc Cert.MlaReferenceIdeal.main_arg1) = m ((c.tc : Thread Cert.MlaReferenceIdeal.nD Cert.MlaReferenceIdeal.τ).loc Cert.MlaReferenceIdeal.main_arg1)
      ∧ r.2.mem ((c.tc : Thread Cert.MlaReferenceIdeal.nD Cert.MlaReferenceIdeal.τ).loc Cert.MlaReferenceIdeal.main_arg2) = m ((c.tc : Thread Cert.MlaReferenceIdeal.nD Cert.MlaReferenceIdeal.τ).loc Cert.MlaReferenceIdeal.main_arg2)
      ∧ r.2.mem ((c.tc : Thread Cert.MlaReferenceIdeal.nD Cert.MlaReferenceIdeal.τ).loc Cert.MlaReferenceIdeal.main_arg3) = m ((c.tc : Thread Cert.MlaReferenceIdeal.nD Cert.MlaReferenceIdeal.τ).loc Cert.MlaReferenceIdeal.main_arg3))
      ∧ r.2.sem = fun _ => 0)

def quiescent_Oproj [hOproj : Cert.Oproj.Facts] : Prop :=
  ∀ (m : (ℓ : Loc Cert.Oproj.nD Cert.Oproj.τ Cert.Oproj.sig) → Buf (Elt Bits) ℓ) (g : Dev Cert.Oproj.nD → PrngReg), Pre_Oproj m →
    θ_run (Cert.Oproj.defs (F := Bits)) (onTc (τ := Cert.Oproj.τ) (Cert.Oproj.main (F := Bits))) ⟨m, fun _ => 0, g⟩ (fun r => (∀ c : Dev Cert.Oproj.nD,
      r.2.mem ((c.tc : Thread Cert.Oproj.nD Cert.Oproj.τ).loc Cert.Oproj.main_arg0) = m ((c.tc : Thread Cert.Oproj.nD Cert.Oproj.τ).loc Cert.Oproj.main_arg0)
      ∧ r.2.mem ((c.tc : Thread Cert.Oproj.nD Cert.Oproj.τ).loc Cert.Oproj.main_arg1) = m ((c.tc : Thread Cert.Oproj.nD Cert.Oproj.τ).loc Cert.Oproj.main_arg1)
      ∧ r.2.mem ((c.tc : Thread Cert.Oproj.nD Cert.Oproj.τ).loc Cert.Oproj.main_arg2) = m ((c.tc : Thread Cert.Oproj.nD Cert.Oproj.τ).loc Cert.Oproj.main_arg2)
      ∧ r.2.mem ((c.tc : Thread Cert.Oproj.nD Cert.Oproj.τ).loc Cert.Oproj.main_arg3) = m ((c.tc : Thread Cert.Oproj.nD Cert.Oproj.τ).loc Cert.Oproj.main_arg3)
      ∧ r.2.mem ((c.tc : Thread Cert.Oproj.nD Cert.Oproj.τ).loc Cert.Oproj.main_arg4) = m ((c.tc : Thread Cert.Oproj.nD Cert.Oproj.τ).loc Cert.Oproj.main_arg4))
      ∧ r.2.sem = fun _ => 0)

def quiescent_OprojIdeal [hOprojIdeal : Cert.OprojIdeal.Facts] : Prop :=
  ∀ (m : (ℓ : Loc Cert.OprojIdeal.nD Cert.OprojIdeal.τ Cert.OprojIdeal.sig) → Buf (Elt Ideal) ℓ) (g : Dev Cert.OprojIdeal.nD → PrngReg), Pre_OprojIdeal m →
    θ_run (Cert.OprojIdeal.defs (F := Ideal)) (onTc (τ := Cert.OprojIdeal.τ) (Cert.OprojIdeal.main (F := Ideal))) ⟨m, fun _ => 0, g⟩ (fun r => (∀ c : Dev Cert.OprojIdeal.nD,
      r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
      ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
      ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
      ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3)
      ∧ r.2.mem ((c.tc : Thread Cert.OprojIdeal.nD Cert.OprojIdeal.τ).loc Cert.OprojIdeal.main_arg4) = m ((c.tc : Thread Cert.OprojIdeal.nD Cert.OprojIdeal.τ).loc Cert.OprojIdeal.main_arg4))
      ∧ r.2.sem = fun _ => 0)

def quiescent_OprojReferenceIdeal [hOprojReferenceIdeal : Cert.OprojReferenceIdeal.Facts] : Prop :=
  ∀ (m : (ℓ : Loc Cert.OprojReferenceIdeal.nD Cert.OprojReferenceIdeal.τ Cert.OprojReferenceIdeal.sig) → Buf (Elt Ideal) ℓ) (g : Dev Cert.OprojReferenceIdeal.nD → PrngReg), Pre_OprojReferenceIdeal m →
    θ_run (Cert.OprojReferenceIdeal.defs (F := Ideal)) (onTc (τ := Cert.OprojReferenceIdeal.τ) (Cert.OprojReferenceIdeal.main (F := Ideal))) ⟨m, fun _ => 0, g⟩ (fun r => (∀ c : Dev Cert.OprojReferenceIdeal.nD,
      r.2.mem ((c.tc : Thread Cert.OprojReferenceIdeal.nD Cert.OprojReferenceIdeal.τ).loc Cert.OprojReferenceIdeal.main_arg0) = m ((c.tc : Thread Cert.OprojReferenceIdeal.nD Cert.OprojReferenceIdeal.τ).loc Cert.OprojReferenceIdeal.main_arg0)
      ∧ r.2.mem ((c.tc : Thread Cert.OprojReferenceIdeal.nD Cert.OprojReferenceIdeal.τ).loc Cert.OprojReferenceIdeal.main_arg1) = m ((c.tc : Thread Cert.OprojReferenceIdeal.nD Cert.OprojReferenceIdeal.τ).loc Cert.OprojReferenceIdeal.main_arg1)
      ∧ r.2.mem ((c.tc : Thread Cert.OprojReferenceIdeal.nD Cert.OprojReferenceIdeal.τ).loc Cert.OprojReferenceIdeal.main_arg2) = m ((c.tc : Thread Cert.OprojReferenceIdeal.nD Cert.OprojReferenceIdeal.τ).loc Cert.OprojReferenceIdeal.main_arg2)
      ∧ r.2.mem ((c.tc : Thread Cert.OprojReferenceIdeal.nD Cert.OprojReferenceIdeal.τ).loc Cert.OprojReferenceIdeal.main_arg3) = m ((c.tc : Thread Cert.OprojReferenceIdeal.nD Cert.OprojReferenceIdeal.τ).loc Cert.OprojReferenceIdeal.main_arg3)
      ∧ r.2.mem ((c.tc : Thread Cert.OprojReferenceIdeal.nD Cert.OprojReferenceIdeal.τ).loc Cert.OprojReferenceIdeal.main_arg4) = m ((c.tc : Thread Cert.OprojReferenceIdeal.nD Cert.OprojReferenceIdeal.τ).loc Cert.OprojReferenceIdeal.main_arg4))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ r.2.sem = fun _ => 0)

def quiescent_InprojReferenceIdeal [hInprojReferenceIdeal : Cert.InprojReferenceIdeal.Facts] : Prop :=
  ∀ (m : (ℓ : Loc Cert.InprojReferenceIdeal.nD Cert.InprojReferenceIdeal.τ Cert.InprojReferenceIdeal.sig) → Buf (Elt Ideal) ℓ) (g : Dev Cert.InprojReferenceIdeal.nD → PrngReg), Pre_InprojReferenceIdeal m →
    θ_run (Cert.InprojReferenceIdeal.defs (F := Ideal)) (onTc (τ := Cert.InprojReferenceIdeal.τ) (Cert.InprojReferenceIdeal.main (F := Ideal))) ⟨m, fun _ => 0, g⟩ (fun r => (∀ c : Dev Cert.InprojReferenceIdeal.nD,
      r.2.mem ((c.tc : Thread Cert.InprojReferenceIdeal.nD Cert.InprojReferenceIdeal.τ).loc Cert.InprojReferenceIdeal.main_arg0) = m ((c.tc : Thread Cert.InprojReferenceIdeal.nD Cert.InprojReferenceIdeal.τ).loc Cert.InprojReferenceIdeal.main_arg0)
      ∧ r.2.mem ((c.tc : Thread Cert.InprojReferenceIdeal.nD Cert.InprojReferenceIdeal.τ).loc Cert.InprojReferenceIdeal.main_arg1) = m ((c.tc : Thread Cert.InprojReferenceIdeal.nD Cert.InprojReferenceIdeal.τ).loc Cert.InprojReferenceIdeal.main_arg1)
      ∧ r.2.mem ((c.tc : Thread Cert.InprojReferenceIdeal.nD Cert.InprojReferenceIdeal.τ).loc Cert.InprojReferenceIdeal.main_arg2) = m ((c.tc : Thread Cert.InprojReferenceIdeal.nD Cert.InprojReferenceIdeal.τ).loc Cert.InprojReferenceIdeal.main_arg2))
      ∧ r.2.sem = fun _ => 0)

def quiescent_MlpFirst [hMlpFirst : Cert.MlpFirst.Facts] : Prop :=
  ∀ (m : (ℓ : Loc Cert.MlpFirst.nD Cert.MlpFirst.τ Cert.MlpFirst.sig) → Buf (Elt Bits) ℓ) (g : Dev Cert.MlpFirst.nD → PrngReg), Pre_MlpFirst m →
    θ_run (Cert.MlpFirst.defs (F := Bits)) (onTc (τ := Cert.MlpFirst.τ) (Cert.MlpFirst.main (F := Bits))) ⟨m, fun _ => 0, g⟩ (fun r => (∀ c : Dev Cert.MlpFirst.nD,
      r.2.mem ((c.tc : Thread Cert.MlpFirst.nD Cert.MlpFirst.τ).loc Cert.MlpFirst.main_arg0) = m ((c.tc : Thread Cert.MlpFirst.nD Cert.MlpFirst.τ).loc Cert.MlpFirst.main_arg0)
      ∧ r.2.mem ((c.tc : Thread Cert.MlpFirst.nD Cert.MlpFirst.τ).loc Cert.MlpFirst.main_arg1) = m ((c.tc : Thread Cert.MlpFirst.nD Cert.MlpFirst.τ).loc Cert.MlpFirst.main_arg1)
      ∧ r.2.mem ((c.tc : Thread Cert.MlpFirst.nD Cert.MlpFirst.τ).loc Cert.MlpFirst.main_arg2) = m ((c.tc : Thread Cert.MlpFirst.nD Cert.MlpFirst.τ).loc Cert.MlpFirst.main_arg2)
      ∧ r.2.mem ((c.tc : Thread Cert.MlpFirst.nD Cert.MlpFirst.τ).loc Cert.MlpFirst.main_arg3) = m ((c.tc : Thread Cert.MlpFirst.nD Cert.MlpFirst.τ).loc Cert.MlpFirst.main_arg3)
      ∧ r.2.mem ((c.tc : Thread Cert.MlpFirst.nD Cert.MlpFirst.τ).loc Cert.MlpFirst.main_arg4) = m ((c.tc : Thread Cert.MlpFirst.nD Cert.MlpFirst.τ).loc Cert.MlpFirst.main_arg4))
      ∧ r.2.sem = fun _ => 0)

def quiescent_MlpFirstIdeal [hMlpFirstIdeal : Cert.MlpFirstIdeal.Facts] : Prop :=
  ∀ (m : (ℓ : Loc Cert.MlpFirstIdeal.nD Cert.MlpFirstIdeal.τ Cert.MlpFirstIdeal.sig) → Buf (Elt Ideal) ℓ) (g : Dev Cert.MlpFirstIdeal.nD → PrngReg), Pre_MlpFirstIdeal m →
    θ_run (Cert.MlpFirstIdeal.defs (F := Ideal)) (onTc (τ := Cert.MlpFirstIdeal.τ) (Cert.MlpFirstIdeal.main (F := Ideal))) ⟨m, fun _ => 0, g⟩ (fun r => (∀ c : Dev Cert.MlpFirstIdeal.nD,
      r.2.mem ((c.tc : Thread Cert.MlpFirstIdeal.nD Cert.MlpFirstIdeal.τ).loc Cert.MlpFirstIdeal.main_arg0) = m ((c.tc : Thread Cert.MlpFirstIdeal.nD Cert.MlpFirstIdeal.τ).loc Cert.MlpFirstIdeal.main_arg0)
      ∧ r.2.mem ((c.tc : Thread Cert.MlpFirstIdeal.nD Cert.MlpFirstIdeal.τ).loc Cert.MlpFirstIdeal.main_arg1) = m ((c.tc : Thread Cert.MlpFirstIdeal.nD Cert.MlpFirstIdeal.τ).loc Cert.MlpFirstIdeal.main_arg1)
      ∧ r.2.mem ((c.tc : Thread Cert.MlpFirstIdeal.nD Cert.MlpFirstIdeal.τ).loc Cert.MlpFirstIdeal.main_arg2) = m ((c.tc : Thread Cert.MlpFirstIdeal.nD Cert.MlpFirstIdeal.τ).loc Cert.MlpFirstIdeal.main_arg2)
      ∧ r.2.mem ((c.tc : Thread Cert.MlpFirstIdeal.nD Cert.MlpFirstIdeal.τ).loc Cert.MlpFirstIdeal.main_arg3) = m ((c.tc : Thread Cert.MlpFirstIdeal.nD Cert.MlpFirstIdeal.τ).loc Cert.MlpFirstIdeal.main_arg3)
      ∧ r.2.mem ((c.tc : Thread Cert.MlpFirstIdeal.nD Cert.MlpFirstIdeal.τ).loc Cert.MlpFirstIdeal.main_arg4) = m ((c.tc : Thread Cert.MlpFirstIdeal.nD Cert.MlpFirstIdeal.τ).loc Cert.MlpFirstIdeal.main_arg4))
      ∧ r.2.sem = fun _ => 0)

def quiescent_MlpFirstReferenceIdeal [hMlpFirstReferenceIdeal : Cert.MlpFirstReferenceIdeal.Facts] : Prop :=
  ∀ (m : (ℓ : Loc Cert.MlpFirstReferenceIdeal.nD Cert.MlpFirstReferenceIdeal.τ Cert.MlpFirstReferenceIdeal.sig) → Buf (Elt Ideal) ℓ) (g : Dev Cert.MlpFirstReferenceIdeal.nD → PrngReg), Pre_MlpFirstReferenceIdeal m →
    θ_run (Cert.MlpFirstReferenceIdeal.defs (F := Ideal)) (onTc (τ := Cert.MlpFirstReferenceIdeal.τ) (Cert.MlpFirstReferenceIdeal.main (F := Ideal))) ⟨m, fun _ => 0, g⟩ (fun r => (∀ c : Dev Cert.MlpFirstReferenceIdeal.nD,
      r.2.mem ((c.tc : Thread Cert.MlpFirstReferenceIdeal.nD Cert.MlpFirstReferenceIdeal.τ).loc Cert.MlpFirstReferenceIdeal.main_arg0) = m ((c.tc : Thread Cert.MlpFirstReferenceIdeal.nD Cert.MlpFirstReferenceIdeal.τ).loc Cert.MlpFirstReferenceIdeal.main_arg0)
      ∧ r.2.mem ((c.tc : Thread Cert.MlpFirstReferenceIdeal.nD Cert.MlpFirstReferenceIdeal.τ).loc Cert.MlpFirstReferenceIdeal.main_arg1) = m ((c.tc : Thread Cert.MlpFirstReferenceIdeal.nD Cert.MlpFirstReferenceIdeal.τ).loc Cert.MlpFirstReferenceIdeal.main_arg1)
      ∧ r.2.mem ((c.tc : Thread Cert.MlpFirstReferenceIdeal.nD Cert.MlpFirstReferenceIdeal.τ).loc Cert.MlpFirstReferenceIdeal.main_arg2) = m ((c.tc : Thread Cert.MlpFirstReferenceIdeal.nD Cert.MlpFirstReferenceIdeal.τ).loc Cert.MlpFirstReferenceIdeal.main_arg2)
      ∧ r.2.mem ((c.tc : Thread Cert.MlpFirstReferenceIdeal.nD Cert.MlpFirstReferenceIdeal.τ).loc Cert.MlpFirstReferenceIdeal.main_arg3) = m ((c.tc : Thread Cert.MlpFirstReferenceIdeal.nD Cert.MlpFirstReferenceIdeal.τ).loc Cert.MlpFirstReferenceIdeal.main_arg3)
      ∧ r.2.mem ((c.tc : Thread Cert.MlpFirstReferenceIdeal.nD Cert.MlpFirstReferenceIdeal.τ).loc Cert.MlpFirstReferenceIdeal.main_arg4) = m ((c.tc : Thread Cert.MlpFirstReferenceIdeal.nD Cert.MlpFirstReferenceIdeal.τ).loc Cert.MlpFirstReferenceIdeal.main_arg4))
      ∧ r.2.sem = fun _ => 0)

def quiescent_OprojFirst [hOprojFirst : Cert.OprojFirst.Facts] : Prop :=
  ∀ (m : (ℓ : Loc Cert.OprojFirst.nD Cert.OprojFirst.τ Cert.OprojFirst.sig) → Buf (Elt Bits) ℓ) (g : Dev Cert.OprojFirst.nD → PrngReg), Pre_OprojFirst m →
    θ_run (Cert.OprojFirst.defs (F := Bits)) (onTc (τ := Cert.OprojFirst.τ) (Cert.OprojFirst.main (F := Bits))) ⟨m, fun _ => 0, g⟩ (fun r => (∀ c : Dev Cert.OprojFirst.nD,
      r.2.mem ((c.tc : Thread Cert.OprojFirst.nD Cert.OprojFirst.τ).loc Cert.OprojFirst.main_arg0) = m ((c.tc : Thread Cert.OprojFirst.nD Cert.OprojFirst.τ).loc Cert.OprojFirst.main_arg0)
      ∧ r.2.mem ((c.tc : Thread Cert.OprojFirst.nD Cert.OprojFirst.τ).loc Cert.OprojFirst.main_arg1) = m ((c.tc : Thread Cert.OprojFirst.nD Cert.OprojFirst.τ).loc Cert.OprojFirst.main_arg1)
      ∧ r.2.mem ((c.tc : Thread Cert.OprojFirst.nD Cert.OprojFirst.τ).loc Cert.OprojFirst.main_arg2) = m ((c.tc : Thread Cert.OprojFirst.nD Cert.OprojFirst.τ).loc Cert.OprojFirst.main_arg2)
      ∧ r.2.mem ((c.tc : Thread Cert.OprojFirst.nD Cert.OprojFirst.τ).loc Cert.OprojFirst.main_arg3) = m ((c.tc : Thread Cert.OprojFirst.nD Cert.OprojFirst.τ).loc Cert.OprojFirst.main_arg3)
      ∧ r.2.mem ((c.tc : Thread Cert.OprojFirst.nD Cert.OprojFirst.τ).loc Cert.OprojFirst.main_arg4) = m ((c.tc : Thread Cert.OprojFirst.nD Cert.OprojFirst.τ).loc Cert.OprojFirst.main_arg4))
      ∧ r.2.sem = fun _ => 0)

def quiescent_OprojFirstIdeal [hOprojFirstIdeal : Cert.OprojFirstIdeal.Facts] : Prop :=
  ∀ (m : (ℓ : Loc Cert.OprojFirstIdeal.nD Cert.OprojFirstIdeal.τ Cert.OprojFirstIdeal.sig) → Buf (Elt Ideal) ℓ) (g : Dev Cert.OprojFirstIdeal.nD → PrngReg), Pre_OprojFirstIdeal m →
    θ_run (Cert.OprojFirstIdeal.defs (F := Ideal)) (onTc (τ := Cert.OprojFirstIdeal.τ) (Cert.OprojFirstIdeal.main (F := Ideal))) ⟨m, fun _ => 0, g⟩ (fun r => (∀ c : Dev Cert.OprojFirstIdeal.nD,
      r.2.mem ((c.tc : Thread Cert.OprojFirstIdeal.nD Cert.OprojFirstIdeal.τ).loc Cert.OprojFirstIdeal.main_arg0) = m ((c.tc : Thread Cert.OprojFirstIdeal.nD Cert.OprojFirstIdeal.τ).loc Cert.OprojFirstIdeal.main_arg0)
      ∧ r.2.mem ((c.tc : Thread Cert.OprojFirstIdeal.nD Cert.OprojFirstIdeal.τ).loc Cert.OprojFirstIdeal.main_arg1) = m ((c.tc : Thread Cert.OprojFirstIdeal.nD Cert.OprojFirstIdeal.τ).loc Cert.OprojFirstIdeal.main_arg1)
      ∧ r.2.mem ((c.tc : Thread Cert.OprojFirstIdeal.nD Cert.OprojFirstIdeal.τ).loc Cert.OprojFirstIdeal.main_arg2) = m ((c.tc : Thread Cert.OprojFirstIdeal.nD Cert.OprojFirstIdeal.τ).loc Cert.OprojFirstIdeal.main_arg2)
      ∧ r.2.mem ((c.tc : Thread Cert.OprojFirstIdeal.nD Cert.OprojFirstIdeal.τ).loc Cert.OprojFirstIdeal.main_arg3) = m ((c.tc : Thread Cert.OprojFirstIdeal.nD Cert.OprojFirstIdeal.τ).loc Cert.OprojFirstIdeal.main_arg3)
      ∧ r.2.mem ((c.tc : Thread Cert.OprojFirstIdeal.nD Cert.OprojFirstIdeal.τ).loc Cert.OprojFirstIdeal.main_arg4) = m ((c.tc : Thread Cert.OprojFirstIdeal.nD Cert.OprojFirstIdeal.τ).loc Cert.OprojFirstIdeal.main_arg4))
      ∧ r.2.sem = fun _ => 0)

def quiescent_OprojFirstReferenceIdeal [hOprojFirstReferenceIdeal : Cert.OprojFirstReferenceIdeal.Facts] : Prop :=
  ∀ (m : (ℓ : Loc Cert.OprojFirstReferenceIdeal.nD Cert.OprojFirstReferenceIdeal.τ Cert.OprojFirstReferenceIdeal.sig) → Buf (Elt Ideal) ℓ) (g : Dev Cert.OprojFirstReferenceIdeal.nD → PrngReg), Pre_OprojFirstReferenceIdeal m →
    θ_run (Cert.OprojFirstReferenceIdeal.defs (F := Ideal)) (onTc (τ := Cert.OprojFirstReferenceIdeal.τ) (Cert.OprojFirstReferenceIdeal.main (F := Ideal))) ⟨m, fun _ => 0, g⟩ (fun r => (∀ c : Dev Cert.OprojFirstReferenceIdeal.nD,
      r.2.mem ((c.tc : Thread Cert.OprojFirstReferenceIdeal.nD Cert.OprojFirstReferenceIdeal.τ).loc Cert.OprojFirstReferenceIdeal.main_arg0) = m ((c.tc : Thread Cert.OprojFirstReferenceIdeal.nD Cert.OprojFirstReferenceIdeal.τ).loc Cert.OprojFirstReferenceIdeal.main_arg0)
      ∧ r.2.mem ((c.tc : Thread Cert.OprojFirstReferenceIdeal.nD Cert.OprojFirstReferenceIdeal.τ).loc Cert.OprojFirstReferenceIdeal.main_arg1) = m ((c.tc : Thread Cert.OprojFirstReferenceIdeal.nD Cert.OprojFirstReferenceIdeal.τ).loc Cert.OprojFirstReferenceIdeal.main_arg1)
      ∧ r.2.mem ((c.tc : Thread Cert.OprojFirstReferenceIdeal.nD Cert.OprojFirstReferenceIdeal.τ).loc Cert.OprojFirstReferenceIdeal.main_arg2) = m ((c.tc : Thread Cert.OprojFirstReferenceIdeal.nD Cert.OprojFirstReferenceIdeal.τ).loc Cert.OprojFirstReferenceIdeal.main_arg2)
      ∧ r.2.mem ((c.tc : Thread Cert.OprojFirstReferenceIdeal.nD Cert.OprojFirstReferenceIdeal.τ).loc Cert.OprojFirstReferenceIdeal.main_arg3) = m ((c.tc : Thread Cert.OprojFirstReferenceIdeal.nD Cert.OprojFirstReferenceIdeal.τ).loc Cert.OprojFirstReferenceIdeal.main_arg3)
      ∧ r.2.mem ((c.tc : Thread Cert.OprojFirstReferenceIdeal.nD Cert.OprojFirstReferenceIdeal.τ).loc Cert.OprojFirstReferenceIdeal.main_arg4) = m ((c.tc : Thread Cert.OprojFirstReferenceIdeal.nD Cert.OprojFirstReferenceIdeal.τ).loc Cert.OprojFirstReferenceIdeal.main_arg4))
      ∧ r.2.sem = fun _ => 0)

def quiescent_MlaPrep [hMlaPrep : Cert.MlaPrep.Facts] : Prop :=
  ∀ (m : (ℓ : Loc Cert.MlaPrep.nD Cert.MlaPrep.τ Cert.MlaPrep.sig) → Buf (Elt Bits) ℓ) (g : Dev Cert.MlaPrep.nD → PrngReg), Pre_MlaPrep m →
    θ_run (Cert.MlaPrep.defs (F := Bits)) (onTc (τ := Cert.MlaPrep.τ) (Cert.MlaPrep.main (F := Bits))) ⟨m, fun _ => 0, g⟩ (fun r => (∀ c : Dev Cert.MlaPrep.nD,
      r.2.mem ((c.tc : Thread Cert.MlaPrep.nD Cert.MlaPrep.τ).loc Cert.MlaPrep.main_arg0) = m ((c.tc : Thread Cert.MlaPrep.nD Cert.MlaPrep.τ).loc Cert.MlaPrep.main_arg0)
      ∧ r.2.mem ((c.tc : Thread Cert.MlaPrep.nD Cert.MlaPrep.τ).loc Cert.MlaPrep.main_arg1) = m ((c.tc : Thread Cert.MlaPrep.nD Cert.MlaPrep.τ).loc Cert.MlaPrep.main_arg1)
      ∧ r.2.mem ((c.tc : Thread Cert.MlaPrep.nD Cert.MlaPrep.τ).loc Cert.MlaPrep.main_arg2) = m ((c.tc : Thread Cert.MlaPrep.nD Cert.MlaPrep.τ).loc Cert.MlaPrep.main_arg2)
      ∧ r.2.mem ((c.tc : Thread Cert.MlaPrep.nD Cert.MlaPrep.τ).loc Cert.MlaPrep.main_arg3) = m ((c.tc : Thread Cert.MlaPrep.nD Cert.MlaPrep.τ).loc Cert.MlaPrep.main_arg3)
      ∧ r.2.mem ((c.tc : Thread Cert.MlaPrep.nD Cert.MlaPrep.τ).loc Cert.MlaPrep.main_arg4) = m ((c.tc : Thread Cert.MlaPrep.nD Cert.MlaPrep.τ).loc Cert.MlaPrep.main_arg4)
      ∧ r.2.mem ((c.tc : Thread Cert.MlaPrep.nD Cert.MlaPrep.τ).loc Cert.MlaPrep.main_arg5) = m ((c.tc : Thread Cert.MlaPrep.nD Cert.MlaPrep.τ).loc Cert.MlaPrep.main_arg5)
      ∧ r.2.mem ((c.tc : Thread Cert.MlaPrep.nD Cert.MlaPrep.τ).loc Cert.MlaPrep.main_arg6) = m ((c.tc : Thread Cert.MlaPrep.nD Cert.MlaPrep.τ).loc Cert.MlaPrep.main_arg6))
      ∧ r.2.sem = fun _ => 0)

def quiescent_MlaPrepIdeal [hMlaPrepIdeal : Cert.MlaPrepIdeal.Facts] : Prop :=
  ∀ (m : (ℓ : Loc Cert.MlaPrepIdeal.nD Cert.MlaPrepIdeal.τ Cert.MlaPrepIdeal.sig) → Buf (Elt Ideal) ℓ) (g : Dev Cert.MlaPrepIdeal.nD → PrngReg), Pre_MlaPrepIdeal m →
    θ_run (Cert.MlaPrepIdeal.defs (F := Ideal)) (onTc (τ := Cert.MlaPrepIdeal.τ) (Cert.MlaPrepIdeal.main (F := Ideal))) ⟨m, fun _ => 0, g⟩ (fun r => (∀ c : Dev Cert.MlaPrepIdeal.nD,
      r.2.mem ((c.tc : Thread Cert.MlaPrepIdeal.nD Cert.MlaPrepIdeal.τ).loc Cert.MlaPrepIdeal.main_arg0) = m ((c.tc : Thread Cert.MlaPrepIdeal.nD Cert.MlaPrepIdeal.τ).loc Cert.MlaPrepIdeal.main_arg0)
      ∧ r.2.mem ((c.tc : Thread Cert.MlaPrepIdeal.nD Cert.MlaPrepIdeal.τ).loc Cert.MlaPrepIdeal.main_arg1) = m ((c.tc : Thread Cert.MlaPrepIdeal.nD Cert.MlaPrepIdeal.τ).loc Cert.MlaPrepIdeal.main_arg1)
      ∧ r.2.mem ((c.tc : Thread Cert.MlaPrepIdeal.nD Cert.MlaPrepIdeal.τ).loc Cert.MlaPrepIdeal.main_arg2) = m ((c.tc : Thread Cert.MlaPrepIdeal.nD Cert.MlaPrepIdeal.τ).loc Cert.MlaPrepIdeal.main_arg2)
      ∧ r.2.mem ((c.tc : Thread Cert.MlaPrepIdeal.nD Cert.MlaPrepIdeal.τ).loc Cert.MlaPrepIdeal.main_arg3) = m ((c.tc : Thread Cert.MlaPrepIdeal.nD Cert.MlaPrepIdeal.τ).loc Cert.MlaPrepIdeal.main_arg3)
      ∧ r.2.mem ((c.tc : Thread Cert.MlaPrepIdeal.nD Cert.MlaPrepIdeal.τ).loc Cert.MlaPrepIdeal.main_arg4) = m ((c.tc : Thread Cert.MlaPrepIdeal.nD Cert.MlaPrepIdeal.τ).loc Cert.MlaPrepIdeal.main_arg4)
      ∧ r.2.mem ((c.tc : Thread Cert.MlaPrepIdeal.nD Cert.MlaPrepIdeal.τ).loc Cert.MlaPrepIdeal.main_arg5) = m ((c.tc : Thread Cert.MlaPrepIdeal.nD Cert.MlaPrepIdeal.τ).loc Cert.MlaPrepIdeal.main_arg5)
      ∧ r.2.mem ((c.tc : Thread Cert.MlaPrepIdeal.nD Cert.MlaPrepIdeal.τ).loc Cert.MlaPrepIdeal.main_arg6) = m ((c.tc : Thread Cert.MlaPrepIdeal.nD Cert.MlaPrepIdeal.τ).loc Cert.MlaPrepIdeal.main_arg6))
      ∧ r.2.sem = fun _ => 0)

def quiescent_MlaPrepReferenceIdeal [hMlaPrepReferenceIdeal : Cert.MlaPrepReferenceIdeal.Facts] : Prop :=
  ∀ (m : (ℓ : Loc Cert.MlaPrepReferenceIdeal.nD Cert.MlaPrepReferenceIdeal.τ Cert.MlaPrepReferenceIdeal.sig) → Buf (Elt Ideal) ℓ) (g : Dev Cert.MlaPrepReferenceIdeal.nD → PrngReg), Pre_MlaPrepReferenceIdeal m →
    θ_run (Cert.MlaPrepReferenceIdeal.defs (F := Ideal)) (onTc (τ := Cert.MlaPrepReferenceIdeal.τ) (Cert.MlaPrepReferenceIdeal.main (F := Ideal))) ⟨m, fun _ => 0, g⟩ (fun r => (∀ c : Dev Cert.MlaPrepReferenceIdeal.nD,
      r.2.mem ((c.tc : Thread Cert.MlaPrepReferenceIdeal.nD Cert.MlaPrepReferenceIdeal.τ).loc Cert.MlaPrepReferenceIdeal.main_arg0) = m ((c.tc : Thread Cert.MlaPrepReferenceIdeal.nD Cert.MlaPrepReferenceIdeal.τ).loc Cert.MlaPrepReferenceIdeal.main_arg0)
      ∧ r.2.mem ((c.tc : Thread Cert.MlaPrepReferenceIdeal.nD Cert.MlaPrepReferenceIdeal.τ).loc Cert.MlaPrepReferenceIdeal.main_arg1) = m ((c.tc : Thread Cert.MlaPrepReferenceIdeal.nD Cert.MlaPrepReferenceIdeal.τ).loc Cert.MlaPrepReferenceIdeal.main_arg1)
      ∧ r.2.mem ((c.tc : Thread Cert.MlaPrepReferenceIdeal.nD Cert.MlaPrepReferenceIdeal.τ).loc Cert.MlaPrepReferenceIdeal.main_arg2) = m ((c.tc : Thread Cert.MlaPrepReferenceIdeal.nD Cert.MlaPrepReferenceIdeal.τ).loc Cert.MlaPrepReferenceIdeal.main_arg2)
      ∧ r.2.mem ((c.tc : Thread Cert.MlaPrepReferenceIdeal.nD Cert.MlaPrepReferenceIdeal.τ).loc Cert.MlaPrepReferenceIdeal.main_arg3) = m ((c.tc : Thread Cert.MlaPrepReferenceIdeal.nD Cert.MlaPrepReferenceIdeal.τ).loc Cert.MlaPrepReferenceIdeal.main_arg3)
      ∧ r.2.mem ((c.tc : Thread Cert.MlaPrepReferenceIdeal.nD Cert.MlaPrepReferenceIdeal.τ).loc Cert.MlaPrepReferenceIdeal.main_arg4) = m ((c.tc : Thread Cert.MlaPrepReferenceIdeal.nD Cert.MlaPrepReferenceIdeal.τ).loc Cert.MlaPrepReferenceIdeal.main_arg4)
      ∧ r.2.mem ((c.tc : Thread Cert.MlaPrepReferenceIdeal.nD Cert.MlaPrepReferenceIdeal.τ).loc Cert.MlaPrepReferenceIdeal.main_arg5) = m ((c.tc : Thread Cert.MlaPrepReferenceIdeal.nD Cert.MlaPrepReferenceIdeal.τ).loc Cert.MlaPrepReferenceIdeal.main_arg5)
      ∧ r.2.mem ((c.tc : Thread Cert.MlaPrepReferenceIdeal.nD Cert.MlaPrepReferenceIdeal.τ).loc Cert.MlaPrepReferenceIdeal.main_arg6) = m ((c.tc : Thread Cert.MlaPrepReferenceIdeal.nD Cert.MlaPrepReferenceIdeal.τ).loc Cert.MlaPrepReferenceIdeal.main_arg6))
      ∧ r.2.sem = fun _ => 0)

def preserves_Mlp_MlpIdeal : Prop :=
  True

def algebraic_MlpIdeal_MlpReferenceIdeal [hMlpIdeal : Cert.MlpIdeal.Facts] [hMlpReferenceIdeal : Cert.MlpReferenceIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpReferenceIdeal.nD Cert.MlpReferenceIdeal.τ Cert.MlpReferenceIdeal.sig) → Buf (Elt Ideal) ℓ) (g' : Dev Cert.MlpReferenceIdeal.nD → PrngReg), Pre_MlpIdeal m →
    (∀ c : Dev Cert.MlpIdeal.nD,
      m' ((c.tc : Thread Cert.MlpReferenceIdeal.nD Cert.MlpReferenceIdeal.τ).loc Cert.MlpReferenceIdeal.main_arg0) = m ((c.tc : Thread Cert.MlpIdeal.nD Cert.MlpIdeal.τ).loc Cert.MlpIdeal.main_arg0)
      ∧ m' ((c.tc : Thread Cert.MlpReferenceIdeal.nD Cert.MlpReferenceIdeal.τ).loc Cert.MlpReferenceIdeal.main_arg1) = m ((c.tc : Thread Cert.MlpIdeal.nD Cert.MlpIdeal.τ).loc Cert.MlpIdeal.main_arg1)
      ∧ m' ((c.tc : Thread Cert.MlpReferenceIdeal.nD Cert.MlpReferenceIdeal.τ).loc Cert.MlpReferenceIdeal.main_arg2) = m ((c.tc : Thread Cert.MlpIdeal.nD Cert.MlpIdeal.τ).loc Cert.MlpIdeal.main_arg2)
      ∧ m' ((c.tc : Thread Cert.MlpReferenceIdeal.nD Cert.MlpReferenceIdeal.τ).loc Cert.MlpReferenceIdeal.main_arg3) = m ((c.tc : Thread Cert.MlpIdeal.nD Cert.MlpIdeal.τ).loc Cert.MlpIdeal.main_arg3)
      ∧ m' ((c.tc : Thread Cert.MlpReferenceIdeal.nD Cert.MlpReferenceIdeal.τ).loc Cert.MlpReferenceIdeal.main_arg4) = m ((c.tc : Thread Cert.MlpIdeal.nD Cert.MlpIdeal.τ).loc Cert.MlpIdeal.main_arg4)) →
    ∃ (v0 : (c : Dev Cert.MlpIdeal.nD) → Buf (Elt Ideal) ((c.tc : Thread Cert.MlpIdeal.nD Cert.MlpIdeal.τ).loc Cert.MlpIdeal.main_v7)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v7) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ θ_run (Cert.MlpReferenceIdeal.defs (F := Ideal)) (onTc (τ := Cert.MlpReferenceIdeal.τ) (Cert.MlpReferenceIdeal.main (F := Ideal))) ⟨m', fun _ => 0, g'⟩ (fun r => ∀ c : Dev Cert.MlpReferenceIdeal.nD,
          r.2.mem ((c.tc : Thread Cert.MlpReferenceIdeal.nD Cert.MlpReferenceIdeal.τ).loc Cert.MlpReferenceIdeal.main_v37) = v0 c
          ∧ r.2.mem ((c.tc : Thread Cert.MlpReferenceIdeal.nD Cert.MlpReferenceIdeal.τ).loc Cert.MlpReferenceIdeal.main_arg0) = m' ((c.tc : Thread Cert.MlpReferenceIdeal.nD Cert.MlpReferenceIdeal.τ).loc Cert.MlpReferenceIdeal.main_arg0)
          ∧ r.2.mem ((c.tc : Thread Cert.MlpReferenceIdeal.nD Cert.MlpReferenceIdeal.τ).loc Cert.MlpReferenceIdeal.main_arg1) = m' ((c.tc : Thread Cert.MlpReferenceIdeal.nD Cert.MlpReferenceIdeal.τ).loc Cert.MlpReferenceIdeal.main_arg1)
          ∧ r.2.mem ((c.tc : Thread Cert.MlpReferenceIdeal.nD Cert.MlpReferenceIdeal.τ).loc Cert.MlpReferenceIdeal.main_arg2) = m' ((c.tc : Thread Cert.MlpReferenceIdeal.nD Cert.MlpReferenceIdeal.τ).loc Cert.MlpReferenceIdeal.main_arg2)
          ∧ r.2.mem ((c.tc : Thread Cert.MlpReferenceIdeal.nD Cert.MlpReferenceIdeal.τ).loc Cert.MlpReferenceIdeal.main_arg3) = m' ((c.tc : Thread Cert.MlpReferenceIdeal.nD Cert.MlpReferenceIdeal.τ).loc Cert.MlpReferenceIdeal.main_arg3)
          ∧ r.2.mem ((c.tc : Thread Cert.MlpReferenceIdeal.nD Cert.MlpReferenceIdeal.τ).loc Cert.MlpReferenceIdeal.main_arg4) = m' ((c.tc : Thread Cert.MlpReferenceIdeal.nD Cert.MlpReferenceIdeal.τ).loc Cert.MlpReferenceIdeal.main_arg4))

def preserves_Mla_MlaIdeal : Prop :=
  IdealRules.named_const.Statement Cert.MlaIdeal.κ "mask" .f32 0xF149F2CA#32 ⊥

def algebraic_MlaIdeal_MlaReferenceIdeal_pre_finite_latents [hMlaIdeal : Cert.MlaIdeal.Facts] [hMlaReferenceIdeal : Cert.MlaReferenceIdeal.Facts] [hPre_finite_latents : Cert.Pre_finite_latents.Facts] : Prop :=
  ∀ (m : (ℓ : Loc Cert.MlaIdeal.nD Cert.MlaIdeal.τ Cert.MlaIdeal.sig) → Buf (Elt Ideal) ℓ) (g : Dev Cert.MlaIdeal.nD → PrngReg)
    (m' : (ℓ : Loc Cert.MlaReferenceIdeal.nD Cert.MlaReferenceIdeal.τ Cert.MlaReferenceIdeal.sig) → Buf (Elt Ideal) ℓ) (g' : Dev Cert.MlaReferenceIdeal.nD → PrngReg), Pre_MlaIdeal_finite_latents m →
    (∀ c : Dev Cert.MlaIdeal.nD,
      m' ((c.tc : Thread Cert.MlaReferenceIdeal.nD Cert.MlaReferenceIdeal.τ).loc Cert.MlaReferenceIdeal.main_arg0) = m ((c.tc : Thread Cert.MlaIdeal.nD Cert.MlaIdeal.τ).loc Cert.MlaIdeal.main_arg0)
      ∧ m' ((c.tc : Thread Cert.MlaReferenceIdeal.nD Cert.MlaReferenceIdeal.τ).loc Cert.MlaReferenceIdeal.main_arg1) = m ((c.tc : Thread Cert.MlaIdeal.nD Cert.MlaIdeal.τ).loc Cert.MlaIdeal.main_arg1)
      ∧ m' ((c.tc : Thread Cert.MlaReferenceIdeal.nD Cert.MlaReferenceIdeal.τ).loc Cert.MlaReferenceIdeal.main_arg2) = m ((c.tc : Thread Cert.MlaIdeal.nD Cert.MlaIdeal.τ).loc Cert.MlaIdeal.main_arg2)
      ∧ m' ((c.tc : Thread Cert.MlaReferenceIdeal.nD Cert.MlaReferenceIdeal.τ).loc Cert.MlaReferenceIdeal.main_arg3) = m ((c.tc : Thread Cert.MlaIdeal.nD Cert.MlaIdeal.τ).loc Cert.MlaIdeal.main_arg3)) →
    ∃ (v0 : (c : Dev Cert.MlaIdeal.nD) → Buf (Elt Ideal) ((c.tc : Thread Cert.MlaIdeal.nD Cert.MlaIdeal.τ).loc Cert.MlaIdeal.main_v7)),
      θ_run (Cert.MlaIdeal.defs (F := Ideal)) (onTc (τ := Cert.MlaIdeal.τ) (Cert.MlaIdeal.main (F := Ideal))) ⟨m, fun _ => 0, g⟩ (fun r => ∀ c : Dev Cert.MlaIdeal.nD,
          r.2.mem ((c.tc : Thread Cert.MlaIdeal.nD Cert.MlaIdeal.τ).loc Cert.MlaIdeal.main_v7) = v0 c
          ∧ r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
          ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
          ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
          ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3))
      ∧ θ_run (Cert.MlaReferenceIdeal.defs (F := Ideal)) (onTc (τ := Cert.MlaReferenceIdeal.τ) (Cert.MlaReferenceIdeal.main (F := Ideal))) ⟨m', fun _ => 0, g'⟩ (fun r => ∀ c : Dev Cert.MlaReferenceIdeal.nD,
          r.2.mem ((c.tc : Thread Cert.MlaReferenceIdeal.nD Cert.MlaReferenceIdeal.τ).loc Cert.MlaReferenceIdeal.main_v35) = v0 c
          ∧ r.2.mem ((c.tc : Thread Cert.MlaReferenceIdeal.nD Cert.MlaReferenceIdeal.τ).loc Cert.MlaReferenceIdeal.main_arg0) = m' ((c.tc : Thread Cert.MlaReferenceIdeal.nD Cert.MlaReferenceIdeal.τ).loc Cert.MlaReferenceIdeal.main_arg0)
          ∧ r.2.mem ((c.tc : Thread Cert.MlaReferenceIdeal.nD Cert.MlaReferenceIdeal.τ).loc Cert.MlaReferenceIdeal.main_arg1) = m' ((c.tc : Thread Cert.MlaReferenceIdeal.nD Cert.MlaReferenceIdeal.τ).loc Cert.MlaReferenceIdeal.main_arg1)
          ∧ r.2.mem ((c.tc : Thread Cert.MlaReferenceIdeal.nD Cert.MlaReferenceIdeal.τ).loc Cert.MlaReferenceIdeal.main_arg2) = m' ((c.tc : Thread Cert.MlaReferenceIdeal.nD Cert.MlaReferenceIdeal.τ).loc Cert.MlaReferenceIdeal.main_arg2)
          ∧ r.2.mem ((c.tc : Thread Cert.MlaReferenceIdeal.nD Cert.MlaReferenceIdeal.τ).loc Cert.MlaReferenceIdeal.main_arg3) = m' ((c.tc : Thread Cert.MlaReferenceIdeal.nD Cert.MlaReferenceIdeal.τ).loc Cert.MlaReferenceIdeal.main_arg3))

def preserves_Oproj_OprojIdeal : Prop :=
  True

def algebraic_OprojIdeal_OprojReferenceIdeal [hOprojIdeal : Cert.OprojIdeal.Facts] [hOprojReferenceIdeal : Cert.OprojReferenceIdeal.Facts] : Prop :=
  ∀ (m : (ℓ : Loc Cert.OprojIdeal.nD Cert.OprojIdeal.τ Cert.OprojIdeal.sig) → Buf (Elt Ideal) ℓ) (g : Dev Cert.OprojIdeal.nD → PrngReg)
    (m' : (ℓ : Loc Cert.OprojReferenceIdeal.nD Cert.OprojReferenceIdeal.τ Cert.OprojReferenceIdeal.sig) → Buf (Elt Ideal) ℓ) (g' : Dev Cert.OprojReferenceIdeal.nD → PrngReg), Pre_OprojIdeal m →
    (∀ c : Dev Cert.OprojIdeal.nD,
      m' ((c.tc : Thread Cert.OprojReferenceIdeal.nD Cert.OprojReferenceIdeal.τ).loc Cert.OprojReferenceIdeal.main_arg0) = m ((c.tc : Thread Cert.OprojIdeal.nD Cert.OprojIdeal.τ).loc Cert.OprojIdeal.main_arg0)
      ∧ m' ((c.tc : Thread Cert.OprojReferenceIdeal.nD Cert.OprojReferenceIdeal.τ).loc Cert.OprojReferenceIdeal.main_arg1) = m ((c.tc : Thread Cert.OprojIdeal.nD Cert.OprojIdeal.τ).loc Cert.OprojIdeal.main_arg1)
      ∧ m' ((c.tc : Thread Cert.OprojReferenceIdeal.nD Cert.OprojReferenceIdeal.τ).loc Cert.OprojReferenceIdeal.main_arg2) = m ((c.tc : Thread Cert.OprojIdeal.nD Cert.OprojIdeal.τ).loc Cert.OprojIdeal.main_arg2)
      ∧ m' ((c.tc : Thread Cert.OprojReferenceIdeal.nD Cert.OprojReferenceIdeal.τ).loc Cert.OprojReferenceIdeal.main_arg3) = m ((c.tc : Thread Cert.OprojIdeal.nD Cert.OprojIdeal.τ).loc Cert.OprojIdeal.main_arg3)
      ∧ m' ((c.tc : Thread Cert.OprojReferenceIdeal.nD Cert.OprojReferenceIdeal.τ).loc Cert.OprojReferenceIdeal.main_arg4) = m ((c.tc : Thread Cert.OprojIdeal.nD Cert.OprojIdeal.τ).loc Cert.OprojIdeal.main_arg4)) →
    ∃ (v0 : (c : Dev Cert.OprojIdeal.nD) → Buf (Elt Ideal) ((c.tc : Thread Cert.OprojIdeal.nD Cert.OprojIdeal.τ).loc Cert.OprojIdeal.main_v8)),
      θ_run (Cert.OprojIdeal.defs (F := Ideal)) (onTc (τ := Cert.OprojIdeal.τ) (Cert.OprojIdeal.main (F := Ideal))) ⟨m, fun _ => 0, g⟩ (fun r => ∀ c : Dev Cert.OprojIdeal.nD,
          r.2.mem ((c.tc : Thread Cert.OprojIdeal.nD Cert.OprojIdeal.τ).loc Cert.OprojIdeal.main_v8) = v0 c
          ∧ r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
          ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
          ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
          ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3)
          ∧ r.2.mem ((c.tc : Thread Cert.OprojIdeal.nD Cert.OprojIdeal.τ).loc Cert.OprojIdeal.main_arg4) = m ((c.tc : Thread Cert.OprojIdeal.nD Cert.OprojIdeal.τ).loc Cert.OprojIdeal.main_arg4))
      ∧ θ_run (Cert.OprojReferenceIdeal.defs (F := Ideal)) (onTc (τ := Cert.OprojReferenceIdeal.τ) (Cert.OprojReferenceIdeal.main (F := Ideal))) ⟨m', fun _ => 0, g'⟩ (fun r => ∀ c : Dev Cert.OprojReferenceIdeal.nD,
          r.2.mem ((c.tc : Thread Cert.OprojReferenceIdeal.nD Cert.OprojReferenceIdeal.τ).loc Cert.OprojReferenceIdeal.main_v5) = v0 c
          ∧ r.2.mem ((c.tc : Thread Cert.OprojReferenceIdeal.nD Cert.OprojReferenceIdeal.τ).loc Cert.OprojReferenceIdeal.main_arg0) = m' ((c.tc : Thread Cert.OprojReferenceIdeal.nD Cert.OprojReferenceIdeal.τ).loc Cert.OprojReferenceIdeal.main_arg0)
          ∧ r.2.mem ((c.tc : Thread Cert.OprojReferenceIdeal.nD Cert.OprojReferenceIdeal.τ).loc Cert.OprojReferenceIdeal.main_arg1) = m' ((c.tc : Thread Cert.OprojReferenceIdeal.nD Cert.OprojReferenceIdeal.τ).loc Cert.OprojReferenceIdeal.main_arg1)
          ∧ r.2.mem ((c.tc : Thread Cert.OprojReferenceIdeal.nD Cert.OprojReferenceIdeal.τ).loc Cert.OprojReferenceIdeal.main_arg2) = m' ((c.tc : Thread Cert.OprojReferenceIdeal.nD Cert.OprojReferenceIdeal.τ).loc Cert.OprojReferenceIdeal.main_arg2)
          ∧ r.2.mem ((c.tc : Thread Cert.OprojReferenceIdeal.nD Cert.OprojReferenceIdeal.τ).loc Cert.OprojReferenceIdeal.main_arg3) = m' ((c.tc : Thread Cert.OprojReferenceIdeal.nD Cert.OprojReferenceIdeal.τ).loc Cert.OprojReferenceIdeal.main_arg3)
          ∧ r.2.mem ((c.tc : Thread Cert.OprojReferenceIdeal.nD Cert.OprojReferenceIdeal.τ).loc Cert.OprojReferenceIdeal.main_arg4) = m' ((c.tc : Thread Cert.OprojReferenceIdeal.nD Cert.OprojReferenceIdeal.τ).loc Cert.OprojReferenceIdeal.main_arg4))

def preserves_Inproj_InprojIdeal : Prop :=
  True

def algebraic_InprojIdeal_InprojReferenceIdeal [hInprojIdeal : Cert.InprojIdeal.Facts] [hInprojReferenceIdeal : Cert.InprojReferenceIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojReferenceIdeal.nD Cert.InprojReferenceIdeal.τ Cert.InprojReferenceIdeal.sig) → Buf (Elt Ideal) ℓ) (g' : Dev Cert.InprojReferenceIdeal.nD → PrngReg), Pre_InprojIdeal m →
    (∀ c : Dev Cert.InprojIdeal.nD,
      m' ((c.tc : Thread Cert.InprojReferenceIdeal.nD Cert.InprojReferenceIdeal.τ).loc Cert.InprojReferenceIdeal.main_arg0) = m ((c.tc : Thread Cert.InprojIdeal.nD Cert.InprojIdeal.τ).loc Cert.InprojIdeal.main_arg0)
      ∧ m' ((c.tc : Thread Cert.InprojReferenceIdeal.nD Cert.InprojReferenceIdeal.τ).loc Cert.InprojReferenceIdeal.main_arg1) = m ((c.tc : Thread Cert.InprojIdeal.nD Cert.InprojIdeal.τ).loc Cert.InprojIdeal.main_arg1)
      ∧ m' ((c.tc : Thread Cert.InprojReferenceIdeal.nD Cert.InprojReferenceIdeal.τ).loc Cert.InprojReferenceIdeal.main_arg2) = m ((c.tc : Thread Cert.InprojIdeal.nD Cert.InprojIdeal.τ).loc Cert.InprojIdeal.main_arg2)) →
    ∃ (v0 : (c : Dev Cert.InprojIdeal.nD) → Buf (Elt Ideal) ((c.tc : Thread Cert.InprojIdeal.nD Cert.InprojIdeal.τ).loc Cert.InprojIdeal.main_v13_0)) (v1 : (c : Dev Cert.InprojIdeal.nD) → Buf (Elt Ideal) ((c.tc : Thread Cert.InprojIdeal.nD Cert.InprojIdeal.τ).loc Cert.InprojIdeal.main_v13_1)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v13_0) = v0 c
          ∧ r.2.mem ((c.tc : Thread Cert.InprojIdeal.nD Cert.InprojIdeal.τ).loc Cert.InprojIdeal.main_v13_1) = v1 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ θ_run (Cert.InprojReferenceIdeal.defs (F := Ideal)) (onTc (τ := Cert.InprojReferenceIdeal.τ) (Cert.InprojReferenceIdeal.main (F := Ideal))) ⟨m', fun _ => 0, g'⟩ (fun r => ∀ c : Dev Cert.InprojReferenceIdeal.nD,
          r.2.mem ((c.tc : Thread Cert.InprojReferenceIdeal.nD Cert.InprojReferenceIdeal.τ).loc Cert.InprojReferenceIdeal.main_v19) = v0 c
          ∧ r.2.mem ((c.tc : Thread Cert.InprojReferenceIdeal.nD Cert.InprojReferenceIdeal.τ).loc Cert.InprojReferenceIdeal.main_v21) = v1 c
          ∧ r.2.mem ((c.tc : Thread Cert.InprojReferenceIdeal.nD Cert.InprojReferenceIdeal.τ).loc Cert.InprojReferenceIdeal.main_arg0) = m' ((c.tc : Thread Cert.InprojReferenceIdeal.nD Cert.InprojReferenceIdeal.τ).loc Cert.InprojReferenceIdeal.main_arg0)
          ∧ r.2.mem ((c.tc : Thread Cert.InprojReferenceIdeal.nD Cert.InprojReferenceIdeal.τ).loc Cert.InprojReferenceIdeal.main_arg1) = m' ((c.tc : Thread Cert.InprojReferenceIdeal.nD Cert.InprojReferenceIdeal.τ).loc Cert.InprojReferenceIdeal.main_arg1)
          ∧ r.2.mem ((c.tc : Thread Cert.InprojReferenceIdeal.nD Cert.InprojReferenceIdeal.τ).loc Cert.InprojReferenceIdeal.main_arg2) = m' ((c.tc : Thread Cert.InprojReferenceIdeal.nD Cert.InprojReferenceIdeal.τ).loc Cert.InprojReferenceIdeal.main_arg2))

def preserves_MlpFirst_MlpFirstIdeal : Prop :=
  True

def algebraic_MlpFirstIdeal_MlpFirstReferenceIdeal [hMlpFirstIdeal : Cert.MlpFirstIdeal.Facts] [hMlpFirstReferenceIdeal : Cert.MlpFirstReferenceIdeal.Facts] : Prop :=
  ∀ (m : (ℓ : Loc Cert.MlpFirstIdeal.nD Cert.MlpFirstIdeal.τ Cert.MlpFirstIdeal.sig) → Buf (Elt Ideal) ℓ) (g : Dev Cert.MlpFirstIdeal.nD → PrngReg)
    (m' : (ℓ : Loc Cert.MlpFirstReferenceIdeal.nD Cert.MlpFirstReferenceIdeal.τ Cert.MlpFirstReferenceIdeal.sig) → Buf (Elt Ideal) ℓ) (g' : Dev Cert.MlpFirstReferenceIdeal.nD → PrngReg), Pre_MlpFirstIdeal m →
    (∀ c : Dev Cert.MlpFirstIdeal.nD,
      m' ((c.tc : Thread Cert.MlpFirstReferenceIdeal.nD Cert.MlpFirstReferenceIdeal.τ).loc Cert.MlpFirstReferenceIdeal.main_arg0) = m ((c.tc : Thread Cert.MlpFirstIdeal.nD Cert.MlpFirstIdeal.τ).loc Cert.MlpFirstIdeal.main_arg0)
      ∧ m' ((c.tc : Thread Cert.MlpFirstReferenceIdeal.nD Cert.MlpFirstReferenceIdeal.τ).loc Cert.MlpFirstReferenceIdeal.main_arg1) = m ((c.tc : Thread Cert.MlpFirstIdeal.nD Cert.MlpFirstIdeal.τ).loc Cert.MlpFirstIdeal.main_arg1)
      ∧ m' ((c.tc : Thread Cert.MlpFirstReferenceIdeal.nD Cert.MlpFirstReferenceIdeal.τ).loc Cert.MlpFirstReferenceIdeal.main_arg2) = m ((c.tc : Thread Cert.MlpFirstIdeal.nD Cert.MlpFirstIdeal.τ).loc Cert.MlpFirstIdeal.main_arg2)
      ∧ m' ((c.tc : Thread Cert.MlpFirstReferenceIdeal.nD Cert.MlpFirstReferenceIdeal.τ).loc Cert.MlpFirstReferenceIdeal.main_arg3) = m ((c.tc : Thread Cert.MlpFirstIdeal.nD Cert.MlpFirstIdeal.τ).loc Cert.MlpFirstIdeal.main_arg3)
      ∧ m' ((c.tc : Thread Cert.MlpFirstReferenceIdeal.nD Cert.MlpFirstReferenceIdeal.τ).loc Cert.MlpFirstReferenceIdeal.main_arg4) = m ((c.tc : Thread Cert.MlpFirstIdeal.nD Cert.MlpFirstIdeal.τ).loc Cert.MlpFirstIdeal.main_arg4)) →
    ∃ (v0 : (c : Dev Cert.MlpFirstIdeal.nD) → Buf (Elt Ideal) ((c.tc : Thread Cert.MlpFirstIdeal.nD Cert.MlpFirstIdeal.τ).loc Cert.MlpFirstIdeal.main_v7)),
      θ_run (Cert.MlpFirstIdeal.defs (F := Ideal)) (onTc (τ := Cert.MlpFirstIdeal.τ) (Cert.MlpFirstIdeal.main (F := Ideal))) ⟨m, fun _ => 0, g⟩ (fun r => ∀ c : Dev Cert.MlpFirstIdeal.nD,
          r.2.mem ((c.tc : Thread Cert.MlpFirstIdeal.nD Cert.MlpFirstIdeal.τ).loc Cert.MlpFirstIdeal.main_v7) = v0 c
          ∧ r.2.mem ((c.tc : Thread Cert.MlpFirstIdeal.nD Cert.MlpFirstIdeal.τ).loc Cert.MlpFirstIdeal.main_arg0) = m ((c.tc : Thread Cert.MlpFirstIdeal.nD Cert.MlpFirstIdeal.τ).loc Cert.MlpFirstIdeal.main_arg0)
          ∧ r.2.mem ((c.tc : Thread Cert.MlpFirstIdeal.nD Cert.MlpFirstIdeal.τ).loc Cert.MlpFirstIdeal.main_arg1) = m ((c.tc : Thread Cert.MlpFirstIdeal.nD Cert.MlpFirstIdeal.τ).loc Cert.MlpFirstIdeal.main_arg1)
          ∧ r.2.mem ((c.tc : Thread Cert.MlpFirstIdeal.nD Cert.MlpFirstIdeal.τ).loc Cert.MlpFirstIdeal.main_arg2) = m ((c.tc : Thread Cert.MlpFirstIdeal.nD Cert.MlpFirstIdeal.τ).loc Cert.MlpFirstIdeal.main_arg2)
          ∧ r.2.mem ((c.tc : Thread Cert.MlpFirstIdeal.nD Cert.MlpFirstIdeal.τ).loc Cert.MlpFirstIdeal.main_arg3) = m ((c.tc : Thread Cert.MlpFirstIdeal.nD Cert.MlpFirstIdeal.τ).loc Cert.MlpFirstIdeal.main_arg3)
          ∧ r.2.mem ((c.tc : Thread Cert.MlpFirstIdeal.nD Cert.MlpFirstIdeal.τ).loc Cert.MlpFirstIdeal.main_arg4) = m ((c.tc : Thread Cert.MlpFirstIdeal.nD Cert.MlpFirstIdeal.τ).loc Cert.MlpFirstIdeal.main_arg4))
      ∧ θ_run (Cert.MlpFirstReferenceIdeal.defs (F := Ideal)) (onTc (τ := Cert.MlpFirstReferenceIdeal.τ) (Cert.MlpFirstReferenceIdeal.main (F := Ideal))) ⟨m', fun _ => 0, g'⟩ (fun r => ∀ c : Dev Cert.MlpFirstReferenceIdeal.nD,
          r.2.mem ((c.tc : Thread Cert.MlpFirstReferenceIdeal.nD Cert.MlpFirstReferenceIdeal.τ).loc Cert.MlpFirstReferenceIdeal.main_v24) = v0 c
          ∧ r.2.mem ((c.tc : Thread Cert.MlpFirstReferenceIdeal.nD Cert.MlpFirstReferenceIdeal.τ).loc Cert.MlpFirstReferenceIdeal.main_arg0) = m' ((c.tc : Thread Cert.MlpFirstReferenceIdeal.nD Cert.MlpFirstReferenceIdeal.τ).loc Cert.MlpFirstReferenceIdeal.main_arg0)
          ∧ r.2.mem ((c.tc : Thread Cert.MlpFirstReferenceIdeal.nD Cert.MlpFirstReferenceIdeal.τ).loc Cert.MlpFirstReferenceIdeal.main_arg1) = m' ((c.tc : Thread Cert.MlpFirstReferenceIdeal.nD Cert.MlpFirstReferenceIdeal.τ).loc Cert.MlpFirstReferenceIdeal.main_arg1)
          ∧ r.2.mem ((c.tc : Thread Cert.MlpFirstReferenceIdeal.nD Cert.MlpFirstReferenceIdeal.τ).loc Cert.MlpFirstReferenceIdeal.main_arg2) = m' ((c.tc : Thread Cert.MlpFirstReferenceIdeal.nD Cert.MlpFirstReferenceIdeal.τ).loc Cert.MlpFirstReferenceIdeal.main_arg2)
          ∧ r.2.mem ((c.tc : Thread Cert.MlpFirstReferenceIdeal.nD Cert.MlpFirstReferenceIdeal.τ).loc Cert.MlpFirstReferenceIdeal.main_arg3) = m' ((c.tc : Thread Cert.MlpFirstReferenceIdeal.nD Cert.MlpFirstReferenceIdeal.τ).loc Cert.MlpFirstReferenceIdeal.main_arg3)
          ∧ r.2.mem ((c.tc : Thread Cert.MlpFirstReferenceIdeal.nD Cert.MlpFirstReferenceIdeal.τ).loc Cert.MlpFirstReferenceIdeal.main_arg4) = m' ((c.tc : Thread Cert.MlpFirstReferenceIdeal.nD Cert.MlpFirstReferenceIdeal.τ).loc Cert.MlpFirstReferenceIdeal.main_arg4))

def preserves_OprojFirst_OprojFirstIdeal : Prop :=
  True

def algebraic_OprojFirstIdeal_OprojFirstReferenceIdeal [hOprojFirstIdeal : Cert.OprojFirstIdeal.Facts] [hOprojFirstReferenceIdeal : Cert.OprojFirstReferenceIdeal.Facts] : Prop :=
  ∀ (m : (ℓ : Loc Cert.OprojFirstIdeal.nD Cert.OprojFirstIdeal.τ Cert.OprojFirstIdeal.sig) → Buf (Elt Ideal) ℓ) (g : Dev Cert.OprojFirstIdeal.nD → PrngReg)
    (m' : (ℓ : Loc Cert.OprojFirstReferenceIdeal.nD Cert.OprojFirstReferenceIdeal.τ Cert.OprojFirstReferenceIdeal.sig) → Buf (Elt Ideal) ℓ) (g' : Dev Cert.OprojFirstReferenceIdeal.nD → PrngReg), Pre_OprojFirstIdeal m →
    (∀ c : Dev Cert.OprojFirstIdeal.nD,
      m' ((c.tc : Thread Cert.OprojFirstReferenceIdeal.nD Cert.OprojFirstReferenceIdeal.τ).loc Cert.OprojFirstReferenceIdeal.main_arg0) = m ((c.tc : Thread Cert.OprojFirstIdeal.nD Cert.OprojFirstIdeal.τ).loc Cert.OprojFirstIdeal.main_arg0)
      ∧ m' ((c.tc : Thread Cert.OprojFirstReferenceIdeal.nD Cert.OprojFirstReferenceIdeal.τ).loc Cert.OprojFirstReferenceIdeal.main_arg1) = m ((c.tc : Thread Cert.OprojFirstIdeal.nD Cert.OprojFirstIdeal.τ).loc Cert.OprojFirstIdeal.main_arg1)
      ∧ m' ((c.tc : Thread Cert.OprojFirstReferenceIdeal.nD Cert.OprojFirstReferenceIdeal.τ).loc Cert.OprojFirstReferenceIdeal.main_arg2) = m ((c.tc : Thread Cert.OprojFirstIdeal.nD Cert.OprojFirstIdeal.τ).loc Cert.OprojFirstIdeal.main_arg2)
      ∧ m' ((c.tc : Thread Cert.OprojFirstReferenceIdeal.nD Cert.OprojFirstReferenceIdeal.τ).loc Cert.OprojFirstReferenceIdeal.main_arg3) = m ((c.tc : Thread Cert.OprojFirstIdeal.nD Cert.OprojFirstIdeal.τ).loc Cert.OprojFirstIdeal.main_arg3)
      ∧ m' ((c.tc : Thread Cert.OprojFirstReferenceIdeal.nD Cert.OprojFirstReferenceIdeal.τ).loc Cert.OprojFirstReferenceIdeal.main_arg4) = m ((c.tc : Thread Cert.OprojFirstIdeal.nD Cert.OprojFirstIdeal.τ).loc Cert.OprojFirstIdeal.main_arg4)) →
    ∃ (v0 : (c : Dev Cert.OprojFirstIdeal.nD) → Buf (Elt Ideal) ((c.tc : Thread Cert.OprojFirstIdeal.nD Cert.OprojFirstIdeal.τ).loc Cert.OprojFirstIdeal.main_v8)),
      θ_run (Cert.OprojFirstIdeal.defs (F := Ideal)) (onTc (τ := Cert.OprojFirstIdeal.τ) (Cert.OprojFirstIdeal.main (F := Ideal))) ⟨m, fun _ => 0, g⟩ (fun r => ∀ c : Dev Cert.OprojFirstIdeal.nD,
          r.2.mem ((c.tc : Thread Cert.OprojFirstIdeal.nD Cert.OprojFirstIdeal.τ).loc Cert.OprojFirstIdeal.main_v8) = v0 c
          ∧ r.2.mem ((c.tc : Thread Cert.OprojFirstIdeal.nD Cert.OprojFirstIdeal.τ).loc Cert.OprojFirstIdeal.main_arg0) = m ((c.tc : Thread Cert.OprojFirstIdeal.nD Cert.OprojFirstIdeal.τ).loc Cert.OprojFirstIdeal.main_arg0)
          ∧ r.2.mem ((c.tc : Thread Cert.OprojFirstIdeal.nD Cert.OprojFirstIdeal.τ).loc Cert.OprojFirstIdeal.main_arg1) = m ((c.tc : Thread Cert.OprojFirstIdeal.nD Cert.OprojFirstIdeal.τ).loc Cert.OprojFirstIdeal.main_arg1)
          ∧ r.2.mem ((c.tc : Thread Cert.OprojFirstIdeal.nD Cert.OprojFirstIdeal.τ).loc Cert.OprojFirstIdeal.main_arg2) = m ((c.tc : Thread Cert.OprojFirstIdeal.nD Cert.OprojFirstIdeal.τ).loc Cert.OprojFirstIdeal.main_arg2)
          ∧ r.2.mem ((c.tc : Thread Cert.OprojFirstIdeal.nD Cert.OprojFirstIdeal.τ).loc Cert.OprojFirstIdeal.main_arg3) = m ((c.tc : Thread Cert.OprojFirstIdeal.nD Cert.OprojFirstIdeal.τ).loc Cert.OprojFirstIdeal.main_arg3)
          ∧ r.2.mem ((c.tc : Thread Cert.OprojFirstIdeal.nD Cert.OprojFirstIdeal.τ).loc Cert.OprojFirstIdeal.main_arg4) = m ((c.tc : Thread Cert.OprojFirstIdeal.nD Cert.OprojFirstIdeal.τ).loc Cert.OprojFirstIdeal.main_arg4))
      ∧ θ_run (Cert.OprojFirstReferenceIdeal.defs (F := Ideal)) (onTc (τ := Cert.OprojFirstReferenceIdeal.τ) (Cert.OprojFirstReferenceIdeal.main (F := Ideal))) ⟨m', fun _ => 0, g'⟩ (fun r => ∀ c : Dev Cert.OprojFirstReferenceIdeal.nD,
          r.2.mem ((c.tc : Thread Cert.OprojFirstReferenceIdeal.nD Cert.OprojFirstReferenceIdeal.τ).loc Cert.OprojFirstReferenceIdeal.main_v5) = v0 c
          ∧ r.2.mem ((c.tc : Thread Cert.OprojFirstReferenceIdeal.nD Cert.OprojFirstReferenceIdeal.τ).loc Cert.OprojFirstReferenceIdeal.main_arg0) = m' ((c.tc : Thread Cert.OprojFirstReferenceIdeal.nD Cert.OprojFirstReferenceIdeal.τ).loc Cert.OprojFirstReferenceIdeal.main_arg0)
          ∧ r.2.mem ((c.tc : Thread Cert.OprojFirstReferenceIdeal.nD Cert.OprojFirstReferenceIdeal.τ).loc Cert.OprojFirstReferenceIdeal.main_arg1) = m' ((c.tc : Thread Cert.OprojFirstReferenceIdeal.nD Cert.OprojFirstReferenceIdeal.τ).loc Cert.OprojFirstReferenceIdeal.main_arg1)
          ∧ r.2.mem ((c.tc : Thread Cert.OprojFirstReferenceIdeal.nD Cert.OprojFirstReferenceIdeal.τ).loc Cert.OprojFirstReferenceIdeal.main_arg2) = m' ((c.tc : Thread Cert.OprojFirstReferenceIdeal.nD Cert.OprojFirstReferenceIdeal.τ).loc Cert.OprojFirstReferenceIdeal.main_arg2)
          ∧ r.2.mem ((c.tc : Thread Cert.OprojFirstReferenceIdeal.nD Cert.OprojFirstReferenceIdeal.τ).loc Cert.OprojFirstReferenceIdeal.main_arg3) = m' ((c.tc : Thread Cert.OprojFirstReferenceIdeal.nD Cert.OprojFirstReferenceIdeal.τ).loc Cert.OprojFirstReferenceIdeal.main_arg3)
          ∧ r.2.mem ((c.tc : Thread Cert.OprojFirstReferenceIdeal.nD Cert.OprojFirstReferenceIdeal.τ).loc Cert.OprojFirstReferenceIdeal.main_arg4) = m' ((c.tc : Thread Cert.OprojFirstReferenceIdeal.nD Cert.OprojFirstReferenceIdeal.τ).loc Cert.OprojFirstReferenceIdeal.main_arg4))

def preserves_MlaPrep_MlaPrepIdeal : Prop :=
  True

def algebraic_MlaPrepIdeal_MlaPrepReferenceIdeal [hMlaPrepIdeal : Cert.MlaPrepIdeal.Facts] [hMlaPrepReferenceIdeal : Cert.MlaPrepReferenceIdeal.Facts] : Prop :=
  ∀ (m : (ℓ : Loc Cert.MlaPrepIdeal.nD Cert.MlaPrepIdeal.τ Cert.MlaPrepIdeal.sig) → Buf (Elt Ideal) ℓ) (g : Dev Cert.MlaPrepIdeal.nD → PrngReg)
    (m' : (ℓ : Loc Cert.MlaPrepReferenceIdeal.nD Cert.MlaPrepReferenceIdeal.τ Cert.MlaPrepReferenceIdeal.sig) → Buf (Elt Ideal) ℓ) (g' : Dev Cert.MlaPrepReferenceIdeal.nD → PrngReg), Pre_MlaPrepIdeal m →
    (∀ c : Dev Cert.MlaPrepIdeal.nD,
      m' ((c.tc : Thread Cert.MlaPrepReferenceIdeal.nD Cert.MlaPrepReferenceIdeal.τ).loc Cert.MlaPrepReferenceIdeal.main_arg0) = m ((c.tc : Thread Cert.MlaPrepIdeal.nD Cert.MlaPrepIdeal.τ).loc Cert.MlaPrepIdeal.main_arg0)
      ∧ m' ((c.tc : Thread Cert.MlaPrepReferenceIdeal.nD Cert.MlaPrepReferenceIdeal.τ).loc Cert.MlaPrepReferenceIdeal.main_arg1) = m ((c.tc : Thread Cert.MlaPrepIdeal.nD Cert.MlaPrepIdeal.τ).loc Cert.MlaPrepIdeal.main_arg1)
      ∧ m' ((c.tc : Thread Cert.MlaPrepReferenceIdeal.nD Cert.MlaPrepReferenceIdeal.τ).loc Cert.MlaPrepReferenceIdeal.main_arg2) = m ((c.tc : Thread Cert.MlaPrepIdeal.nD Cert.MlaPrepIdeal.τ).loc Cert.MlaPrepIdeal.main_arg2)
      ∧ m' ((c.tc : Thread Cert.MlaPrepReferenceIdeal.nD Cert.MlaPrepReferenceIdeal.τ).loc Cert.MlaPrepReferenceIdeal.main_arg3) = m ((c.tc : Thread Cert.MlaPrepIdeal.nD Cert.MlaPrepIdeal.τ).loc Cert.MlaPrepIdeal.main_arg3)
      ∧ m' ((c.tc : Thread Cert.MlaPrepReferenceIdeal.nD Cert.MlaPrepReferenceIdeal.τ).loc Cert.MlaPrepReferenceIdeal.main_arg4) = m ((c.tc : Thread Cert.MlaPrepIdeal.nD Cert.MlaPrepIdeal.τ).loc Cert.MlaPrepIdeal.main_arg4)
      ∧ m' ((c.tc : Thread Cert.MlaPrepReferenceIdeal.nD Cert.MlaPrepReferenceIdeal.τ).loc Cert.MlaPrepReferenceIdeal.main_arg5) = m ((c.tc : Thread Cert.MlaPrepIdeal.nD Cert.MlaPrepIdeal.τ).loc Cert.MlaPrepIdeal.main_arg5)
      ∧ m' ((c.tc : Thread Cert.MlaPrepReferenceIdeal.nD Cert.MlaPrepReferenceIdeal.τ).loc Cert.MlaPrepReferenceIdeal.main_arg6) = m ((c.tc : Thread Cert.MlaPrepIdeal.nD Cert.MlaPrepIdeal.τ).loc Cert.MlaPrepIdeal.main_arg6)) →
    ∃ (v0 : (c : Dev Cert.MlaPrepIdeal.nD) → Buf (Elt Ideal) ((c.tc : Thread Cert.MlaPrepIdeal.nD Cert.MlaPrepIdeal.τ).loc Cert.MlaPrepIdeal.main_v49_0)) (v1 : (c : Dev Cert.MlaPrepIdeal.nD) → Buf (Elt Ideal) ((c.tc : Thread Cert.MlaPrepIdeal.nD Cert.MlaPrepIdeal.τ).loc Cert.MlaPrepIdeal.main_v49_1)) (v2 : (c : Dev Cert.MlaPrepIdeal.nD) → Buf (Elt Ideal) ((c.tc : Thread Cert.MlaPrepIdeal.nD Cert.MlaPrepIdeal.τ).loc Cert.MlaPrepIdeal.main_v49_2)),
      θ_run (Cert.MlaPrepIdeal.defs (F := Ideal)) (onTc (τ := Cert.MlaPrepIdeal.τ) (Cert.MlaPrepIdeal.main (F := Ideal))) ⟨m, fun _ => 0, g⟩ (fun r => ∀ c : Dev Cert.MlaPrepIdeal.nD,
          r.2.mem ((c.tc : Thread Cert.MlaPrepIdeal.nD Cert.MlaPrepIdeal.τ).loc Cert.MlaPrepIdeal.main_v49_0) = v0 c
          ∧ r.2.mem ((c.tc : Thread Cert.MlaPrepIdeal.nD Cert.MlaPrepIdeal.τ).loc Cert.MlaPrepIdeal.main_v49_1) = v1 c
          ∧ r.2.mem ((c.tc : Thread Cert.MlaPrepIdeal.nD Cert.MlaPrepIdeal.τ).loc Cert.MlaPrepIdeal.main_v49_2) = v2 c
          ∧ r.2.mem ((c.tc : Thread Cert.MlaPrepIdeal.nD Cert.MlaPrepIdeal.τ).loc Cert.MlaPrepIdeal.main_arg0) = m ((c.tc : Thread Cert.MlaPrepIdeal.nD Cert.MlaPrepIdeal.τ).loc Cert.MlaPrepIdeal.main_arg0)
          ∧ r.2.mem ((c.tc : Thread Cert.MlaPrepIdeal.nD Cert.MlaPrepIdeal.τ).loc Cert.MlaPrepIdeal.main_arg1) = m ((c.tc : Thread Cert.MlaPrepIdeal.nD Cert.MlaPrepIdeal.τ).loc Cert.MlaPrepIdeal.main_arg1)
          ∧ r.2.mem ((c.tc : Thread Cert.MlaPrepIdeal.nD Cert.MlaPrepIdeal.τ).loc Cert.MlaPrepIdeal.main_arg2) = m ((c.tc : Thread Cert.MlaPrepIdeal.nD Cert.MlaPrepIdeal.τ).loc Cert.MlaPrepIdeal.main_arg2)
          ∧ r.2.mem ((c.tc : Thread Cert.MlaPrepIdeal.nD Cert.MlaPrepIdeal.τ).loc Cert.MlaPrepIdeal.main_arg3) = m ((c.tc : Thread Cert.MlaPrepIdeal.nD Cert.MlaPrepIdeal.τ).loc Cert.MlaPrepIdeal.main_arg3)
          ∧ r.2.mem ((c.tc : Thread Cert.MlaPrepIdeal.nD Cert.MlaPrepIdeal.τ).loc Cert.MlaPrepIdeal.main_arg4) = m ((c.tc : Thread Cert.MlaPrepIdeal.nD Cert.MlaPrepIdeal.τ).loc Cert.MlaPrepIdeal.main_arg4)
          ∧ r.2.mem ((c.tc : Thread Cert.MlaPrepIdeal.nD Cert.MlaPrepIdeal.τ).loc Cert.MlaPrepIdeal.main_arg5) = m ((c.tc : Thread Cert.MlaPrepIdeal.nD Cert.MlaPrepIdeal.τ).loc Cert.MlaPrepIdeal.main_arg5)
          ∧ r.2.mem ((c.tc : Thread Cert.MlaPrepIdeal.nD Cert.MlaPrepIdeal.τ).loc Cert.MlaPrepIdeal.main_arg6) = m ((c.tc : Thread Cert.MlaPrepIdeal.nD Cert.MlaPrepIdeal.τ).loc Cert.MlaPrepIdeal.main_arg6))
      ∧ θ_run (Cert.MlaPrepReferenceIdeal.defs (F := Ideal)) (onTc (τ := Cert.MlaPrepReferenceIdeal.τ) (Cert.MlaPrepReferenceIdeal.main (F := Ideal))) ⟨m', fun _ => 0, g'⟩ (fun r => ∀ c : Dev Cert.MlaPrepReferenceIdeal.nD,
          r.2.mem ((c.tc : Thread Cert.MlaPrepReferenceIdeal.nD Cert.MlaPrepReferenceIdeal.τ).loc Cert.MlaPrepReferenceIdeal.main_v116) = v0 c
          ∧ r.2.mem ((c.tc : Thread Cert.MlaPrepReferenceIdeal.nD Cert.MlaPrepReferenceIdeal.τ).loc Cert.MlaPrepReferenceIdeal.main_v117) = v1 c
          ∧ r.2.mem ((c.tc : Thread Cert.MlaPrepReferenceIdeal.nD Cert.MlaPrepReferenceIdeal.τ).loc Cert.MlaPrepReferenceIdeal.main_v118) = v2 c
          ∧ r.2.mem ((c.tc : Thread Cert.MlaPrepReferenceIdeal.nD Cert.MlaPrepReferenceIdeal.τ).loc Cert.MlaPrepReferenceIdeal.main_arg0) = m' ((c.tc : Thread Cert.MlaPrepReferenceIdeal.nD Cert.MlaPrepReferenceIdeal.τ).loc Cert.MlaPrepReferenceIdeal.main_arg0)
          ∧ r.2.mem ((c.tc : Thread Cert.MlaPrepReferenceIdeal.nD Cert.MlaPrepReferenceIdeal.τ).loc Cert.MlaPrepReferenceIdeal.main_arg1) = m' ((c.tc : Thread Cert.MlaPrepReferenceIdeal.nD Cert.MlaPrepReferenceIdeal.τ).loc Cert.MlaPrepReferenceIdeal.main_arg1)
          ∧ r.2.mem ((c.tc : Thread Cert.MlaPrepReferenceIdeal.nD Cert.MlaPrepReferenceIdeal.τ).loc Cert.MlaPrepReferenceIdeal.main_arg2) = m' ((c.tc : Thread Cert.MlaPrepReferenceIdeal.nD Cert.MlaPrepReferenceIdeal.τ).loc Cert.MlaPrepReferenceIdeal.main_arg2)
          ∧ r.2.mem ((c.tc : Thread Cert.MlaPrepReferenceIdeal.nD Cert.MlaPrepReferenceIdeal.τ).loc Cert.MlaPrepReferenceIdeal.main_arg3) = m' ((c.tc : Thread Cert.MlaPrepReferenceIdeal.nD Cert.MlaPrepReferenceIdeal.τ).loc Cert.MlaPrepReferenceIdeal.main_arg3)
          ∧ r.2.mem ((c.tc : Thread Cert.MlaPrepReferenceIdeal.nD Cert.MlaPrepReferenceIdeal.τ).loc Cert.MlaPrepReferenceIdeal.main_arg4) = m' ((c.tc : Thread Cert.MlaPrepReferenceIdeal.nD Cert.MlaPrepReferenceIdeal.τ).loc Cert.MlaPrepReferenceIdeal.main_arg4)
          ∧ r.2.mem ((c.tc : Thread Cert.MlaPrepReferenceIdeal.nD Cert.MlaPrepReferenceIdeal.τ).loc Cert.MlaPrepReferenceIdeal.main_arg5) = m' ((c.tc : Thread Cert.MlaPrepReferenceIdeal.nD Cert.MlaPrepReferenceIdeal.τ).loc Cert.MlaPrepReferenceIdeal.main_arg5)
          ∧ r.2.mem ((c.tc : Thread Cert.MlaPrepReferenceIdeal.nD Cert.MlaPrepReferenceIdeal.τ).loc Cert.MlaPrepReferenceIdeal.main_arg6) = m' ((c.tc : Thread Cert.MlaPrepReferenceIdeal.nD Cert.MlaPrepReferenceIdeal.τ).loc Cert.MlaPrepReferenceIdeal.main_arg6))

def Claim : Prop :=
  ∃ (hMlp : Cert.Mlp.Facts) (hMlpIdeal : Cert.MlpIdeal.Facts) (hMlpReferenceIdeal : Cert.MlpReferenceIdeal.Facts) (hMla : Cert.Mla.Facts) (hMlaIdeal : Cert.MlaIdeal.Facts) (hMlaReferenceIdeal : Cert.MlaReferenceIdeal.Facts) (hOproj : Cert.Oproj.Facts) (hOprojIdeal : Cert.OprojIdeal.Facts) (hOprojReferenceIdeal : Cert.OprojReferenceIdeal.Facts) (hInproj : Cert.Inproj.Facts) (hInprojIdeal : Cert.InprojIdeal.Facts) (hInprojReferenceIdeal : Cert.InprojReferenceIdeal.Facts) (hMlpFirst : Cert.MlpFirst.Facts) (hMlpFirstIdeal : Cert.MlpFirstIdeal.Facts) (hMlpFirstReferenceIdeal : Cert.MlpFirstReferenceIdeal.Facts) (hOprojFirst : Cert.OprojFirst.Facts) (hOprojFirstIdeal : Cert.OprojFirstIdeal.Facts) (hOprojFirstReferenceIdeal : Cert.OprojFirstReferenceIdeal.Facts) (hMlaPrep : Cert.MlaPrep.Facts) (hMlaPrepIdeal : Cert.MlaPrepIdeal.Facts) (hMlaPrepReferenceIdeal : Cert.MlaPrepReferenceIdeal.Facts) (hPre_finite_latents : Cert.Pre_finite_latents.Facts),
    quiescent_Mlp (hMlp := hMlp)
    ∧ quiescent_MlpIdeal (hMlpIdeal := hMlpIdeal)
    ∧ quiescent_MlpReferenceIdeal (hMlpReferenceIdeal := hMlpReferenceIdeal)
    ∧ quiescent_Mla (hMla := hMla)
    ∧ quiescent_MlaIdeal (hMlaIdeal := hMlaIdeal)
    ∧ quiescent_MlaIdeal_pre_finite_latents (hMlaIdeal := hMlaIdeal) (hPre_finite_latents := hPre_finite_latents)
    ∧ quiescent_MlaReferenceIdeal (hMlaReferenceIdeal := hMlaReferenceIdeal)
    ∧ quiescent_MlaReferenceIdeal_pre_finite_latents (hMlaReferenceIdeal := hMlaReferenceIdeal) (hPre_finite_latents := hPre_finite_latents)
    ∧ quiescent_Oproj (hOproj := hOproj)
    ∧ quiescent_OprojIdeal (hOprojIdeal := hOprojIdeal)
    ∧ quiescent_OprojReferenceIdeal (hOprojReferenceIdeal := hOprojReferenceIdeal)
    ∧ quiescent_Inproj (hInproj := hInproj)
    ∧ quiescent_InprojIdeal (hInprojIdeal := hInprojIdeal)
    ∧ quiescent_InprojReferenceIdeal (hInprojReferenceIdeal := hInprojReferenceIdeal)
    ∧ quiescent_MlpFirst (hMlpFirst := hMlpFirst)
    ∧ quiescent_MlpFirstIdeal (hMlpFirstIdeal := hMlpFirstIdeal)
    ∧ quiescent_MlpFirstReferenceIdeal (hMlpFirstReferenceIdeal := hMlpFirstReferenceIdeal)
    ∧ quiescent_OprojFirst (hOprojFirst := hOprojFirst)
    ∧ quiescent_OprojFirstIdeal (hOprojFirstIdeal := hOprojFirstIdeal)
    ∧ quiescent_OprojFirstReferenceIdeal (hOprojFirstReferenceIdeal := hOprojFirstReferenceIdeal)
    ∧ quiescent_MlaPrep (hMlaPrep := hMlaPrep)
    ∧ quiescent_MlaPrepIdeal (hMlaPrepIdeal := hMlaPrepIdeal)
    ∧ quiescent_MlaPrepReferenceIdeal (hMlaPrepReferenceIdeal := hMlaPrepReferenceIdeal)
    ∧ preserves_Mlp_MlpIdeal
    ∧ algebraic_MlpIdeal_MlpReferenceIdeal (hMlpIdeal := hMlpIdeal) (hMlpReferenceIdeal := hMlpReferenceIdeal)
    ∧ preserves_Mla_MlaIdeal
    ∧ algebraic_MlaIdeal_MlaReferenceIdeal_pre_finite_latents (hMlaIdeal := hMlaIdeal) (hMlaReferenceIdeal := hMlaReferenceIdeal) (hPre_finite_latents := hPre_finite_latents)
    ∧ preserves_Oproj_OprojIdeal
    ∧ algebraic_OprojIdeal_OprojReferenceIdeal (hOprojIdeal := hOprojIdeal) (hOprojReferenceIdeal := hOprojReferenceIdeal)
    ∧ preserves_Inproj_InprojIdeal
    ∧ algebraic_InprojIdeal_InprojReferenceIdeal (hInprojIdeal := hInprojIdeal) (hInprojReferenceIdeal := hInprojReferenceIdeal)
    ∧ preserves_MlpFirst_MlpFirstIdeal
    ∧ algebraic_MlpFirstIdeal_MlpFirstReferenceIdeal (hMlpFirstIdeal := hMlpFirstIdeal) (hMlpFirstReferenceIdeal := hMlpFirstReferenceIdeal)
    ∧ preserves_OprojFirst_OprojFirstIdeal
    ∧ algebraic_OprojFirstIdeal_OprojFirstReferenceIdeal (hOprojFirstIdeal := hOprojFirstIdeal) (hOprojFirstReferenceIdeal := hOprojFirstReferenceIdeal)
    ∧ preserves_MlaPrep_MlaPrepIdeal
    ∧ algebraic_MlaPrepIdeal_MlaPrepReferenceIdeal (hMlaPrepIdeal := hMlaPrepIdeal) (hMlaPrepReferenceIdeal := hMlaPrepReferenceIdeal)
-- ==== Pre_finite_latents.lean ====
abbrev S2x8192x8x256 : Shape := ⟨4, ![2, 8192, 8, 256]⟩
abbrev S2x8192x256 : Shape := ⟨3, ![2, 8192, 256]⟩
abbrev S128x8x128 : Shape := ⟨3, ![128, 8, 128]⟩
abbrev S_ : Shape := ⟨0, ![]⟩
abbrev S2x8192x128 : Shape := ⟨3, ![2, 8192, 128]⟩

class Facts : Prop where
  bcast_S_S2x8192x8x256 : S_.BroadcastsInDim S2x8192x8x256 (![] : Fin 0 → Fin S2x8192x8x256.rank)
  bcast_S_S2x8192x256 : S_.BroadcastsInDim S2x8192x256 (![] : Fin 0 → Fin S2x8192x256.rank)
  slices_S2x8192x256_S2x8192x128_0_0_128 : S2x8192x256.Slices ![0, 0, 128] S2x8192x128
  bcast_S_S2x8192x128 : S_.BroadcastsInDim S2x8192x128 (![] : Fin 0 → Fin S2x8192x128.rank)
  bcast_S_S128x8x128 : S_.BroadcastsInDim S128x8x128 (![] : Fin 0 → Fin S128x8x128.rank)

variable [Facts]

def fn {F : FTy → Type} [FloatOps F] (main_arg0 : FVec F S2x8192x8x256 .bf16) (main_arg1 : FVec F S2x8192x256 .bf16) (main_arg2 : FVec F S2x8192x256 .bf16) (main_arg3 : FVec F S128x8x128 .f32) : IVec S2x8192x8x256 1 × IVec S2x8192x256 1 × IVec S2x8192x256 1 × IVec S2x8192x128 1 × IVec S128x8x128 1 :=
  let main_v0 : FVec F S2x8192x8x256 .bf16 := Host.absf main_arg0
  let main_cst : FVec F S_ .bf16 := constant S_ .bf16 0x7F80#16
  let main_v1 : FVec F S2x8192x8x256 .bf16 := broadcastInDim S2x8192x8x256 ![] bcast_S_S2x8192x8x256 main_cst
  let main_v2 : IVec S2x8192x8x256 1 := cmpf .olt main_v0 main_v1
  let main_v3 : FVec F S2x8192x256 .bf16 := Host.absf main_arg1
  let main_cst_0 : FVec F S_ .bf16 := constant S_ .bf16 0x7F80#16
  let main_v4 : FVec F S2x8192x256 .bf16 := broadcastInDim S2x8192x256 ![] bcast_S_S2x8192x256 main_cst_0
  let main_v5 : IVec S2x8192x256 1 := cmpf .olt main_v3 main_v4
  let main_v6 : FVec F S2x8192x256 .bf16 := Host.absf main_arg2
  let main_cst_1 : FVec F S_ .bf16 := constant S_ .bf16 0x7F80#16
  let main_v7 : FVec F S2x8192x256 .bf16 := broadcastInDim S2x8192x256 ![] bcast_S_S2x8192x256 main_cst_1
  let main_v8 : IVec S2x8192x256 1 := cmpf .olt main_v6 main_v7
  let main_v9 : FVec F S2x8192x128 .bf16 := (extractStridedSlice S2x8192x128 ![0, 0, 128] · slices_S2x8192x256_S2x8192x128_0_0_128) main_arg2
  let main_cst_2 : FVec F S_ .bf16 := constant S_ .bf16 0x3F80#16
  let main_v10 : FVec F S2x8192x128 .bf16 := broadcastInDim S2x8192x128 ![] bcast_S_S2x8192x128 main_cst_2
  let main_v11 : IVec S2x8192x128 1 := cmpf .oeq main_v9 main_v10
  let main_v12 : FVec F S128x8x128 .f32 := Host.absf main_arg3
  let main_cst_3 : FVec F S_ .f32 := constant S_ .f32 0x7F800000#32
  let main_v13 : FVec F S128x8x128 .f32 := broadcastInDim S128x8x128 ![] bcast_S_S128x8x128 main_cst_3
  let main_v14 : IVec S128x8x128 1 := cmpf .olt main_v12 main_v13
  (main_v2, main_v5, main_v8, main_v11, main_v14)
-- ==== Mlp.lean ====
abbrev S2x8192x2048 : Shape := ⟨3, ![2, 8192, 2048]⟩
abbrev S2x2048 : Shape := ⟨2, ![2, 2048]⟩
abbrev S2x2048x8192 : Shape := ⟨3, ![2, 2048, 8192]⟩
abbrev S2048 : Shape := ⟨1, ![2048]⟩
abbrev S16384x2048 : Shape := ⟨2, ![16384, 2048]⟩
abbrev S1x2048 : Shape := ⟨2, ![1, 2048]⟩
abbrev S1024x2048 : Shape := ⟨2, ![1024, 2048]⟩
abbrev S1x2048x512 : Shape := ⟨3, ![1, 2048, 512]⟩
abbrev S1x512x2048 : Shape := ⟨3, ![1, 512, 2048]⟩
abbrev S256x2048 : Shape := ⟨2, ![256, 2048]⟩
abbrev S256 : Shape := ⟨1, ![256]⟩
abbrev S256x1 : Shape := ⟨2, ![256, 1]⟩
abbrev S512x2048 : Shape := ⟨2, ![512, 2048]⟩
abbrev S2048x512 : Shape := ⟨2, ![2048, 512]⟩
abbrev S512x512 : Shape := ⟨2, ![512, 512]⟩
abbrev S1024x512 : Shape := ⟨2, ![1024, 512]⟩

abbrev nBuf : Space → Nat
  | .hbm => 13
  | .vmem => 11
  | .smem => 0
  | _ => 0

abbrev bufTy : (tb : Table) → Fin (tcTables nBuf tb) → BufTy
  | .hbm, ⟨0, _⟩ => ⟨S2x8192x2048, .f32⟩
  | .hbm, ⟨1, _⟩ => ⟨S2x2048, .f32⟩
  | .hbm, ⟨2, _⟩ => ⟨S2x2048x8192, .f32⟩
  | .hbm, ⟨3, _⟩ => ⟨S2x8192x2048, .f32⟩
  | .hbm, ⟨4, _⟩ => ⟨S2048, .f32⟩
  | .hbm, ⟨5, _⟩ => ⟨S16384x2048, .f32⟩
  | .hbm, ⟨6, _⟩ => ⟨S1x2048, .f32⟩
  | .hbm, ⟨7, _⟩ => ⟨S2048, .f32⟩
  | .hbm, ⟨8, _⟩ => ⟨S1x2048, .f32⟩
  | .hbm, ⟨9, _⟩ => ⟨S2x2048x8192, .bf16⟩
  | .hbm, ⟨10, _⟩ => ⟨S2x8192x2048, .bf16⟩
  | .hbm, ⟨11, _⟩ => ⟨S1x2048, .f32⟩
  | .hbm, ⟨12, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x512, .bf16⟩
  | .local _ .vmem, ⟨4, _⟩ => ⟨S1x2048x512, .bf16⟩
  | .local _ .vmem, ⟨5, _⟩ => ⟨S1x512x2048, .bf16⟩
  | .local _ .vmem, ⟨6, _⟩ => ⟨S1x512x2048, .bf16⟩
  | .local _ .vmem, ⟨7, _⟩ => ⟨S1x2048, .f32⟩
  | .local _ .vmem, ⟨8, _⟩ => ⟨S1024x2048, .f32⟩
  | .local _ .vmem, ⟨9, _⟩ => ⟨S1024x2048, .f32⟩
  | .local _ .vmem, ⟨10, _⟩ => ⟨S1024x2048, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 16], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def k0_cond3 (i : grid0.Coords) : BitVec 1 :=
  let arg1 : BitVec 32 := BitVec.ofNat 32 (i 1).val
  let c15_i32 : BitVec 32 := 15#32
  let v6 : BitVec 1 := Scalar.cmpi .eq arg1 c15_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== MlpReferenceIdeal.lean ====
abbrev S2x8192x2048 : Shape := ⟨3, ![2, 8192, 2048]⟩
abbrev S2x2048 : Shape := ⟨2, ![2, 2048]⟩
abbrev S2x2048x8192 : Shape := ⟨3, ![2, 2048, 8192]⟩
abbrev S2048 : Shape := ⟨1, ![2048]⟩
abbrev S1x2048 : Shape := ⟨2, ![1, 2048]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S1x2048x8192 : Shape := ⟨3, ![1, 2048, 8192]⟩
abbrev S2048x8192 : Shape := ⟨2, ![2048, 8192]⟩
abbrev S2x8192x8192 : Shape := ⟨3, ![2, 8192, 8192]⟩
abbrev S1x8192x2048 : Shape := ⟨3, ![1, 8192, 2048]⟩
abbrev S8192x2048 : Shape := ⟨2, ![8192, 2048]⟩
abbrev S16384x2048 : Shape := ⟨2, ![16384, 2048]⟩

abbrev nBuf : Space → Nat
  | .hbm => 51
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2x2048, .f32⟩
  | .hbm, ⟨2, _⟩ => ⟨S2x2048x8192, .f32⟩
  | .hbm, ⟨3, _⟩ => ⟨S2x8192x2048, .f32⟩
  | .hbm, ⟨4, _⟩ => ⟨S2048, .f32⟩
  | .hbm, ⟨5, _⟩ => ⟨S1x2048, .f32⟩
  | .hbm, ⟨6, _⟩ => ⟨S2048, .f32⟩
  | .hbm, ⟨7, _⟩ => ⟨S2x8192x2048, .f32⟩
  | .hbm, ⟨8, _⟩ => ⟨S_, .f32⟩
  | .hbm, ⟨9, _⟩ => ⟨S2x8192, .f32⟩
  | .hbm, ⟨10, _⟩ => ⟨S2x8192x1, .f32⟩
  | .hbm, ⟨11, _⟩ => ⟨S_, .f32⟩
  | .hbm, ⟨12, _⟩ => ⟨S2x8192x1, .f32⟩
  | .hbm, ⟨13, _⟩ => ⟨S2x8192x1, .f32⟩
  | .hbm, ⟨14, _⟩ => ⟨S_, .f32⟩
  | .hbm, ⟨15, _⟩ => ⟨S2x8192x1, .f32⟩
  | .hbm, ⟨16, _⟩ => ⟨S2x8192x1, .f32⟩
  | .hbm, ⟨17, _⟩ => ⟨S2x8192x1, .f32⟩
  | .hbm, ⟨18, _⟩ => ⟨S2x8192x2048, .f32⟩
  | .hbm, ⟨19, _⟩ => ⟨S2x8192x2048, .f32⟩
  | .hbm, ⟨20, _⟩ => ⟨S1x1x2048, .f32⟩
  | .hbm, ⟨21, _⟩ => ⟨S2x8192x2048, .f32⟩
  | .hbm, ⟨22, _⟩ => ⟨S2x8192x2048, .f32⟩
  | .hbm, ⟨23, _⟩ => ⟨S1x2048x8192, .f32⟩
  | .hbm, ⟨24, _⟩ => ⟨S2048x8192, .f32⟩
  | .hbm, ⟨25, _⟩ => ⟨S2x8192x8192, .f32⟩
  | .hbm, ⟨26, _⟩ => ⟨S_, .f32⟩
  | .hbm, ⟨27, _⟩ => ⟨S2x8192x8192, .f32⟩
  | .hbm, ⟨28, _⟩ => ⟨S2x8192x8192, .f32⟩
  | .hbm, ⟨29, _⟩ => ⟨S2x8192x8192, .f32⟩
  | .hbm, ⟨30, _⟩ => ⟨S1x8192x2048, .f32⟩
  | .hbm, ⟨31, _⟩ => ⟨S8192x2048, .f32⟩
  | .hbm, ⟨32, _⟩ => ⟨S2x8192x2048, .f32⟩
  | .hbm, ⟨33, _⟩ => ⟨S2x8192x2048, .f32⟩
  | .hbm, ⟨34, _⟩ => ⟨S2x8192x2048, .f32⟩
  | .hbm, ⟨35, _⟩ => ⟨S_, .f32⟩
  | .hbm, ⟨36, _⟩ => ⟨S2x8192, .f32⟩
  | .hbm, ⟨37, _⟩ => ⟨S2x8192x1, .f32⟩
  | .hbm, ⟨38, _⟩ => ⟨S_, .f32⟩
  | .hbm, ⟨39, _⟩ => ⟨S2x8192x1, .f32⟩
  | .hbm, ⟨40, _⟩ => ⟨S2x8192x1, .f32⟩
  | .hbm, ⟨41, _⟩ => ⟨S_, .f32⟩
  | .hbm, ⟨42, _⟩ => ⟨S2x8192x1, .f32⟩
  | .hbm, ⟨43, _⟩ => ⟨S2x8192x1, .f32⟩
  | .hbm, ⟨44, _⟩ => ⟨S2x8192x1, .f32⟩
  | .hbm, ⟨45, _⟩ => ⟨S2x8192x2048, .f32⟩
  | .hbm, ⟨46, _⟩ => ⟨S2x8192x2048, .f32⟩
  | .hbm, ⟨47, _⟩ => ⟨S1x1x2048, .f32⟩
  | .hbm, ⟨48, _⟩ => ⟨S2x8192x2048, .f32⟩
  | .hbm, ⟨49, _⟩ => ⟨S2x8192x2048, .f32⟩
  | .hbm, ⟨50, _⟩ => ⟨S16384x2048, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_cst : Ref sig .tc := ⟨.hbm, 26, rfl⟩
abbrev main_call0_v0 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Mla.lean ====
abbrev S2x8192x8x256 : Shape := ⟨4, ![2, 8192, 8, 256]⟩
abbrev S2x8192x256 : Shape := ⟨3, ![2, 8192, 256]⟩
abbrev S128x8x128 : Shape := ⟨3, ![128, 8, 128]⟩
abbrev S2x32x256x8x256 : Shape := ⟨5, ![2, 32, 256, 8, 256]⟩
abbrev S2x32x8x256x256 : Shape := ⟨5, ![2, 32, 8, 256, 256]⟩
abbrev S131072x256 : Shape := ⟨2, ![131072, 256]⟩
abbrev S8x128x128 : Shape := ⟨3, ![8, 128, 128]⟩
abbrev S16384x256 : Shape := ⟨2, ![16384, 256]⟩
abbrev S16384x1024 : Shape := ⟨2, ![16384, 1024]⟩
abbrev S2048x256 : Shape := ⟨2, ![2048, 256]⟩
abbrev S8192x256 : Shape := ⟨2, ![8192, 256]⟩
abbrev S256x1024 : Shape := ⟨2, ![256, 1024]⟩
abbrev S2048x512 : Shape := ⟨2, ![2048, 512]⟩
abbrev S2048x128 : Shape := ⟨2, ![2048, 128]⟩
abbrev S512x256 : Shape := ⟨2, ![512, 256]⟩
abbrev S2048 : Shape := ⟨1, ![2048]⟩
abbrev S2048x1 : Shape := ⟨2, ![2048, 1]⟩
abbrev S256x512 : Shape := ⟨2, ![256, 512]⟩
abbrev S256x256 : Shape := ⟨2, ![256, 256]⟩
abbrev S256x128 : Shape := ⟨2, ![256, 128]⟩
abbrev S1x128x128 : Shape := ⟨3, ![1, 128, 128]⟩
abbrev S128x128 : Shape := ⟨2, ![128, 128]⟩

abbrev nBuf : Space → Nat
  | .hbm => 12
  | .vmem => 13
  | .smem => 0
  | _ => 0

abbrev bufTy : (tb : Table) → Fin (tcTables nBuf tb) → BufTy
  | .hbm, ⟨0, _⟩ => ⟨S2x8192x8x256, .bf16⟩
  | .hbm, ⟨1, _⟩ => ⟨S2x8192x256, .bf16⟩
  | .hbm, ⟨2, _⟩ => ⟨S2x8192x256, .bf16⟩
  | .hbm, ⟨3, _⟩ => ⟨S128x8x128, .f32⟩
  | .hbm, ⟨4, _⟩ => ⟨S2x32x256x8x256, .bf16⟩
  | .hbm, ⟨5, _⟩ => ⟨S2x32x8x256x256, .bf16⟩
  | .hbm, ⟨6, _⟩ => ⟨S131072x256, .bf16⟩
  | .hbm, ⟨7, _⟩ => ⟨S8x128x128, .f32⟩
  | .hbm, ⟨8, _⟩ => ⟨S8x128x128, .bf16⟩
  | .hbm, ⟨9, _⟩ => ⟨S16384x256, .bf16⟩
  | .hbm, ⟨10, _⟩ => ⟨S16384x256, .bf16⟩
  | .hbm, ⟨11, _⟩ => ⟨S16384x1024, .bf16⟩
  | .local _ .vmem, ⟨0, _⟩ => ⟨S2048x256, .bf16⟩
  | .local _ .vmem, ⟨1, _⟩ => ⟨S2048x256, .bf16⟩
  | .local _ .vmem, ⟨2, _⟩ => ⟨S8192x256, .bf16⟩
  | .local _ .vmem, ⟨3, _⟩ => ⟨S8192x256, .bf16⟩
  | .local _ .vmem, ⟨4, _⟩ => ⟨S8192x256, .bf16⟩
  | .local _ .vmem, ⟨5, _⟩ => ⟨S8192x256, .bf16⟩
  | .local _ .vmem, ⟨6, _⟩ => ⟨S8x128x128, .bf16⟩
  | .local _ .vmem, ⟨7, _⟩ => ⟨S256x1024, .bf16⟩
  | .local _ .vmem, ⟨8, _⟩ => ⟨S256x1024, .bf16⟩
  | .local _ .vmem, ⟨9, _⟩ => ⟨S2048x512, .f32⟩
  | .local _ .vmem, ⟨10, _⟩ => ⟨S2048x512, .f32⟩
  | .local _ .vmem, ⟨11, _⟩ => ⟨S2048x128, .f32⟩
  | .local _ .vmem, ⟨12, _⟩ => ⟨S2048x256, .f32⟩
  | _, _ => ⟨S2x8192x8x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 32], ![false, false]⟩

def k0_mult1 : BitVec 32 :=
  let c0_i32_9 : BitVec 32 := 0#32
  c0_i32_9
@[reducible] def k0_t1_loop (i : grid0.Coords) : Scf.Loop 32 :=
  let c0_i32_18 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.shrsi v17 c1_i32_4
  let c1_i32_16 : BitVec 32 := 1#32
  let v37 : BitVec 32 := Scalar.shrsi v18 c1_i32_16
  let v38 : BitVec 32 := Scalar.subi v37 c0_i32_18
  let c1_i32_19 : BitVec 32 := 1#32
  let v40 : BitVec 32 := Scalar.divsi v38 c1_i32_19
  let v41 : BitVec 32 := Scalar.muli v40 c1_i32_19
  let v42 : BitVec 32 := Scalar.addi c0_i32_18 v41
  let c1_i32_20 : BitVec 32 := 1#32
  ⟨c0_i32_18, v42, c1_i32_20⟩
def k0_mult2 (i : grid0.Coords) (k0_t1 : Fin (k0_t1_loop i).trips) : BitVec 32 :=
  let c4_i32 : BitVec 32 := 4#32
  let c0_i32_18 : BitVec 32 := 0#32
  let c1_i32_20 : BitVec 32 := 1#32
  let arg11 : BitVec 32 := Scf.iv c0_i32_18 c1_i32_20 k0_t1
  let v135 : BitVec 32 := Scalar.muli c4_i32 arg11
  let c1_i32_77 : BitVec 32 := 1#32
  let v136 : BitVec 32 := Scalar.addi v135 c1_i32_77
  let c512_i32_78 : BitVec 32 := 512#32
  let v137 : BitVec 32 := Scalar.muli v136 c512_i32_78
  v137
def k0_off1 (i : grid0.Coords) (k0_t1 : Fin (k0_t1_loop i).trips) (c1_i32_77 : BitVec 32) : Fin 2 → Nat :=
  let c4_i32 : BitVec 32 := 4#32
  let c0_i32_18 : BitVec 32 := 0#32
  let c1_i32_20 : BitVec 32 := 1#32
  let arg11 : BitVec 32 := Scf.iv c0_i32_18 c1_i32_20 k0_t1
  let v135 : BitVec 32 := Scalar.muli c4_i32 arg11
  let v136 : BitVec 32 := Scalar.addi v135 c1_i32_77
  let c512_i32_78 : BitVec 32 := 512#32
  let v137 : BitVec 32 := Scalar.muli v136 c512_i32_78
  let v138 : BitVec 32 := v137
  let v141 : Index := Scalar.indexCast v138
  let c0_81 : Index := 0#32
  ![v141.toNat, 0]
def k0_mult3 (i : grid0.Coords) (k0_t1 : Fin (k0_t1_loop i).trips) : BitVec 32 :=
  let c4_i32 : BitVec 32 := 4#32
  let c0_i32_18 : BitVec 32 := 0#32
  let c1_i32_20 : BitVec 32 := 1#32
  let arg11 : BitVec 32 := Scf.iv c0_i32_18 c1_i32_20 k0_t1
  let v135 : BitVec 32 := Scalar.muli c4_i32 arg11
  let c512_i32_90 : BitVec 32 := 512#32
  let v159 : BitVec 32 := Scalar.muli v135 c512_i32_90
  v159
def k0_off2 (i : grid0.Coords) (k0_t1 : Fin (k0_t1_loop i).trips) : Fin 2 → Nat :=
  let c4_i32 : BitVec 32 := 4#32
  let c0_i32_18 : BitVec 32 := 0#32
  let c1_i32_20 : BitVec 32 := 1#32
  let arg11 : BitVec 32 := Scf.iv c0_i32_18 c1_i32_20 k0_t1
  let v135 : BitVec 32 := Scalar.muli c4_i32 arg11
  let c512_i32_90 : BitVec 32 := 512#32
  let v159 : BitVec 32 := Scalar.muli v135 c512_i32_90
  let v160 : BitVec 32 := v159
  let v162 : Index := Scalar.indexCast v160
  let c0_91 : Index := 0#32
  ![v162.toNat, 0]
def k0_mult4 (i : grid0.Coords) (k0_t1 : Fin (k0_t1_loop i).trips) : BitVec 32 :=
  let c4_i32 : BitVec 32 := 4#32
  let c0_i32_18 : BitVec 32 := 0#32
  let c1_i32_20 : BitVec 32 := 1#32
  let arg11 : BitVec 32 := Scf.iv c0_i32_18 c1_i32_20 k0_t1
  let v135 : BitVec 32 := Scalar.muli c4_i32 arg11
  let c2_i32 : BitVec 32 := 2#32
  let v176 : BitVec 32 := Scalar.addi v135 c2_i32
  let c512_i32_99 : BitVec 32 := 512#32
  let v177 : BitVec 32 := Scalar.muli v176 c512_i32_99
  v177
def k0_mult5 (i : grid0.Coords) (k0_t1 : Fin (k0_t1_loop i).trips) : BitVec 32 :=
  let c4_i32 : BitVec 32 := 4#32
  let c0_i32_18 : BitVec 32 := 0#32
  let c1_i32_20 : BitVec 32 := 1#32
  let arg11 : BitVec 32 := Scf.iv c0_i32_18 c1_i32_20 k0_t1
  let v135 : BitVec 32 := Scalar.muli c4_i32 arg11
  let c1_i32_106 : BitVec 32 := 1#32
  let v188 : BitVec 32 := Scalar.addi v135 c1_i32_106
  let c512_i32_112 : BitVec 32 := 512#32
  let v200 : BitVec 32 := Scalar.muli v188 c512_i32_112
  v200
def k0_mult6 (i : grid0.Coords) (k0_t1 : Fin (k0_t1_loop i).trips) : BitVec 32 :=
  let c4_i32_121 : BitVec 32 := 4#32
  let c0_i32_18 : BitVec 32 := 0#32
  let c1_i32_20 : BitVec 32 := 1#32
  let arg11 : BitVec 32 := Scf.iv c0_i32_18 c1_i32_20 k0_t1
  let v217 : BitVec 32 := Scalar.muli c4_i32_121 arg11
  let c2_i32_122 : BitVec 32 := 2#32
  let v218 : BitVec 32 := Scalar.addi v217 c2_i32_122
  let c1_i32_123 : BitVec 32 := 1#32
  let v219 : BitVec 32 := Scalar.addi v218 c1_i32_123
  let c512_i32_124 : BitVec 32 := 512#32
  let v220 : BitVec 32 := Scalar.muli v219 c512_i32_124
  v220
def k0_off3 (i : grid0.Coords) (k0_t1 : Fin (k0_t1_loop i).trips) (c1_i32_123 : BitVec 32) : Fin 2 → Nat :=
  let c4_i32_121 : BitVec 32 := 4#32
  let c0_i32_18 : BitVec 32 := 0#32
  let c1_i32_20 : BitVec 32 := 1#32
  let arg11 : BitVec 32 := Scf.iv c0_i32_18 c1_i32_20 k0_t1
  let v217 : BitVec 32 := Scalar.muli c4_i32_121 arg11
  let c2_i32_122 : BitVec 32 := 2#32
  let v218 : BitVec 32 := Scalar.addi v217 c2_i32_122
  let v219 : BitVec 32 := Scalar.addi v218 c1_i32_123
  let c512_i32_124 : BitVec 32 := 512#32
  let v220 : BitVec 32 := Scalar.muli v219 c512_i32_124
  let v221 : BitVec 32 := v220
  let v224 : Index := Scalar.indexCast v221
  let c0_127 : Index := 0#32
  ![v224.toNat, 0]
def k0_mult7 (i : grid0.Coords) (k0_t1 : Fin (k0_t1_loop i).trips) : BitVec 32 :=
  let c4_i32_121 : BitVec 32 := 4#32
  let c0_i32_18 : BitVec 32 := 0#32
  let c1_i32_20 : BitVec 32 := 1#32
  let arg11 : BitVec 32 := Scf.iv c0_i32_18 c1_i32_20 k0_t1
  let v217 : BitVec 32 := Scalar.muli c4_i32_121 arg11
  let c2_i32_122 : BitVec 32 := 2#32
  let v218 : BitVec 32 := Scalar.addi v217 c2_i32_122
  let c512_i32_136 : BitVec 32 := 512#32
  let v242 : BitVec 32 := Scalar.muli v218 c512_i32_136
  v242
def k0_mult8 (i : grid0.Coords) (k0_t1 : Fin (k0_t1_loop i).trips) : BitVec 32 :=
  let c4_i32_121 : BitVec 32 := 4#32
  let c0_i32_18 : BitVec 32 := 0#32
  let c1_i32_20 : BitVec 32 := 1#32
  let arg11 : BitVec 32 := Scf.iv c0_i32_18 c1_i32_20 k0_t1
  let v217 : BitVec 32 := Scalar.muli c4_i32_121 arg11
  let c2_i32_122 : BitVec 32 := 2#32
  let v218 : BitVec 32 := Scalar.addi v217 c2_i32_122
  let c2_i32_145 : BitVec 32 := 2#32
  let v259 : BitVec 32 := Scalar.addi v218 c2_i32_145
  let c512_i32_146 : BitVec 32 := 512#32
  let v260 : BitVec 32 := Scalar.muli v259 c512_i32_146
  v260
def k0_mult9 (i : grid0.Coords) (k0_t1 : Fin (k0_t1_loop i).trips) : BitVec 32 :=
  let c4_i32_121 : BitVec 32 := 4#32
  let c0_i32_18 : BitVec 32 := 0#32
  let c1_i32_20 : BitVec 32 := 1#32
  let arg11 : BitVec 32 := Scf.iv c0_i32_18 c1_i32_20 k0_t1
  let v217 : BitVec 32 := Scalar.muli c4_i32_121 arg11
  let c2_i32_122 : BitVec 32 := 2#32
  let v218 : BitVec 32 := Scalar.addi v217 c2_i32_122
  let c1_i32_153 : BitVec 32 := 1#32
  let v271 : BitVec 32 := Scalar.addi v218 c1_i32_153
  let c512_i32_159 : BitVec 32 := 512#32
  let v283 : BitVec 32 := Scalar.muli v271 c512_i32_159
  v283
@[reducible] def k0_t2_loop (i : grid0.Coords) : Scf.Loop 32 :=
  let c0_i32_18 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.shrsi v17 c1_i32_4
  let c1_i32_16 : BitVec 32 := 1#32
  let v37 : BitVec 32 := Scalar.shrsi v18 c1_i32_16
  let v38 : BitVec 32 := Scalar.subi v37 c0_i32_18
  let c1_i32_19 : BitVec 32 := 1#32
  let v40 : BitVec 32 := Scalar.divsi v38 c1_i32_19
  let v41 : BitVec 32 := Scalar.muli v40 c1_i32_19
  let v42 : BitVec 32 := Scalar.addi c0_i32_18 v41
  let v39 : BitVec 32 := Scalar.addi c0_i32_18 v38
  let c1_i32_21 : BitVec 32 := 1#32
  ⟨v42, v39, c1_i32_21⟩
def k0_mult10 (i : grid0.Coords) (k0_t2 : Fin (k0_t2_loop i).trips) : BitVec 32 :=
  let c4_i32 : BitVec 32 := 4#32
  let c0_i32_18 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.shrsi v17 c1_i32_4
  let c1_i32_16 : BitVec 32 := 1#32
  let v37 : BitVec 32 := Scalar.shrsi v18 c1_i32_16
  let v38 : BitVec 32 := Scalar.subi v37 c0_i32_18
  let c1_i32_19 : BitVec 32 := 1#32
  let v40 : BitVec 32 := Scalar.divsi v38 c1_i32_19
  let v41 : BitVec 32 := Scalar.muli v40 c1_i32_19
  let v42 : BitVec 32 := Scalar.addi c0_i32_18 v41
  let c1_i32_21 : BitVec 32 := 1#32
  let arg11 : BitVec 32 := Scf.iv v42 c1_i32_21 k0_t2
  let v135 : BitVec 32 := Scalar.muli c4_i32 arg11
  let c1_i32_77 : BitVec 32 := 1#32
  let v136 : BitVec 32 := Scalar.addi v135 c1_i32_77
  let c512_i32_78 : BitVec 32 := 512#32
  let v137 : BitVec 32 := Scalar.muli v136 c512_i32_78
  v137
def k0_off4 (i : grid0.Coords) (k0_t2 : Fin (k0_t2_loop i).trips) (c1_i32_77 : BitVec 32) : Fin 2 → Nat :=
  let c4_i32 : BitVec 32 := 4#32
  let c0_i32_18 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.shrsi v17 c1_i32_4
  let c1_i32_16 : BitVec 32 := 1#32
  let v37 : BitVec 32 := Scalar.shrsi v18 c1_i32_16
  let v38 : BitVec 32 := Scalar.subi v37 c0_i32_18
  let c1_i32_19 : BitVec 32 := 1#32
  let v40 : BitVec 32 := Scalar.divsi v38 c1_i32_19
  let v41 : BitVec 32 := Scalar.muli v40 c1_i32_19
  let v42 : BitVec 32 := Scalar.addi c0_i32_18 v41
  let c1_i32_21 : BitVec 32 := 1#32
  let arg11 : BitVec 32 := Scf.iv v42 c1_i32_21 k0_t2
  let v135 : BitVec 32 := Scalar.muli c4_i32 arg11
  let v136 : BitVec 32 := Scalar.addi v135 c1_i32_77
  let c512_i32_78 : BitVec 32 := 512#32
  let v137 : BitVec 32 := Scalar.muli v136 c512_i32_78
  let v138 : BitVec 32 := v137
  let v141 : Index := Scalar.indexCast v138
  let c0_81 : Index := 0#32
  ![v141.toNat, 0]
def k0_mult11 (i : grid0.Coords) (k0_t2 : Fin (k0_t2_loop i).trips) : BitVec 32 :=
  let c4_i32 : BitVec 32 := 4#32
  let c0_i32_18 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.shrsi v17 c1_i32_4
  let c1_i32_16 : BitVec 32 := 1#32
  let v37 : BitVec 32 := Scalar.shrsi v18 c1_i32_16
  let v38 : BitVec 32 := Scalar.subi v37 c0_i32_18
  let c1_i32_19 : BitVec 32 := 1#32
  let v40 : BitVec 32 := Scalar.divsi v38 c1_i32_19
  let v41 : BitVec 32 := Scalar.muli v40 c1_i32_19
  let v42 : BitVec 32 := Scalar.addi c0_i32_18 v41
  let c1_i32_21 : BitVec 32 := 1#32
  let arg11 : BitVec 32 := Scf.iv v42 c1_i32_21 k0_t2
  let v135 : BitVec 32 := Scalar.muli c4_i32 arg11
  let c512_i32_90 : BitVec 32 := 512#32
  let v159 : BitVec 32 := Scalar.muli v135 c512_i32_90
  v159
def k0_off5 (i : grid0.Coords) (k0_t2 : Fin (k0_t2_loop i).trips) : Fin 2 → Nat :=
  let c4_i32 : BitVec 32 := 4#32
  let c0_i32_18 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.shrsi v17 c1_i32_4
  let c1_i32_16 : BitVec 32 := 1#32
  let v37 : BitVec 32 := Scalar.shrsi v18 c1_i32_16
  let v38 : BitVec 32 := Scalar.subi v37 c0_i32_18
  let c1_i32_19 : BitVec 32 := 1#32
  let v40 : BitVec 32 := Scalar.divsi v38 c1_i32_19
  let v41 : BitVec 32 := Scalar.muli v40 c1_i32_19
  let v42 : BitVec 32 := Scalar.addi c0_i32_18 v41
  let c1_i32_21 : BitVec 32 := 1#32
  let arg11 : BitVec 32 := Scf.iv v42 c1_i32_21 k0_t2
  let v135 : BitVec 32 := Scalar.muli c4_i32 arg11
  let c512_i32_90 : BitVec 32 := 512#32
  let v159 : BitVec 32 := Scalar.muli v135 c512_i32_90
  let v160 : BitVec 32 := v159
  let v162 : Index := Scalar.indexCast v160
  let c0_91 : Index := 0#32
  ![v162.toNat, 0]
def k0_mult12 (i : grid0.Coords) (k0_t2 : Fin (k0_t2_loop i).trips) : BitVec 32 :=
  let c4_i32 : BitVec 32 := 4#32
  let c0_i32_18 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.shrsi v17 c1_i32_4
  let c1_i32_16 : BitVec 32 := 1#32
  let v37 : BitVec 32 := Scalar.shrsi v18 c1_i32_16
  let v38 : BitVec 32 := Scalar.subi v37 c0_i32_18
  let c1_i32_19 : BitVec 32 := 1#32
  let v40 : BitVec 32 := Scalar.divsi v38 c1_i32_19
  let v41 : BitVec 32 := Scalar.muli v40 c1_i32_19
  let v42 : BitVec 32 := Scalar.addi c0_i32_18 v41
  let c1_i32_21 : BitVec 32 := 1#32
  let arg11 : BitVec 32 := Scf.iv v42 c1_i32_21 k0_t2
  let v135 : BitVec 32 := Scalar.muli c4_i32 arg11
  let c2_i32 : BitVec 32 := 2#32
  let v176 : BitVec 32 := Scalar.addi v135 c2_i32
  let c512_i32_99 : BitVec 32 := 512#32
  let v177 : BitVec 32 := Scalar.muli v176 c512_i32_99
  v177
def k0_mult13 (i : grid0.Coords) (k0_t2 : Fin (k0_t2_loop i).trips) : BitVec 32 :=
  let c4_i32 : BitVec 32 := 4#32
  let c0_i32_18 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.shrsi v17 c1_i32_4
  let c1_i32_16 : BitVec 32 := 1#32
  let v37 : BitVec 32 := Scalar.shrsi v18 c1_i32_16
  let v38 : BitVec 32 := Scalar.subi v37 c0_i32_18
  let c1_i32_19 : BitVec 32 := 1#32
  let v40 : BitVec 32 := Scalar.divsi v38 c1_i32_19
  let v41 : BitVec 32 := Scalar.muli v40 c1_i32_19
  let v42 : BitVec 32 := Scalar.addi c0_i32_18 v41
  let c1_i32_21 : BitVec 32 := 1#32
  let arg11 : BitVec 32 := Scf.iv v42 c1_i32_21 k0_t2
  let v135 : BitVec 32 := Scalar.muli c4_i32 arg11
  let c1_i32_106 : BitVec 32 := 1#32
  let v188 : BitVec 32 := Scalar.addi v135 c1_i32_106
  let c512_i32_112 : BitVec 32 := 512#32
  let v200 : BitVec 32 := Scalar.muli v188 c512_i32_112
  v200
def k0_mult14 (i : grid0.Coords) (k0_t2 : Fin (k0_t2_loop i).trips) : BitVec 32 :=
  let c4_i32_121 : BitVec 32 := 4#32
  let c0_i32_18 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.shrsi v17 c1_i32_4
  let c1_i32_16 : BitVec 32 := 1#32
  let v37 : BitVec 32 := Scalar.shrsi v18 c1_i32_16
  let v38 : BitVec 32 := Scalar.subi v37 c0_i32_18
  let c1_i32_19 : BitVec 32 := 1#32
  let v40 : BitVec 32 := Scalar.divsi v38 c1_i32_19
  let v41 : BitVec 32 := Scalar.muli v40 c1_i32_19
  let v42 : BitVec 32 := Scalar.addi c0_i32_18 v41
  let c1_i32_21 : BitVec 32 := 1#32
  let arg11 : BitVec 32 := Scf.iv v42 c1_i32_21 k0_t2
  let v217 : BitVec 32 := Scalar.muli c4_i32_121 arg11
  let c2_i32_122 : BitVec 32 := 2#32
  let v218 : BitVec 32 := Scalar.addi v217 c2_i32_122
  let c1_i32_123 : BitVec 32 := 1#32
  let v219 : BitVec 32 := Scalar.addi v218 c1_i32_123
  let c512_i32_124 : BitVec 32 := 512#32
  let v220 : BitVec 32 := Scalar.muli v219 c512_i32_124
  v220
def k0_off6 (i : grid0.Coords) (k0_t2 : Fin (k0_t2_loop i).trips) (c1_i32_123 : BitVec 32) : Fin 2 → Nat :=
  let c4_i32_121 : BitVec 32 := 4#32
  let c0_i32_18 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.shrsi v17 c1_i32_4
  let c1_i32_16 : BitVec 32 := 1#32
  let v37 : BitVec 32 := Scalar.shrsi v18 c1_i32_16
  let v38 : BitVec 32 := Scalar.subi v37 c0_i32_18
  let c1_i32_19 : BitVec 32 := 1#32
  let v40 : BitVec 32 := Scalar.divsi v38 c1_i32_19
  let v41 : BitVec 32 := Scalar.muli v40 c1_i32_19
  let v42 : BitVec 32 := Scalar.addi c0_i32_18 v41
  let c1_i32_21 : BitVec 32 := 1#32
  let arg11 : BitVec 32 := Scf.iv v42 c1_i32_21 k0_t2
  let v217 : BitVec 32 := Scalar.muli c4_i32_121 arg11
  let c2_i32_122 : BitVec 32 := 2#32
  let v218 : BitVec 32 := Scalar.addi v217 c2_i32_122
  let v219 : BitVec 32 := Scalar.addi v218 c1_i32_123
  let c512_i32_124 : BitVec 32 := 512#32
  let v220 : BitVec 32 := Scalar.muli v219 c512_i32_124
  let v221 : BitVec 32 := v220
  let v224 : Index := Scalar.indexCast v221
  let c0_127 : Index := 0#32
  ![v224.toNat, 0]
def k0_mult15 (i : grid0.Coords) (k0_t2 : Fin (k0_t2_loop i).trips) : BitVec 32 :=
  let c4_i32_121 : BitVec 32 := 4#32
  let c0_i32_18 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.shrsi v17 c1_i32_4
  let c1_i32_16 : BitVec 32 := 1#32
  let v37 : BitVec 32 := Scalar.shrsi v18 c1_i32_16
  let v38 : BitVec 32 := Scalar.subi v37 c0_i32_18
  let c1_i32_19 : BitVec 32 := 1#32
  let v40 : BitVec 32 := Scalar.divsi v38 c1_i32_19
  let v41 : BitVec 32 := Scalar.muli v40 c1_i32_19
  let v42 : BitVec 32 := Scalar.addi c0_i32_18 v41
  let c1_i32_21 : BitVec 32 := 1#32
  let arg11 : BitVec 32 := Scf.iv v42 c1_i32_21 k0_t2
  let v217 : BitVec 32 := Scalar.muli c4_i32_121 arg11
  let c2_i32_122 : BitVec 32 := 2#32
  let v218 : BitVec 32 := Scalar.addi v217 c2_i32_122
  let c512_i32_136 : BitVec 32 := 512#32
  let v242 : BitVec 32 := Scalar.muli v218 c512_i32_136
  v242
def k0_mult16 (i : grid0.Coords) (k0_t2 : Fin (k0_t2_loop i).trips) : BitVec 32 :=
  let c4_i32_121 : BitVec 32 := 4#32
  let c0_i32_18 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.shrsi v17 c1_i32_4
  let c1_i32_16 : BitVec 32 := 1#32
  let v37 : BitVec 32 := Scalar.shrsi v18 c1_i32_16
  let v38 : BitVec 32 := Scalar.subi v37 c0_i32_18
  let c1_i32_19 : BitVec 32 := 1#32
  let v40 : BitVec 32 := Scalar.divsi v38 c1_i32_19
  let v41 : BitVec 32 := Scalar.muli v40 c1_i32_19
  let v42 : BitVec 32 := Scalar.addi c0_i32_18 v41
  let c1_i32_21 : BitVec 32 := 1#32
  let arg11 : BitVec 32 := Scf.iv v42 c1_i32_21 k0_t2
  let v217 : BitVec 32 := Scalar.muli c4_i32_121 arg11
  let c2_i32_122 : BitVec 32 := 2#32
  let v218 : BitVec 32 := Scalar.addi v217 c2_i32_122
  let c2_i32_145 : BitVec 32 := 2#32
  let v259 : BitVec 32 := Scalar.addi v218 c2_i32_145
  let c512_i32_146 : BitVec 32 := 512#32
  let v260 : BitVec 32 := Scalar.muli v259 c512_i32_146
  v260
def k0_mult17 (i : grid0.Coords) (k0_t2 : Fin (k0_t2_loop i).trips) : BitVec 32 :=
  let c4_i32_121 : BitVec 32 := 4#32
  let c0_i32_18 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.shrsi v17 c1_i32_4
  let c1_i32_16 : BitVec 32 := 1#32
  let v37 : BitVec 32 := Scalar.shrsi v18 c1_i32_16
  let v38 : BitVec 32 := Scalar.subi v37 c0_i32_18
  let c1_i32_19 : BitVec 32 := 1#32
  let v40 : BitVec 32 := Scalar.divsi v38 c1_i32_19
  let v41 : BitVec 32 := Scalar.muli v40 c1_i32_19
  let v42 : BitVec 32 := Scalar.addi c0_i32_18 v41
  let c1_i32_21 : BitVec 32 := 1#32
  let arg11 : BitVec 32 := Scf.iv v42 c1_i32_21 k0_t2
  let v217 : BitVec 32 := Scalar.muli c4_i32_121 arg11
  let c2_i32_122 : BitVec 32 := 2#32
  let v218 : BitVec 32 := Scalar.addi v217 c2_i32_122
  let c1_i32_153 : BitVec 32 := 1#32
  let v271 : BitVec 32 := Scalar.addi v218 c1_i32_153
  let c512_i32_159 : BitVec 32 := 512#32
  let v283 : BitVec 32 := Scalar.muli v271 c512_i32_159
  v283
def k0_cond1 (i : grid0.Coords) : BitVec 1 :=
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.shrsi v17 c1_i32_4
  let c1_i32_22 : BitVec 32 := 1#32
  let v43 : BitVec 32 := Scalar.andi v18 c1_i32_22
  let c0_i32_23 : BitVec 32 := 0#32
  let v44 : BitVec 1 := Scalar.cmpi .ne v43 c0_i32_23
  let v45 : BitVec 32 := Scalar.extui v44
  let c0_i32_24 : BitVec 32 := 0#32
  let v46 : BitVec 1 := Scalar.cmpi .ne v45 c0_i32_24
  v46

def k0_mult18 (i : grid0.Coords) : BitVec 32 :=
  let c2_i32 : BitVec 32 := 2#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.shrsi v17 c1_i32_4
  let c1_i32_77 : BitVec 32 := 1#32
  let v135 : BitVec 32 := Scalar.subi v18 c1_i32_77
  let v136 : BitVec 32 := Scalar.muli c2_i32 v135
  let c1_i32_78 : BitVec 32 := 1#32
  let v137 : BitVec 32 := Scalar.addi v136 c1_i32_78
  let c512_i32_79 : BitVec 32 := 512#32
  let v138 : BitVec 32 := Scalar.muli v137 c512_i32_79
  v138
def k0_off7 (i : grid0.Coords) (c1_i32_78 : BitVec 32) : Fin 2 → Nat :=
  let c2_i32 : BitVec 32 := 2#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.shrsi v17 c1_i32_4
  let c1_i32_77 : BitVec 32 := 1#32
  let v135 : BitVec 32 := Scalar.subi v18 c1_i32_77
  let v136 : BitVec 32 := Scalar.muli c2_i32 v135
  let v137 : BitVec 32 := Scalar.addi v136 c1_i32_78
  let c512_i32_79 : BitVec 32 := 512#32
  let v138 : BitVec 32 := Scalar.muli v137 c512_i32_79
  let v139 : BitVec 32 := v138
  let v142 : Index := Scalar.indexCast v139
  let c0_82 : Index := 0#32
  ![v142.toNat, 0]
def k0_mult19 (i : grid0.Coords) : BitVec 32 :=
  let c2_i32 : BitVec 32 := 2#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.shrsi v17 c1_i32_4
  let c1_i32_77 : BitVec 32 := 1#32
  let v135 : BitVec 32 := Scalar.subi v18 c1_i32_77
  let v136 : BitVec 32 := Scalar.muli c2_i32 v135
  let c512_i32_91 : BitVec 32 := 512#32
  let v160 : BitVec 32 := Scalar.muli v136 c512_i32_91
  v160
def k0_off8 (i : grid0.Coords) : Fin 2 → Nat :=
  let c2_i32 : BitVec 32 := 2#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.shrsi v17 c1_i32_4
  let c1_i32_77 : BitVec 32 := 1#32
  let v135 : BitVec 32 := Scalar.subi v18 c1_i32_77
  let v136 : BitVec 32 := Scalar.muli c2_i32 v135
  let c512_i32_91 : BitVec 32 := 512#32
  let v160 : BitVec 32 := Scalar.muli v136 c512_i32_91
  let v161 : BitVec 32 := v160
  let v163 : Index := Scalar.indexCast v161
  let c0_92 : Index := 0#32
  ![v163.toNat, 0]
def k0_mult20 (i : grid0.Coords) : BitVec 32 :=
  let c2_i32 : BitVec 32 := 2#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.shrsi v17 c1_i32_4
  let c1_i32_77 : BitVec 32 := 1#32
  let v135 : BitVec 32 := Scalar.subi v18 c1_i32_77
  let v136 : BitVec 32 := Scalar.muli c2_i32 v135
  let c2_i32_100 : BitVec 32 := 2#32
  let v177 : BitVec 32 := Scalar.addi v136 c2_i32_100
  let c512_i32_101 : BitVec 32 := 512#32
  let v178 : BitVec 32 := Scalar.muli v177 c512_i32_101
  v178
def k0_mult21 (i : grid0.Coords) : BitVec 32 :=
  let c2_i32 : BitVec 32 := 2#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.shrsi v17 c1_i32_4
  let c1_i32_77 : BitVec 32 := 1#32
  let v135 : BitVec 32 := Scalar.subi v18 c1_i32_77
  let v136 : BitVec 32 := Scalar.muli c2_i32 v135
  let c1_i32_108 : BitVec 32 := 1#32
  let v189 : BitVec 32 := Scalar.addi v136 c1_i32_108
  let c512_i32_114 : BitVec 32 := 512#32
  let v201 : BitVec 32 := Scalar.muli v189 c512_i32_114
  v201
def k0_cond2 (i : grid0.Coords) : BitVec 1 :=
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_25 : BitVec 32 := 1#32
  let v47 : BitVec 32 := Scalar.andi v17 c1_i32_25
  let c0_i32_26 : BitVec 32 := 0#32
  let v48 : BitVec 1 := Scalar.cmpi .eq v47 c0_i32_26
  let v49 : BitVec 32 := Scalar.extui v48
  let c0_i32_27 : BitVec 32 := 0#32
  let v50 : BitVec 1 := Scalar.cmpi .ne v49 c0_i32_27
  v50

def k0_mult22 (i : grid0.Coords) : BitVec 32 :=
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c512_i32_87 : BitVec 32 := 512#32
  let v164 : BitVec 32 := Scalar.muli v17 c512_i32_87
  v164
def k0_off9 (i : grid0.Coords) : Fin 2 → Nat :=
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c512_i32_87 : BitVec 32 := 512#32
  let v164 : BitVec 32 := Scalar.muli v17 c512_i32_87
  let v165 : BitVec 32 := v164
  let v167 : Index := Scalar.indexCast v165
  let c0_88 : Index := 0#32
  ![v167.toNat, 0]
def k0_cond3 (i : grid0.Coords) : BitVec 1 :=
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_28 : BitVec 32 := 1#32
  let v51 : BitVec 32 := Scalar.andi v17 c1_i32_28
  let c1_i32_29 : BitVec 32 := 1#32
  let v52 : BitVec 1 := Scalar.cmpi .eq v51 c1_i32_29
  let v53 : BitVec 32 := Scalar.extui v52
  let c0_i32_30 : BitVec 32 := 0#32
  let v54 : BitVec 1 := Scalar.cmpi .ne v53 c0_i32_30
  v54

def k0_mult23 (i : grid0.Coords) : BitVec 32 :=
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c512_i32_77 : BitVec 32 := 512#32
  let v135 : BitVec 32 := Scalar.muli v17 c512_i32_77
  v135
def k0_off10 (i : grid0.Coords) : Fin 2 → Nat :=
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c512_i32_77 : BitVec 32 := 512#32
  let v135 : BitVec 32 := Scalar.muli v17 c512_i32_77
  let v136 : BitVec 32 := v135
  let v139 : Index := Scalar.indexCast v136
  let c0_80 : Index := 0#32
  ![v139.toNat, 0]
def k0_mult24 (i : grid0.Coords) : BitVec 32 :=
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_84 : BitVec 32 := 1#32
  let v146 : BitVec 32 := Scalar.subi v17 c1_i32_84
  let c512_i32_90 : BitVec 32 := 512#32
  let v158 : BitVec 32 := Scalar.muli v146 c512_i32_90
  v158
def k0_off11 (i : grid0.Coords) : Fin 2 → Nat :=
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_84 : BitVec 32 := 1#32
  let v146 : BitVec 32 := Scalar.subi v17 c1_i32_84
  let c512_i32_90 : BitVec 32 := 512#32
  let v158 : BitVec 32 := Scalar.muli v146 c512_i32_90
  let v159 : BitVec 32 := v158
  let v161 : Index := Scalar.indexCast v159
  let c0_91 : Index := 0#32
  ![v161.toNat, 0]
def k0_mult25 (i : grid0.Coords) : BitVec 32 :=
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c512_i32_109 : BitVec 32 := 512#32
  let v204 : BitVec 32 := Scalar.muli v17 c512_i32_109
  v204
def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S8x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== MlaIdeal.lean ====
variable {F : FTy → Type} [FloatOps F] [Named F]
def κ : String → Option EReal := fun
  | "mask" => some ⊥
  | _ => none
-- ==== MlaReferenceIdeal.lean ====
abbrev S2x8192x8x256 : Shape := ⟨4, ![2, 8192, 8, 256]⟩
abbrev S2x8192x256 : Shape := ⟨3, ![2, 8192, 256]⟩
abbrev S128x8x128 : Shape := ⟨3, ![128, 8, 128]⟩
abbrev S8192 : Shape := ⟨1, ![8192]⟩
abbrev S2x8x8192x256 : Shape := ⟨4, ![2, 8, 8192, 256]⟩
abbrev S2x8192x128 : Shape := ⟨3, ![2, 8192, 128]⟩
abbrev S8x128x2x8192 : Shape := ⟨4, ![8, 128, 2, 8192]⟩
abbrev S2x8x8192x128 : Shape := ⟨4, ![2, 8, 8192, 128]⟩
abbrev S2x8x8192x8192 : Shape := ⟨4, ![2, 8, 8192, 8192]⟩
abbrev S_ : Shape := ⟨0, ![]⟩
abbrev S1x8192 : Shape := ⟨2, ![1, 8192]⟩
abbrev S8192x1 : Shape := ⟨2, ![8192, 1]⟩
abbrev S8192x8192 : Shape := ⟨2, ![8192, 8192]⟩
abbrev S2x8x8192 : Shape := ⟨3, ![2, 8, 8192]⟩
abbrev S2x8x8192x1 : Shape := ⟨4, ![2, 8, 8192, 1]⟩
abbrev S2x8192x8x128 : Shape := ⟨4, ![2, 8192, 8, 128]⟩
abbrev S16384x1024 : Shape := ⟨2, ![16384, 1024]⟩

abbrev nBuf : Space → Nat
  | .hbm => 82
  | .vmem => 0
  | .smem => 0
  | _ => 0

abbrev bufTy : (tb : Table) → Fin (tcTables nBuf tb) → BufTy
  | .hbm, ⟨0, _⟩ => ⟨S2x8192x8x256, .bf16⟩
  | .hbm, ⟨1, _⟩ => ⟨S2x8192x256, .bf16⟩
  | .hbm, ⟨2, _⟩ => ⟨S2x8192x256, .bf16⟩
  | .hbm, ⟨3, _⟩ => ⟨S128x8x128, .f32⟩
  | .hbm, ⟨4, _⟩ => ⟨S8192, .i32⟩
  | .hbm, ⟨5, _⟩ => ⟨S2x8192x8x256, .f32⟩
  | .hbm, ⟨6, _⟩ => ⟨S2x8x8192x256, .f32⟩
  | .hbm, ⟨7, _⟩ => ⟨S2x8192x256, .f32⟩
  | .hbm, ⟨8, _⟩ => ⟨S2x8192x128, .bf16⟩
  | .hbm, ⟨9, _⟩ => ⟨S2x8192x128, .f32⟩
  | .hbm, ⟨10, _⟩ => ⟨S8x128x2x8192, .f32⟩
  | .hbm, ⟨11, _⟩ => ⟨S2x8x8192x128, .f32⟩
  | .hbm, ⟨12, _⟩ => ⟨S2x8x8192x8192, .f32⟩
  | .hbm, ⟨13, _⟩ => ⟨S_, .f32⟩
  | .hbm, ⟨14, _⟩ => ⟨S_, .f32⟩
  | .hbm, ⟨15, _⟩ => ⟨S2x8x8192x8192, .f32⟩
  | .hbm, ⟨16, _⟩ => ⟨S2x8x8192x8192, .f32⟩
  | .hbm, ⟨17, _⟩ => ⟨S8192, .i32⟩
  | .hbm, ⟨18, _⟩ => ⟨S_, .i32⟩
  | .hbm, ⟨19, _⟩ => ⟨S_, .i32⟩
  | .hbm, ⟨20, _⟩ => ⟨S8192, .i32⟩
  | .hbm, ⟨21, _⟩ => ⟨S8192, .i32⟩
  | .hbm, ⟨22, _⟩ => ⟨S8192, .i32⟩
  | .hbm, ⟨23, _⟩ => ⟨S_, .i32⟩
  | .hbm, ⟨24, _⟩ => ⟨S8192, .i32⟩
  | .hbm, ⟨25, _⟩ => ⟨S8192, .i1⟩
  | .hbm, ⟨26, _⟩ => ⟨S8192, .i32⟩
  | .hbm, ⟨27, _⟩ => ⟨S8192, .i32⟩
  | .hbm, ⟨28, _⟩ => ⟨S_, .i32⟩
  | .hbm, ⟨29, _⟩ => ⟨S8192, .i32⟩
  | .hbm, ⟨30, _⟩ => ⟨S8192, .i1⟩
  | .hbm, ⟨31, _⟩ => ⟨S8192, .i1⟩
  | .hbm, ⟨32, _⟩ => ⟨S_, .i32⟩
  | .hbm, ⟨33, _⟩ => ⟨S8192, .i32⟩
  | .hbm, ⟨34, _⟩ => ⟨S8192, .i32⟩
  | .hbm, ⟨35, _⟩ => ⟨S8192, .i32⟩
  | .hbm, ⟨36, _⟩ => ⟨S1x8192, .i32⟩
  | .hbm, ⟨37, _⟩ => ⟨S_, .i32⟩
  | .hbm, ⟨38, _⟩ => ⟨S_, .i32⟩
  | .hbm, ⟨39, _⟩ => ⟨S8192, .i32⟩
  | .hbm, ⟨40, _⟩ => ⟨S8192, .i32⟩
  | .hbm, ⟨41, _⟩ => ⟨S8192, .i32⟩
  | .hbm, ⟨42, _⟩ => ⟨S_, .i32⟩
  | .hbm, ⟨43, _⟩ => ⟨S8192, .i32⟩
  | .hbm, ⟨44, _⟩ => ⟨S8192, .i1⟩
  | .hbm, ⟨45, _⟩ => ⟨S8192, .i32⟩
  | .hbm, ⟨46, _⟩ => ⟨S8192, .i32⟩
  | .hbm, ⟨47, _⟩ => ⟨S_, .i32⟩
  | .hbm, ⟨48, _⟩ => ⟨S8192, .i32⟩
  | .hbm, ⟨49, _⟩ => ⟨S8192, .i1⟩
  | .hbm, ⟨50, _⟩ => ⟨S8192, .i1⟩
  | .hbm, ⟨51, _⟩ => ⟨S_, .i32⟩
  | .hbm, ⟨52, _⟩ => ⟨S8192, .i32⟩
  | .hbm, ⟨53, _⟩ => ⟨S8192, .i32⟩
  | .hbm, ⟨54, _⟩ => ⟨S8192, .i32⟩
  | .hbm, ⟨55, _⟩ => ⟨S8192x1, .i32⟩
  | .hbm, ⟨56, _⟩ => ⟨S8192x8192, .i32⟩
  | .hbm, ⟨57, _⟩ => ⟨S8192x8192, .i32⟩
  | .hbm, ⟨58, _⟩ => ⟨S8192x8192, .i1⟩
  | .hbm, ⟨59, _⟩ => ⟨S_, .f32⟩
  | .hbm, ⟨60, _⟩ => ⟨S_, .f32⟩
  | .hbm, ⟨61, _⟩ => ⟨S2x8x8192x8192, .i1⟩
  | .hbm, ⟨62, _⟩ => ⟨S2x8x8192x8192, .f32⟩
  | .hbm, ⟨63, _⟩ => ⟨S2x8x8192x8192, .f32⟩
  | .hbm, ⟨64, _⟩ => ⟨S_, .f32⟩
  | .hbm, ⟨65, _⟩ => ⟨S2x8x8192, .f32⟩
  | .hbm, ⟨66, _⟩ => ⟨S_, .f32⟩
  | .hbm, ⟨67, _⟩ => ⟨S2x8x8192, .f32⟩
  | .hbm, ⟨68, _⟩ => ⟨S2x8x8192, .f32⟩
  | .hbm, ⟨69, _⟩ => ⟨S2x8x8192x1, .f32⟩
  | .hbm, ⟨70, _⟩ => ⟨S2x8x8192x8192, .f32⟩
  | .hbm, ⟨71, _⟩ => ⟨S2x8x8192x8192, .f32⟩
  | .hbm, ⟨72, _⟩ => ⟨S2x8x8192x8192, .f32⟩
  | .hbm, ⟨73, _⟩ => ⟨S_, .f32⟩
  | .hbm, ⟨74, _⟩ => ⟨S2x8x8192, .f32⟩
  | .hbm, ⟨75, _⟩ => ⟨S2x8x8192x1, .f32⟩
  | .hbm, ⟨76, _⟩ => ⟨S2x8x8192x8192, .f32⟩
  | .hbm, ⟨77, _⟩ => ⟨S2x8x8192x8192, .f32⟩
  | .hbm, ⟨78, _⟩ => ⟨S2x8x8192x128, .f32⟩
  | .hbm, ⟨79, _⟩ => ⟨S2x8192x8x128, .f32⟩
  | .hbm, ⟨80, _⟩ => ⟨S16384x1024, .f32⟩
  | .hbm, ⟨81, _⟩ => ⟨S16384x1024, .bf16⟩
  | _, _ => ⟨S2x8192x8x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_c : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_0 : Ref sig .tc := ⟨.hbm, 32, rfl⟩
abbrev main_call0_v12 : Ref sig .tc := ⟨.hbm, 33, rfl⟩
abbrev main_call0_v13 : Ref sig .tc := ⟨.hbm, 34, rfl⟩
abbrev main_v13 : Ref sig .tc := ⟨.hbm, 35, rfl⟩
abbrev main_v14 : Ref sig .tc := ⟨.hbm, 36, rfl⟩
abbrev main_c_0 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_c : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_c_0 : Ref sig .tc := ⟨.hbm, 51, rfl⟩
abbrev main_call1_v12 : Ref sig .tc := ⟨.hbm, 52, rfl⟩
abbrev main_call1_v13 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_cst_1 : Ref sig .tc := ⟨.hbm, 59, rfl⟩
abbrev main_call2_v0 : Ref sig .tc := ⟨.hbm, 60, rfl⟩
abbrev main_call2_v1 : Ref sig .tc := ⟨.hbm, 61, rfl⟩
abbrev main_call2_v2 : Ref sig .tc := ⟨.hbm, 62, rfl⟩
abbrev main_v20 : Ref sig .tc := ⟨.hbm, 63, rfl⟩
abbrev main_cst_2 : Ref sig .tc := ⟨.hbm, 64, rfl⟩
abbrev main_v21 : Ref sig .tc := ⟨.hbm, 65, rfl⟩
abbrev main_cst_3 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_cst_4 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩

abbrev nD : Nat := 1
abbrev τ : Topo := Topo.v7x

variable {F : FTy → Type} [FloatOps F]
-- ==== Oproj.lean ====
abbrev S2x8192x1024 : Shape := ⟨3, ![2, 8192, 1024]⟩
abbrev S2x8192x512 : Shape := ⟨3, ![2, 8192, 512]⟩
abbrev S2x8192x2048 : Shape := ⟨3, ![2, 8192, 2048]⟩
abbrev S2x2048x2048 : Shape := ⟨3, ![2, 2048, 2048]⟩
abbrev S16384x1024 : Shape := ⟨2, ![16384, 1024]⟩
abbrev S16384x512 : Shape := ⟨2, ![16384, 512]⟩
abbrev S16384x2048 : Shape := ⟨2, ![16384, 2048]⟩
abbrev S512x1024 : Shape := ⟨2, ![512, 1024]⟩
abbrev S512x512 : Shape := ⟨2, ![512, 512]⟩
abbrev S512x2048 : Shape := ⟨2, ![512, 2048]⟩
abbrev S1x2048x2048 : Shape := ⟨3, ![1, 2048, 2048]⟩
abbrev S1x1024x2048 : Shape := ⟨3, ![1, 1024, 2048]⟩
abbrev S1024x2048 : Shape := ⟨2, ![1024, 2048]⟩
abbrev S1x512x2048 : Shape := ⟨3, ![1, 512, 2048]⟩

abbrev nBuf : Space → Nat
  | .hbm => 14
  | .vmem => 11
  | .smem => 0
  | _ => 0

abbrev bufTy : (tb : Table) → Fin (tcTables nBuf tb) → BufTy
  | .hbm, ⟨0, _⟩ => ⟨S2x8192x1024, .f32⟩
  | .hbm, ⟨1, _⟩ => ⟨S2x8192x512, .f32⟩
  | .hbm, ⟨2, _⟩ => ⟨S2x8192x512, .f32⟩
  | .hbm, ⟨3, _⟩ => ⟨S2x8192x2048, .f32⟩
  | .hbm, ⟨4, _⟩ => ⟨S2x2048x2048, .f32⟩
  | .hbm, ⟨5, _⟩ => ⟨S16384x1024, .f32⟩
  | .hbm, ⟨6, _⟩ => ⟨S16384x1024, .bf16⟩
  | .hbm, ⟨7, _⟩ => ⟨S16384x512, .f32⟩
  | .hbm, ⟨8, _⟩ => ⟨S16384x512, .bf16⟩
  | .hbm, ⟨9, _⟩ => ⟨S16384x512, .f32⟩
  | .hbm, ⟨10, _⟩ => ⟨S16384x512, .bf16⟩
  | .hbm, ⟨11, _⟩ => ⟨S16384x2048, .f32⟩
  | .hbm, ⟨12, _⟩ => ⟨S2x2048x2048, .bf16⟩
  | .hbm, ⟨13, _⟩ => ⟨S16384x2048, .f32⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x2048, .f32⟩
  | .local _ .vmem, ⟨7, _⟩ => ⟨S512x2048, .f32⟩
  | .local _ .vmem, ⟨8, _⟩ => ⟨S1x2048x2048, .bf16⟩
  | .local _ .vmem, ⟨9, _⟩ => ⟨S512x2048, .f32⟩
  | .local _ .vmem, ⟨10, _⟩ => ⟨S512x2048, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OprojReferenceIdeal.lean ====
abbrev S2x8192x1024 : Shape := ⟨3, ![2, 8192, 1024]⟩
abbrev S2x8192x512 : Shape := ⟨3, ![2, 8192, 512]⟩
abbrev S2x8192x2048 : Shape := ⟨3, ![2, 8192, 2048]⟩
abbrev S2x2048x2048 : Shape := ⟨3, ![2, 2048, 2048]⟩
abbrev S1x2048x2048 : Shape := ⟨3, ![1, 2048, 2048]⟩
abbrev S2048x2048 : Shape := ⟨2, ![2048, 2048]⟩
abbrev S16384x2048 : Shape := ⟨2, ![16384, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x512, .f32⟩
  | .hbm, ⟨2, _⟩ => ⟨S2x8192x512, .f32⟩
  | .hbm, ⟨3, _⟩ => ⟨S2x8192x2048, .f32⟩
  | .hbm, ⟨4, _⟩ => ⟨S2x2048x2048, .f32⟩
  | .hbm, ⟨5, _⟩ => ⟨S2x8192x2048, .f32⟩
  | .hbm, ⟨6, _⟩ => ⟨S1x2048x2048, .f32⟩
  | .hbm, ⟨7, _⟩ => ⟨S2048x2048, .f32⟩
  | .hbm, ⟨8, _⟩ => ⟨S2x8192x2048, .f32⟩
  | .hbm, ⟨9, _⟩ => ⟨S2x8192x2048, .f32⟩
  | .hbm, ⟨10, _⟩ => ⟨S16384x2048, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Inproj.lean ====
abbrev S2x8192x2048 : Shape := ⟨3, ![2, 8192, 2048]⟩
abbrev S2048 : Shape := ⟨1, ![2048]⟩
abbrev S2048x3648 : Shape := ⟨2, ![2048, 3648]⟩
abbrev S16384x2048 : Shape := ⟨2, ![16384, 2048]⟩
abbrev S1x2048 : Shape := ⟨2, ![1, 2048]⟩
abbrev S2048x512 : Shape := ⟨2, ![2048, 512]⟩
abbrev S2048x64 : Shape := ⟨2, ![2048, 64]⟩
abbrev S_ : Shape := ⟨0, ![]⟩
abbrev S2048x32 : Shape := ⟨2, ![2048, 32]⟩
abbrev S2048x128 : Shape := ⟨2, ![2048, 128]⟩
abbrev S2048x640 : Shape := ⟨2, ![2048, 640]⟩
abbrev S2048x768 : Shape := ⟨2, ![2048, 768]⟩
abbrev S2048x3072 : Shape := ⟨2, ![2048, 3072]⟩
abbrev S16384x768 : Shape := ⟨2, ![16384, 768]⟩
abbrev S16384x3072 : Shape := ⟨2, ![16384, 3072]⟩
abbrev S512x2048 : Shape := ⟨2, ![512, 2048]⟩
abbrev S512x768 : Shape := ⟨2, ![512, 768]⟩
abbrev S512x3072 : Shape := ⟨2, ![512, 3072]⟩
abbrev S256x2048 : Shape := ⟨2, ![256, 2048]⟩
abbrev S256 : Shape := ⟨1, ![256]⟩
abbrev S256x1 : Shape := ⟨2, ![256, 1]⟩
abbrev S256x768 : Shape := ⟨2, ![256, 768]⟩

abbrev nBuf : Space → Nat
  | .hbm => 21
  | .vmem => 10
  | .smem => 0
  | _ => 0

abbrev bufTy : (tb : Table) → Fin (tcTables nBuf tb) → BufTy
  | .hbm, ⟨0, _⟩ => ⟨S2x8192x2048, .f32⟩
  | .hbm, ⟨1, _⟩ => ⟨S2048, .f32⟩
  | .hbm, ⟨2, _⟩ => ⟨S2048x3648, .f32⟩
  | .hbm, ⟨3, _⟩ => ⟨S16384x2048, .f32⟩
  | .hbm, ⟨4, _⟩ => ⟨S1x2048, .f32⟩
  | .hbm, ⟨5, _⟩ => ⟨S2048x512, .f32⟩
  | .hbm, ⟨6, _⟩ => ⟨S2048x64, .f32⟩
  | .hbm, ⟨7, _⟩ => ⟨S_, .f32⟩
  | .hbm, ⟨8, _⟩ => ⟨S2048x32, .f32⟩
  | .hbm, ⟨9, _⟩ => ⟨S2048x32, .f32⟩
  | .hbm, ⟨10, _⟩ => ⟨S2048x32, .f32⟩
  | .hbm, ⟨11, _⟩ => ⟨S2048x128, .f32⟩
  | .hbm, ⟨12, _⟩ => ⟨S2048x640, .f32⟩
  | .hbm, ⟨13, _⟩ => ⟨S_, .i32⟩
  | .hbm, ⟨14, _⟩ => ⟨S_, .f32⟩
  | .hbm, ⟨15, _⟩ => ⟨S2048x768, .f32⟩
  | .hbm, ⟨16, _⟩ => ⟨S2048x768, .bf16⟩
  | .hbm, ⟨17, _⟩ => ⟨S2048x3072, .f32⟩
  | .hbm, ⟨18, _⟩ => ⟨S2048x3072, .bf16⟩
  | .hbm, ⟨19, _⟩ => ⟨S16384x768, .f32⟩
  | .hbm, ⟨20, _⟩ => ⟨S16384x3072, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x768, .bf16⟩
  | .local _ .vmem, ⟨4, _⟩ => ⟨S2048x3072, .bf16⟩
  | .local _ .vmem, ⟨5, _⟩ => ⟨S512x768, .f32⟩
  | .local _ .vmem, ⟨6, _⟩ => ⟨S512x768, .f32⟩
  | .local _ .vmem, ⟨7, _⟩ => ⟨S512x3072, .bf16⟩
  | .local _ .vmem, ⟨8, _⟩ => ⟨S512x3072, .bf16⟩
  | .local _ .vmem, ⟨9, _⟩ => ⟨S512x2048, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_call0_v0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13_0 : Ref sig .tc := ⟨.hbm, 19, rfl⟩
abbrev main_v13_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== InprojReferenceIdeal.lean ====
abbrev S2x8192x2048 : Shape := ⟨3, ![2, 8192, 2048]⟩
abbrev S2048 : Shape := ⟨1, ![2048]⟩
abbrev S2048x3648 : Shape := ⟨2, ![2048, 3648]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S2x8192x3648 : Shape := ⟨3, ![2, 8192, 3648]⟩
abbrev S16384x3648 : Shape := ⟨2, ![16384, 3648]⟩
abbrev S16384x544 : Shape := ⟨2, ![16384, 544]⟩
abbrev S16384x576 : Shape := ⟨2, ![16384, 576]⟩
abbrev S16384x32 : Shape := ⟨2, ![16384, 32]⟩
abbrev S16384x192 : Shape := ⟨2, ![16384, 192]⟩
abbrev S16384x768 : Shape := ⟨2, ![16384, 768]⟩
abbrev S16384x3072 : Shape := ⟨2, ![16384, 3072]⟩

abbrev nBuf : Space → Nat
  | .hbm => 32
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2048, .f32⟩
  | .hbm, ⟨2, _⟩ => ⟨S2048x3648, .f32⟩
  | .hbm, ⟨3, _⟩ => ⟨S2x8192x2048, .f32⟩
  | .hbm, ⟨4, _⟩ => ⟨S_, .f32⟩
  | .hbm, ⟨5, _⟩ => ⟨S2x8192, .f32⟩
  | .hbm, ⟨6, _⟩ => ⟨S2x8192x1, .f32⟩
  | .hbm, ⟨7, _⟩ => ⟨S_, .f32⟩
  | .hbm, ⟨8, _⟩ => ⟨S2x8192x1, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S2x8192x1, .f32⟩
  | .hbm, ⟨14, _⟩ => ⟨S2x8192x2048, .f32⟩
  | .hbm, ⟨15, _⟩ => ⟨S2x8192x2048, .f32⟩
  | .hbm, ⟨16, _⟩ => ⟨S1x1x2048, .f32⟩
  | .hbm, ⟨17, _⟩ => ⟨S2x8192x2048, .f32⟩
  | .hbm, ⟨18, _⟩ => ⟨S2x8192x2048, .f32⟩
  | .hbm, ⟨19, _⟩ => ⟨S2x8192x3648, .f32⟩
  | .hbm, ⟨20, _⟩ => ⟨S16384x3648, .f32⟩
  | .hbm, ⟨21, _⟩ => ⟨S16384x544, .f32⟩
  | .hbm, ⟨22, _⟩ => ⟨S_, .i32⟩
  | .hbm, ⟨23, _⟩ => ⟨S_, .f32⟩
  | .hbm, ⟨24, _⟩ => ⟨S16384x576, .f32⟩
  | .hbm, ⟨25, _⟩ => ⟨S16384x32, .f32⟩
  | .hbm, ⟨26, _⟩ => ⟨S_, .i32⟩
  | .hbm, ⟨27, _⟩ => ⟨S_, .f32⟩
  | .hbm, ⟨28, _⟩ => ⟨S16384x192, .f32⟩
  | .hbm, ⟨29, _⟩ => ⟨S16384x768, .f32⟩
  | .hbm, ⟨30, _⟩ => ⟨S16384x3072, .f32⟩
  | .hbm, ⟨31, _⟩ => ⟨S16384x3072, .bf16⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c : Ref sig .tc := ⟨.hbm, 22, rfl⟩
abbrev main_call0_v0 : Ref sig .tc := ⟨.hbm, 23, rfl⟩
abbrev main_v16 : Ref sig .tc := ⟨.hbm, 24, rfl⟩
abbrev main_v17 : Ref sig .tc := ⟨.hbm, 25, rfl⟩
abbrev main_c_2 : Ref sig .tc := ⟨.hbm, 26, rfl⟩
abbrev main_call1_v0 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]
-- ==== MlpFirst.lean ====
abbrev S2x8192x2048 : Shape := ⟨3, ![2, 8192, 2048]⟩
abbrev S2x2048 : Shape := ⟨2, ![2, 2048]⟩
abbrev S2x2048x8192 : Shape := ⟨3, ![2, 2048, 8192]⟩
abbrev S2048 : Shape := ⟨1, ![2048]⟩
abbrev S16384x2048 : Shape := ⟨2, ![16384, 2048]⟩
abbrev S1x2048 : Shape := ⟨2, ![1, 2048]⟩
abbrev S1024x2048 : Shape := ⟨2, ![1024, 2048]⟩
abbrev S1x2048x512 : Shape := ⟨3, ![1, 2048, 512]⟩
abbrev S1x512x2048 : Shape := ⟨3, ![1, 512, 2048]⟩
abbrev S256x2048 : Shape := ⟨2, ![256, 2048]⟩
abbrev S256 : Shape := ⟨1, ![256]⟩
abbrev S256x1 : Shape := ⟨2, ![256, 1]⟩
abbrev S512x2048 : Shape := ⟨2, ![512, 2048]⟩
abbrev S2048x512 : Shape := ⟨2, ![2048, 512]⟩
abbrev S512x512 : Shape := ⟨2, ![512, 512]⟩
abbrev S1024x512 : Shape := ⟨2, ![1024, 512]⟩

abbrev nBuf : Space → Nat
  | .hbm => 13
  | .vmem => 11
  | .smem => 0
  | _ => 0

abbrev bufTy : (tb : Table) → Fin (tcTables nBuf tb) → BufTy
  | .hbm, ⟨0, _⟩ => ⟨S2x8192x2048, .f32⟩
  | .hbm, ⟨1, _⟩ => ⟨S2x2048, .f32⟩
  | .hbm, ⟨2, _⟩ => ⟨S2x2048x8192, .f32⟩
  | .hbm, ⟨3, _⟩ => ⟨S2x8192x2048, .f32⟩
  | .hbm, ⟨4, _⟩ => ⟨S2048, .f32⟩
  | .hbm, ⟨5, _⟩ => ⟨S16384x2048, .f32⟩
  | .hbm, ⟨6, _⟩ => ⟨S1x2048, .f32⟩
  | .hbm, ⟨7, _⟩ => ⟨S2048, .f32⟩
  | .hbm, ⟨8, _⟩ => ⟨S1x2048, .f32⟩
  | .hbm, ⟨9, _⟩ => ⟨S2x2048x8192, .bf16⟩
  | .hbm, ⟨10, _⟩ => ⟨S2x8192x2048, .bf16⟩
  | .hbm, ⟨11, _⟩ => ⟨S1x2048, .f32⟩
  | .hbm, ⟨12, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x512, .bf16⟩
  | .local _ .vmem, ⟨4, _⟩ => ⟨S1x2048x512, .bf16⟩
  | .local _ .vmem, ⟨5, _⟩ => ⟨S1x512x2048, .bf16⟩
  | .local _ .vmem, ⟨6, _⟩ => ⟨S1x512x2048, .bf16⟩
  | .local _ .vmem, ⟨7, _⟩ => ⟨S1x2048, .f32⟩
  | .local _ .vmem, ⟨8, _⟩ => ⟨S1024x2048, .f32⟩
  | .local _ .vmem, ⟨9, _⟩ => ⟨S1024x2048, .f32⟩
  | .local _ .vmem, ⟨10, _⟩ => ⟨S1024x2048, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 16], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== MlpFirstReferenceIdeal.lean ====
abbrev S2x8192x2048 : Shape := ⟨3, ![2, 8192, 2048]⟩
abbrev S2x2048 : Shape := ⟨2, ![2, 2048]⟩
abbrev S2x2048x8192 : Shape := ⟨3, ![2, 2048, 8192]⟩
abbrev S2048 : Shape := ⟨1, ![2048]⟩
abbrev S1x2048 : Shape := ⟨2, ![1, 2048]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S1x2048x8192 : Shape := ⟨3, ![1, 2048, 8192]⟩
abbrev S2048x8192 : Shape := ⟨2, ![2048, 8192]⟩
abbrev S2x8192x8192 : Shape := ⟨3, ![2, 8192, 8192]⟩
abbrev S1x8192x2048 : Shape := ⟨3, ![1, 8192, 2048]⟩
abbrev S8192x2048 : Shape := ⟨2, ![8192, 2048]⟩
abbrev S16384x2048 : Shape := ⟨2, ![16384, 2048]⟩

abbrev nBuf : Space → Nat
  | .hbm => 35
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2x2048, .f32⟩
  | .hbm, ⟨2, _⟩ => ⟨S2x2048x8192, .f32⟩
  | .hbm, ⟨3, _⟩ => ⟨S2x8192x2048, .f32⟩
  | .hbm, ⟨4, _⟩ => ⟨S2048, .f32⟩
  | .hbm, ⟨5, _⟩ => ⟨S1x2048, .f32⟩
  | .hbm, ⟨6, _⟩ => ⟨S2048, .f32⟩
  | .hbm, ⟨7, _⟩ => ⟨S2x8192x2048, .f32⟩
  | .hbm, ⟨8, _⟩ => ⟨S_, .f32⟩
  | .hbm, ⟨9, _⟩ => ⟨S2x8192, .f32⟩
  | .hbm, ⟨10, _⟩ => ⟨S2x8192x1, .f32⟩
  | .hbm, ⟨11, _⟩ => ⟨S_, .f32⟩
  | .hbm, ⟨12, _⟩ => ⟨S2x8192x1, .f32⟩
  | .hbm, ⟨13, _⟩ => ⟨S2x8192x1, .f32⟩
  | .hbm, ⟨14, _⟩ => ⟨S_, .f32⟩
  | .hbm, ⟨15, _⟩ => ⟨S2x8192x1, .f32⟩
  | .hbm, ⟨16, _⟩ => ⟨S2x8192x1, .f32⟩
  | .hbm, ⟨17, _⟩ => ⟨S2x8192x1, .f32⟩
  | .hbm, ⟨18, _⟩ => ⟨S2x8192x2048, .f32⟩
  | .hbm, ⟨19, _⟩ => ⟨S2x8192x2048, .f32⟩
  | .hbm, ⟨20, _⟩ => ⟨S1x1x2048, .f32⟩
  | .hbm, ⟨21, _⟩ => ⟨S2x8192x2048, .f32⟩
  | .hbm, ⟨22, _⟩ => ⟨S2x8192x2048, .f32⟩
  | .hbm, ⟨23, _⟩ => ⟨S1x2048x8192, .f32⟩
  | .hbm, ⟨24, _⟩ => ⟨S2048x8192, .f32⟩
  | .hbm, ⟨25, _⟩ => ⟨S2x8192x8192, .f32⟩
  | .hbm, ⟨26, _⟩ => ⟨S_, .f32⟩
  | .hbm, ⟨27, _⟩ => ⟨S2x8192x8192, .f32⟩
  | .hbm, ⟨28, _⟩ => ⟨S2x8192x8192, .f32⟩
  | .hbm, ⟨29, _⟩ => ⟨S2x8192x8192, .f32⟩
  | .hbm, ⟨30, _⟩ => ⟨S1x8192x2048, .f32⟩
  | .hbm, ⟨31, _⟩ => ⟨S8192x2048, .f32⟩
  | .hbm, ⟨32, _⟩ => ⟨S2x8192x2048, .f32⟩
  | .hbm, ⟨33, _⟩ => ⟨S2x8192x2048, .f32⟩
  | .hbm, ⟨34, _⟩ => ⟨S16384x2048, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_cst : Ref sig .tc := ⟨.hbm, 26, rfl⟩
abbrev main_call0_v0 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]
-- ==== OprojFirst.lean ====
abbrev S2x8192x1024 : Shape := ⟨3, ![2, 8192, 1024]⟩
abbrev S2x8192x512 : Shape := ⟨3, ![2, 8192, 512]⟩
abbrev S2x8192x2048 : Shape := ⟨3, ![2, 8192, 2048]⟩
abbrev S2x2048x2048 : Shape := ⟨3, ![2, 2048, 2048]⟩
abbrev S16384x1024 : Shape := ⟨2, ![16384, 1024]⟩
abbrev S16384x512 : Shape := ⟨2, ![16384, 512]⟩
abbrev S16384x2048 : Shape := ⟨2, ![16384, 2048]⟩
abbrev S512x1024 : Shape := ⟨2, ![512, 1024]⟩
abbrev S512x512 : Shape := ⟨2, ![512, 512]⟩
abbrev S512x2048 : Shape := ⟨2, ![512, 2048]⟩
abbrev S1x2048x2048 : Shape := ⟨3, ![1, 2048, 2048]⟩
abbrev S1x1024x2048 : Shape := ⟨3, ![1, 1024, 2048]⟩
abbrev S1024x2048 : Shape := ⟨2, ![1024, 2048]⟩
abbrev S1x512x2048 : Shape := ⟨3, ![1, 512, 2048]⟩

abbrev nBuf : Space → Nat
  | .hbm => 14
  | .vmem => 11
  | .smem => 0
  | _ => 0

abbrev bufTy : (tb : Table) → Fin (tcTables nBuf tb) → BufTy
  | .hbm, ⟨0, _⟩ => ⟨S2x8192x1024, .f32⟩
  | .hbm, ⟨1, _⟩ => ⟨S2x8192x512, .f32⟩
  | .hbm, ⟨2, _⟩ => ⟨S2x8192x512, .f32⟩
  | .hbm, ⟨3, _⟩ => ⟨S2x8192x2048, .f32⟩
  | .hbm, ⟨4, _⟩ => ⟨S2x2048x2048, .f32⟩
  | .hbm, ⟨5, _⟩ => ⟨S16384x1024, .f32⟩
  | .hbm, ⟨6, _⟩ => ⟨S16384x1024, .bf16⟩
  | .hbm, ⟨7, _⟩ => ⟨S16384x512, .f32⟩
  | .hbm, ⟨8, _⟩ => ⟨S16384x512, .bf16⟩
  | .hbm, ⟨9, _⟩ => ⟨S16384x512, .f32⟩
  | .hbm, ⟨10, _⟩ => ⟨S16384x512, .bf16⟩
  | .hbm, ⟨11, _⟩ => ⟨S16384x2048, .f32⟩
  | .hbm, ⟨12, _⟩ => ⟨S2x2048x2048, .bf16⟩
  | .hbm, ⟨13, _⟩ => ⟨S16384x2048, .f32⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x2048, .f32⟩
  | .local _ .vmem, ⟨7, _⟩ => ⟨S512x2048, .f32⟩
  | .local _ .vmem, ⟨8, _⟩ => ⟨S1x2048x2048, .bf16⟩
  | .local _ .vmem, ⟨9, _⟩ => ⟨S512x2048, .f32⟩
  | .local _ .vmem, ⟨10, _⟩ => ⟨S512x2048, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OprojFirstReferenceIdeal.lean ====
abbrev S2x8192x1024 : Shape := ⟨3, ![2, 8192, 1024]⟩
abbrev S2x8192x512 : Shape := ⟨3, ![2, 8192, 512]⟩
abbrev S2x8192x2048 : Shape := ⟨3, ![2, 8192, 2048]⟩
abbrev S2x2048x2048 : Shape := ⟨3, ![2, 2048, 2048]⟩
abbrev S1x2048x2048 : Shape := ⟨3, ![1, 2048, 2048]⟩
abbrev S2048x2048 : Shape := ⟨2, ![2048, 2048]⟩
abbrev S16384x2048 : Shape := ⟨2, ![16384, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x512, .f32⟩
  | .hbm, ⟨2, _⟩ => ⟨S2x8192x512, .f32⟩
  | .hbm, ⟨3, _⟩ => ⟨S2x8192x2048, .f32⟩
  | .hbm, ⟨4, _⟩ => ⟨S2x2048x2048, .f32⟩
  | .hbm, ⟨5, _⟩ => ⟨S2x8192x2048, .f32⟩
  | .hbm, ⟨6, _⟩ => ⟨S1x2048x2048, .f32⟩
  | .hbm, ⟨7, _⟩ => ⟨S2048x2048, .f32⟩
  | .hbm, ⟨8, _⟩ => ⟨S2x8192x2048, .f32⟩
  | .hbm, ⟨9, _⟩ => ⟨S2x8192x2048, .f32⟩
  | .hbm, ⟨10, _⟩ => ⟨S16384x2048, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== MlaPrep.lean ====
abbrev S2x8192x384 : Shape := ⟨3, ![2, 8192, 384]⟩
abbrev S2x8192x128 : Shape := ⟨3, ![2, 8192, 128]⟩
abbrev S2x8192x64 : Shape := ⟨3, ![2, 8192, 64]⟩
abbrev S384 : Shape := ⟨1, ![384]⟩
abbrev S128 : Shape := ⟨1, ![128]⟩
abbrev S384x1536 : Shape := ⟨2, ![384, 1536]⟩
abbrev S128x2048 : Shape := ⟨2, ![128, 2048]⟩
abbrev S_ : Shape := ⟨0, ![]⟩
abbrev S2x8192x32 : Shape := ⟨3, ![2, 8192, 32]⟩
abbrev S2x8192x768 : Shape := ⟨3, ![2, 8192, 768]⟩
abbrev S384x8x192 : Shape := ⟨3, ![384, 8, 192]⟩
abbrev S384x8x128 : Shape := ⟨3, ![384, 8, 128]⟩
abbrev S384x8x64 : Shape := ⟨3, ![384, 8, 64]⟩
abbrev S384x8x32 : Shape := ⟨3, ![384, 8, 32]⟩
abbrev S384x8x256 : Shape := ⟨3, ![384, 8, 256]⟩
abbrev S384x2048 : Shape := ⟨2, ![384, 2048]⟩
abbrev S128x8x256 : Shape := ⟨3, ![128, 8, 256]⟩
abbrev S128x8x128 : Shape := ⟨3, ![128, 8, 128]⟩
abbrev S8x128x128 : Shape := ⟨3, ![8, 128, 128]⟩
abbrev S16384x768 : Shape := ⟨2, ![16384, 768]⟩
abbrev S1x384 : Shape := ⟨2, ![1, 384]⟩
abbrev S1x128 : Shape := ⟨2, ![1, 128]⟩
abbrev S8192 : Shape := ⟨1, ![8192]⟩
abbrev S8192x1 : Shape := ⟨2, ![8192, 1]⟩
abbrev S8192x128 : Shape := ⟨2, ![8192, 128]⟩
abbrev S8192x256 : Shape := ⟨2, ![8192, 256]⟩
abbrev S131072x256 : Shape := ⟨2, ![131072, 256]⟩
abbrev S16384x256 : Shape := ⟨2, ![16384, 256]⟩
abbrev S1024x768 : Shape := ⟨2, ![1024, 768]⟩
abbrev S1024x256 : Shape := ⟨2, ![1024, 256]⟩
abbrev S1024x384 : Shape := ⟨2, ![1024, 384]⟩
abbrev S1024 : Shape := ⟨1, ![1024]⟩
abbrev S1024x1 : Shape := ⟨2, ![1024, 1]⟩
abbrev S1024x128 : Shape := ⟨2, ![1024, 128]⟩
abbrev S1024x2048 : Shape := ⟨2, ![1024, 2048]⟩
abbrev S1x128x128 : Shape := ⟨3, ![1, 128, 128]⟩
abbrev S128x128 : Shape := ⟨2, ![128, 128]⟩
abbrev S256x128 : Shape := ⟨2, ![256, 128]⟩

abbrev nBuf : Space → Nat
  | .hbm => 117
  | .vmem => 14
  | .smem => 0
  | _ => 0

abbrev bufTy : (tb : Table) → Fin (tcTables nBuf tb) → BufTy
  | .hbm, ⟨0, _⟩ => ⟨S2x8192x384, .f32⟩
  | .hbm, ⟨1, _⟩ => ⟨S2x8192x128, .f32⟩
  | .hbm, ⟨2, _⟩ => ⟨S2x8192x64, .f32⟩
  | .hbm, ⟨3, _⟩ => ⟨S384, .f32⟩
  | .hbm, ⟨4, _⟩ => ⟨S128, .f32⟩
  | .hbm, ⟨5, _⟩ => ⟨S384x1536, .f32⟩
  | .hbm, ⟨6, _⟩ => ⟨S128x2048, .f32⟩
  | .hbm, ⟨7, _⟩ => ⟨S_, .f32⟩
  | .hbm, ⟨8, _⟩ => ⟨S2x8192x32, .f32⟩
  | .hbm, ⟨9, _⟩ => ⟨S2x8192x32, .f32⟩
  | .hbm, ⟨10, _⟩ => ⟨S2x8192x32, .f32⟩
  | .hbm, ⟨11, _⟩ => ⟨S2x8192x128, .f32⟩
  | .hbm, ⟨12, _⟩ => ⟨S_, .f32⟩
  | .hbm, ⟨13, _⟩ => ⟨S2x8192x128, .f32⟩
  | .hbm, ⟨14, _⟩ => ⟨S2x8192x768, .f32⟩
  | .hbm, ⟨15, _⟩ => ⟨S384x8x192, .f32⟩
  | .hbm, ⟨16, _⟩ => ⟨S384x8x128, .f32⟩
  | .hbm, ⟨17, _⟩ => ⟨S384x8x64, .f32⟩
  | .hbm, ⟨18, _⟩ => ⟨S_, .f32⟩
  | .hbm, ⟨19, _⟩ => ⟨S384x8x32, .f32⟩
  | .hbm, ⟨20, _⟩ => ⟨S384x8x32, .f32⟩
  | .hbm, ⟨21, _⟩ => ⟨S384x8x32, .f32⟩
  | .hbm, ⟨22, _⟩ => ⟨S384x8x128, .f32⟩
  | .hbm, ⟨23, _⟩ => ⟨S384x8x256, .f32⟩
  | .hbm, ⟨24, _⟩ => ⟨S384x2048, .f32⟩
  | .hbm, ⟨25, _⟩ => ⟨S384x2048, .bf16⟩
  | .hbm, ⟨26, _⟩ => ⟨S128x8x256, .f32⟩
  | .hbm, ⟨27, _⟩ => ⟨S128x8x128, .f32⟩
  | .hbm, ⟨28, _⟩ => ⟨S8x128x128, .f32⟩
  | .hbm, ⟨29, _⟩ => ⟨S8x128x128, .bf16⟩
  | .hbm, ⟨30, _⟩ => ⟨S16384x768, .f32⟩
  | .hbm, ⟨31, _⟩ => ⟨S1x384, .f32⟩
  | .hbm, ⟨32, _⟩ => ⟨S1x128, .f32⟩
  | .hbm, ⟨33, _⟩ => ⟨S128, .i32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S_, .i1⟩
  | .hbm, ⟨38, _⟩ => ⟨S_, .i32⟩
  | .hbm, ⟨39, _⟩ => ⟨S_, .i32⟩
  | .hbm, ⟨40, _⟩ => ⟨S128, .i32⟩
  | .hbm, ⟨41, _⟩ => ⟨S128, .i32⟩
  | .hbm, ⟨42, _⟩ => ⟨S_, .i32⟩
  | .hbm, ⟨43, _⟩ => ⟨S128, .i32⟩
  | .hbm, ⟨44, _⟩ => ⟨S128, .i1⟩
  | .hbm, ⟨45, _⟩ => ⟨S_, .i32⟩
  | .hbm, ⟨46, _⟩ => ⟨S128, .i32⟩
  | .hbm, ⟨47, _⟩ => ⟨S128, .i1⟩
  | .hbm, ⟨48, _⟩ => ⟨S_, .i32⟩
  | .hbm, ⟨49, _⟩ => ⟨S_, .i1⟩
  | .hbm, ⟨50, _⟩ => ⟨S128, .i1⟩
  | .hbm, ⟨51, _⟩ => ⟨S128, .i1⟩
  | .hbm, ⟨52, _⟩ => ⟨S128, .i1⟩
  | .hbm, ⟨53, _⟩ => ⟨S128, .i32⟩
  | .hbm, ⟨54, _⟩ => ⟨S128, .i32⟩
  | .hbm, ⟨55, _⟩ => ⟨S128, .i32⟩
  | .hbm, ⟨56, _⟩ => ⟨S128, .f32⟩
  | .hbm, ⟨57, _⟩ => ⟨S128, .f32⟩
  | .hbm, ⟨58, _⟩ => ⟨S_, .f32⟩
  | .hbm, ⟨59, _⟩ => ⟨S128, .f32⟩
  | .hbm, ⟨60, _⟩ => ⟨S128, .f32⟩
  | .hbm, ⟨61, _⟩ => ⟨S_, .f32⟩
  | .hbm, ⟨62, _⟩ => ⟨S128, .f32⟩
  | .hbm, ⟨63, _⟩ => ⟨S128, .f32⟩
  | .hbm, ⟨64, _⟩ => ⟨S8192, .f32⟩
  | .hbm, ⟨65, _⟩ => ⟨S8192x1, .f32⟩
  | .hbm, ⟨66, _⟩ => ⟨S1x128, .f32⟩
  | .hbm, ⟨67, _⟩ => ⟨S8192x128, .f32⟩
  | .hbm, ⟨68, _⟩ => ⟨S8192x128, .f32⟩
  | .hbm, ⟨69, _⟩ => ⟨S8192x128, .f32⟩
  | .hbm, ⟨70, _⟩ => ⟨S8192x128, .f32⟩
  | .hbm, ⟨71, _⟩ => ⟨S8192x128, .f32⟩
  | .hbm, ⟨72, _⟩ => ⟨S_, .i32⟩
  | .hbm, ⟨73, _⟩ => ⟨S_, .i32⟩
  | .hbm, ⟨74, _⟩ => ⟨S_, .i32⟩
  | .hbm, ⟨75, _⟩ => ⟨S_, .i1⟩
  | .hbm, ⟨76, _⟩ => ⟨S_, .i32⟩
  | .hbm, ⟨77, _⟩ => ⟨S_, .i32⟩
  | .hbm, ⟨78, _⟩ => ⟨S128, .i32⟩
  | .hbm, ⟨79, _⟩ => ⟨S128, .i32⟩
  | .hbm, ⟨80, _⟩ => ⟨S_, .i32⟩
  | .hbm, ⟨81, _⟩ => ⟨S128, .i32⟩
  | .hbm, ⟨82, _⟩ => ⟨S128, .i1⟩
  | .hbm, ⟨83, _⟩ => ⟨S_, .i32⟩
  | .hbm, ⟨84, _⟩ => ⟨S128, .i32⟩
  | .hbm, ⟨85, _⟩ => ⟨S128, .i1⟩
  | .hbm, ⟨86, _⟩ => ⟨S_, .i32⟩
  | .hbm, ⟨87, _⟩ => ⟨S_, .i1⟩
  | .hbm, ⟨88, _⟩ => ⟨S128, .i1⟩
  | .hbm, ⟨89, _⟩ => ⟨S128, .i1⟩
  | .hbm, ⟨90, _⟩ => ⟨S128, .i1⟩
  | .hbm, ⟨91, _⟩ => ⟨S128, .i32⟩
  | .hbm, ⟨92, _⟩ => ⟨S128, .i32⟩
  | .hbm, ⟨93, _⟩ => ⟨S128, .i32⟩
  | .hbm, ⟨94, _⟩ => ⟨S_, .i32⟩
  | .hbm, ⟨95, _⟩ => ⟨S128, .i32⟩
  | .hbm, ⟨96, _⟩ => ⟨S128, .i1⟩
  | .hbm, ⟨97, _⟩ => ⟨S_, .f32⟩
  | .hbm, ⟨98, _⟩ => ⟨S_, .f32⟩
  | .hbm, ⟨99, _⟩ => ⟨S8192x128, .i1⟩
  | .hbm, ⟨100, _⟩ => ⟨S8192x128, .f32⟩
  | .hbm, ⟨101, _⟩ => ⟨S8192x128, .f32⟩
  | .hbm, ⟨102, _⟩ => ⟨S_, .i32⟩
  | .hbm, ⟨103, _⟩ => ⟨S128, .i32⟩
  | .hbm, ⟨104, _⟩ => ⟨S128, .i1⟩
  | .hbm, ⟨105, _⟩ => ⟨S8192x128, .f32⟩
  | .hbm, ⟨106, _⟩ => ⟨S8192x128, .i1⟩
  | .hbm, ⟨107, _⟩ => ⟨S8192x128, .f32⟩
  | .hbm, ⟨108, _⟩ => ⟨S_, .f32⟩
  | .hbm, ⟨109, _⟩ => ⟨S_, .f32⟩
  | .hbm, ⟨110, _⟩ => ⟨S8192x128, .i1⟩
  | .hbm, ⟨111, _⟩ => ⟨S8192x128, .f32⟩
  | .hbm, ⟨112, _⟩ => ⟨S8192x128, .f32⟩
  | .hbm, ⟨113, _⟩ => ⟨S8192x256, .f32⟩
  | .hbm, ⟨114, _⟩ => ⟨S131072x256, .bf16⟩
  | .hbm, ⟨115, _⟩ => ⟨S16384x256, .bf16⟩
  | .hbm, ⟨116, _⟩ => ⟨S16384x256, .bf16⟩
  | .local _ .vmem, ⟨0, _⟩ => ⟨S1024x768, .f32⟩
  | .local _ .vmem, ⟨1, _⟩ => ⟨S1024x768, .f32⟩
  | .local _ .vmem, ⟨2, _⟩ => ⟨S1x384, .f32⟩
  | .local _ .vmem, ⟨3, _⟩ => ⟨S1x128, .f32⟩
  | .local _ .vmem, ⟨4, _⟩ => ⟨S384x2048, .bf16⟩
  | .local _ .vmem, ⟨5, _⟩ => ⟨S8x128x128, .bf16⟩
  | .local _ .vmem, ⟨6, _⟩ => ⟨S1024x256, .f32⟩
  | .local _ .vmem, ⟨7, _⟩ => ⟨S1024x256, .f32⟩
  | .local _ .vmem, ⟨8, _⟩ => ⟨S8192x256, .bf16⟩
  | .local _ .vmem, ⟨9, _⟩ => ⟨S8192x256, .bf16⟩
  | .local _ .vmem, ⟨10, _⟩ => ⟨S1024x256, .bf16⟩
  | .local _ .vmem, ⟨11, _⟩ => ⟨S1024x256, .bf16⟩
  | .local _ .vmem, ⟨12, _⟩ => ⟨S1024x256, .bf16⟩
  | .local _ .vmem, ⟨13, _⟩ => ⟨S1024x256, .bf16⟩
  | _, _ => ⟨S2x8192x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c : Ref sig .tc := ⟨.hbm, 34, rfl⟩
abbrev main_call0_v0 : Ref sig .tc := ⟨.hbm, 35, rfl⟩
abbrev main_call0_c : Ref sig .tc := ⟨.hbm, 36, rfl⟩
abbrev main_call0_v1 : Ref sig .tc := ⟨.hbm, 37, rfl⟩
abbrev main_call0_c_0 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_call0_c_1 : Ref sig .tc := ⟨.hbm, 42, rfl⟩
abbrev main_call0_v5 : Ref sig .tc := ⟨.hbm, 43, rfl⟩
abbrev main_call0_v6 : Ref sig .tc := ⟨.hbm, 44, rfl⟩
abbrev main_call0_c_2 : Ref sig .tc := ⟨.hbm, 45, rfl⟩
abbrev main_call0_v7 : Ref sig .tc := ⟨.hbm, 46, rfl⟩
abbrev main_call0_v8 : Ref sig .tc := ⟨.hbm, 47, rfl⟩
abbrev main_call0_c_3 : Ref sig .tc := ⟨.hbm, 48, rfl⟩
abbrev main_call0_v9 : Ref sig .tc := ⟨.hbm, 49, rfl⟩
abbrev main_call0_v10 : Ref sig .tc := ⟨.hbm, 50, rfl⟩
abbrev main_call0_v11 : Ref sig .tc := ⟨.hbm, 51, rfl⟩
abbrev main_call0_v12 : Ref sig .tc := ⟨.hbm, 52, rfl⟩
abbrev main_call0_v13 : Ref sig .tc := ⟨.hbm, 53, rfl⟩
abbrev main_call0_v14 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_cst_2 : Ref sig .tc := ⟨.hbm, 58, rfl⟩
abbrev main_v27 : Ref sig .tc := ⟨.hbm, 59, rfl⟩
abbrev main_v28 : Ref sig .tc := ⟨.hbm, 60, rfl⟩
abbrev main_cst_3 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_c_4 : Ref sig .tc := ⟨.hbm, 72, rfl⟩
abbrev main_call1_v0 : Ref sig .tc := ⟨.hbm, 73, rfl⟩
abbrev main_call1_c : Ref sig .tc := ⟨.hbm, 74, rfl⟩
abbrev main_call1_v1 : Ref sig .tc := ⟨.hbm, 75, rfl⟩
abbrev main_call1_c_0 : Ref sig .tc := ⟨.hbm, 76, rfl⟩
abbrev main_call1_v2 : Ref sig .tc := ⟨.hbm, 77, rfl⟩
abbrev main_call1_v3 : Ref sig .tc := ⟨.hbm, 78, rfl⟩
abbrev main_call1_v4 : Ref sig .tc := ⟨.hbm, 79, rfl⟩
abbrev main_call1_c_1 : Ref sig .tc := ⟨.hbm, 80, rfl⟩
abbrev main_call1_v5 : Ref sig .tc := ⟨.hbm, 81, rfl⟩
abbrev main_call1_v6 : Ref sig .tc := ⟨.hbm, 82, rfl⟩
abbrev main_call1_c_2 : Ref sig .tc := ⟨.hbm, 83, rfl⟩
abbrev main_call1_v7 : Ref sig .tc := ⟨.hbm, 84, rfl⟩
abbrev main_call1_v8 : Ref sig .tc := ⟨.hbm, 85, rfl⟩
abbrev main_call1_c_3 : Ref sig .tc := ⟨.hbm, 86, rfl⟩
abbrev main_call1_v9 : Ref sig .tc := ⟨.hbm, 87, rfl⟩
abbrev main_call1_v10 : Ref sig .tc := ⟨.hbm, 88, rfl⟩
abbrev main_call1_v11 : Ref sig .tc := ⟨.hbm, 89, rfl⟩
abbrev main_call1_v12 : Ref sig .tc := ⟨.hbm, 90, rfl⟩
abbrev main_call1_v13 : Ref sig .tc := ⟨.hbm, 91, rfl⟩
abbrev main_call1_v14 : Ref sig .tc := ⟨.hbm, 92, rfl⟩
abbrev main_v39 : Ref sig .tc := ⟨.hbm, 93, rfl⟩
abbrev main_c_5 : Ref sig .tc := ⟨.hbm, 94, rfl⟩
abbrev main_v40 : Ref sig .tc := ⟨.hbm, 95, rfl⟩
abbrev main_v41 : Ref sig .tc := ⟨.hbm, 96, rfl⟩
abbrev main_cst_6 : Ref sig .tc := ⟨.hbm, 97, rfl⟩
abbrev main_call2_v0 : Ref sig .tc := ⟨.hbm, 98, rfl⟩
abbrev main_call2_v1 : Ref sig .tc := ⟨.hbm, 99, rfl⟩
abbrev main_call2_v2 : Ref sig .tc := ⟨.hbm, 100, rfl⟩
abbrev main_v42 : Ref sig .tc := ⟨.hbm, 101, rfl⟩
abbrev main_c_7 : Ref sig .tc := ⟨.hbm, 102, rfl⟩
abbrev main_v43 : Ref sig .tc := ⟨.hbm, 103, rfl⟩
abbrev main_v44 : Ref sig .tc := ⟨.hbm, 104, rfl⟩
abbrev main_v45 : Ref sig .tc := ⟨.hbm, 105, rfl⟩
abbrev main_call3_v0 : Ref sig .tc := ⟨.hbm, 106, rfl⟩
abbrev main_v46 : Ref sig .tc := ⟨.hbm, 107, rfl⟩
abbrev main_cst_8 : Ref sig .tc := ⟨.hbm, 108, rfl⟩
abbrev main_call4_v0 : Ref sig .tc := ⟨.hbm, 109, rfl⟩
abbrev main_call4_v1 : Ref sig .tc := ⟨.hbm, 110, rfl⟩
abbrev main_call4_v2 : Ref sig .tc := ⟨.hbm, 111, rfl⟩
abbrev main_v47 : Ref sig .tc := ⟨.hbm, 112, rfl⟩
abbrev main_v48 : Ref sig .tc := ⟨.hbm, 113, rfl⟩
abbrev main_v49_0 : Ref sig .tc := ⟨.hbm, 114, rfl⟩
abbrev main_v49_1 : Ref sig .tc := ⟨.hbm, 115, rfl⟩
abbrev main_v49_2 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S384x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8192x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MlaPrepReferenceIdeal.lean ====
abbrev S2x8192x384 : Shape := ⟨3, ![2, 8192, 384]⟩
abbrev S2x8192x128 : Shape := ⟨3, ![2, 8192, 128]⟩
abbrev S2x8192x64 : Shape := ⟨3, ![2, 8192, 64]⟩
abbrev S384 : Shape := ⟨1, ![384]⟩
abbrev S128 : Shape := ⟨1, ![128]⟩
abbrev S384x1536 : Shape := ⟨2, ![384, 1536]⟩
abbrev S128x2048 : Shape := ⟨2, ![128, 2048]⟩
abbrev S8192 : Shape := ⟨1, ![8192]⟩
abbrev S_ : Shape := ⟨0, ![]⟩
abbrev S2x8192 : Shape := ⟨2, ![2, 8192]⟩
abbrev S2x8192x1 : Shape := ⟨3, ![2, 8192, 1]⟩
abbrev S1x1x384 : Shape := ⟨3, ![1, 1, 384]⟩
abbrev S2x8192x1536 : Shape := ⟨3, ![2, 8192, 1536]⟩
abbrev S2x8192x8x192 : Shape := ⟨4, ![2, 8192, 8, 192]⟩
abbrev S128x8x256 : Shape := ⟨3, ![128, 8, 256]⟩
abbrev S128x8x128 : Shape := ⟨3, ![128, 8, 128]⟩
abbrev S1x1x128 : Shape := ⟨3, ![1, 1, 128]⟩
abbrev S2x8192x8x128 : Shape := ⟨4, ![2, 8192, 8, 128]⟩
abbrev S8x128x2x8192 : Shape := ⟨4, ![8, 128, 2, 8192]⟩
abbrev S2x8192x8x64 : Shape := ⟨4, ![2, 8192, 8, 64]⟩
abbrev S32 : Shape := ⟨1, ![32]⟩
abbrev S8192x1 : Shape := ⟨2, ![8192, 1]⟩
abbrev S1x32 : Shape := ⟨2, ![1, 32]⟩
abbrev S8192x32 : Shape := ⟨2, ![8192, 32]⟩
abbrev S8192x1x32 : Shape := ⟨3, ![8192, 1, 32]⟩
abbrev S2x8192x8x32 : Shape := ⟨4, ![2, 8192, 8, 32]⟩
abbrev S1x8192x1x32 : Shape := ⟨4, ![1, 8192, 1, 32]⟩
abbrev S2x8192x8x256 : Shape := ⟨4, ![2, 8192, 8, 256]⟩
abbrev S2x8192x1x64 : Shape := ⟨4, ![2, 8192, 1, 64]⟩
abbrev S2x8192x1x32 : Shape := ⟨4, ![2, 8192, 1, 32]⟩
abbrev S2x8192x1x128 : Shape := ⟨4, ![2, 8192, 1, 128]⟩
abbrev S2x8192x256 : Shape := ⟨3, ![2, 8192, 256]⟩
abbrev S16384x256 : Shape := ⟨2, ![16384, 256]⟩
abbrev S2x32x256x8x256 : Shape := ⟨5, ![2, 32, 256, 8, 256]⟩
abbrev S2x32x8x256x256 : Shape := ⟨5, ![2, 32, 8, 256, 256]⟩
abbrev S131072x256 : Shape := ⟨2, ![131072, 256]⟩

abbrev nBuf : Space → Nat
  | .hbm => 140
  | .vmem => 0
  | .smem => 0
  | _ => 0

abbrev hbmTy0_0 (i : Nat) : BufTy := match i % 128 with
  | 0 => ⟨S2x8192x384, .f32⟩
  | 1 => ⟨S2x8192x128, .f32⟩
  | 2 => ⟨S2x8192x64, .f32⟩
  | 3 => ⟨S384, .f32⟩
  | 4 => ⟨S128, .f32⟩
  | 5 => ⟨S384x1536, .f32⟩
  | 6 => ⟨S128x2048, .f32⟩
  | 7 => ⟨S8192, .i32⟩
  | 8 => ⟨S2x8192x384, .f32⟩
  | 9 => ⟨S_, .f32⟩
  | 10 => ⟨S2x8192, .f32⟩
  | 11 => ⟨S2x8192x1, .f32⟩
  | 12 => ⟨S_, .f32⟩
  | 13 => ⟨S2x8192x1, .f32⟩
  | 14 => ⟨S2x8192x1, .f32⟩
  | 15 => ⟨S_, .f32⟩
  | 16 => ⟨S2x8192x1, .f32⟩
  | 17 => ⟨S2x8192x1, .f32⟩
  | 18 => ⟨S2x8192x1, .f32⟩
  | 19 => ⟨S2x8192x384, .f32⟩
  | 20 => ⟨S2x8192x384, .f32⟩
  | 21 => ⟨S1x1x384, .f32⟩
  | 22 => ⟨S2x8192x384, .f32⟩
  | 23 => ⟨S2x8192x384, .f32⟩
  | 24 => ⟨S2x8192x1536, .f32⟩
  | 25 => ⟨S2x8192x8x192, .f32⟩
  | 26 => ⟨S128x8x256, .f32⟩
  | 27 => ⟨S128x8x128, .f32⟩
  | 28 => ⟨S2x8192x128, .f32⟩
  | 29 => ⟨S_, .f32⟩
  | 30 => ⟨S2x8192, .f32⟩
  | 31 => ⟨S2x8192x1, .f32⟩
  | 32 => ⟨S_, .f32⟩
  | 33 => ⟨S2x8192x1, .f32⟩
  | 34 => ⟨S2x8192x1, .f32⟩
  | 35 => ⟨S_, .f32⟩
  | 36 => ⟨S2x8192x1, .f32⟩
  | 37 => ⟨S2x8192x1, .f32⟩
  | 38 => ⟨S2x8192x1, .f32⟩
  | 39 => ⟨S2x8192x128, .f32⟩
  | 40 => ⟨S2x8192x128, .f32⟩
  | 41 => ⟨S1x1x128, .f32⟩
  | 42 => ⟨S2x8192x128, .f32⟩
  | 43 => ⟨S2x8192x128, .f32⟩
  | 44 => ⟨S2x8192x8x128, .f32⟩
  | 45 => ⟨S8x128x2x8192, .f32⟩
  | 46 => ⟨S2x8192x8x128, .f32⟩
  | 47 => ⟨S2x8192x8x64, .f32⟩
  | 48 => ⟨S32, .f32⟩
  | 49 => ⟨S32, .f32⟩
  | 50 => ⟨S_, .f32⟩
  | 51 => ⟨S32, .f32⟩
  | 52 => ⟨S32, .f32⟩
  | 53 => ⟨S_, .f32⟩
  | 54 => ⟨S32, .f32⟩
  | 55 => ⟨S32, .f32⟩
  | 56 => ⟨S8192, .f32⟩
  | 57 => ⟨S8192x1, .f32⟩
  | 58 => ⟨S1x32, .f32⟩
  | 59 => ⟨S8192x32, .f32⟩
  | 60 => ⟨S8192x32, .f32⟩
  | 61 => ⟨S8192x32, .f32⟩
  | 62 => ⟨S8192x32, .f32⟩
  | 63 => ⟨S8192x1x32, .f32⟩
  | 64 => ⟨S8192x32, .f32⟩
  | 65 => ⟨S8192x1x32, .f32⟩
  | 66 => ⟨S2x8192x8x32, .f32⟩
  | 67 => ⟨S2x8192x8x32, .f32⟩
  | 68 => ⟨S_, .f32⟩
  | 69 => ⟨S2x8192x8x32, .f32⟩
  | 70 => ⟨S1x8192x1x32, .f32⟩
  | 71 => ⟨S2x8192x8x32, .f32⟩
  | 72 => ⟨S2x8192x8x32, .f32⟩
  | 73 => ⟨S1x8192x1x32, .f32⟩
  | 74 => ⟨S2x8192x8x32, .f32⟩
  | 75 => ⟨S2x8192x8x32, .f32⟩
  | 76 => ⟨S2x8192x8x32, .f32⟩
  | 77 => ⟨S1x8192x1x32, .f32⟩
  | 78 => ⟨S2x8192x8x32, .f32⟩
  | 79 => ⟨S2x8192x8x32, .f32⟩
  | 80 => ⟨S1x8192x1x32, .f32⟩
  | 81 => ⟨S2x8192x8x32, .f32⟩
  | 82 => ⟨S2x8192x8x32, .f32⟩
  | 83 => ⟨S2x8192x8x32, .f32⟩
  | 84 => ⟨S2x8192x8x128, .f32⟩
  | 85 => ⟨S2x8192x8x256, .f32⟩
  | 86 => ⟨S_, .f32⟩
  | 87 => ⟨S2x8192x8x256, .f32⟩
  | 88 => ⟨S2x8192x8x256, .f32⟩
  | 89 => ⟨S2x8192x1x64, .f32⟩
  | 90 => ⟨S32, .f32⟩
  | 91 => ⟨S32, .f32⟩
  | 92 => ⟨S_, .f32⟩
  | 93 => ⟨S32, .f32⟩
  | 94 => ⟨S32, .f32⟩
  | 95 => ⟨S_, .f32⟩
  | 96 => ⟨S32, .f32⟩
  | 97 => ⟨S32, .f32⟩
  | 98 => ⟨S8192, .f32⟩
  | 99 => ⟨S8192x1, .f32⟩
  | 100 => ⟨S1x32, .f32⟩
  | 101 => ⟨S8192x32, .f32⟩
  | 102 => ⟨S8192x32, .f32⟩
  | 103 => ⟨S8192x32, .f32⟩
  | 104 => ⟨S8192x32, .f32⟩
  | 105 => ⟨S8192x1x32, .f32⟩
  | 106 => ⟨S8192x32, .f32⟩
  | 107 => ⟨S8192x1x32, .f32⟩
  | 108 => ⟨S2x8192x1x32, .f32⟩
  | 109 => ⟨S2x8192x1x32, .f32⟩
  | 110 => ⟨S_, .f32⟩
  | 111 => ⟨S2x8192x1x32, .f32⟩
  | 112 => ⟨S1x8192x1x32, .f32⟩
  | 113 => ⟨S2x8192x1x32, .f32⟩
  | 114 => ⟨S2x8192x1x32, .f32⟩
  | 115 => ⟨S1x8192x1x32, .f32⟩
  | 116 => ⟨S2x8192x1x32, .f32⟩
  | 117 => ⟨S2x8192x1x32, .f32⟩
  | 118 => ⟨S2x8192x1x32, .f32⟩
  | 119 => ⟨S1x8192x1x32, .f32⟩
  | 120 => ⟨S2x8192x1x32, .f32⟩
  | 121 => ⟨S2x8192x1x32, .f32⟩
  | 122 => ⟨S1x8192x1x32, .f32⟩
  | 123 => ⟨S2x8192x1x32, .f32⟩
  | 124 => ⟨S2x8192x1x32, .f32⟩
  | 125 => ⟨S2x8192x1x32, .f32⟩
  | 126 => ⟨S2x8192x1x128, .f32⟩
  | 127 => ⟨S2x8192x128, .f32⟩
  | _ => ⟨S2x8192x384, .f32⟩

abbrev hbmTy0_1 (i : Nat) : BufTy := match i % 128 with
  | 0 => ⟨S2x8192x256, .f32⟩
  | 1 => ⟨S16384x256, .f32⟩
  | 2 => ⟨S_, .f32⟩
  | 3 => ⟨S2x8192x128, .f32⟩
  | 4 => ⟨S2x8192x256, .f32⟩
  | 5 => ⟨S16384x256, .f32⟩
  | 6 => ⟨S2x32x256x8x256, .f32⟩
  | 7 => ⟨S2x32x8x256x256, .f32⟩
  | 8 => ⟨S131072x256, .f32⟩
  | 9 => ⟨S131072x256, .bf16⟩
  | 10 => ⟨S16384x256, .bf16⟩
  | 11 => ⟨S16384x256, .bf16⟩
  | _ => ⟨S2x8192x384, .f32⟩

abbrev hbmTy (i : Nat) : BufTy := match i / 128 with
  | 0 => hbmTy0_0 i
  | 1 => hbmTy0_1 i
  | _ => ⟨S2x8192x384, .f32⟩

abbrev bufTy : (tb : Table) → Fin (tcTables nBuf tb) → BufTy
  | .hbm, ⟨i, _⟩ => hbmTy i
  | _, _ => ⟨S2x8192x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_5 : Ref sig .tc := ⟨.hbm, 50, rfl⟩
abbrev main_v37 : Ref sig .tc := ⟨.hbm, 51, rfl⟩
abbrev main_v38 : Ref sig .tc := ⟨.hbm, 52, rfl⟩
abbrev main_cst_6 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_7 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_cst_8 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_cst_9 : Ref sig .tc := ⟨.hbm, 92, rfl⟩
abbrev main_v75 : Ref sig .tc := ⟨.hbm, 93, rfl⟩
abbrev main_v76 : Ref sig .tc := ⟨.hbm, 94, rfl⟩
abbrev main_cst_10 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_cst_11 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_cst_12 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩

abbrev nD : Nat := 1
abbrev τ : Topo := Topo.v7x

variable {F : FTy → Type} [FloatOps F]
-- ==== Proof.MlpBody.lean ====
module

public import proofs.«01_k».proof.Proof.Gen.MlpIdeal.Value
public import Idealize.ShloMosaic.Lib.Pipeline.ValueKit
public import Idealize.ShloMosaic.Lib.Pipeline.ReadBack
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.MlpIdeal.Body

open Cert.MlpIdeal Cert.MlpIdeal.Gen

/-- One over the root of a row's mean square, with the small constant under the root. -/
def rs (v : Fin 2048 → EReal) : EReal :=
  Ideal.rsqrt (Ideal.div (∑ x, v x * v x) (Ideal.ofBits FTy.f32 1157627904#32) + Ideal.ofBits FTy.f32 897988541#32)

/-- The normalised rows of a block, weighted. -/
def xnB (x0 : FVec Ideal S1024x2048 .f32) (x1 : FVec Ideal S1x2048 .f32) : FVec Ideal S1024x2048 .bf16 :=
  fun y => x0 (ix2 (y 0) (y 1)) * rs (fun d => x0 (ix2 (y 0) d)) * x1 (ix2 0 (y 1))

/-- What 512 hidden units add to a row. -/
def tileB (xn : FVec Ideal S1024x2048 .bf16) (x2 : FVec Ideal S1x2048x512 .bf16) (x3 : FVec Ideal S1x512x2048 .bf16)
    (r : Fin 1024) (l : Fin 2048) : EReal :=
  ∑ x, max (∑ d, xn (ix2 r d) * x2 (ix3 0 d x)) 0 * max (∑ d, xn (ix2 r d) * x2 (ix3 0 d x)) 0 * x3 (ix3 0 x l)

/-- Where a band of 256 whole rows from row `o` puts its element. -/
theorem emb_rows (o : ℕ) (inb) (a : Fin 256) (b : Fin 2048) (ho : o + a.val < 1024) :
    (Rect.unit (s := S1024x2048) ![o, 0] ![256, 2048] inb).emb (ix2 a b) = ix2 ⟨o + a.val, ho⟩ b := by
  funext k
  apply Fin.ext
  match k with
  | ⟨0, _⟩ => show o + 1 * a.val = o + a.val; omega
  | ⟨1, _⟩ => show 0 + 1 * b.val = b.val; omega

theorem sA (c : Dev nD) (i : grid0.Coords) (a2 : Memref sig .tc .vmem S1024x2048 .f32) (h2 : a2.IsWhole) (a3 : Memref sig .tc .vmem S1x2048 .f32) (h3 : a3.IsWhole) (a4 : Memref sig .tc .vmem S1x2048x512 .bf16) (h4 : a4.IsWhole) (a5 : Memref sig .tc .vmem S1x512x2048 .bf16) (h5 : a5.IsWhole) (a6 : Memref sig .tc .vmem S1x2048 .f32) (h6 : a6.IsWhole) (a7 : Memref sig .tc .vmem S1024x2048 .f32) (h7 : a7.IsWhole) (a8 : Memref sig .tc .vmem S1024x2048 .bf16) (h8 : a8.IsWhole) (hc0 : cond0_0 i) (hc1 : ¬cond0_1 i) (hc2 : ¬cond0_2 i)
    (x0 : FVec Ideal S1024x2048 .f32) (x1 : FVec Ideal S1x2048 .f32) (x2 : FVec Ideal S1x2048x512 .bf16) (x3 : FVec Ideal S1x512x2048 .bf16) (x4 : FVec Ideal S1x2048 .f32) :
    sout0_A_0 (F := Ideal) c i a2 h2 a3 h3 a4 h4 a5 h5 a6 h6 a7 h7 a8 h8 hc0 hc1 hc2 x0 x1 x2 x3 x4 = xnB x0 x1 := by
  funext y
  frame_out
  canon_tiles x h
  all_goals
    idx_vars x
    idx_vars y
    have e0 : ∃ hb, y0 = ⟨_, hb⟩ := ⟨lt_of_eq_of_lt h0.symm y0.isLt, Fin.ext h0⟩
    obtain ⟨hb, rfl⟩ := e0
    obtain rfl : y1 = x1 := Fin.ext h1
  · pointwise [k0_pay8, xnB, rs]
  · pointwise [k0_pay7, xnB, rs]
  · pointwise [k0_pay5, xnB, rs]
  · pointwise [k0_pay4, xnB, rs]

/-- The same rows as a list of stores: the first two stores already hold the first 512 rows. -/
theorem oA (c : Dev nD) (i : grid0.Coords) (a2 : Memref sig .tc .vmem S1024x2048 .f32) (h2 : a2.IsWhole) (a3 : Memref sig .tc .vmem S1x2048 .f32) (h3 : a3.IsWhole) (a4 : Memref sig .tc .vmem S1x2048x512 .bf16) (h4 : a4.IsWhole) (a5 : Memref sig .tc .vmem S1x512x2048 .bf16) (h5 : a5.IsWhole) (a6 : Memref sig .tc .vmem S1x2048 .f32) (h6 : a6.IsWhole) (a7 : Memref sig .tc .vmem S1024x2048 .f32) (h7 : a7.IsWhole) (a8 : Memref sig .tc .vmem S1024x2048 .bf16) (h8 : a8.IsWhole) (hc0 : cond0_0 i) (hc1 : ¬cond0_1 i) (hc2 : ¬cond0_2 i)
    (x0 : FVec Ideal S1024x2048 .f32) (x1 : FVec Ideal S1x2048 .f32) (x2 : FVec Ideal S1x2048x512 .bf16) (x3 : FVec Ideal S1x512x2048 .bf16) (x4 : FVec Ideal S1x2048 .f32) (y : S1024x2048.Idx) :
    out0_A_5 (F := Ideal) c i a2 h2 a3 h3 a4 h4 a5 h5 a6 h6 a7 h7 a8 h8 hc0 hc1 hc2 x0 x1 x2 x3 x4 y = x0 y + tileB (xnB x0 x1) x2 x3 (y 0) (y 1) := by
  have h4 : View.canon (Val := Elt Ideal) (e := .bf16) [⟨Rect.unit (s := S1024x2048) ![768, 0] ![256, 2048] inb_S1024x2048_S256x2048_768_0,
            k0_pay8 (F := Ideal) (View.ld x0 (Rect.unit (s := S1024x2048) ![768, 0] ![256, 2048] inb_S1024x2048_S256x2048_768_0)) x1⟩,
          ⟨Rect.unit (s := S1024x2048) ![512, 0] ![256, 2048] inb_S1024x2048_S256x2048_512_0,
            k0_pay7 (F := Ideal) (View.ld x0 (Rect.unit (s := S1024x2048) ![512, 0] ![256, 2048] inb_S1024x2048_S256x2048_512_0)) x1⟩,
          ⟨Rect.unit (s := S1024x2048) ![256, 0] ![256, 2048] inb_S1024x2048_S256x2048_256_0,
            k0_pay5 (F := Ideal) (View.ld x0 (Rect.unit (s := S1024x2048) ![256, 0] ![256, 2048] inb_S1024x2048_S256x2048_256_0)) x1⟩,
          ⟨Rect.unit (s := S1024x2048) ![0, 0] ![256, 2048] inb_S1024x2048_S256x2048_0_0,
            k0_pay4 (F := Ideal) (View.ld x0 (Rect.unit (s := S1024x2048) ![0, 0] ![256, 2048] inb_S1024x2048_S256x2048_0_0)) x1⟩] = xnB x0 x1 := by
    have := sA c i a2 h2 a3 h3 a4 h4 a5 h5 a6 h6 a7 h7 a8 h8 hc0 hc1 hc2 x0 x1 x2 x3 x4
    rw [← this]
    funext z
    frame_out
  have h2 : ∀ v : View sig .tc .vmem S1024x2048 .bf16, v.readCov (Val := Elt Ideal) [⟨Rect.unit (s := S1024x2048) ![256, 0] ![256, 2048] inb_S1024x2048_S256x2048_256_0,
            k0_pay5 (F := Ideal) (View.ld x0 (Rect.unit (s := S1024x2048) ![256, 0] ![256, 2048] inb_S1024x2048_S256x2048_256_0)) x1⟩,
          ⟨Rect.unit (s := S1024x2048) ![0, 0] ![256, 2048] inb_S1024x2048_S256x2048_0_0,
            k0_pay4 (F := Ideal) (View.ld x0 (Rect.unit (s := S1024x2048) ![0, 0] ![256, 2048] inb_S1024x2048_S256x2048_0_0)) x1⟩] (Rect.unit ![0, 0] ![512, 2048] inb_S1024x2048_S512x2048_0_0).toLoadRect
        = fun j => xnB x0 x1 ((Rect.unit (s := S1024x2048) ![0, 0] ![512, 2048] inb_S1024x2048_S512x2048_0_0).toLoadRect.idx j) := by
    intro v
    rw [← h4]
    refine Eq.trans ?_ (View.readCov_eq_canon' v _ _)
    simp (disch := decide) only [↓ View.readCov_skip]
  frame_out
  rw [h2, View.readCov_eq_canon', h4]
  canon_tiles x h
  all_goals
    idx_vars x
    idx_vars y
    have e0 : ∃ hb, y0 = ⟨_, hb⟩ := ⟨lt_of_eq_of_lt h0.symm y0.isLt, Fin.ext h0⟩
    obtain ⟨hb, rfl⟩ := e0
    obtain rfl : y1 = x1 := Fin.ext h1
  · pointwise [k0_pay9, tileB]
  · pointwise [k0_pay6, tileB]

theorem oB (c : Dev nD) (i : grid0.Coords) (a2 : Memref sig .tc .vmem S1024x2048 .f32) (h2 : a2.IsWhole) (a3 : Memref sig .tc .vmem S1x2048 .f32) (h3 : a3.IsWhole) (a4 : Memref sig .tc .vmem S1x2048x512 .bf16) (h4 : a4.IsWhole) (a5 : Memref sig .tc .vmem S1x512x2048 .bf16) (h5 : a5.IsWhole) (a6 : Memref sig .tc .vmem S1x2048 .f32) (h6 : a6.IsWhole) (a7 : Memref sig .tc .vmem S1024x2048 .f32) (h7 : a7.IsWhole) (a8 : Memref sig .tc .vmem S1024x2048 .bf16) (h8 : a8.IsWhole) (hc0 : ¬cond0_0 i) (hc1 : cond0_1 i) (hc2 : ¬cond0_2 i)
    (x0 : FVec Ideal S1024x2048 .f32) (x1 : FVec Ideal S1x2048 .f32) (x2 : FVec Ideal S1x2048x512 .bf16) (x3 : FVec Ideal S1x512x2048 .bf16) (x4 : FVec Ideal S1x2048 .f32) (xo : FVec Ideal S1024x2048 .f32) (xs : FVec Ideal S1024x2048 .bf16) (r : Fin 1024) (l : Fin 2048) :
    out0_B_5 (F := Ideal) c i a2 h2 a3 h3 a4 h4 a5 h5 a6 h6 a7 h7 a8 h8 hc0 hc1 hc2 x0 x1 x2 x3 x4 xo xs (ix2 r l) = xo (ix2 r l) + tileB xs x2 x3 r l := by
  frame_out
  pointwise [k0_pay1, tileB]

/-- A finished block: the accumulated rows, normalised and weighted. -/
def finB (xo : FVec Ideal S1024x2048 .f32) (xs : FVec Ideal S1024x2048 .bf16) (x2 : FVec Ideal S1x2048x512 .bf16) (x3 : FVec Ideal S1x512x2048 .bf16) (x4 : FVec Ideal S1x2048 .f32) : FVec Ideal S1024x2048 .f32 :=
  fun y => (xo (ix2 (y 0) (y 1)) + tileB xs x2 x3 (y 0) (y 1)) * rs (fun d => xo (ix2 (y 0) d) + tileB xs x2 x3 (y 0) d) * x4 (ix2 0 (y 1))

theorem oC (c : Dev nD) (i : grid0.Coords) (a2 : Memref sig .tc .vmem S1024x2048 .f32) (h2 : a2.IsWhole) (a3 : Memref sig .tc .vmem S1x2048 .f32) (h3 : a3.IsWhole) (a4 : Memref sig .tc .vmem S1x2048x512 .bf16) (h4 : a4.IsWhole) (a5 : Memref sig .tc .vmem S1x512x2048 .bf16) (h5 : a5.IsWhole) (a6 : Memref sig .tc .vmem S1x2048 .f32) (h6 : a6.IsWhole) (a7 : Memref sig .tc .vmem S1024x2048 .f32) (h7 : a7.IsWhole) (a8 : Memref sig .tc .vmem S1024x2048 .bf16) (h8 : a8.IsWhole) (hc0 : ¬cond0_0 i) (hc1 : cond0_1 i) (hc2 : cond0_2 i)
    (x0 : FVec Ideal S1024x2048 .f32) (x1 : FVec Ideal S1x2048 .f32) (x2 : FVec Ideal S1x2048x512 .bf16) (x3 : FVec Ideal S1x512x2048 .bf16) (x4 : FVec Ideal S1x2048 .f32) (xo : FVec Ideal S1024x2048 .f32) (xs : FVec Ideal S1024x2048 .bf16) (y : S1024x2048.Idx) :
    out0_C_5 (F := Ideal) c i a2 h2 a3 h3 a4 h4 a5 h5 a6 h6 a7 h7 a8 h8 hc0 hc1 hc2 x0 x1 x2 x3 x4 xo xs y =
      finB xo xs x2 x3 x4 y := by
  frame_open
  simp (disch := decide) only [↓ View.readCov_skip, ↓ View.readCov_cons_toLoadRect, ↓ View.readCov_fill]
  frame_out
  refine View.canon_append_of_piecesOf (Val := Elt Ideal) (e := .f32) (finB xo xs x2 x3 x4) [_] [_, _, _, _] ⟨?_, ?_, ?_, ?_, trivial⟩ y ?_
  · intro x
    idx_vars x
    refine Eq.trans ?_ (congrArg (finB xo xs x2 x3 x4) (emb_rows 768 _ x0 x1 (by omega))).symm
    pointwise [k0_pay3, k0_pay1, finB, tileB, rs]
  · intro x
    idx_vars x
    refine Eq.trans ?_ (congrArg (finB xo xs x2 x3 x4) (emb_rows 512 _ x0 x1 (by omega))).symm
    pointwise [k0_pay2, k0_pay12, k0_pay1, finB, tileB, rs]
  · intro x
    idx_vars x
    refine Eq.trans ?_ (congrArg (finB xo xs x2 x3 x4) (emb_rows 256 _ x0 x1 (by omega))).symm
    pointwise [k0_pay11, k0_pay1, finB, tileB, rs]
  · intro x
    idx_vars x
    refine Eq.trans ?_ (congrArg (finB xo xs x2 x3 x4) (emb_rows 0 _ x0 x1 (by omega))).symm
    pointwise [k0_pay10, k0_pay1, finB, tileB, rs]
  exact View.cover_of_tiledL _ ![256, 2048] (by rfl) y

end Cert.MlpIdeal.Body
end
-- ==== Proof.MlpRead.lean ====
module

public import proofs.«01_k».proof.Proof.MlpBody
public import proofs.«01_k».proof.Proof.Gen.MlpIdeal.Value
public import Idealize.ShloMosaic.Lib.Pipeline.ValueKit
public import Idealize.ShloMosaic.Lib.Pipeline.ReadBack
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.MlpIdeal.Body

open Cert.MlpIdeal Cert.MlpIdeal.Gen

variable (m : (ℓ : Loc nD τ sig) → Buf (Elt Ideal) ℓ)

/-- Which block each window holds at a point. -/
theorem idx : ∀ t : Fin cfg0.N, win0_0.index t = ![t.val / 16, 0] ∧ win0_1.index t = ![0, 0] ∧ win0_2.index t = ![1, 0, t.val % 16]
    ∧ win0_3.index t = ![1, t.val % 16, 0] ∧ win0_4.index t = ![0, 0] := by decide +kernel

theorem tlt (t : Fin cfg0.N) : t.val < 256 := lt_of_lt_of_eq t.isLt N_0

/-- The block of rows. -/
theorem read0 (c : Dev nD) (t : Fin cfg0.N) (r : Fin 1024) (l : Fin 2048) (hb hs) :
    (iblk m c 0 t : FVec Ideal S1024x2048 .f32) (ix2 r l) = (m ((c.tc : Thread nD τ).loc main_arg0) : FVec Ideal S2x8192x2048 .f32) (ix3 ⟨(t.val / 16 * 1024 + r.val) / 8192, hb⟩ ⟨(t.val / 16 * 1024 + r.val) % 8192, hs⟩ l) := by
  blk_ext! [iblk, V, idx t]

/-- The weights of the first normalisation. -/
theorem read1 (c : Dev nD) (t : Fin cfg0.N) (l : Fin 2048) :
    (iblk m c 1 t : FVec Ideal S1x2048 .f32) (ix2 0 l) = (m ((c.tc : Thread nD τ).loc main_arg1) : FVec Ideal S2x2048 .f32) (ix2 1 l) := by
  blk_ext! [iblk, V, idx t]

/-- A block of columns of the first projection. -/
theorem read2 (c : Dev nD) (t : Fin cfg0.N) (d : Fin 2048) (x : Fin 512) (hx) :
    (iblk m c 2 t : FVec Ideal S1x2048x512 .bf16) (ix3 0 d x) = (m ((c.tc : Thread nD τ).loc main_arg2) : FVec Ideal S2x2048x8192 .f32) (ix3 1 d ⟨512 * (t.val % 16) + x.val, hx⟩) := by
  blk_ext [iblk, V, idx t]

/-- A block of rows of the second projection. -/
theorem read3 (c : Dev nD) (t : Fin cfg0.N) (x : Fin 512) (l : Fin 2048) (hx) :
    (iblk m c 3 t : FVec Ideal S1x512x2048 .bf16) (ix3 0 x l) = (m ((c.tc : Thread nD τ).loc main_arg3) : FVec Ideal S2x8192x2048 .f32) (ix3 1 ⟨512 * (t.val % 16) + x.val, hx⟩ l) := by
  blk_ext [iblk, V, idx t]

/-- The weights of the last normalisation. -/
theorem read4 (c : Dev nD) (t : Fin cfg0.N) (l : Fin 2048) :
    (iblk m c 4 t : FVec Ideal S1x2048 .f32) (ix2 0 l) = (m ((c.tc : Thread nD τ).loc main_arg4) : FVec Ideal S2048 .f32) (ix1 l) := by
  blk_ext! [iblk, V, idx t]

end Cert.MlpIdeal.Body
end
-- ==== Proof.MlpFold.lean ====
module

public import proofs.«01_k».proof.Proof.MlpRead
public import proofs.«01_k».proof.Proof.Gen.MlpIdeal.Value
public import Idealize.ShloMosaic.Lib.Pipeline.ValueKit
public import Idealize.ShloMosaic.Lib.Pipeline.ReadBack
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.MlpIdeal.Body

open Cert.MlpIdeal Cert.MlpIdeal.Gen Cert.MlpIdeal.Value

/-! The five arrays' mathematics, one row of the flattened activations at a time. -/

section Rows

variable (a0 : FVec Ideal S2x8192x2048 .f32) (a1 : FVec Ideal S2x2048 .f32) (a2 : FVec Ideal S2x2048x8192 .f32)
  (a3 : FVec Ideal S2x8192x2048 .f32) (a4 : FVec Ideal S2048 .f32)

/-- Row `n` of the activations. -/
def X (n : Fin 16384) (l : Fin 2048) : EReal := a0 (ix3 ⟨n.val / 8192, by omega⟩ ⟨n.val % 8192, by omega⟩ l)

/-- Row `n`, normalised and weighted. -/
def XN (n : Fin 16384) (l : Fin 2048) : EReal := X a0 n l * rs (X a0 n) * a1 (ix2 1 l)

/-- Hidden unit `k` of row `n`, after the activation's clamp. -/
def U (n : Fin 16384) (k : Fin 8192) : EReal := max (∑ d, XN a0 a1 n d * a2 (ix3 1 d k)) 0

/-- What hidden unit `k` adds to entry `l` of row `n`. -/
def D (n : Fin 16384) (l : Fin 2048) (k : Fin 8192) : EReal := U a0 a1 a2 n k * U a0 a1 a2 n k * a3 (ix3 1 k l)

/-- Row `n` of the residual stream after the feed-forward block. -/
def Mid (n : Fin 16384) (l : Fin 2048) : EReal := X a0 n l + ∑ k, D a0 a1 a2 a3 n l k

/-- Row `n` of the result. -/
def Res (n : Fin 16384) (l : Fin 2048) : EReal := Mid a0 a1 a2 a3 n l * rs (Mid a0 a1 a2 a3 n) * a4 (ix1 l)

/-- `D` over all numbers, zero past the last hidden unit. -/
def Dn (n : Fin 16384) (l : Fin 2048) (k : ℕ) : EReal := if h : k < 8192 then D a0 a1 a2 a3 n l ⟨k, h⟩ else 0

/-- The sixteen stretches of 512 hidden units are all of them. -/
theorem sum_D (n : Fin 16384) (l : Fin 2048) :
    ∑ s ∈ Finset.range 16, ∑ x : Fin 512, Dn a0 a1 a2 a3 n l (s * 512 + x.val) = ∑ k, D a0 a1 a2 a3 n l k := by
  rw [← Fin.sum_univ_eq_sum_range (fun s => ∑ x : Fin 512, Dn a0 a1 a2 a3 n l (s * 512 + x.val)),
    Fin.sum_univ_univ_mul_add 16 512 (Dn a0 a1 a2 a3 n l)]
  exact Finset.sum_congr rfl fun k _ => dif_pos k.isLt

end Rows

variable (m : (ℓ : Loc nD τ sig) → Buf (Elt Ideal) ℓ) (c : Dev nD)

theorem xnB_at (x0 : FVec Ideal S1024x2048 .f32) (x1 : FVec Ideal S1x2048 .f32) (r : Fin 1024) (l : Fin 2048) :
    xnB x0 x1 (ix2 r l) = x0 (ix2 r l) * rs (fun d => x0 (ix2 r d)) * x1 (ix2 0 l) := rfl

theorem finB_at (xo : FVec Ideal S1024x2048 .f32) (xs : FVec Ideal S1024x2048 .bf16) (x2 : FVec Ideal S1x2048x512 .bf16) (x3 : FVec Ideal S1x512x2048 .bf16) (x4 : FVec Ideal S1x2048 .f32) (r : Fin 1024) (l : Fin 2048) :
    finB xo xs x2 x3 x4 (ix2 r l) = (xo (ix2 r l) + tileB xs x2 x3 r l) * rs (fun d => xo (ix2 r d) + tileB xs x2 x3 r d) * x4 (ix2 0 l) := rfl

/-- A row of the block at a point is a row of the activations. -/
theorem rowX (t : Fin cfg0.N) (n : Fin 16384) (r : Fin 1024) (l : Fin 2048) (hn : n.val = t.val / 16 * 1024 + r.val) :
    (iblk m c 0 t : FVec Ideal S1024x2048 .f32) (ix2 r l) = X (m ((c.tc : Thread nD τ).loc main_arg0)) n l := by
  have ht := tlt t
  have e : n = ⟨t.val / 16 * 1024 + r.val, by omega⟩ := Fin.ext hn
  rw [e]
  exact read0 m c t r l _ _

theorem rowXN (t : Fin cfg0.N) (n : Fin 16384) (r : Fin 1024) (l : Fin 2048) (hn : n.val = t.val / 16 * 1024 + r.val) :
    xnB (iblk m c 0 t) (iblk m c 1 t) (ix2 r l) = XN (m ((c.tc : Thread nD τ).loc main_arg0)) (m ((c.tc : Thread nD τ).loc main_arg1)) n l := by
  have e : (fun d => (iblk m c 0 t : FVec Ideal S1024x2048 .f32) (ix2 r d)) = X (m ((c.tc : Thread nD τ).loc main_arg0)) n := funext fun d => rowX m c t n r d hn
  refine (xnB_at _ _ r l).trans ?_
  rw [e, rowX m c t n r l hn, read1]
  rfl

/-- What a point adds, as the stretch of hidden units it stands for. -/
theorem tile_eq (t : Fin cfg0.N) (n : Fin 16384) (xn : FVec Ideal S1024x2048 .bf16) (r : Fin 1024) (l : Fin 2048)
    (hx : ∀ d, xn (ix2 r d) = XN (m ((c.tc : Thread nD τ).loc main_arg0)) (m ((c.tc : Thread nD τ).loc main_arg1)) n d) :
    tileB xn (iblk m c 2 t) (iblk m c 3 t) r l = ∑ x : Fin 512, Dn (m ((c.tc : Thread nD τ).loc main_arg0)) (m ((c.tc : Thread nD τ).loc main_arg1)) (m ((c.tc : Thread nD τ).loc main_arg2)) (m ((c.tc : Thread nD τ).loc main_arg3)) n l (t.val % 16 * 512 + x.val) := by
  unfold tileB
  refine Finset.sum_congr rfl fun x _ => ?_
  have hk : 512 * (t.val % 16) + x.val < 8192 := by omega
  have hk' : t.val % 16 * 512 + x.val < 8192 := by omega
  rw [read3 m c t x l hk]
  simp only [hx, read2 m c t _ x hk, Dn, dif_pos hk', D, U, Nat.mul_comm 512]

/-- After point `16 q + j` of a run, short of its last: the held rows are the normalised ones, and the result's block is
    the activations plus what the first `j + 1` stretches of hidden units add. -/
theorem fold (q : ℕ) (hq : q < 16) : ∀ (j : ℕ) (hj : j ≤ 14) (h : 16 * q + j < cfg0.N) (n : Fin 16384) (r : Fin 1024)
    (hn : n.val = q * 1024 + r.val),
    (∀ l : Fin 2048, ((outsAt0 m c (16 * q + j) h).2 : FVec Ideal S1024x2048 .bf16) (ix2 r l) = XN (m ((c.tc : Thread nD τ).loc main_arg0)) (m ((c.tc : Thread nD τ).loc main_arg1)) n l)
    ∧ (∀ l : Fin 2048, ((outsAt0 m c (16 * q + j) h).1 : FVec Ideal S1024x2048 .f32) (ix2 r l) = X (m ((c.tc : Thread nD τ).loc main_arg0)) n l + ∑ s ∈ Finset.range (j + 1), ∑ x : Fin 512, Dn (m ((c.tc : Thread nD τ).loc main_arg0)) (m ((c.tc : Thread nD τ).loc main_arg1)) (m ((c.tc : Thread nD τ).loc main_arg2)) (m ((c.tc : Thread nD τ).loc main_arg3)) n l (s * 512 + x.val))
  | 0, hj, h, n, r, hn => by
    have hr : n.val = (⟨16 * q + 0, h⟩ : Fin cfg0.N).val / 16 * 1024 + r.val := by dsimp only; omega
    have hx := fun d => rowXN m c ⟨16 * q + 0, h⟩ n r d hr
    rw [outsAt0_A m c ⟨16 * q + 0, h⟩ (by dsimp only; omega) (by dsimp only; omega) (by dsimp only; omega)]
    constructor
    · intro l
      dsimp only
      rw [sA]
      exact hx l
    · intro l
      dsimp only
      rw [oA]
      refine congrArg₂ (· + ·) (rowX m c ⟨16 * q + 0, h⟩ n r l hr) ?_
      refine (tile_eq m c ⟨16 * q + 0, h⟩ n _ r l hx).trans ?_
      rw [Finset.sum_range_one]
      refine Finset.sum_congr rfl fun x _ => congrArg _ ?_
      dsimp only; omega
  | j + 1, hj, h, n, r, hn => by
    obtain ⟨ihs, iho⟩ := fold q hq j (by omega) (by omega) n r hn
    have e := outsAt0_succ m c (16 * q + j) h
    rw [stAt0_B m c ⟨16 * q + j + 1, h⟩ _ (by dsimp only; omega) (by dsimp only; omega) (by dsimp only; omega)] at e
    rw [show outsAt0 m c (16 * q + (j + 1)) h = outsAt0 m c (16 * q + j + 1) h from rfl, e]
    constructor
    · intro l
      exact ihs l
    · intro l
      dsimp only
      rw [oB, iho, tile_eq m c ⟨16 * q + j + 1, h⟩ n _ r l ihs, Finset.sum_range_succ _ (j + 1), add_assoc]
      refine congrArg _ (congrArg _ (Finset.sum_congr rfl fun x _ => congrArg _ ?_))
      dsimp only; omega

/-- After the last point of a run: the finished rows. -/
theorem last (q : ℕ) (hq : q < 16) (h : 16 * q + 15 < cfg0.N) (n : Fin 16384) (r : Fin 1024) (l : Fin 2048)
    (hn : n.val = q * 1024 + r.val) :
    ((outsAt0 m c (16 * q + 15) h).1 : FVec Ideal S1024x2048 .f32) (ix2 r l) = Res (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) n l := by
  obtain ⟨ihs, iho⟩ := fold m c q hq 14 (by omega) (by omega) n r hn
  have e := outsAt0_succ m c (16 * q + 14) h
  rw [stAt0_C m c ⟨16 * q + 14 + 1, h⟩ _ (by dsimp only; omega) (by dsimp only; omega) (by dsimp only; omega)] at e
  rw [show outsAt0 m c (16 * q + 15) h = outsAt0 m c (16 * q + 14 + 1) h from rfl, e]
  dsimp only
  rw [oC]
  have k : ∀ d : Fin 2048, ((outsAt0 m c (16 * q + 14) (by omega)).1 : FVec Ideal S1024x2048 .f32) (ix2 r d)
      + tileB (outsAt0 m c (16 * q + 14) (by omega)).2 (iblk m c 2 ⟨16 * q + 14 + 1, h⟩) (iblk m c 3 ⟨16 * q + 14 + 1, h⟩) r d = Mid (m ((c.tc : Thread nD τ).loc main_arg0)) (m ((c.tc : Thread nD τ).loc main_arg1)) (m ((c.tc : Thread nD τ).loc main_arg2)) (m ((c.tc : Thread nD τ).loc main_arg3)) n d := by
    intro d
    rw [iho, tile_eq m c ⟨16 * q + 14 + 1, h⟩ n _ r d ihs, Mid, ← sum_D, Finset.sum_range_succ _ 15, add_assoc]
    refine congrArg _ (congrArg _ (Finset.sum_congr rfl fun x _ => congrArg _ ?_))
    dsimp only; omega
  rw [finB_at]
  rw [funext k, k l]
  exact congrArg _ (read4 m c _ l)

/-- The result array, an entry at a time. -/
theorem G5_apply (n : Fin 16384) (l : Fin 2048) : (G5 m c : FVec Ideal S16384x2048 .f32) (ix2 n l) = Res (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) n l := by
  have hp : pt5Of (ix2 n l) = 16 * (n.val / 1024) + 15 := by
    show 16 * (1 * (n.val / 1024 - 0) + 1 * (l.val / 2048 - 0)) + 15 = _
    omega
  have hN : 16 * (n.val / 1024) + 15 < cfg0.N := lt_of_lt_of_eq (by omega) N_0.symm
  have hl : loc5Of (ix2 n l) = ix2 ⟨n.val % 1024, by omega⟩ l := by
    funext a
    match a with
    | ⟨0, _⟩ => rfl
    | ⟨1, _⟩ => exact Fin.ext (Nat.mod_eq_of_lt l.isLt)
  unfold G5
  rw [dif_pos (by rw [hp]; exact hN), fold0_congr m c _ _ _ (by omega) hp, ← outsAt0_sweep m c _ hN]
  refine (congrArg _ hl).trans ?_
  exact last m c _ (by omega) hN n _ l (by dsimp only; omega)

end Cert.MlpIdeal.Body
end
-- ==== Proof.MlpRef.lean ====
module

public import proofs.«01_k».proof.Proof.MlpFold
public import proofs.«01_k».proof.Proof.Gen.MlpReferenceIdeal.Run
public import proofs.«01_k».proof.Proof.Gen.MlpIdeal.Value
public import Idealize.ShloMosaic.Lib.Pipeline.ValueKit
public import Idealize.ShloMosaic.Lib.Pipeline.ReadBack
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.MlpReferenceIdeal.Body

open Cert.MlpReferenceIdeal Cert.MlpReferenceIdeal.Gen

/-- The root-mean-square normalisation of every row, as the reference spells it, with the weight already spread over the rows. -/
def hrms (h g : FVec Ideal S2x8192x2048 .f32) : FVec Ideal S2x8192x2048 .f32 :=
  mulf (mulf h (broadcastInDim S2x8192x2048 ![0, 1, 2] bcast_S2x8192x1_S2x8192x2048_0_1_2 (Host.rsqrt (addf (Host.divf (broadcastInDim S2x8192x1 ![0, 1] bcast_S2x8192_S2x8192x1_0_1 (Host.reduceAdd (mulf h h) (constant S_ .f32 0x00000000#32) reducesTo_S2x8192x2048_S2x8192_d2 h_S_)) (broadcastInDim S2x8192x1 ![] bcast_S_S2x8192x1 (constant S_ .f32 0x45000000#32))) (broadcastInDim S2x8192x1 ![] bcast_S_S2x8192x1 (constant S_ .f32 0x358637BD#32)))))) g

/-- The hidden units before the activation. -/
def hup (xn : FVec Ideal S2x8192x2048 .f32) (wu : FVec Ideal S2x2048x8192 .f32) : FVec Ideal S2x8192x8192 .f32 :=
  maximumf (Host.dotGeneral dot_S2x8192x2048_S2048x8192_S2x8192x8192_2_0_01_1_n_n none xn (shapeCast _ (extractStridedSlice S1x2048x8192 ![1, 0, 0] wu slices_S2x2048x8192_S1x2048x8192_1_0_0) shapeCasts_S1x2048x8192_S2048x8192)) (broadcastInDim S2x8192x8192 ![] bcast_S_S2x8192x8192 (constant S_ .f32 0x00000000#32))

/-- The residual stream after the feed-forward block. -/
def hmid (x : FVec Ideal S2x8192x2048 .f32) (u : FVec Ideal S2x8192x8192 .f32) (wd : FVec Ideal S2x8192x2048 .f32) : FVec Ideal S2x8192x2048 .f32 :=
  addf x (Host.dotGeneral dot_S2x8192x8192_S8192x2048_S2x8192x2048_2_0_01_1_n_n none (mulf u u) (shapeCast _ (extractStridedSlice S1x8192x2048 ![1, 0, 0] wd slices_S2x8192x2048_S1x8192x2048_1_0_0) shapeCasts_S1x8192x2048_S8192x2048))

def hg (g : FVec Ideal S2x2048 .f32) : FVec Ideal S2x8192x2048 .f32 :=
  broadcastInDim S2x8192x2048 ![0, 1, 2] bcast_S1x1x2048_S2x8192x2048_0_1_2 (broadcastInDim S1x1x2048 ![2] bcast_S2048_S1x1x2048_2 (shapeCast _ (extractStridedSlice S1x2048 ![1, 0] g slices_S2x2048_S1x2048_1_0) shapeCasts_S1x2048_S2048))

def hgf (g : FVec Ideal S2048 .f32) : FVec Ideal S2x8192x2048 .f32 :=
  broadcastInDim S2x8192x2048 ![0, 1, 2] bcast_S1x1x2048_S2x8192x2048_0_1_2 (broadcastInDim S1x1x2048 ![2] bcast_S2048_S1x1x2048_2 g)

def hres (a0 : FVec Ideal S2x8192x2048 .f32) (a1 : FVec Ideal S2x2048 .f32) (a2 : FVec Ideal S2x2048x8192 .f32) (a3 : FVec Ideal S2x8192x2048 .f32) (a4 : FVec Ideal S2048 .f32) : FVec Ideal S16384x2048 .f32 :=
  shapeCast _ (hrms (hmid a0 (hup (hrms a0 (hg a1)) a2) a3) (hgf a4)) shapeCasts_S2x8192x2048_S16384x2048

theorem res_eq (m : (ℓ : Loc nD τ sig) → Buf (Elt Ideal) ℓ) (c : Dev nD) : Value.res_main_v37 (F := Ideal) m c
    = hres (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl

open Cert.MlpIdeal.Body in
/-- The reference's result, an entry at a time. -/
theorem res_apply (a0 : FVec Ideal S2x8192x2048 .f32) (a1 : FVec Ideal S2x2048 .f32) (a2 : FVec Ideal S2x2048x8192 .f32)
    (a3 : FVec Ideal S2x8192x2048 .f32) (a4 : FVec Ideal S2048 .f32) (n : Fin 16384) (l : Fin 2048) :
    hres a0 a1 a2 a3 a4 (ix2 n l) = Res a0 a1 a2 a3 a4 n l := by
  have hx : ∀ k : Fin 2048, hrms a0 (hg a1) (ix3 ⟨n.val / 8192, by omega⟩ ⟨n.val % 8192, by omega⟩ k) = XN a0 a1 n k := by
    intro k
    pointwise [hrms, hg, XN, X, rs]
  have hu : ∀ k : Fin 8192, hup (hrms a0 (hg a1)) a2 (ix3 ⟨n.val / 8192, by omega⟩ ⟨n.val % 8192, by omega⟩ k) = U a0 a1 a2 n k := by
    intro k
    unfold U
    simp only [← hx]
    generalize hrms a0 (hg a1) = h
    pointwise [hup]
  have hm : ∀ k : Fin 2048, hmid a0 (hup (hrms a0 (hg a1)) a2) a3 (ix3 ⟨n.val / 8192, by omega⟩ ⟨n.val % 8192, by omega⟩ k) = Mid a0 a1 a2 a3 n k := by
    intro k
    unfold Mid D
    simp only [← hu]
    generalize hup (hrms a0 (hg a1)) a2 = h
    pointwise [hmid, X]
  unfold Res rs
  simp only [← hm]
  unfold hres
  generalize hmid a0 (hup (hrms a0 (hg a1)) a2) a3 = h
  pointwise [hrms, hgf]

end Cert.MlpReferenceIdeal.Body
end
-- ==== Proof.MlpFirst.lean ====
module

public import proofs.«01_k».proof.Proof.Gen.MlpFirstReferenceIdeal.Run
public import proofs.«01_k».proof.Proof.Gen.MlpFirstIdeal.Value
public import Idealize.ShloMosaic.Lib.Pipeline.ValueKit
public import Idealize.ShloMosaic.Lib.Pipeline.ReadBack
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.MlpFirstIdeal.Body

open Cert.MlpFirstIdeal Cert.MlpFirstIdeal.Gen

/-- One over the root of a row's mean square, with the small constant under the root. -/
def rs (v : Fin 2048 → EReal) : EReal :=
  Ideal.rsqrt (Ideal.div (∑ x, v x * v x) (Ideal.ofBits FTy.f32 1157627904#32) + Ideal.ofBits FTy.f32 897988541#32)

/-- The normalised rows of a block, weighted. -/
def xnB (x0 : FVec Ideal S1024x2048 .f32) (x1 : FVec Ideal S1x2048 .f32) : FVec Ideal S1024x2048 .bf16 :=
  fun y => x0 (ix2 (y 0) (y 1)) * rs (fun d => x0 (ix2 (y 0) d)) * x1 (ix2 0 (y 1))

/-- What 512 hidden units add to a row. -/
def tileB (xn : FVec Ideal S1024x2048 .bf16) (x2 : FVec Ideal S1x2048x512 .bf16) (x3 : FVec Ideal S1x512x2048 .bf16)
    (r : Fin 1024) (l : Fin 2048) : EReal :=
  ∑ x, max (∑ d, xn (ix2 r d) * x2 (ix3 0 d x)) 0 * max (∑ d, xn (ix2 r d) * x2 (ix3 0 d x)) 0 * x3 (ix3 0 x l)

/-- Where a band of 256 whole rows from row `o` puts its element. -/
theorem emb_rows (o : ℕ) (inb) (a : Fin 256) (b : Fin 2048) (ho : o + a.val < 1024) :
    (Rect.unit (s := S1024x2048) ![o, 0] ![256, 2048] inb).emb (ix2 a b) = ix2 ⟨o + a.val, ho⟩ b := by
  funext k
  apply Fin.ext
  match k with
  | ⟨0, _⟩ => show o + 1 * a.val = o + a.val; omega
  | ⟨1, _⟩ => show 0 + 1 * b.val = b.val; omega

theorem sA (c : Dev nD) (i : grid0.Coords) (a2 : Memref sig .tc .vmem S1024x2048 .f32) (h2 : a2.IsWhole) (a3 : Memref sig .tc .vmem S1x2048 .f32) (h3 : a3.IsWhole) (a4 : Memref sig .tc .vmem S1x2048x512 .bf16) (h4 : a4.IsWhole) (a5 : Memref sig .tc .vmem S1x512x2048 .bf16) (h5 : a5.IsWhole) (a6 : Memref sig .tc .vmem S1x2048 .f32) (h6 : a6.IsWhole) (a7 : Memref sig .tc .vmem S1024x2048 .f32) (h7 : a7.IsWhole) (a8 : Memref sig .tc .vmem S1024x2048 .bf16) (h8 : a8.IsWhole) (hc0 : cond0_0 i) (hc1 : ¬cond0_1 i)
    (x0 : FVec Ideal S1024x2048 .f32) (x1 : FVec Ideal S1x2048 .f32) (x2 : FVec Ideal S1x2048x512 .bf16) (x3 : FVec Ideal S1x512x2048 .bf16) (x4 : FVec Ideal S1x2048 .f32) :
    sout0_A_0 (F := Ideal) c i a2 h2 a3 h3 a4 h4 a5 h5 a6 h6 a7 h7 a8 h8 hc0 hc1 x0 x1 x2 x3 x4 = xnB x0 x1 := by
  funext y
  frame_out
  canon_tiles x h
  all_goals
    idx_vars x
    idx_vars y
    have e0 : ∃ hb, y0 = ⟨_, hb⟩ := ⟨lt_of_eq_of_lt h0.symm y0.isLt, Fin.ext h0⟩
    obtain ⟨hb, rfl⟩ := e0
    obtain rfl : y1 = x1 := Fin.ext h1
  · pointwise [k0_pay6, xnB, rs]
  · pointwise [k0_pay5, xnB, rs]
  · pointwise [k0_pay3, xnB, rs]
  · pointwise [k0_pay2, xnB, rs]

/-- The same rows as a list of stores: the first two stores already hold the first 512 rows. -/
theorem oA (c : Dev nD) (i : grid0.Coords) (a2 : Memref sig .tc .vmem S1024x2048 .f32) (h2 : a2.IsWhole) (a3 : Memref sig .tc .vmem S1x2048 .f32) (h3 : a3.IsWhole) (a4 : Memref sig .tc .vmem S1x2048x512 .bf16) (h4 : a4.IsWhole) (a5 : Memref sig .tc .vmem S1x512x2048 .bf16) (h5 : a5.IsWhole) (a6 : Memref sig .tc .vmem S1x2048 .f32) (h6 : a6.IsWhole) (a7 : Memref sig .tc .vmem S1024x2048 .f32) (h7 : a7.IsWhole) (a8 : Memref sig .tc .vmem S1024x2048 .bf16) (h8 : a8.IsWhole) (hc0 : cond0_0 i) (hc1 : ¬cond0_1 i)
    (x0 : FVec Ideal S1024x2048 .f32) (x1 : FVec Ideal S1x2048 .f32) (x2 : FVec Ideal S1x2048x512 .bf16) (x3 : FVec Ideal S1x512x2048 .bf16) (x4 : FVec Ideal S1x2048 .f32) (y : S1024x2048.Idx) :
    out0_A_5 (F := Ideal) c i a2 h2 a3 h3 a4 h4 a5 h5 a6 h6 a7 h7 a8 h8 hc0 hc1 x0 x1 x2 x3 x4 y = x0 y + tileB (xnB x0 x1) x2 x3 (y 0) (y 1) := by
  have h4 : View.canon (Val := Elt Ideal) (e := .bf16) [⟨Rect.unit (s := S1024x2048) ![768, 0] ![256, 2048] inb_S1024x2048_S256x2048_768_0,
            k0_pay6 (F := Ideal) (View.ld x0 (Rect.unit (s := S1024x2048) ![768, 0] ![256, 2048] inb_S1024x2048_S256x2048_768_0)) x1⟩,
          ⟨Rect.unit (s := S1024x2048) ![512, 0] ![256, 2048] inb_S1024x2048_S256x2048_512_0,
            k0_pay5 (F := Ideal) (View.ld x0 (Rect.unit (s := S1024x2048) ![512, 0] ![256, 2048] inb_S1024x2048_S256x2048_512_0)) x1⟩,
          ⟨Rect.unit (s := S1024x2048) ![256, 0] ![256, 2048] inb_S1024x2048_S256x2048_256_0,
            k0_pay3 (F := Ideal) (View.ld x0 (Rect.unit (s := S1024x2048) ![256, 0] ![256, 2048] inb_S1024x2048_S256x2048_256_0)) x1⟩,
          ⟨Rect.unit (s := S1024x2048) ![0, 0] ![256, 2048] inb_S1024x2048_S256x2048_0_0,
            k0_pay2 (F := Ideal) (View.ld x0 (Rect.unit (s := S1024x2048) ![0, 0] ![256, 2048] inb_S1024x2048_S256x2048_0_0)) x1⟩] = xnB x0 x1 := by
    have := sA c i a2 h2 a3 h3 a4 h4 a5 h5 a6 h6 a7 h7 a8 h8 hc0 hc1 x0 x1 x2 x3 x4
    rw [← this]
    funext z
    frame_out
  have h2 : ∀ v : View sig .tc .vmem S1024x2048 .bf16, v.readCov (Val := Elt Ideal) [⟨Rect.unit (s := S1024x2048) ![256, 0] ![256, 2048] inb_S1024x2048_S256x2048_256_0,
            k0_pay3 (F := Ideal) (View.ld x0 (Rect.unit (s := S1024x2048) ![256, 0] ![256, 2048] inb_S1024x2048_S256x2048_256_0)) x1⟩,
          ⟨Rect.unit (s := S1024x2048) ![0, 0] ![256, 2048] inb_S1024x2048_S256x2048_0_0,
            k0_pay2 (F := Ideal) (View.ld x0 (Rect.unit (s := S1024x2048) ![0, 0] ![256, 2048] inb_S1024x2048_S256x2048_0_0)) x1⟩] (Rect.unit ![0, 0] ![512, 2048] inb_S1024x2048_S512x2048_0_0).toLoadRect
        = fun j => xnB x0 x1 ((Rect.unit (s := S1024x2048) ![0, 0] ![512, 2048] inb_S1024x2048_S512x2048_0_0).toLoadRect.idx j) := by
    intro v
    rw [← h4]
    refine Eq.trans ?_ (View.readCov_eq_canon' v _ _)
    simp (disch := decide) only [↓ View.readCov_skip]
  frame_out
  rw [h2, View.readCov_eq_canon', h4]
  canon_tiles x h
  all_goals
    idx_vars x
    idx_vars y
    have e0 : ∃ hb, y0 = ⟨_, hb⟩ := ⟨lt_of_eq_of_lt h0.symm y0.isLt, Fin.ext h0⟩
    obtain ⟨hb, rfl⟩ := e0
    obtain rfl : y1 = x1 := Fin.ext h1
  · pointwise [k0_pay7, tileB]
  · pointwise [k0_pay4, tileB]

theorem oB (c : Dev nD) (i : grid0.Coords) (a2 : Memref sig .tc .vmem S1024x2048 .f32) (h2 : a2.IsWhole) (a3 : Memref sig .tc .vmem S1x2048 .f32) (h3 : a3.IsWhole) (a4 : Memref sig .tc .vmem S1x2048x512 .bf16) (h4 : a4.IsWhole) (a5 : Memref sig .tc .vmem S1x512x2048 .bf16) (h5 : a5.IsWhole) (a6 : Memref sig .tc .vmem S1x2048 .f32) (h6 : a6.IsWhole) (a7 : Memref sig .tc .vmem S1024x2048 .f32) (h7 : a7.IsWhole) (a8 : Memref sig .tc .vmem S1024x2048 .bf16) (h8 : a8.IsWhole) (hc0 : ¬cond0_0 i) (hc1 : cond0_1 i)
    (x0 : FVec Ideal S1024x2048 .f32) (x1 : FVec Ideal S1x2048 .f32) (x2 : FVec Ideal S1x2048x512 .bf16) (x3 : FVec Ideal S1x512x2048 .bf16) (x4 : FVec Ideal S1x2048 .f32) (xo : FVec Ideal S1024x2048 .f32) (xs : FVec Ideal S1024x2048 .bf16) (r : Fin 1024) (l : Fin 2048) :
    out0_B_5 (F := Ideal) c i a2 h2 a3 h3 a4 h4 a5 h5 a6 h6 a7 h7 a8 h8 hc0 hc1 x0 x1 x2 x3 x4 xo xs (ix2 r l) = xo (ix2 r l) + tileB xs x2 x3 r l := by
  frame_out
  pointwise [k0_pay1, tileB]

end Cert.MlpFirstIdeal.Body

namespace Cert.MlpFirstIdeal.Body

open Cert.MlpFirstIdeal Cert.MlpFirstIdeal.Gen

variable (m : (ℓ : Loc nD τ sig) → Buf (Elt Ideal) ℓ)

/-- Which block each window holds at a point. -/
theorem idx : ∀ t : Fin cfg0.N, win0_0.index t = ![t.val / 16, 0] ∧ win0_1.index t = ![0, 0] ∧ win0_2.index t = ![0, 0, t.val % 16]
    ∧ win0_3.index t = ![0, t.val % 16, 0] ∧ win0_4.index t = ![0, 0] := by decide +kernel

theorem tlt (t : Fin cfg0.N) : t.val < 256 := lt_of_lt_of_eq t.isLt N_0

/-- The block of rows. -/
theorem read0 (c : Dev nD) (t : Fin cfg0.N) (r : Fin 1024) (l : Fin 2048) (hb hs) :
    (iblk m c 0 t : FVec Ideal S1024x2048 .f32) (ix2 r l) = (m ((c.tc : Thread nD τ).loc main_arg0) : FVec Ideal S2x8192x2048 .f32) (ix3 ⟨(t.val / 16 * 1024 + r.val) / 8192, hb⟩ ⟨(t.val / 16 * 1024 + r.val) % 8192, hs⟩ l) := by
  blk_ext! [iblk, V, idx t]

/-- The weights of the first normalisation. -/
theorem read1 (c : Dev nD) (t : Fin cfg0.N) (l : Fin 2048) :
    (iblk m c 1 t : FVec Ideal S1x2048 .f32) (ix2 0 l) = (m ((c.tc : Thread nD τ).loc main_arg1) : FVec Ideal S2x2048 .f32) (ix2 0 l) := by
  blk_ext! [iblk, V, idx t]

/-- A block of columns of the first projection. -/
theorem read2 (c : Dev nD) (t : Fin cfg0.N) (d : Fin 2048) (x : Fin 512) (hx) :
    (iblk m c 2 t : FVec Ideal S1x2048x512 .bf16) (ix3 0 d x) = (m ((c.tc : Thread nD τ).loc main_arg2) : FVec Ideal S2x2048x8192 .f32) (ix3 0 d ⟨512 * (t.val % 16) + x.val, hx⟩) := by
  blk_ext [iblk, V, idx t]

/-- A block of rows of the second projection. -/
theorem read3 (c : Dev nD) (t : Fin cfg0.N) (x : Fin 512) (l : Fin 2048) (hx) :
    (iblk m c 3 t : FVec Ideal S1x512x2048 .bf16) (ix3 0 x l) = (m ((c.tc : Thread nD τ).loc main_arg3) : FVec Ideal S2x8192x2048 .f32) (ix3 0 ⟨512 * (t.val % 16) + x.val, hx⟩ l) := by
  blk_ext [iblk, V, idx t]

end Cert.MlpFirstIdeal.Body

namespace Cert.MlpFirstIdeal.Body

open Cert.MlpFirstIdeal Cert.MlpFirstIdeal.Gen Cert.MlpFirstIdeal.Value

/-! The arrays' mathematics, one row of the flattened activations at a time. -/

section Rows

variable (a0 : FVec Ideal S2x8192x2048 .f32) (a1 : FVec Ideal S2x2048 .f32) (a2 : FVec Ideal S2x2048x8192 .f32)
  (a3 : FVec Ideal S2x8192x2048 .f32)

/-- Row `n` of the activations. -/
def X (n : Fin 16384) (l : Fin 2048) : EReal := a0 (ix3 ⟨n.val / 8192, by omega⟩ ⟨n.val % 8192, by omega⟩ l)

/-- Row `n`, normalised and weighted. -/
def XN (n : Fin 16384) (l : Fin 2048) : EReal := X a0 n l * rs (X a0 n) * a1 (ix2 0 l)

/-- Hidden unit `k` of row `n`, after the activation's clamp. -/
def U (n : Fin 16384) (k : Fin 8192) : EReal := max (∑ d, XN a0 a1 n d * a2 (ix3 0 d k)) 0

/-- What hidden unit `k` adds to entry `l` of row `n`. -/
def D (n : Fin 16384) (l : Fin 2048) (k : Fin 8192) : EReal := U a0 a1 a2 n k * U a0 a1 a2 n k * a3 (ix3 0 k l)

/-- Row `n` of the residual stream after the feed-forward block. -/
def Mid (n : Fin 16384) (l : Fin 2048) : EReal := X a0 n l + ∑ k, D a0 a1 a2 a3 n l k

/-- `D` over all numbers, zero past the last hidden unit. -/
def Dn (n : Fin 16384) (l : Fin 2048) (k : ℕ) : EReal := if h : k < 8192 then D a0 a1 a2 a3 n l ⟨k, h⟩ else 0

/-- The sixteen stretches of 512 hidden units are all of them. -/
theorem sum_D (n : Fin 16384) (l : Fin 2048) :
    ∑ s ∈ Finset.range 16, ∑ x : Fin 512, Dn a0 a1 a2 a3 n l (s * 512 + x.val) = ∑ k, D a0 a1 a2 a3 n l k := by
  rw [← Fin.sum_univ_eq_sum_range (fun s => ∑ x : Fin 512, Dn a0 a1 a2 a3 n l (s * 512 + x.val)),
    Fin.sum_univ_univ_mul_add 16 512 (Dn a0 a1 a2 a3 n l)]
  exact Finset.sum_congr rfl fun k _ => dif_pos k.isLt

end Rows

variable (m : (ℓ : Loc nD τ sig) → Buf (Elt Ideal) ℓ) (c : Dev nD)

theorem xnB_at (x0 : FVec Ideal S1024x2048 .f32) (x1 : FVec Ideal S1x2048 .f32) (r : Fin 1024) (l : Fin 2048) :
    xnB x0 x1 (ix2 r l) = x0 (ix2 r l) * rs (fun d => x0 (ix2 r d)) * x1 (ix2 0 l) := rfl

/-- A row of the block at a point is a row of the activations. -/
theorem rowX (t : Fin cfg0.N) (n : Fin 16384) (r : Fin 1024) (l : Fin 2048) (hn : n.val = t.val / 16 * 1024 + r.val) :
    (iblk m c 0 t : FVec Ideal S1024x2048 .f32) (ix2 r l) = X (m ((c.tc : Thread nD τ).loc main_arg0)) n l := by
  have ht := tlt t
  have e : n = ⟨t.val / 16 * 1024 + r.val, by omega⟩ := Fin.ext hn
  rw [e]
  exact read0 m c t r l _ _

theorem rowXN (t : Fin cfg0.N) (n : Fin 16384) (r : Fin 1024) (l : Fin 2048) (hn : n.val = t.val / 16 * 1024 + r.val) :
    xnB (iblk m c 0 t) (iblk m c 1 t) (ix2 r l) = XN (m ((c.tc : Thread nD τ).loc main_arg0)) (m ((c.tc : Thread nD τ).loc main_arg1)) n l := by
  have e : (fun d => (iblk m c 0 t : FVec Ideal S1024x2048 .f32) (ix2 r d)) = X (m ((c.tc : Thread nD τ).loc main_arg0)) n := funext fun d => rowX m c t n r d hn
  refine (xnB_at _ _ r l).trans ?_
  rw [e, rowX m c t n r l hn, read1]
  rfl

/-- What a point adds, as the stretch of hidden units it stands for. -/
theorem tile_eq (t : Fin cfg0.N) (n : Fin 16384) (xn : FVec Ideal S1024x2048 .bf16) (r : Fin 1024) (l : Fin 2048)
    (hx : ∀ d, xn (ix2 r d) = XN (m ((c.tc : Thread nD τ).loc main_arg0)) (m ((c.tc : Thread nD τ).loc main_arg1)) n d) :
    tileB xn (iblk m c 2 t) (iblk m c 3 t) r l = ∑ x : Fin 512, Dn (m ((c.tc : Thread nD τ).loc main_arg0)) (m ((c.tc : Thread nD τ).loc main_arg1)) (m ((c.tc : Thread nD τ).loc main_arg2)) (m ((c.tc : Thread nD τ).loc main_arg3)) n l (t.val % 16 * 512 + x.val) := by
  unfold tileB
  refine Finset.sum_congr rfl fun x _ => ?_
  have hk : 512 * (t.val % 16) + x.val < 8192 := by omega
  have hk' : t.val % 16 * 512 + x.val < 8192 := by omega
  rw [read3 m c t x l hk]
  simp only [hx, read2 m c t _ x hk, Dn, dif_pos hk', D, U, Nat.mul_comm 512]

/-- After point `16 q + j` of a run: the held rows are the normalised ones, and the result's block is
    the activations plus what the first `j + 1` stretches of hidden units add. -/
theorem fold (q : ℕ) (hq : q < 16) : ∀ (j : ℕ) (hj : j ≤ 15) (h : 16 * q + j < cfg0.N) (n : Fin 16384) (r : Fin 1024)
    (hn : n.val = q * 1024 + r.val),
    (∀ l : Fin 2048, ((outsAt0 m c (16 * q + j) h).2 : FVec Ideal S1024x2048 .bf16) (ix2 r l) = XN (m ((c.tc : Thread nD τ).loc main_arg0)) (m ((c.tc : Thread nD τ).loc main_arg1)) n l)
    ∧ (∀ l : Fin 2048, ((outsAt0 m c (16 * q + j) h).1 : FVec Ideal S1024x2048 .f32) (ix2 r l) = X (m ((c.tc : Thread nD τ).loc main_arg0)) n l + ∑ s ∈ Finset.range (j + 1), ∑ x : Fin 512, Dn (m ((c.tc : Thread nD τ).loc main_arg0)) (m ((c.tc : Thread nD τ).loc main_arg1)) (m ((c.tc : Thread nD τ).loc main_arg2)) (m ((c.tc : Thread nD τ).loc main_arg3)) n l (s * 512 + x.val))
  | 0, hj, h, n, r, hn => by
    have hr : n.val = (⟨16 * q + 0, h⟩ : Fin cfg0.N).val / 16 * 1024 + r.val := by dsimp only; omega
    have hx := fun d => rowXN m c ⟨16 * q + 0, h⟩ n r d hr
    rw [outsAt0_A m c ⟨16 * q + 0, h⟩ (by dsimp only; omega) (by dsimp only; omega)]
    constructor
    · intro l
      dsimp only
      rw [sA]
      exact hx l
    · intro l
      dsimp only
      rw [oA]
      refine congrArg₂ (· + ·) (rowX m c ⟨16 * q + 0, h⟩ n r l hr) ?_
      refine (tile_eq m c ⟨16 * q + 0, h⟩ n _ r l hx).trans ?_
      rw [Finset.sum_range_one]
      refine Finset.sum_congr rfl fun x _ => congrArg _ ?_
      dsimp only; omega
  | j + 1, hj, h, n, r, hn => by
    obtain ⟨ihs, iho⟩ := fold q hq j (by omega) (by omega) n r hn
    have e := outsAt0_succ m c (16 * q + j) h
    rw [stAt0_B m c ⟨16 * q + j + 1, h⟩ _ (by dsimp only; omega) (by dsimp only; omega)] at e
    rw [show outsAt0 m c (16 * q + (j + 1)) h = outsAt0 m c (16 * q + j + 1) h from rfl, e]
    constructor
    · intro l
      exact ihs l
    · intro l
      dsimp only
      rw [oB, iho, tile_eq m c ⟨16 * q + j + 1, h⟩ n _ r l ihs, Finset.sum_range_succ _ (j + 1), add_assoc]
      refine congrArg _ (congrArg _ (Finset.sum_congr rfl fun x _ => congrArg _ ?_))
      dsimp only; omega

/-- The result array, an entry at a time. -/
theorem G5_apply (n : Fin 16384) (l : Fin 2048) : (G5 m c : FVec Ideal S16384x2048 .f32) (ix2 n l) = Mid (m ((c.tc : Thread nD τ).loc main_arg0)) (m ((c.tc : Thread nD τ).loc main_arg1)) (m ((c.tc : Thread nD τ).loc main_arg2)) (m ((c.tc : Thread nD τ).loc main_arg3)) n l := by
  have hp : pt5Of (ix2 n l) = 16 * (n.val / 1024) + 15 := by
    show 16 * (1 * (n.val / 1024 - 0) + 1 * (l.val / 2048 - 0)) + 15 = _
    omega
  have hN : 16 * (n.val / 1024) + 15 < cfg0.N := lt_of_lt_of_eq (by omega) N_0.symm
  have hl : loc5Of (ix2 n l) = ix2 ⟨n.val % 1024, by omega⟩ l := by
    funext a
    match a with
    | ⟨0, _⟩ => rfl
    | ⟨1, _⟩ => exact Fin.ext (Nat.mod_eq_of_lt l.isLt)
  unfold G5
  rw [dif_pos (by rw [hp]; exact hN), fold0_congr m c _ _ _ (by omega) hp, ← outsAt0_sweep m c _ hN]
  refine (congrArg _ hl).trans ?_
  refine ((fold m c _ (by omega) 15 (by omega) hN n _ (by dsimp only; omega)).2 l).trans ?_
  rw [sum_D]
  rfl

end Cert.MlpFirstIdeal.Body

namespace Cert.MlpFirstReferenceIdeal.Body

open Cert.MlpFirstReferenceIdeal Cert.MlpFirstReferenceIdeal.Gen

/-- The root-mean-square normalisation of every row, as the reference spells it, with the weight already spread over the rows. -/
def hrms (h g : FVec Ideal S2x8192x2048 .f32) : FVec Ideal S2x8192x2048 .f32 :=
  mulf (mulf h (broadcastInDim S2x8192x2048 ![0, 1, 2] bcast_S2x8192x1_S2x8192x2048_0_1_2 (Host.rsqrt (addf (Host.divf (broadcastInDim S2x8192x1 ![0, 1] bcast_S2x8192_S2x8192x1_0_1 (Host.reduceAdd (mulf h h) (constant S_ .f32 0x00000000#32) reducesTo_S2x8192x2048_S2x8192_d2 h_S_)) (broadcastInDim S2x8192x1 ![] bcast_S_S2x8192x1 (constant S_ .f32 0x45000000#32))) (broadcastInDim S2x8192x1 ![] bcast_S_S2x8192x1 (constant S_ .f32 0x358637BD#32)))))) g

/-- The hidden units before the activation. -/
def hup (xn : FVec Ideal S2x8192x2048 .f32) (wu : FVec Ideal S2x2048x8192 .f32) : FVec Ideal S2x8192x8192 .f32 :=
  maximumf (Host.dotGeneral dot_S2x8192x2048_S2048x8192_S2x8192x8192_2_0_01_1_n_n none xn (shapeCast _ (extractStridedSlice S1x2048x8192 ![0, 0, 0] wu slices_S2x2048x8192_S1x2048x8192_0_0_0) shapeCasts_S1x2048x8192_S2048x8192)) (broadcastInDim S2x8192x8192 ![] bcast_S_S2x8192x8192 (constant S_ .f32 0x00000000#32))

/-- The residual stream after the feed-forward block. -/
def hmid (x : FVec Ideal S2x8192x2048 .f32) (u : FVec Ideal S2x8192x8192 .f32) (wd : FVec Ideal S2x8192x2048 .f32) : FVec Ideal S2x8192x2048 .f32 :=
  addf x (Host.dotGeneral dot_S2x8192x8192_S8192x2048_S2x8192x2048_2_0_01_1_n_n none (mulf u u) (shapeCast _ (extractStridedSlice S1x8192x2048 ![0, 0, 0] wd slices_S2x8192x2048_S1x8192x2048_0_0_0) shapeCasts_S1x8192x2048_S8192x2048))

def hg (g : FVec Ideal S2x2048 .f32) : FVec Ideal S2x8192x2048 .f32 :=
  broadcastInDim S2x8192x2048 ![0, 1, 2] bcast_S1x1x2048_S2x8192x2048_0_1_2 (broadcastInDim S1x1x2048 ![2] bcast_S2048_S1x1x2048_2 (shapeCast _ (extractStridedSlice S1x2048 ![0, 0] g slices_S2x2048_S1x2048_0_0) shapeCasts_S1x2048_S2048))

def hres (a0 : FVec Ideal S2x8192x2048 .f32) (a1 : FVec Ideal S2x2048 .f32) (a2 : FVec Ideal S2x2048x8192 .f32) (a3 : FVec Ideal S2x8192x2048 .f32) : FVec Ideal S16384x2048 .f32 :=
  shapeCast _ (hmid a0 (hup (hrms a0 (hg a1)) a2) a3) shapeCasts_S2x8192x2048_S16384x2048

open Cert.MlpFirstIdeal.Body in
/-- The reference's result, an entry at a time. -/
theorem res_apply (a0 : FVec Ideal S2x8192x2048 .f32) (a1 : FVec Ideal S2x2048 .f32) (a2 : FVec Ideal S2x2048x8192 .f32)
    (a3 : FVec Ideal S2x8192x2048 .f32) (n : Fin 16384) (l : Fin 2048) :
    hres a0 a1 a2 a3 (ix2 n l) = Mid a0 a1 a2 a3 n l := by
  have hx : ∀ k : Fin 2048, hrms a0 (hg a1) (ix3 ⟨n.val / 8192, by omega⟩ ⟨n.val % 8192, by omega⟩ k) = XN a0 a1 n k := by
    intro k
    pointwise [hrms, hg, XN, X, rs]
  have hu : ∀ k : Fin 8192, hup (hrms a0 (hg a1)) a2 (ix3 ⟨n.val / 8192, by omega⟩ ⟨n.val % 8192, by omega⟩ k) = U a0 a1 a2 n k := by
    intro k
    unfold U
    simp only [← hx]
    generalize hrms a0 (hg a1) = h
    pointwise [hup]
  have hm : ∀ k : Fin 2048, hmid a0 (hup (hrms a0 (hg a1)) a2) a3 (ix3 ⟨n.val / 8192, by omega⟩ ⟨n.val % 8192, by omega⟩ k) = Mid a0 a1 a2 a3 n k := by
    intro k
    unfold Mid D
    simp only [← hu]
    generalize hup (hrms a0 (hg a1)) a2 = h
    pointwise [hmid, X]
  rw [← hm]
  unfold hres
  generalize hmid a0 (hup (hrms a0 (hg a1)) a2) a3 = h
  pointwise []

/-- The reference's result is the call's. -/
theorem tie (m : (ℓ : Loc Cert.MlpFirstIdeal.nD Cert.MlpFirstIdeal.τ Cert.MlpFirstIdeal.sig) → Buf (Elt Ideal) ℓ) (c : Dev Cert.MlpFirstIdeal.nD) :
    hres (m ((c.tc : Thread Cert.MlpFirstIdeal.nD Cert.MlpFirstIdeal.τ).loc Cert.MlpFirstIdeal.main_arg0)) (m ((c.tc : Thread Cert.MlpFirstIdeal.nD Cert.MlpFirstIdeal.τ).loc Cert.MlpFirstIdeal.main_arg1)) (m ((c.tc : Thread Cert.MlpFirstIdeal.nD Cert.MlpFirstIdeal.τ).loc Cert.MlpFirstIdeal.main_arg2)) (m ((c.tc : Thread Cert.MlpFirstIdeal.nD Cert.MlpFirstIdeal.τ).loc Cert.MlpFirstIdeal.main_arg3))
      = (Cert.MlpFirstIdeal.Value.G5 m c : FVec Ideal S16384x2048 .f32) := by
  refine funext fun (y : S16384x2048.Idx) => ?_
  obtain ⟨n, l, rfl⟩ : ∃ n l, y = ix2 n l := ⟨y 0, y 1, funext fun a => match a with | ⟨0, _⟩ => rfl | ⟨1, _⟩ => rfl⟩
  exact (res_apply _ _ _ _ n l).trans (Cert.MlpFirstIdeal.Body.G5_apply m c n l).symm

end Cert.MlpFirstReferenceIdeal.Body
end
-- ==== Proof.Oproj.lean ====
module

public import proofs.«01_k».proof.Proof.Gen.OprojIdeal.Value
public import proofs.«01_k».proof.Proof.Gen.OprojReferenceIdeal.Run
public import Idealize.ShloMosaic.Lib.Pipeline.ValueKit
public import Idealize.ShloMosaic.Lib.Pipeline.ReadBack
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.OprojIdeal.Body

open Cert.OprojIdeal Cert.OprojIdeal.Gen Cert.OprojIdeal.Value

section Rows

variable (a : FVec Ideal S2x8192x1024 .f32) (b c : FVec Ideal S2x8192x512 .f32) (x : FVec Ideal S2x8192x2048 .f32) (w : FVec Ideal S2x2048x2048 .f32)

/-- Entry `l` of row `n` after the projection: the stream, and what the three groups of heads add. -/
def Res (n : Fin 16384) (l : Fin 2048) : EReal :=
  x (ix3 ⟨n.val / 8192, by omega⟩ ⟨n.val % 8192, by omega⟩ l)
    + (∑ k : Fin 1024, a (ix3 ⟨n.val / 8192, by omega⟩ ⟨n.val % 8192, by omega⟩ k) * w (ix3 1 ⟨k.val, by omega⟩ l)
      + ∑ k : Fin 512, b (ix3 ⟨n.val / 8192, by omega⟩ ⟨n.val % 8192, by omega⟩ k) * w (ix3 1 ⟨1024 + k.val, by omega⟩ l)
      + ∑ k : Fin 512, c (ix3 ⟨n.val / 8192, by omega⟩ ⟨n.val % 8192, by omega⟩ k) * w (ix3 1 ⟨1536 + k.val, by omega⟩ l))

end Rows

/-- A block of the result, an entry at a time. -/
theorem blk (x0 : FVec Ideal S512x1024 .bf16) (x1 x2 : FVec Ideal S512x512 .bf16) (x3 : FVec Ideal S512x2048 .f32) (x4 : FVec Ideal S1x2048x2048 .bf16)
    (r : Fin 512) (l : Fin 2048) : out0_5 (F := Ideal) x0 x1 x2 x3 x4 (ix2 r l)
      = x3 (ix2 r l) + (∑ k : Fin 1024, x0 (ix2 r k) * x4 (ix3 0 ⟨k.val, by omega⟩ l)
        + ∑ k : Fin 512, x1 (ix2 r k) * x4 (ix3 0 ⟨1024 + k.val, by omega⟩ l)
        + ∑ k : Fin 512, x2 (ix2 r k) * x4 (ix3 0 ⟨1536 + k.val, by omega⟩ l)) := by
  unfold out0_5
  frame_out
  pointwise [k0_pay1]

variable (m : (ℓ : Loc nD τ sig) → Buf (Elt Ideal) ℓ) (c : Dev nD)

/-- Which block each window holds at a point. -/
theorem idx : ∀ t : Fin cfg0.N, win0_0.index t = ![t.val, 0] ∧ win0_1.index t = ![t.val, 0] ∧ win0_2.index t = ![t.val, 0]
    ∧ win0_3.index t = ![t.val, 0] ∧ win0_4.index t = ![1, 0, 0] ∧ win0_5.index t = ![t.val, 0] := by decide +kernel

theorem tlt (t : Fin cfg0.N) : t.val < 32 := lt_of_lt_of_eq t.isLt N_0

theorem read0 (t : Fin cfg0.N) (r : Fin 512) (l : Fin 1024) (hb hs) :
    (iblk m c 0 t : FVec Ideal S512x1024 .bf16) (ix2 r l) = (m ((c.tc : Thread nD τ).loc main_arg0) : FVec Ideal S2x8192x1024 .f32) (ix3 ⟨(t.val * 512 + r.val) / 8192, hb⟩ ⟨(t.val * 512 + r.val) % 8192, hs⟩ l) := by
  blk_ext! [iblk, V, idx t]

theorem read1 (t : Fin cfg0.N) (r : Fin 512) (l : Fin 512) (hb hs) :
    (iblk m c 1 t : FVec Ideal S512x512 .bf16) (ix2 r l) = (m ((c.tc : Thread nD τ).loc main_arg1) : FVec Ideal S2x8192x512 .f32) (ix3 ⟨(t.val * 512 + r.val) / 8192, hb⟩ ⟨(t.val * 512 + r.val) % 8192, hs⟩ l) := by
  blk_ext! [iblk, V, idx t]

theorem read2 (t : Fin cfg0.N) (r : Fin 512) (l : Fin 512) (hb hs) :
    (iblk m c 2 t : FVec Ideal S512x512 .bf16) (ix2 r l) = (m ((c.tc : Thread nD τ).loc main_arg2) : FVec Ideal S2x8192x512 .f32) (ix3 ⟨(t.val * 512 + r.val) / 8192, hb⟩ ⟨(t.val * 512 + r.val) % 8192, hs⟩ l) := by
  blk_ext! [iblk, V, idx t]

theorem read3 (t : Fin cfg0.N) (r : Fin 512) (l : Fin 2048) (hb hs) :
    (iblk m c 3 t : FVec Ideal S512x2048 .f32) (ix2 r l) = (m ((c.tc : Thread nD τ).loc main_arg3) : FVec Ideal S2x8192x2048 .f32) (ix3 ⟨(t.val * 512 + r.val) / 8192, hb⟩ ⟨(t.val * 512 + r.val) % 8192, hs⟩ l) := by
  blk_ext! [iblk, V, idx t]

theorem read4 (t : Fin cfg0.N) (k l : Fin 2048) :
    (iblk m c 4 t : FVec Ideal S1x2048x2048 .bf16) (ix3 0 k l) = (m ((c.tc : Thread nD τ).loc main_arg4) : FVec Ideal S2x2048x2048 .f32) (ix3 1 k l) := by
  blk_ext! [iblk, V, idx t]

theorem row0 (t : Fin cfg0.N) (n : Fin 16384) (r : Fin 512) (l : Fin 1024) (hn : n.val = t.val * 512 + r.val) :
    (iblk m c 0 t : FVec Ideal S512x1024 .bf16) (ix2 r l) = (m ((c.tc : Thread nD τ).loc main_arg0) : FVec Ideal S2x8192x1024 .f32) (ix3 ⟨n.val / 8192, by omega⟩ ⟨n.val % 8192, by omega⟩ l) := by
  have ht := tlt t
  have hb : t.val * 512 + r.val < 16384 := by omega
  obtain rfl : n = ⟨t.val * 512 + r.val, hb⟩ := Fin.ext hn
  exact read0 m c t r l _ _

theorem row1 (t : Fin cfg0.N) (n : Fin 16384) (r : Fin 512) (l : Fin 512) (hn : n.val = t.val * 512 + r.val) :
    (iblk m c 1 t : FVec Ideal S512x512 .bf16) (ix2 r l) = (m ((c.tc : Thread nD τ).loc main_arg1) : FVec Ideal S2x8192x512 .f32) (ix3 ⟨n.val / 8192, by omega⟩ ⟨n.val % 8192, by omega⟩ l) := by
  have ht := tlt t
  have hb : t.val * 512 + r.val < 16384 := by omega
  obtain rfl : n = ⟨t.val * 512 + r.val, hb⟩ := Fin.ext hn
  exact read1 m c t r l _ _

theorem row2 (t : Fin cfg0.N) (n : Fin 16384) (r : Fin 512) (l : Fin 512) (hn : n.val = t.val * 512 + r.val) :
    (iblk m c 2 t : FVec Ideal S512x512 .bf16) (ix2 r l) = (m ((c.tc : Thread nD τ).loc main_arg2) : FVec Ideal S2x8192x512 .f32) (ix3 ⟨n.val / 8192, by omega⟩ ⟨n.val % 8192, by omega⟩ l) := by
  have ht := tlt t
  have hb : t.val * 512 + r.val < 16384 := by omega
  obtain rfl : n = ⟨t.val * 512 + r.val, hb⟩ := Fin.ext hn
  exact read2 m c t r l _ _

theorem row3 (t : Fin cfg0.N) (n : Fin 16384) (r : Fin 512) (l : Fin 2048) (hn : n.val = t.val * 512 + r.val) :
    (iblk m c 3 t : FVec Ideal S512x2048 .f32) (ix2 r l) = (m ((c.tc : Thread nD τ).loc main_arg3) : FVec Ideal S2x8192x2048 .f32) (ix3 ⟨n.val / 8192, by omega⟩ ⟨n.val % 8192, by omega⟩ l) := by
  have ht := tlt t
  have hb : t.val * 512 + r.val < 16384 := by omega
  obtain rfl : n = ⟨t.val * 512 + r.val, hb⟩ := Fin.ext hn
  exact read3 m c t r l _ _

/-- The result array, an entry at a time. -/
theorem arr_at (n : Fin 16384) (l : Fin 2048) : ((dats m 0 c).arrAt 5 cfg0.N : FVec Ideal S16384x2048 .f32) (ix2 n l)
    = Res (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) n l := by
  have hN : n.val / 512 < cfg0.N := lt_of_lt_of_eq (by omega) N_0.symm
  have hf : (cfg0.win 5).flush ⟨n.val / 512, hN⟩ = true := (by decide +kernel : ∀ t : Fin grid0.N, (cfg0.win 5).flush t = true) ⟨n.val / 512, hN⟩
  have hb := congrFun ((blocks5 m c ⟨n.val / 512, hN⟩ hf).trans (flushed5 m c ⟨n.val / 512, hN⟩)) (ix2 ⟨n.val % 512, by omega⟩ l)
  have hx := blk (iblk m c 0 ⟨n.val / 512, hN⟩) (iblk m c 1 ⟨n.val / 512, hN⟩) (iblk m c 2 ⟨n.val / 512, hN⟩) (iblk m c 3 ⟨n.val / 512, hN⟩) (iblk m c 4 ⟨n.val / 512, hN⟩) ⟨n.val % 512, by omega⟩ l
  have he : ((dats m 0 c).arrAt 5 cfg0.N : FVec Ideal S16384x2048 .f32) (ix2 n l)
      = (((cfg0.win 5).blk ⟨n.val / 512, hN⟩).view.read (Elt Ideal) ((dats m 0 c).arrAt 5 cfg0.N)) (ix2 ⟨n.val % 512, by omega⟩ l) := by
    refine congrArg ((dats m 0 c).arrAt 5 cfg0.N : FVec Ideal S16384x2048 .f32) ?_
    have hi := (idx ⟨n.val / 512, hN⟩).2.2.2.2.2
    funext a
    match a with
    | ⟨0, _⟩ =>
      refine Fin.ext (Eq.trans ?_ (ValueKit.view_emb_slice_whole_unit_val _ _ _ _ _ _).symm)
      show n.val = win0_5.index ⟨n.val / 512, hN⟩ 0 * 512 + n.val % 512
      rw [hi]
      show n.val = n.val / 512 * 512 + n.val % 512
      omega
    | ⟨1, _⟩ =>
      refine Fin.ext (Eq.trans ?_ (ValueKit.view_emb_slice_whole_unit_val _ _ _ _ _ _).symm)
      show l.val = win0_5.index ⟨n.val / 512, hN⟩ 1 * 2048 + l.val
      rw [hi]
      show l.val = 0 * 2048 + l.val
      omega
  refine he.trans (hb.trans (Eq.trans ?_ (hx.trans ?_)))
  · rfl
  · have e0 : ∀ k, (iblk m c 0 ⟨n.val / 512, hN⟩ : FVec Ideal S512x1024 .bf16) (ix2 ⟨n.val % 512, by omega⟩ k) = _ :=
      fun k => row0 m c ⟨n.val / 512, hN⟩ n ⟨n.val % 512, by omega⟩ k (by dsimp only; omega)
    have e1 : ∀ k, (iblk m c 1 ⟨n.val / 512, hN⟩ : FVec Ideal S512x512 .bf16) (ix2 ⟨n.val % 512, by omega⟩ k) = _ :=
      fun k => row1 m c ⟨n.val / 512, hN⟩ n ⟨n.val % 512, by omega⟩ k (by dsimp only; omega)
    have e2 : ∀ k, (iblk m c 2 ⟨n.val / 512, hN⟩ : FVec Ideal S512x512 .bf16) (ix2 ⟨n.val % 512, by omega⟩ k) = _ :=
      fun k => row2 m c ⟨n.val / 512, hN⟩ n ⟨n.val % 512, by omega⟩ k (by dsimp only; omega)
    have e3 : ∀ k, (iblk m c 3 ⟨n.val / 512, hN⟩ : FVec Ideal S512x2048 .f32) (ix2 ⟨n.val % 512, by omega⟩ k) = _ :=
      fun k => row3 m c ⟨n.val / 512, hN⟩ n ⟨n.val % 512, by omega⟩ k (by dsimp only; omega)
    unfold Res
    simp only [e0, e1, e2, e3, read4]

end Cert.OprojIdeal.Body

namespace Cert.OprojReferenceIdeal.Body

open Cert.OprojReferenceIdeal Cert.OprojReferenceIdeal.Gen

/-- The three groups of heads side by side. -/
def hmix (a : FVec Ideal S2x8192x1024 .f32) (b c : FVec Ideal S2x8192x512 .f32) : FVec Ideal S2x8192x2048 .f32 :=
  concatenate S2x8192x2048 2 [⟨S2x8192x1024, a⟩, ⟨S2x8192x512, b⟩, ⟨S2x8192x512, c⟩] concatenates_S2x8192x1024_S2x8192x512_S2x8192x512_S2x8192x2048_d2

/-- The reference's operations. -/
def hres (a : FVec Ideal S2x8192x1024 .f32) (b c : FVec Ideal S2x8192x512 .f32) (x : FVec Ideal S2x8192x2048 .f32) (w : FVec Ideal S2x2048x2048 .f32) : FVec Ideal S16384x2048 .f32 :=
  shapeCast _ (addf x (Host.dotGeneral dot_S2x8192x2048_S2048x2048_S2x8192x2048_2_0_01_1_n_n none (hmix a b c) (shapeCast _ (extractStridedSlice S1x2048x2048 ![1, 0, 0] w slices_S2x2048x2048_S1x2048x2048_1_0_0) shapeCasts_S1x2048x2048_S2048x2048))) shapeCasts_S2x8192x2048_S16384x2048

theorem mixA (a : FVec Ideal S2x8192x1024 .f32) (b c : FVec Ideal S2x8192x512 .f32) (i : Fin 2) (s : Fin 8192) (k : Fin 1024) (hk) : hmix a b c (ix3 i s ⟨k.val, hk⟩) = a (ix3 i s k) := by
  pointwise [hmix]

theorem mixB (a : FVec Ideal S2x8192x1024 .f32) (b c : FVec Ideal S2x8192x512 .f32) (i : Fin 2) (s : Fin 8192) (k : Fin 512) (hk) : hmix a b c (ix3 i s ⟨1024 + k.val, hk⟩) = b (ix3 i s k) := by
  pointwise [hmix]

theorem mixC (a : FVec Ideal S2x8192x1024 .f32) (b c : FVec Ideal S2x8192x512 .f32) (i : Fin 2) (s : Fin 8192) (k : Fin 512) (hk) : hmix a b c (ix3 i s ⟨1536 + k.val, hk⟩) = c (ix3 i s k) := by
  pointwise [hmix]
  rw [dif_neg (by omega), dif_neg (by omega)]
  exact congrArg (fun j => c (ix3 i s j)) (Fin.ext (by dsimp only; omega))

/-- A sum over 2048 numbers as its first 1024, the next 512 and the last 512. -/
theorem sum_three (f : Fin 2048 → EReal) : ∑ k, f k = ∑ k : Fin 1024, f ⟨k.val, by omega⟩ + ∑ k : Fin 512, f ⟨1024 + k.val, by omega⟩ + ∑ k : Fin 512, f ⟨1536 + k.val, by omega⟩ := by
  have h1 : ∑ k, f k = ∑ k : Fin 1536, f (Fin.castAdd 512 k) + ∑ k : Fin 512, f (Fin.natAdd 1536 k) := Fin.sum_univ_add (a := 1536) (b := 512) f
  have h2 : ∑ k : Fin 1536, f (Fin.castAdd 512 k) = ∑ k : Fin 1024, f (Fin.castAdd 512 (Fin.castAdd 512 k)) + ∑ k : Fin 512, f (Fin.castAdd 512 (Fin.natAdd 1024 k)) :=
    Fin.sum_univ_add (a := 1024) (b := 512) fun k : Fin 1536 => f (Fin.castAdd 512 k)
  rw [h1, h2]
  rfl

open Cert.OprojIdeal.Body in
theorem res_apply (a : FVec Ideal S2x8192x1024 .f32) (b c : FVec Ideal S2x8192x512 .f32) (x : FVec Ideal S2x8192x2048 .f32) (w : FVec Ideal S2x2048x2048 .f32) (n : Fin 16384) (l : Fin 2048) :
    hres a b c x w (ix2 n l) = Res a b c x w n l := by
  have h : hres a b c x w (ix2 n l) = x (ix3 ⟨n.val / 8192, by omega⟩ ⟨n.val % 8192, by omega⟩ l)
      + ∑ k : Fin 2048, hmix a b c (ix3 ⟨n.val / 8192, by omega⟩ ⟨n.val % 8192, by omega⟩ k) * w (ix3 1 k l) := by
    unfold hres
    generalize hmix a b c = h
    pointwise []
  rw [h, sum_three]
  unfold Res
  simp only [mixA, mixB, mixC]

/-- The two results are one. -/
theorem tie (m : (ℓ : Loc Cert.OprojIdeal.nD Cert.OprojIdeal.τ Cert.OprojIdeal.sig) → Buf (Elt Ideal) ℓ) (c : Dev Cert.OprojIdeal.nD) :
    hres (m ((c.tc : Thread Cert.OprojIdeal.nD Cert.OprojIdeal.τ).loc Cert.OprojIdeal.main_arg0)) (m ((c.tc : Thread Cert.OprojIdeal.nD Cert.OprojIdeal.τ).loc Cert.OprojIdeal.main_arg1)) (m ((c.tc : Thread Cert.OprojIdeal.nD Cert.OprojIdeal.τ).loc Cert.OprojIdeal.main_arg2)) (m ((c.tc : Thread Cert.OprojIdeal.nD Cert.OprojIdeal.τ).loc Cert.OprojIdeal.main_arg3)) (m ((c.tc : Thread Cert.OprojIdeal.nD Cert.OprojIdeal.τ).loc Cert.OprojIdeal.main_arg4))
      = ((Cert.OprojIdeal.Gen.dats m 0 c).arrAt 5 Cert.OprojIdeal.cfg0.N : FVec Ideal S16384x2048 .f32) := by
  refine funext fun (y : S16384x2048.Idx) => ?_
  obtain ⟨n, l, rfl⟩ : ∃ n l, y = ix2 n l := ⟨y 0, y 1, funext fun a => match a with | ⟨0, _⟩ => rfl | ⟨1, _⟩ => rfl⟩
  exact (res_apply _ _ _ _ _ n l).trans (Cert.OprojIdeal.Body.arr_at m c n l).symm

end Cert.OprojReferenceIdeal.Body
end
-- ==== Proof.OprojFirst.lean ====
module

public import proofs.«01_k».proof.Proof.Gen.OprojFirstIdeal.Value
public import proofs.«01_k».proof.Proof.Gen.OprojFirstReferenceIdeal.Run
public import Idealize.ShloMosaic.Lib.Pipeline.ValueKit
public import Idealize.ShloMosaic.Lib.Pipeline.ReadBack
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.OprojFirstIdeal.Body

open Cert.OprojFirstIdeal Cert.OprojFirstIdeal.Gen Cert.OprojFirstIdeal.Value

section Rows

variable (a : FVec Ideal S2x8192x1024 .f32) (b c : FVec Ideal S2x8192x512 .f32) (x : FVec Ideal S2x8192x2048 .f32) (w : FVec Ideal S2x2048x2048 .f32)

/-- Entry `l` of row `n` after the projection: the stream, and what the three groups of heads add. -/
def Res (n : Fin 16384) (l : Fin 2048) : EReal :=
  x (ix3 ⟨n.val / 8192, by omega⟩ ⟨n.val % 8192, by omega⟩ l)
    + (∑ k : Fin 1024, a (ix3 ⟨n.val / 8192, by omega⟩ ⟨n.val % 8192, by omega⟩ k) * w (ix3 0 ⟨k.val, by omega⟩ l)
      + ∑ k : Fin 512, b (ix3 ⟨n.val / 8192, by omega⟩ ⟨n.val % 8192, by omega⟩ k) * w (ix3 0 ⟨1024 + k.val, by omega⟩ l)
      + ∑ k : Fin 512, c (ix3 ⟨n.val / 8192, by omega⟩ ⟨n.val % 8192, by omega⟩ k) * w (ix3 0 ⟨1536 + k.val, by omega⟩ l))

end Rows

/-- A block of the result, an entry at a time. -/
theorem blk (x0 : FVec Ideal S512x1024 .bf16) (x1 x2 : FVec Ideal S512x512 .bf16) (x3 : FVec Ideal S512x2048 .f32) (x4 : FVec Ideal S1x2048x2048 .bf16)
    (r : Fin 512) (l : Fin 2048) : out0_5 (F := Ideal) x0 x1 x2 x3 x4 (ix2 r l)
      = x3 (ix2 r l) + (∑ k : Fin 1024, x0 (ix2 r k) * x4 (ix3 0 ⟨k.val, by omega⟩ l)
        + ∑ k : Fin 512, x1 (ix2 r k) * x4 (ix3 0 ⟨1024 + k.val, by omega⟩ l)
        + ∑ k : Fin 512, x2 (ix2 r k) * x4 (ix3 0 ⟨1536 + k.val, by omega⟩ l)) := by
  unfold out0_5
  frame_out
  pointwise [k0_pay1]

variable (m : (ℓ : Loc nD τ sig) → Buf (Elt Ideal) ℓ) (c : Dev nD)

/-- Which block each window holds at a point. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0, 0] ∧ win0_5.index t = ![t.val, 0] := by decide +kernel

theorem tlt (t : Fin cfg0.N) : t.val < 32 := lt_of_lt_of_eq t.isLt N_0

theorem read0 (t : Fin cfg0.N) (r : Fin 512) (l : Fin 1024) (hb hs) :
    (iblk m c 0 t : FVec Ideal S512x1024 .bf16) (ix2 r l) = (m ((c.tc : Thread nD τ).loc main_arg0) : FVec Ideal S2x8192x1024 .f32) (ix3 ⟨(t.val * 512 + r.val) / 8192, hb⟩ ⟨(t.val * 512 + r.val) % 8192, hs⟩ l) := by
  blk_ext! [iblk, V, idx t]

theorem read1 (t : Fin cfg0.N) (r : Fin 512) (l : Fin 512) (hb hs) :
    (iblk m c 1 t : FVec Ideal S512x512 .bf16) (ix2 r l) = (m ((c.tc : Thread nD τ).loc main_arg1) : FVec Ideal S2x8192x512 .f32) (ix3 ⟨(t.val * 512 + r.val) / 8192, hb⟩ ⟨(t.val * 512 + r.val) % 8192, hs⟩ l) := by
  blk_ext! [iblk, V, idx t]

theorem read2 (t : Fin cfg0.N) (r : Fin 512) (l : Fin 512) (hb hs) :
    (iblk m c 2 t : FVec Ideal S512x512 .bf16) (ix2 r l) = (m ((c.tc : Thread nD τ).loc main_arg2) : FVec Ideal S2x8192x512 .f32) (ix3 ⟨(t.val * 512 + r.val) / 8192, hb⟩ ⟨(t.val * 512 + r.val) % 8192, hs⟩ l) := by
  blk_ext! [iblk, V, idx t]

theorem read3 (t : Fin cfg0.N) (r : Fin 512) (l : Fin 2048) (hb hs) :
    (iblk m c 3 t : FVec Ideal S512x2048 .f32) (ix2 r l) = (m ((c.tc : Thread nD τ).loc main_arg3) : FVec Ideal S2x8192x2048 .f32) (ix3 ⟨(t.val * 512 + r.val) / 8192, hb⟩ ⟨(t.val * 512 + r.val) % 8192, hs⟩ l) := by
  blk_ext! [iblk, V, idx t]

theorem read4 (t : Fin cfg0.N) (k l : Fin 2048) :
    (iblk m c 4 t : FVec Ideal S1x2048x2048 .bf16) (ix3 0 k l) = (m ((c.tc : Thread nD τ).loc main_arg4) : FVec Ideal S2x2048x2048 .f32) (ix3 0 k l) := by
  blk_ext! [iblk, V, idx t]

theorem row0 (t : Fin cfg0.N) (n : Fin 16384) (r : Fin 512) (l : Fin 1024) (hn : n.val = t.val * 512 + r.val) :
    (iblk m c 0 t : FVec Ideal S512x1024 .bf16) (ix2 r l) = (m ((c.tc : Thread nD τ).loc main_arg0) : FVec Ideal S2x8192x1024 .f32) (ix3 ⟨n.val / 8192, by omega⟩ ⟨n.val % 8192, by omega⟩ l) := by
  have ht := tlt t
  have hb : t.val * 512 + r.val < 16384 := by omega
  obtain rfl : n = ⟨t.val * 512 + r.val, hb⟩ := Fin.ext hn
  exact read0 m c t r l _ _

theorem row1 (t : Fin cfg0.N) (n : Fin 16384) (r : Fin 512) (l : Fin 512) (hn : n.val = t.val * 512 + r.val) :
    (iblk m c 1 t : FVec Ideal S512x512 .bf16) (ix2 r l) = (m ((c.tc : Thread nD τ).loc main_arg1) : FVec Ideal S2x8192x512 .f32) (ix3 ⟨n.val / 8192, by omega⟩ ⟨n.val % 8192, by omega⟩ l) := by
  have ht := tlt t
  have hb : t.val * 512 + r.val < 16384 := by omega
  obtain rfl : n = ⟨t.val * 512 + r.val, hb⟩ := Fin.ext hn
  exact read1 m c t r l _ _

theorem row2 (t : Fin cfg0.N) (n : Fin 16384) (r : Fin 512) (l : Fin 512) (hn : n.val = t.val * 512 + r.val) :
    (iblk m c 2 t : FVec Ideal S512x512 .bf16) (ix2 r l) = (m ((c.tc : Thread nD τ).loc main_arg2) : FVec Ideal S2x8192x512 .f32) (ix3 ⟨n.val / 8192, by omega⟩ ⟨n.val % 8192, by omega⟩ l) := by
  have ht := tlt t
  have hb : t.val * 512 + r.val < 16384 := by omega
  obtain rfl : n = ⟨t.val * 512 + r.val, hb⟩ := Fin.ext hn
  exact read2 m c t r l _ _

theorem row3 (t : Fin cfg0.N) (n : Fin 16384) (r : Fin 512) (l : Fin 2048) (hn : n.val = t.val * 512 + r.val) :
    (iblk m c 3 t : FVec Ideal S512x2048 .f32) (ix2 r l) = (m ((c.tc : Thread nD τ).loc main_arg3) : FVec Ideal S2x8192x2048 .f32) (ix3 ⟨n.val / 8192, by omega⟩ ⟨n.val % 8192, by omega⟩ l) := by
  have ht := tlt t
  have hb : t.val * 512 + r.val < 16384 := by omega
  obtain rfl : n = ⟨t.val * 512 + r.val, hb⟩ := Fin.ext hn
  exact read3 m c t r l _ _

/-- The result array, an entry at a time. -/
theorem arr_at (n : Fin 16384) (l : Fin 2048) : ((dats m 0 c).arrAt 5 cfg0.N : FVec Ideal S16384x2048 .f32) (ix2 n l)
    = Res (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) n l := by
  have hN : n.val / 512 < cfg0.N := lt_of_lt_of_eq (by omega) N_0.symm
  have hf : (cfg0.win 5).flush ⟨n.val / 512, hN⟩ = true := (by decide +kernel : ∀ t : Fin grid0.N, (cfg0.win 5).flush t = true) ⟨n.val / 512, hN⟩
  have hb := congrFun ((blocks5 m c ⟨n.val / 512, hN⟩ hf).trans (flushed5 m c ⟨n.val / 512, hN⟩)) (ix2 ⟨n.val % 512, by omega⟩ l)
  have hx := blk (iblk m c 0 ⟨n.val / 512, hN⟩) (iblk m c 1 ⟨n.val / 512, hN⟩) (iblk m c 2 ⟨n.val / 512, hN⟩) (iblk m c 3 ⟨n.val / 512, hN⟩) (iblk m c 4 ⟨n.val / 512, hN⟩) ⟨n.val % 512, by omega⟩ l
  have he : ((dats m 0 c).arrAt 5 cfg0.N : FVec Ideal S16384x2048 .f32) (ix2 n l)
      = (((cfg0.win 5).blk ⟨n.val / 512, hN⟩).view.read (Elt Ideal) ((dats m 0 c).arrAt 5 cfg0.N)) (ix2 ⟨n.val % 512, by omega⟩ l) := by
    refine congrArg ((dats m 0 c).arrAt 5 cfg0.N : FVec Ideal S16384x2048 .f32) ?_
    have hi := (idx ⟨n.val / 512, hN⟩).2.2.2.2.2
    funext a
    match a with
    | ⟨0, _⟩ =>
      refine Fin.ext (Eq.trans ?_ (ValueKit.view_emb_slice_whole_unit_val _ _ _ _ _ _).symm)
      show n.val = win0_5.index ⟨n.val / 512, hN⟩ 0 * 512 + n.val % 512
      rw [hi]
      show n.val = n.val / 512 * 512 + n.val % 512
      omega
    | ⟨1, _⟩ =>
      refine Fin.ext (Eq.trans ?_ (ValueKit.view_emb_slice_whole_unit_val _ _ _ _ _ _).symm)
      show l.val = win0_5.index ⟨n.val / 512, hN⟩ 1 * 2048 + l.val
      rw [hi]
      show l.val = 0 * 2048 + l.val
      omega
  refine he.trans (hb.trans (Eq.trans ?_ (hx.trans ?_)))
  · rfl
  · have e0 : ∀ k, (iblk m c 0 ⟨n.val / 512, hN⟩ : FVec Ideal S512x1024 .bf16) (ix2 ⟨n.val % 512, by omega⟩ k) = _ :=
      fun k => row0 m c ⟨n.val / 512, hN⟩ n ⟨n.val % 512, by omega⟩ k (by dsimp only; omega)
    have e1 : ∀ k, (iblk m c 1 ⟨n.val / 512, hN⟩ : FVec Ideal S512x512 .bf16) (ix2 ⟨n.val % 512, by omega⟩ k) = _ :=
      fun k => row1 m c ⟨n.val / 512, hN⟩ n ⟨n.val % 512, by omega⟩ k (by dsimp only; omega)
    have e2 : ∀ k, (iblk m c 2 ⟨n.val / 512, hN⟩ : FVec Ideal S512x512 .bf16) (ix2 ⟨n.val % 512, by omega⟩ k) = _ :=
      fun k => row2 m c ⟨n.val / 512, hN⟩ n ⟨n.val % 512, by omega⟩ k (by dsimp only; omega)
    have e3 : ∀ k, (iblk m c 3 ⟨n.val / 512, hN⟩ : FVec Ideal S512x2048 .f32) (ix2 ⟨n.val % 512, by omega⟩ k) = _ :=
      fun k => row3 m c ⟨n.val / 512, hN⟩ n ⟨n.val % 512, by omega⟩ k (by dsimp only; omega)
    unfold Res
    simp only [e0, e1, e2, e3, read4]

end Cert.OprojFirstIdeal.Body

namespace Cert.OprojFirstReferenceIdeal.Body

open Cert.OprojFirstReferenceIdeal Cert.OprojFirstReferenceIdeal.Gen

/-- The three groups of heads side by side. -/
def hmix (a : FVec Ideal S2x8192x1024 .f32) (b c : FVec Ideal S2x8192x512 .f32) : FVec Ideal S2x8192x2048 .f32 :=
  concatenate S2x8192x2048 2 [⟨S2x8192x1024, a⟩, ⟨S2x8192x512, b⟩, ⟨S2x8192x512, c⟩] concatenates_S2x8192x1024_S2x8192x512_S2x8192x512_S2x8192x2048_d2

/-- The reference's operations. -/
def hres (a : FVec Ideal S2x8192x1024 .f32) (b c : FVec Ideal S2x8192x512 .f32) (x : FVec Ideal S2x8192x2048 .f32) (w : FVec Ideal S2x2048x2048 .f32) : FVec Ideal S16384x2048 .f32 :=
  shapeCast _ (addf x (Host.dotGeneral dot_S2x8192x2048_S2048x2048_S2x8192x2048_2_0_01_1_n_n none (hmix a b c) (shapeCast _ (extractStridedSlice S1x2048x2048 ![0, 0, 0] w slices_S2x2048x2048_S1x2048x2048_0_0_0) shapeCasts_S1x2048x2048_S2048x2048))) shapeCasts_S2x8192x2048_S16384x2048

theorem mixA (a : FVec Ideal S2x8192x1024 .f32) (b c : FVec Ideal S2x8192x512 .f32) (i : Fin 2) (s : Fin 8192) (k : Fin 1024) (hk) : hmix a b c (ix3 i s ⟨k.val, hk⟩) = a (ix3 i s k) := by
  pointwise [hmix]

theorem mixB (a : FVec Ideal S2x8192x1024 .f32) (b c : FVec Ideal S2x8192x512 .f32) (i : Fin 2) (s : Fin 8192) (k : Fin 512) (hk) : hmix a b c (ix3 i s ⟨1024 + k.val, hk⟩) = b (ix3 i s k) := by
  pointwise [hmix]

theorem mixC (a : FVec Ideal S2x8192x1024 .f32) (b c : FVec Ideal S2x8192x512 .f32) (i : Fin 2) (s : Fin 8192) (k : Fin 512) (hk) : hmix a b c (ix3 i s ⟨1536 + k.val, hk⟩) = c (ix3 i s k) := by
  pointwise [hmix]
  rw [dif_neg (by omega), dif_neg (by omega)]
  exact congrArg (fun j => c (ix3 i s j)) (Fin.ext (by dsimp only; omega))

/-- A sum over 2048 numbers as its first 1024, the next 512 and the last 512. -/
theorem sum_three (f : Fin 2048 → EReal) : ∑ k, f k = ∑ k : Fin 1024, f ⟨k.val, by omega⟩ + ∑ k : Fin 512, f ⟨1024 + k.val, by omega⟩ + ∑ k : Fin 512, f ⟨1536 + k.val, by omega⟩ := by
  have h1 : ∑ k, f k = ∑ k : Fin 1536, f (Fin.castAdd 512 k) + ∑ k : Fin 512, f (Fin.natAdd 1536 k) := Fin.sum_univ_add (a := 1536) (b := 512) f
  have h2 : ∑ k : Fin 1536, f (Fin.castAdd 512 k) = ∑ k : Fin 1024, f (Fin.castAdd 512 (Fin.castAdd 512 k)) + ∑ k : Fin 512, f (Fin.castAdd 512 (Fin.natAdd 1024 k)) :=
    Fin.sum_univ_add (a := 1024) (b := 512) fun k : Fin 1536 => f (Fin.castAdd 512 k)
  rw [h1, h2]
  rfl

open Cert.OprojFirstIdeal.Body in
theorem res_apply (a : FVec Ideal S2x8192x1024 .f32) (b c : FVec Ideal S2x8192x512 .f32) (x : FVec Ideal S2x8192x2048 .f32) (w : FVec Ideal S2x2048x2048 .f32) (n : Fin 16384) (l : Fin 2048) :
    hres a b c x w (ix2 n l) = Res a b c x w n l := by
  have h : hres a b c x w (ix2 n l) = x (ix3 ⟨n.val / 8192, by omega⟩ ⟨n.val % 8192, by omega⟩ l)
      + ∑ k : Fin 2048, hmix a b c (ix3 ⟨n.val / 8192, by omega⟩ ⟨n.val % 8192, by omega⟩ k) * w (ix3 0 k l) := by
    unfold hres
    generalize hmix a b c = h
    pointwise []
  rw [h, sum_three]
  unfold Res
  simp only [mixA, mixB, mixC]

/-- The two results are one. -/
theorem tie (m : (ℓ : Loc Cert.OprojFirstIdeal.nD Cert.OprojFirstIdeal.τ Cert.OprojFirstIdeal.sig) → Buf (Elt Ideal) ℓ) (c : Dev Cert.OprojFirstIdeal.nD) :
    hres (m ((c.tc : Thread Cert.OprojFirstIdeal.nD Cert.OprojFirstIdeal.τ).loc Cert.OprojFirstIdeal.main_arg0)) (m ((c.tc : Thread Cert.OprojFirstIdeal.nD Cert.OprojFirstIdeal.τ).loc Cert.OprojFirstIdeal.main_arg1)) (m ((c.tc : Thread Cert.OprojFirstIdeal.nD Cert.OprojFirstIdeal.τ).loc Cert.OprojFirstIdeal.main_arg2)) (m ((c.tc : Thread Cert.OprojFirstIdeal.nD Cert.OprojFirstIdeal.τ).loc Cert.OprojFirstIdeal.main_arg3)) (m ((c.tc : Thread Cert.OprojFirstIdeal.nD Cert.OprojFirstIdeal.τ).loc Cert.OprojFirstIdeal.main_arg4))
      = ((Cert.OprojFirstIdeal.Gen.dats m 0 c).arrAt 5 Cert.OprojFirstIdeal.cfg0.N : FVec Ideal S16384x2048 .f32) := by
  refine funext fun (y : S16384x2048.Idx) => ?_
  obtain ⟨n, l, rfl⟩ : ∃ n l, y = ix2 n l := ⟨y 0, y 1, funext fun a => match a with | ⟨0, _⟩ => rfl | ⟨1, _⟩ => rfl⟩
  exact (res_apply _ _ _ _ _ n l).trans (Cert.OprojFirstIdeal.Body.arr_at m c n l).symm

end Cert.OprojFirstReferenceIdeal.Body
end
-- ==== Proof.InprojBody.lean ====
module

public import proofs.«01_k».proof.Proof.Gen.InprojIdeal.Value
public import Idealize.ShloMosaic.Lib.Pipeline.ValueKit
public import Idealize.ShloMosaic.Lib.Pipeline.ReadBack
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.InprojIdeal.Body

open Cert.InprojIdeal Cert.InprojIdeal.Gen Cert.InprojIdeal.Value

/-- One over the root of a row's mean square, with the small constant under the root. -/
def rs (v : Fin 2048 → EReal) : EReal :=
  Ideal.rsqrt (Ideal.div (∑ x, v x * v x) (Ideal.ofBits FTy.f32 1157627904#32) + Ideal.ofBits FTy.f32 897988541#32)

/-- The normalised rows of a block, weighted. -/
def xnB (x0 : FVec Ideal S512x2048 .f32) (x1 : FVec Ideal S1x2048 .f32) : FVec Ideal S512x2048 .bf16 :=
  fun y => x0 (ix2 (y 0) (y 1)) * rs (fun d => x0 (ix2 (y 0) d)) * x1 (ix2 0 (y 1))

/-- The stored rows are the normalised ones. -/
theorem canonS (x0 : FVec Ideal S512x2048 .f32) (x1 : FVec Ideal S1x2048 .f32) : View.canon (Val := Elt Ideal) (e := .bf16) [⟨Rect.unit (s := S512x2048) ![256, 0] ![256, 2048] inb_S512x2048_S256x2048_256_0,
                  k0_pay8 (F := Ideal) (k0_pay5 (View.ld x0 (Rect.unit (s := S512x2048) ![256, 0] ![256, 2048] inb_S512x2048_S256x2048_256_0)))
                    (k0_pay6 x1) (k0_pay7 (View.ld x0 (Rect.unit (s := S512x2048) ![256, 0] ![256, 2048] inb_S512x2048_S256x2048_256_0)))
                    (FloatOps.ofBits FTy.f32 897988541#32)⟩,
                ⟨Rect.unit (s := S512x2048) ![0, 0] ![256, 2048] inb_S512x2048_S256x2048_0_0,
                  k0_pay3 (F := Ideal) (View.ld x0 (Rect.unit (s := S512x2048) ![0, 0] ![256, 2048] inb_S512x2048_S256x2048_0_0)) x1⟩] = xnB x0 x1 := by
  funext y
  canon_tiles x h
  all_goals
    idx_vars x
    idx_vars y
    have e0 : ∃ hb, y0 = ⟨_, hb⟩ := ⟨lt_of_eq_of_lt h0.symm y0.isLt, Fin.ext h0⟩
    obtain ⟨hb, rfl⟩ := e0
    obtain rfl : y1 = x1 := Fin.ext h1
  · pointwise [k0_pay8, k0_pay7, k0_pay6, k0_pay5, xnB, rs]
  · pointwise [k0_pay3, xnB, rs]

theorem oA4 (c : Dev nD) (i : grid0.Coords) (a1 : Memref sig .tc .vmem S512x2048 .f32) (h1 : a1.IsWhole) (a2 : Memref sig .tc .vmem S1x2048 .f32) (h2 : a2.IsWhole) (a3 : Memref sig .tc .vmem S2048x768 .bf16) (h3 : a3.IsWhole) (a4 : Memref sig .tc .vmem S2048x3072 .bf16) (h4 : a4.IsWhole) (a5 : Memref sig .tc .vmem S512x768 .f32) (h5 : a5.IsWhole) (a6 : Memref sig .tc .vmem S512x3072 .bf16) (h6 : a6.IsWhole) (a7 : Memref sig .tc .vmem S512x2048 .bf16) (h7 : a7.IsWhole)
    (x0 : FVec Ideal S512x2048 .f32) (x1 : FVec Ideal S1x2048 .f32) (x2 : FVec Ideal S2048x768 .bf16) (x3 : FVec Ideal S2048x3072 .bf16) (y : S512x768.Idx) :
    out0_A_4 (F := Ideal) c i a1 h1 a2 h2 a3 h3 a4 h4 a5 h5 a6 h6 a7 h7 x0 x1 x2 x3 y = ∑ d, xnB x0 x1 (ix2 (y 0) d) * x2 (ix2 d (y 1)) := by
  frame_out
  canon_tiles x h
  all_goals
    idx_vars x
    idx_vars y
    have e0 : ∃ hb, y0 = ⟨_, hb⟩ := ⟨lt_of_eq_of_lt h0.symm y0.isLt, Fin.ext h0⟩
    obtain ⟨hb, rfl⟩ := e0
    obtain rfl : y1 = x1 := Fin.ext h1
  · simp (disch := decide) only [↓ View.readCov_skip, ↓ View.readCov_cons_toLoadRect, ↓ View.readCov_fill]
    pointwise [k0_pay9, k0_pay8, k0_pay7, k0_pay6, k0_pay5, xnB, rs]
  · simp (disch := decide) only [↓ View.readCov_skip, ↓ View.readCov_cons_toLoadRect, ↓ View.readCov_fill]
    pointwise [k0_pay4, k0_pay3, xnB, rs]

theorem oA5 (c : Dev nD) (i : grid0.Coords) (a1 : Memref sig .tc .vmem S512x2048 .f32) (h1 : a1.IsWhole) (a2 : Memref sig .tc .vmem S1x2048 .f32) (h2 : a2.IsWhole) (a3 : Memref sig .tc .vmem S2048x768 .bf16) (h3 : a3.IsWhole) (a4 : Memref sig .tc .vmem S2048x3072 .bf16) (h4 : a4.IsWhole) (a5 : Memref sig .tc .vmem S512x768 .f32) (h5 : a5.IsWhole) (a6 : Memref sig .tc .vmem S512x3072 .bf16) (h6 : a6.IsWhole) (a7 : Memref sig .tc .vmem S512x2048 .bf16) (h7 : a7.IsWhole)
    (x0 : FVec Ideal S512x2048 .f32) (x1 : FVec Ideal S1x2048 .f32) (x2 : FVec Ideal S2048x768 .bf16) (x3 : FVec Ideal S2048x3072 .bf16) (y : S512x3072.Idx) :
    out0_A_5 (F := Ideal) c i a1 h1 a2 h2 a3 h3 a4 h4 a5 h5 a6 h6 a7 h7 x0 x1 x2 x3 y = ∑ d, xnB x0 x1 (ix2 (y 0) d) * x3 (ix2 d (y 1)) := by
  frame_out
  rw [View.readCov_eq_canon', canonS]
  canon_tiles x h
  all_goals
    idx_vars x
    idx_vars y
    obtain rfl : y0 = x0 := Fin.ext h0
    have e1 : ∃ hb, y1 = ⟨_, hb⟩ := ⟨lt_of_eq_of_lt h1.symm y1.isLt, Fin.ext h1⟩
    obtain ⟨hb, rfl⟩ := e1
  · pointwise [k0_pay2]
  · pointwise [k0_pay1]
  · pointwise [k0_pay11]
  · pointwise [k0_pay10]

end Cert.InprojIdeal.Body
end
-- ==== Proof.Inproj.lean ====
module

public import proofs.«01_k».proof.Proof.InprojBody
public import proofs.«01_k».proof.Proof.Gen.InprojReferenceIdeal.Run
public import Idealize.ShloMosaic.Lib.Pipeline.ValueKit
public import Idealize.ShloMosaic.Lib.Pipeline.ReadBack
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.InprojIdeal.Body

open Cert.InprojIdeal Cert.InprojIdeal.Gen Cert.InprojIdeal.Value

section Rows

variable (x : FVec Ideal S2x8192x2048 .f32) (g : FVec Ideal S2048 .f32) (w : FVec Ideal S2048x3648 .f32)

/-- Row `n`, normalised and weighted. -/
def XN (n : Fin 16384) (l : Fin 2048) : EReal :=
  x (ix3 ⟨n.val / 8192, by omega⟩ ⟨n.val % 8192, by omega⟩ l) * rs (fun d => x (ix3 ⟨n.val / 8192, by omega⟩ ⟨n.val % 8192, by omega⟩ d)) * g (ix1 l)

/-- Column `l` of the latents' weights: the two halves of the rotary columns stand 64 apart, and the other columns are zero. -/
def latW (d : Fin 2048) (l : Fin 768) : EReal :=
  if h : l.val < 544 then w (ix2 d ⟨l.val, by omega⟩) else if h : 576 ≤ l.val ∧ l.val < 608 then w (ix2 d ⟨l.val - 32, by omega⟩) else 0

def Lat (n : Fin 16384) (l : Fin 768) : EReal := ∑ d, XN x g n d * latW w d l

def Proj (n : Fin 16384) (l : Fin 3072) : EReal := ∑ d, XN x g n d * w (ix2 d ⟨576 + l.val, by omega⟩)

end Rows

variable (m : (ℓ : Loc nD τ sig) → Buf (Elt Ideal) ℓ) (c : Dev nD)

/-- Which block each window holds at a point. -/
theorem idx : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![t.val, 0] := by decide +kernel

theorem tlt (t : Fin cfg0.N) : t.val < 32 := lt_of_lt_of_eq t.isLt N_0

theorem hv0 : (V m c main_v0 : FVec Ideal S16384x2048 .f32) = shapeCast _ (m ((c.tc : Thread nD τ).loc main_arg0) : FVec Ideal S2x8192x2048 .f32) shapeCasts_S2x8192x2048_S16384x2048 := by
  simp only [V, hostOps0, hostOps0_1, hostOps0_2, List.flatten_cons, List.flatten_nil, List.append_nil, List.cons_append, List.nil_append]
  after_results <;> rfl

theorem hv1 : (V m c main_v1 : FVec Ideal S1x2048 .f32) = shapeCast _ (m ((c.tc : Thread nD τ).loc main_arg1) : FVec Ideal S2048 .f32) shapeCasts_S2048_S1x2048 := by
  simp only [V, hostOps0, hostOps0_1, hostOps0_2, List.flatten_cons, List.flatten_nil, List.append_nil, List.cons_append, List.nil_append]
  after_results <;> rfl

/-- The host's weights of the latents. -/
def hw (w : FVec Ideal S2048x3648 .f32) : FVec Ideal S2048x768 .bf16 :=
  truncf .bf16 (pad S2048x768 ![0, 0] ![0, 128] ![0, 0] (concatenate S2048x640 1 [⟨S2048x512, extractStridedSlice S2048x512 ![0, 0] w slices_S2048x3648_S2048x512_0_0⟩, ⟨S2048x128, concatenate S2048x128 1 [⟨S2048x32, extractStridedSlice S2048x32 ![0, 0] (extractStridedSlice S2048x64 ![0, 512] w slices_S2048x3648_S2048x64_0_512) slices_S2048x64_S2048x32_0_0⟩, ⟨S2048x32, broadcastInDim S2048x32 ![] bcast_S_S2048x32 (constant (F := Ideal) S_ .f32 0x00000000#32)⟩, ⟨S2048x32, extractStridedSlice S2048x32 ![0, 32] (extractStridedSlice S2048x64 ![0, 512] w slices_S2048x3648_S2048x64_0_512) slices_S2048x64_S2048x32_0_32⟩, ⟨S2048x32, broadcastInDim S2048x32 ![] bcast_S_S2048x32 (constant (F := Ideal) S_ .f32 0x00000000#32)⟩] concatenates_S2048x32_S2048x32_S2048x32_S2048x32_S2048x128_d1⟩] concatenates_S2048x512_S2048x128_S2048x640_d1) (sitofp (F := Ideal) .f32 (constantI S_ 32 0#32)) pads_S2048x640_S2048x768_000_01280 h_S_) bitsLt_bf16_f32

theorem hv2 : (V m c main_v10 : FVec Ideal S2048x768 .bf16) = hw (m ((c.tc : Thread nD τ).loc main_arg2) : FVec Ideal S2048x3648 .f32) := by
  simp only [V, hostOps0, hostOps0_1, hostOps0_2, List.flatten_cons, List.flatten_nil, List.append_nil, List.cons_append, List.nil_append]
  after_results <;> rfl

/-- The host's weights of the other projections. -/
def hw' (w : FVec Ideal S2048x3648 .f32) : FVec Ideal S2048x3072 .bf16 :=
  truncf .bf16 (extractStridedSlice S2048x3072 ![0, 576] w slices_S2048x3648_S2048x3072_0_576) bitsLt_bf16_f32

theorem hv3 : (V m c main_v12 : FVec Ideal S2048x3072 .bf16) = hw' (m ((c.tc : Thread nD τ).loc main_arg2) : FVec Ideal S2048x3648 .f32) := by
  simp only [V, hostOps0, hostOps0_1, hostOps0_2, List.flatten_cons, List.flatten_nil, List.append_nil, List.cons_append, List.nil_append]
  after_results <;> rfl

theorem cast0 (x : FVec Ideal S2x8192x2048 .f32) (n : Fin 16384) (l : Fin 2048) :
    shapeCast S16384x2048 x shapeCasts_S2x8192x2048_S16384x2048 (ix2 n l) = x (ix3 ⟨n.val / 8192, by omega⟩ ⟨n.val % 8192, by omega⟩ l) := by
  pointwise []

theorem read0 (t : Fin cfg0.N) (r : Fin 512) (l : Fin 2048) (hb hs) :
    (iblk m c 0 t : FVec Ideal S512x2048 .f32) (ix2 r l) = (m ((c.tc : Thread nD τ).loc main_arg0) : FVec Ideal S2x8192x2048 .f32) (ix3 ⟨(t.val * 512 + r.val) / 8192, hb⟩ ⟨(t.val * 512 + r.val) % 8192, hs⟩ l) := by
  have ht := tlt t
  have hn : t.val * 512 + r.val < 16384 := by omega
  have e : (iblk m c 0 t : FVec Ideal S512x2048 .f32) (ix2 r l) = (V m c main_v0 : FVec Ideal S16384x2048 .f32) (ix2 ⟨t.val * 512 + r.val, hn⟩ l) := by
    refine congrArg (V m c main_v0 : FVec Ideal S16384x2048 .f32) ?_
    have hi := (idx t).1
    funext a
    match a with
    | ⟨0, _⟩ =>
      refine Fin.ext ((ValueKit.view_emb_slice_whole_unit_val _ _ _ _ _ _).trans ?_)
      show win0_0.index t 0 * 512 + r.val = t.val * 512 + r.val
      rw [hi]
      rfl
    | ⟨1, _⟩ =>
      refine Fin.ext ((ValueKit.view_emb_slice_whole_unit_val _ _ _ _ _ _).trans ?_)
      show win0_0.index t 1 * 2048 + l.val = l.val
      rw [hi]
      show 0 * 2048 + l.val = l.val
      omega
  rw [e, hv0]
  exact cast0 _ _ _

theorem read1 (t : Fin cfg0.N) (l : Fin 2048) :
    (iblk m c 1 t : FVec Ideal S1x2048 .f32) (ix2 0 l) = (m ((c.tc : Thread nD τ).loc main_arg1) : FVec Ideal S2048 .f32) (ix1 l) := by
  have e : (iblk m c 1 t : FVec Ideal S1x2048 .f32) (ix2 0 l) = (V m c main_v1 : FVec Ideal S1x2048 .f32) (ix2 0 l) := by
    refine congrArg (V m c main_v1 : FVec Ideal S1x2048 .f32) ?_
    have hi := (idx t).2.1
    funext a
    match a with
    | ⟨0, _⟩ =>
      refine Fin.ext ((ValueKit.view_emb_slice_whole_unit_val _ _ _ _ _ _).trans ?_)
      show win0_1.index t 0 * 1 + 0 = 0
      rw [hi]
      rfl
    | ⟨1, _⟩ =>
      refine Fin.ext ((ValueKit.view_emb_slice_whole_unit_val _ _ _ _ _ _).trans ?_)
      show win0_1.index t 1 * 2048 + l.val = l.val
      rw [hi]
      show 0 * 2048 + l.val = l.val
      omega
  rw [e, hv1]
  generalize (m ((c.tc : Thread nD τ).loc main_arg1) : FVec Ideal S2048 .f32) = x
  pointwise []

theorem read3 (t : Fin cfg0.N) (d : Fin 2048) (l : Fin 3072) (hl) :
    (iblk m c 3 t : FVec Ideal S2048x3072 .bf16) (ix2 d l) = (m ((c.tc : Thread nD τ).loc main_arg2) : FVec Ideal S2048x3648 .f32) (ix2 d ⟨576 + l.val, hl⟩) := by
  have e : (iblk m c 3 t : FVec Ideal S2048x3072 .bf16) (ix2 d l) = (V m c main_v12 : FVec Ideal S2048x3072 .bf16) (ix2 d l) := by
    refine congrArg (V m c main_v12 : FVec Ideal S2048x3072 .bf16) ?_
    have hi := (idx t).2.2.2.1
    funext a
    match a with
    | ⟨0, _⟩ =>
      refine Fin.ext ((ValueKit.view_emb_slice_whole_unit_val _ _ _ _ _ _).trans ?_)
      show win0_3.index t 0 * 2048 + d.val = d.val
      rw [hi]
      show 0 * 2048 + d.val = d.val
      omega
    | ⟨1, _⟩ =>
      refine Fin.ext ((ValueKit.view_emb_slice_whole_unit_val _ _ _ _ _ _).trans ?_)
      show win0_3.index t 1 * 3072 + l.val = l.val
      rw [hi]
      show 0 * 3072 + l.val = l.val
      omega
  rw [e, hv3]
  generalize (m ((c.tc : Thread nD τ).loc main_arg2) : FVec Ideal S2048x3648 .f32) = x
  pointwise [hw']

/-- The host's weights of the latents, an entry at a time. -/
theorem hw_at (w : FVec Ideal S2048x3648 .f32) (d : Fin 2048) (l : Fin 768) : hw w (ix2 d l) = latW w d l := by
  have hz : (FloatOps.sitofp (F := Ideal) FTy.f32 (0#32 : BitVec 32) : EReal) = 0 := by
    show ((((0#32 : BitVec 32).toInt : ℝ)) : EReal) = 0
    simp
  have hl := l.isLt
  have h1 : hw w (ix2 d l) = if h_1 : l.val < 640 then (if h_2 : l.val < 512 then w (ix2 d ⟨l.val, by omega⟩)
      else if h_3 : l.val - 512 < 32 then w (ix2 d ⟨512 + (l.val - 512), by omega⟩)
      else if h_4 : l.val - 512 - 32 < 32 then (0 : EReal)
      else if h_5 : l.val - 512 - 32 - 32 < 32 then w (ix2 d ⟨512 + (32 + (l.val - 512 - 32 - 32)), by omega⟩) else (0 : EReal))
      else FloatOps.sitofp (F := Ideal) FTy.f32 (0#32 : BitVec 32) := by
    pointwise [hw]
  rw [h1, hz]
  unfold latW
  by_cases c1 : l.val < 512
  · rw [dif_pos (by omega), dif_pos c1, dif_pos (by omega)]
  by_cases c2 : l.val < 544
  · rw [dif_pos (by omega), dif_neg c1, dif_pos (by omega), dif_pos c2]
    exact congrArg (fun j => w (ix2 d j)) (Fin.ext (by dsimp only; omega))
  by_cases c3 : l.val < 576
  · rw [dif_pos (by omega), dif_neg c1, dif_neg (by omega), dif_pos (by omega), dif_neg c2, dif_neg (by omega)]
  by_cases c4 : l.val < 608
  · rw [dif_pos (by omega), dif_neg c1, dif_neg (by omega), dif_neg (by omega), dif_pos (by omega), dif_neg c2, dif_pos (by omega)]
    exact congrArg (fun j => w (ix2 d j)) (Fin.ext (by dsimp only; omega))
  by_cases c5 : l.val < 640
  · rw [dif_pos c5, dif_neg c1, dif_neg (by omega), dif_neg (by omega), dif_neg (by omega), dif_neg c2, dif_neg (by omega)]
  · rw [dif_neg c5, dif_neg c2, dif_neg (by omega)]

theorem read2 (t : Fin cfg0.N) (d : Fin 2048) (l : Fin 768) :
    (iblk m c 2 t : FVec Ideal S2048x768 .bf16) (ix2 d l) = latW (m ((c.tc : Thread nD τ).loc main_arg2)) d l := by
  have e : (iblk m c 2 t : FVec Ideal S2048x768 .bf16) (ix2 d l) = (V m c main_v10 : FVec Ideal S2048x768 .bf16) (ix2 d l) := by
    refine congrArg (V m c main_v10 : FVec Ideal S2048x768 .bf16) ?_
    have hi := (idx t).2.2.1
    funext a
    match a with
    | ⟨0, _⟩ =>
      refine Fin.ext ((ValueKit.view_emb_slice_whole_unit_val _ _ _ _ _ _).trans ?_)
      show win0_2.index t 0 * 2048 + d.val = d.val
      rw [hi]
      show 0 * 2048 + d.val = d.val
      omega
    | ⟨1, _⟩ =>
      refine Fin.ext ((ValueKit.view_emb_slice_whole_unit_val _ _ _ _ _ _).trans ?_)
      show win0_2.index t 1 * 768 + l.val = l.val
      rw [hi]
      show 0 * 768 + l.val = l.val
      omega
  rw [e, hv2]
  exact hw_at _ d l

theorem row0 (t : Fin cfg0.N) (n : Fin 16384) (r : Fin 512) (l : Fin 2048) (hn : n.val = t.val * 512 + r.val) :
    (iblk m c 0 t : FVec Ideal S512x2048 .f32) (ix2 r l) = (m ((c.tc : Thread nD τ).loc main_arg0) : FVec Ideal S2x8192x2048 .f32) (ix3 ⟨n.val / 8192, by omega⟩ ⟨n.val % 8192, by omega⟩ l) := by
  have ht := tlt t
  have hb : t.val * 512 + r.val < 16384 := by omega
  obtain rfl : n = ⟨t.val * 512 + r.val, hb⟩ := Fin.ext hn
  exact read0 m c t r l _ _

theorem rowXN (t : Fin cfg0.N) (n : Fin 16384) (r : Fin 512) (l : Fin 2048) (hn : n.val = t.val * 512 + r.val) :
    xnB (iblk m c 0 t) (iblk m c 1 t) (ix2 r l) = XN (m ((c.tc : Thread nD τ).loc main_arg0)) (m ((c.tc : Thread nD τ).loc main_arg1)) n l := by
  have e := funext fun d => row0 m c t n r d hn
  have hx : ∀ (a : FVec Ideal S512x2048 .f32) (b : FVec Ideal S1x2048 .f32), xnB a b (ix2 r l) = a (ix2 r l) * rs (fun d => a (ix2 r d)) * b (ix2 0 l) := fun _ _ => rfl
  rw [hx, e, row0 m c t n r l hn, read1]
  rfl

/-- The latents' array, an entry at a time. -/
theorem arr4_at (n : Fin 16384) (l : Fin 768) : ((dats m 0 c).arrAt 4 cfg0.N : FVec Ideal S16384x768 .f32) (ix2 n l)
    = Lat (m ((c.tc : Thread nD τ).loc main_arg0)) (m ((c.tc : Thread nD τ).loc main_arg1)) (m ((c.tc : Thread nD τ).loc main_arg2)) n l := by
  have hN : n.val / 512 < cfg0.N := lt_of_lt_of_eq (by omega) N_0.symm
  have hf : (cfg0.win 4).flush ⟨n.val / 512, hN⟩ = true := (by decide +kernel : ∀ t : Fin grid0.N, (cfg0.win 4).flush t = true) ⟨n.val / 512, hN⟩
  have hb := congrFun ((blocks4 m c ⟨n.val / 512, hN⟩ hf).trans (flushed4_A m c ⟨n.val / 512, hN⟩)) (ix2 ⟨n.val % 512, by omega⟩ l)
  have he : ((dats m 0 c).arrAt 4 cfg0.N : FVec Ideal S16384x768 .f32) (ix2 n l)
      = (((cfg0.win 4).blk ⟨n.val / 512, hN⟩).view.read (Elt Ideal) ((dats m 0 c).arrAt 4 cfg0.N)) (ix2 ⟨n.val % 512, by omega⟩ l) := by
    refine congrArg ((dats m 0 c).arrAt 4 cfg0.N : FVec Ideal S16384x768 .f32) ?_
    have hi := (idx ⟨n.val / 512, hN⟩).2.2.2.2.1
    funext a
    match a with
    | ⟨0, _⟩ =>
      refine Fin.ext (Eq.trans ?_ (ValueKit.view_emb_slice_whole_unit_val _ _ _ _ _ _).symm)
      show n.val = win0_4.index ⟨n.val / 512, hN⟩ 0 * 512 + n.val % 512
      rw [hi]
      show n.val = n.val / 512 * 512 + n.val % 512
      omega
    | ⟨1, _⟩ =>
      refine Fin.ext (Eq.trans ?_ (ValueKit.view_emb_slice_whole_unit_val _ _ _ _ _ _).symm)
      show l.val = win0_4.index ⟨n.val / 512, hN⟩ 1 * 768 + l.val
      rw [hi]
      show l.val = 0 * 768 + l.val
      omega
  refine he.trans (hb.trans (Eq.trans ?_ (Eq.trans (oA4 c (grid0.coords ⟨n.val / 512, hN⟩) (ms0_0 ⟨n.val / 512, hN⟩) (hs0_0 _) (ms0_1 ⟨n.val / 512, hN⟩) (hs0_1 _) (ms0_2 ⟨n.val / 512, hN⟩) (hs0_2 _) (ms0_3 ⟨n.val / 512, hN⟩) (hs0_3 _) (ms0_4 ⟨n.val / 512, hN⟩) (hs0_4 _) (ms0_5 ⟨n.val / 512, hN⟩) (hs0_5 _) scM0_0 (Memref.isWhole_whole _) (iblk m c 0 ⟨n.val / 512, hN⟩) (iblk m c 1 ⟨n.val / 512, hN⟩) (iblk m c 2 ⟨n.val / 512, hN⟩) (iblk m c 3 ⟨n.val / 512, hN⟩) (ix2 ⟨n.val % 512, by omega⟩ l)) ?_)))
  · rfl
  · refine Finset.sum_congr (M := EReal) rfl fun d _ => ?_
    exact congrArg₂ (fun a b : EReal => a * b) (rowXN m c ⟨n.val / 512, hN⟩ n ⟨n.val % 512, by omega⟩ d (by dsimp only; omega)) (read2 m c _ d l)

/-- The other projections' array, an entry at a time. -/
theorem arr5_at (n : Fin 16384) (l : Fin 3072) : ((dats m 0 c).arrAt 5 cfg0.N : FVec Ideal S16384x3072 .bf16) (ix2 n l)
    = Proj (m ((c.tc : Thread nD τ).loc main_arg0)) (m ((c.tc : Thread nD τ).loc main_arg1)) (m ((c.tc : Thread nD τ).loc main_arg2)) n l := by
  have hN : n.val / 512 < cfg0.N := lt_of_lt_of_eq (by omega) N_0.symm
  have hf : (cfg0.win 5).flush ⟨n.val / 512, hN⟩ = true := (by decide +kernel : ∀ t : Fin grid0.N, (cfg0.win 5).flush t = true) ⟨n.val / 512, hN⟩
  have hb := congrFun ((blocks5 m c ⟨n.val / 512, hN⟩ hf).trans (flushed5_A m c ⟨n.val / 512, hN⟩)) (ix2 ⟨n.val % 512, by omega⟩ l)
  have he : ((dats m 0 c).arrAt 5 cfg0.N : FVec Ideal S16384x3072 .bf16) (ix2 n l)
      = (((cfg0.win 5).blk ⟨n.val / 512, hN⟩).view.read (Elt Ideal) ((dats m 0 c).arrAt 5 cfg0.N)) (ix2 ⟨n.val % 512, by omega⟩ l) := by
    refine congrArg ((dats m 0 c).arrAt 5 cfg0.N : FVec Ideal S16384x3072 .bf16) ?_
    have hi := (idx ⟨n.val / 512, hN⟩).2.2.2.2.2
    funext a
    match a with
    | ⟨0, _⟩ =>
      refine Fin.ext (Eq.trans ?_ (ValueKit.view_emb_slice_whole_unit_val _ _ _ _ _ _).symm)
      show n.val = win0_5.index ⟨n.val / 512, hN⟩ 0 * 512 + n.val % 512
      rw [hi]
      show n.val = n.val / 512 * 512 + n.val % 512
      omega
    | ⟨1, _⟩ =>
      refine Fin.ext (Eq.trans ?_ (ValueKit.view_emb_slice_whole_unit_val _ _ _ _ _ _).symm)
      show l.val = win0_5.index ⟨n.val / 512, hN⟩ 1 * 3072 + l.val
      rw [hi]
      show l.val = 0 * 3072 + l.val
      omega
  refine he.trans (hb.trans (Eq.trans ?_ (Eq.trans (oA5 c (grid0.coords ⟨n.val / 512, hN⟩) (ms0_0 ⟨n.val / 512, hN⟩) (hs0_0 _) (ms0_1 ⟨n.val / 512, hN⟩) (hs0_1 _) (ms0_2 ⟨n.val / 512, hN⟩) (hs0_2 _) (ms0_3 ⟨n.val / 512, hN⟩) (hs0_3 _) (ms0_4 ⟨n.val / 512, hN⟩) (hs0_4 _) (ms0_5 ⟨n.val / 512, hN⟩) (hs0_5 _) scM0_0 (Memref.isWhole_whole _) (iblk m c 0 ⟨n.val / 512, hN⟩) (iblk m c 1 ⟨n.val / 512, hN⟩) (iblk m c 2 ⟨n.val / 512, hN⟩) (iblk m c 3 ⟨n.val / 512, hN⟩) (ix2 ⟨n.val % 512, by omega⟩ l)) ?_)))
  · rfl
  · refine Finset.sum_congr (M := EReal) rfl fun d _ => ?_
    exact congrArg₂ (fun a b : EReal => a * b) (rowXN m c ⟨n.val / 512, hN⟩ n ⟨n.val % 512, by omega⟩ d (by dsimp only; omega)) (read3 m c _ d l _)

end Cert.InprojIdeal.Body

namespace Cert.InprojReferenceIdeal.Body

open Cert.InprojReferenceIdeal Cert.InprojReferenceIdeal.Gen

/-- The root-mean-square normalisation of every row, as the reference spells it. -/
def hxn (x : FVec Ideal S2x8192x2048 .f32) (g : FVec Ideal S2048 .f32) : FVec Ideal S2x8192x2048 .f32 :=
  mulf (mulf x (broadcastInDim S2x8192x2048 ![0, 1, 2] bcast_S2x8192x1_S2x8192x2048_0_1_2 (Host.rsqrt (addf (Host.divf (broadcastInDim S2x8192x1 ![0, 1] bcast_S2x8192_S2x8192x1_0_1 (Host.reduceAdd (mulf x x) (constant S_ .f32 0x00000000#32) reducesTo_S2x8192x2048_S2x8192_d2 h_S_)) (broadcastInDim S2x8192x1 ![] bcast_S_S2x8192x1 (constant S_ .f32 0x45000000#32))) (broadcastInDim S2x8192x1 ![] bcast_S_S2x8192x1 (constant S_ .f32 0x358637BD#32)))))) (broadcastInDim S2x8192x2048 ![0, 1, 2] bcast_S1x1x2048_S2x8192x2048_0_1_2 (broadcastInDim S1x1x2048 ![2] bcast_S2048_S1x1x2048_2 g))

/-- The projection. -/
def hproj (x : FVec Ideal S2x8192x2048 .f32) (g : FVec Ideal S2048 .f32) (w : FVec Ideal S2048x3648 .f32) : FVec Ideal S16384x3648 .f32 :=
  shapeCast _ (Host.dotGeneral dot_S2x8192x2048_S2048x3648_S2x8192x3648_2_0_01_1_n_n none (hxn x g) w) shapeCasts_S2x8192x3648_S16384x3648

/-- The latents with the rotary columns spread. -/
def hlat (p : FVec Ideal S16384x3648 .f32) : FVec Ideal S16384x768 .f32 :=
  concatenate S16384x768 1 [⟨S16384x576, (pad S16384x576 ![0, 0] ![0, 32] ![0, 0] (extractStridedSlice S16384x544 ![0, 0] p slices_S16384x3648_S16384x544_0_0) (sitofp (F := Ideal) .f32 (constantI S_ 32 0#32)) pads_S16384x544_S16384x576_000_0320 h_S_)⟩, ⟨S16384x192, (pad S16384x192 ![0, 0] ![0, 160] ![0, 0] (extractStridedSlice S16384x32 ![0, 544] p slices_S16384x3648_S16384x32_0_544) (sitofp (F := Ideal) .f32 (constantI S_ 32 0#32)) pads_S16384x32_S16384x192_000_01600 h_S_)⟩] concatenates_S16384x576_S16384x192_S16384x768_d1

def hrest (p : FVec Ideal S16384x3648 .f32) : FVec Ideal S16384x3072 .bf16 :=
  truncf .bf16 (extractStridedSlice S16384x3072 ![0, 576] p slices_S16384x3648_S16384x3072_0_576) bitsLt_bf16_f32

open Cert.InprojIdeal.Body

theorem proj_at (x : FVec Ideal S2x8192x2048 .f32) (g : FVec Ideal S2048 .f32) (w : FVec Ideal S2048x3648 .f32) (n : Fin 16384) (l : Fin 3648) :
    hproj x g w (ix2 n l) = ∑ d, XN x g n d * w (ix2 d l) := by
  have hx : ∀ k : Fin 2048, hxn x g (ix3 ⟨n.val / 8192, by omega⟩ ⟨n.val % 8192, by omega⟩ k) = XN x g n k := by
    intro k
    pointwise [hxn, XN, rs]
  simp only [← hx]
  unfold hproj
  generalize hxn x g = h
  pointwise []

theorem rest_at (x : FVec Ideal S2x8192x2048 .f32) (g : FVec Ideal S2048 .f32) (w : FVec Ideal S2048x3648 .f32) (n : Fin 16384) (l : Fin 3072) :
    hrest (hproj x g w) (ix2 n l) = Proj x g w n l := by
  unfold Proj
  rw [← proj_at]
  generalize hproj x g w = h
  pointwise [hrest]

theorem lat_at (x : FVec Ideal S2x8192x2048 .f32) (g : FVec Ideal S2048 .f32) (w : FVec Ideal S2048x3648 .f32) (n : Fin 16384) (l : Fin 768) :
    hlat (hproj x g w) (ix2 n l) = Lat x g w n l := by
  have hz : (FloatOps.sitofp (F := Ideal) FTy.f32 (0#32 : BitVec 32) : EReal) = 0 := by
    show ((((0#32 : BitVec 32).toInt : ℝ)) : EReal) = 0
    simp
  have h : ∀ p : FVec Ideal S16384x3648 .f32, hlat p (ix2 n l) = if h : l.val < 544 then p (ix2 n ⟨l.val, by omega⟩) else if h : 576 ≤ l.val ∧ l.val < 608 then p (ix2 n ⟨l.val - 32, by omega⟩) else 0 := by
    intro p
    have h1 : hlat p (ix2 n l) = if h_1 : l.val < 576 then if h_2 : l.val < 544 then p (ix2 n ⟨l.val, by omega⟩) else FloatOps.sitofp (F := Ideal) FTy.f32 (0#32 : BitVec 32)
        else if h_2 : l.val - 576 < 32 then p (ix2 n ⟨544 + (l.val - 576), by omega⟩) else FloatOps.sitofp (F := Ideal) FTy.f32 (0#32 : BitVec 32) := by
      pointwise [hlat]
    rw [h1, hz]
    by_cases c1 : l.val < 544
    · rw [dif_pos (by omega), dif_pos c1, dif_pos c1]
    · by_cases c2 : l.val < 576
      · rw [dif_pos c2, dif_neg c1, dif_neg c1, dif_neg (by omega)]
      · by_cases c3 : l.val < 608
        · rw [dif_neg c2, dif_pos (by omega), dif_neg c1, dif_pos (by omega)]
          exact congrArg (fun j => p (ix2 n j)) (Fin.ext (by dsimp only; omega))
        · rw [dif_neg c2, dif_neg (by omega), dif_neg c1, dif_neg (by omega)]
  rw [h]
  unfold Lat latW
  split
  · exact proj_at x g w n _
  · split
    · exact proj_at x g w n _
    · simp only [mul_zero, Finset.sum_const_zero]

theorem tie4 (m : (ℓ : Loc Cert.InprojIdeal.nD Cert.InprojIdeal.τ Cert.InprojIdeal.sig) → Buf (Elt Ideal) ℓ) (c : Dev Cert.InprojIdeal.nD) :
    hlat (hproj (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)))
      = ((Cert.InprojIdeal.Gen.dats m 0 c).arrAt 4 Cert.InprojIdeal.cfg0.N : FVec Ideal S16384x768 .f32) := by
  refine funext fun (y : S16384x768.Idx) => ?_
  obtain ⟨n, l, rfl⟩ : ∃ n l, y = ix2 n l := ⟨y 0, y 1, funext fun a => match a with | ⟨0, _⟩ => rfl | ⟨1, _⟩ => rfl⟩
  exact (lat_at _ _ _ n l).trans (Cert.InprojIdeal.Body.arr4_at m c n l).symm

theorem tie5 (m : (ℓ : Loc Cert.InprojIdeal.nD Cert.InprojIdeal.τ Cert.InprojIdeal.sig) → Buf (Elt Ideal) ℓ) (c : Dev Cert.InprojIdeal.nD) :
    hrest (hproj (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)))
      = ((Cert.InprojIdeal.Gen.dats m 0 c).arrAt 5 Cert.InprojIdeal.cfg0.N : FVec Ideal S16384x3072 .bf16) := by
  refine funext fun (y : S16384x3072.Idx) => ?_
  obtain ⟨n, l, rfl⟩ : ∃ n l, y = ix2 n l := ⟨y 0, y 1, funext fun a => match a with | ⟨0, _⟩ => rfl | ⟨1, _⟩ => rfl⟩
  exact (rest_at _ _ _ n l).trans (Cert.InprojIdeal.Body.arr5_at m c n l).symm

end Cert.InprojReferenceIdeal.Body
end
-- ==== Proof.PrepBody.lean ====
module

public import proofs.«01_k».proof.Proof.Gen.MlaPrepIdeal.Value
public import Idealize.ShloMosaic.Lib.Pipeline.ValueKit
public import Idealize.ShloMosaic.Lib.Pipeline.ReadBack
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.MlaPrepIdeal.Body

open Cert.MlaPrepIdeal Cert.MlaPrepIdeal.Gen Cert.MlaPrepIdeal.Value

/-- One over the root of a query latent's mean square, with the small constant under the root. -/
def rsQ (v : Fin 384 → EReal) : EReal :=
  Ideal.rsqrt (Ideal.div (∑ x, v x * v x) (Ideal.ofBits FTy.f32 0x43C00000#32) + Ideal.ofBits FTy.f32 897988541#32)

/-- One over the root of a key latent's mean square, with the small constant under the root. -/
def rsK (v : Fin 128 → EReal) : EReal :=
  Ideal.rsqrt (Ideal.div (∑ x, v x * v x) (Ideal.ofBits FTy.f32 0x43000000#32) + Ideal.ofBits FTy.f32 897988541#32)

/-- The factor the queries carry. -/
def sc : EReal := Ideal.ofBits FTy.f32 0x3DD53B95#32

/-- The query latents of a block, normalised and weighted. -/
def xqB (x0 : FVec Ideal S1024x768 .f32) (x1 : FVec Ideal S1x384 .f32) (r : Fin 1024) (l : Fin 384) : EReal :=
  x0 (ix2 r ⟨l.val, by omega⟩) * rsQ (fun d => x0 (ix2 r ⟨d.val, by omega⟩)) * x1 (ix2 0 l)

/-- The key latents of a block, normalised and weighted. -/
def ckB (x0 : FVec Ideal S1024x768 .f32) (x2 : FVec Ideal S1x128 .f32) (r : Fin 1024) (l : Fin 128) : EReal :=
  x0 (ix2 r ⟨384 + l.val, by omega⟩) * rsK (fun d => x0 (ix2 r ⟨384 + d.val, by omega⟩)) * x2 (ix2 0 l)

/-- The keys' rotary lanes of a block, rotated. -/
def krB (x0 : FVec Ideal S1024x768 .f32) (x5 : FVec Ideal S1024x256 .f32) (r : Fin 1024) (l : Fin 128) : EReal :=
  x0 (ix2 r ⟨512 + l.val, by omega⟩) * x5 (ix2 r ⟨l.val, by omega⟩)
    + x0 (ix2 r ⟨512 + (l.val + 128 - 64) % 128, by omega⟩) * x5 (ix2 r ⟨128 + l.val, by omega⟩)

/-- A head's latent lanes of the queries: its columns times the head's part of the keys' up-projection. -/
def aF (h : Fin 8) (q : FVec Ideal S1024x2048 .f32) (x4 : FVec Ideal S8x128x128 .bf16) (r : Fin 1024) (l : Fin 128) : EReal :=
  (∑ d : Fin 128, q (ix2 r ⟨256 * h.val + d.val, by omega⟩) * x4 (ix3 h d l)) * sc

/-- A head's rotary lanes of the queries, rotated. -/
def rF (h : Fin 8) (q : FVec Ideal S1024x2048 .f32) (x5 : FVec Ideal S1024x256 .f32) (r : Fin 1024) (l : Fin 128) : EReal :=
  (q (ix2 r ⟨256 * h.val + 128 + l.val, by omega⟩) * x5 (ix2 r ⟨l.val, by omega⟩)
    + q (ix2 r ⟨256 * h.val + 128 + (l.val + 128 - 64) % 128, by omega⟩) * x5 (ix2 r ⟨128 + l.val, by omega⟩)) * sc

/-- The block of queries: blocks of 256 rows, within each the heads, within each the rows. -/
def blkQ (q : FVec Ideal S1024x2048 .f32) (x4 : FVec Ideal S8x128x128 .bf16) (x5 : FVec Ideal S1024x256 .f32) : FVec Ideal S8192x256 .bf16 :=
  fun y => if h : (y 1).val < 128
    then aF ⟨(y 0).val % 2048 / 256, by omega⟩ q x4 ⟨(y 0).val / 2048 * 256 + (y 0).val % 256, by have : (y 0).val < 8192 := (y 0).isLt; omega⟩ ⟨(y 1).val, h⟩
    else rF ⟨(y 0).val % 2048 / 256, by omega⟩ q x5 ⟨(y 0).val / 2048 * 256 + (y 0).val % 256, by have : (y 0).val < 8192 := (y 0).isLt; omega⟩ ⟨(y 1).val - 128, by have : (y 1).val < 256 := (y 1).isLt; omega⟩

theorem emb_at (o0 o1 : ℕ) (inb) (x0 : Fin 256) (x1 : Fin 128) (h0 : o0 + x0.val < 8192) (h1 : o1 + x1.val < 256) :
    (Rect.unit (s := S8192x256) ![o0, o1] S256x128.size inb).emb (ix2 x0 x1) = ix2 ⟨o0 + x0.val, h0⟩ ⟨o1 + x1.val, h1⟩ := by
  funext a
  match a with
  | ⟨0, _⟩ => exact Fin.ext (by show o0 + 1 * x0.val = o0 + x0.val; omega)
  | ⟨1, _⟩ => exact Fin.ext (by show o1 + 1 * x1.val = o1 + x1.val; omega)

section Pieces

variable (q : FVec Ideal S1024x2048 .f32) (x4 : FVec Ideal S8x128x128 .bf16) (x5 : FVec Ideal S1024x256 .f32)

theorem blkQ_a (b : Fin 4) (h : Fin 8) (o0 : ℕ) (inb) (ho : o0 = b.val * 2048 + h.val * 256) (x0 : Fin 256) (x1 : Fin 128) :
    blkQ q x4 x5 ((Rect.unit (s := S8192x256) ![o0, 0] S256x128.size inb).emb (ix2 x0 x1)) = aF h q x4 ⟨b.val * 256 + x0.val, by omega⟩ x1 := by
  subst ho
  rw [emb_at _ _ _ x0 x1 (by omega) (by omega)]
  have hc : 0 + x1.val < 128 := by omega
  have h1 : (⟨(b.val * 2048 + h.val * 256 + x0.val) % 2048 / 256, by omega⟩ : Fin 8) = h := Fin.ext (by dsimp only; omega)
  have h2 : (⟨(b.val * 2048 + h.val * 256 + x0.val) / 2048 * 256 + (b.val * 2048 + h.val * 256 + x0.val) % 256, by omega⟩ : Fin 1024) = ⟨b.val * 256 + x0.val, by omega⟩ := Fin.ext (by dsimp only; omega)
  have h3 : (⟨0 + x1.val, hc⟩ : Fin 128) = x1 := Fin.ext (by dsimp only; omega)
  have e : blkQ q x4 x5 (ix2 ⟨b.val * 2048 + h.val * 256 + x0.val, by omega⟩ ⟨0 + x1.val, by omega⟩) = aF ⟨(b.val * 2048 + h.val * 256 + x0.val) % 2048 / 256, by omega⟩ q x4 ⟨(b.val * 2048 + h.val * 256 + x0.val) / 2048 * 256 + (b.val * 2048 + h.val * 256 + x0.val) % 256, by omega⟩ ⟨0 + x1.val, hc⟩ := dif_pos hc
  rw [e, h1, h2, h3]

theorem blkQ_r (b : Fin 4) (h : Fin 8) (o0 : ℕ) (inb) (ho : o0 = b.val * 2048 + h.val * 256) (x0 : Fin 256) (x1 : Fin 128) :
    blkQ q x4 x5 ((Rect.unit (s := S8192x256) ![o0, 128] S256x128.size inb).emb (ix2 x0 x1)) = rF h q x5 ⟨b.val * 256 + x0.val, by omega⟩ x1 := by
  subst ho
  rw [emb_at _ _ _ x0 x1 (by omega) (by omega)]
  have hc : ¬ 128 + x1.val < 128 := by omega
  have h1 : (⟨(b.val * 2048 + h.val * 256 + x0.val) % 2048 / 256, by omega⟩ : Fin 8) = h := Fin.ext (by dsimp only; omega)
  have h2 : (⟨(b.val * 2048 + h.val * 256 + x0.val) / 2048 * 256 + (b.val * 2048 + h.val * 256 + x0.val) % 256, by omega⟩ : Fin 1024) = ⟨b.val * 256 + x0.val, by omega⟩ := Fin.ext (by dsimp only; omega)
  have h3 : (⟨128 + x1.val - 128, by omega⟩ : Fin 128) = x1 := Fin.ext (by dsimp only; omega)
  have e : blkQ q x4 x5 (ix2 ⟨b.val * 2048 + h.val * 256 + x0.val, by omega⟩ ⟨128 + x1.val, by omega⟩) = rF ⟨(b.val * 2048 + h.val * 256 + x0.val) % 2048 / 256, by omega⟩ q x5 ⟨(b.val * 2048 + h.val * 256 + x0.val) / 2048 * 256 + (b.val * 2048 + h.val * 256 + x0.val) % 256, by omega⟩ ⟨128 + x1.val - 128, by omega⟩ := dif_neg hc
  rw [e, h1, h2, h3]

theorem cut_at (b : Fin 4) (o : ℕ) (v : FVec Ideal S1024x128 .bf16) (hs) (ho : o = b.val * 256) (x0 : Fin 256) (x1 : Fin 128) :
    extractStridedSlice S256x128 ![o, 0] v hs (ix2 x0 x1) = v (ix2 ⟨b.val * 256 + x0.val, by omega⟩ x1) := by
  subst ho
  pointwise []

theorem ld4 (h : Fin 8) (o : ℕ) (inb) (ho : o = h.val) (d l : Fin 128) :
    (View.ld (Val := Elt Ideal) (e' := .bf16) x4 (Rect.unit (s := S8x128x128) ![o, 0, 0] S1x128x128.size inb) : FVec Ideal S1x128x128 .bf16) (ix3 0 d l) = x4 (ix3 h d l) := by
  subst ho
  refine congrArg x4 ?_
  funext a
  match a with
  | ⟨0, _⟩ => exact Fin.ext (by show h.val + 1 * 0 = h.val; omega)
  | ⟨1, _⟩ => exact Fin.ext (by show 0 + 1 * d.val = d.val; omega)
  | ⟨2, _⟩ => exact Fin.ext (by show 0 + 1 * l.val = l.val; omega)

/-- The cosine and sine columns of the rotary table's block. -/
theorem ldc (r : Fin 1024) (l : Fin 128) : (k0_pay4 (F := Ideal) (View.ld x5 r0_5)) (ix2 r l) = x5 (ix2 r ⟨l.val, by omega⟩) := by
  pointwise [k0_pay4]

theorem lds (r : Fin 1024) (l : Fin 128) : (k0_pay5 (F := Ideal) (View.ld x5 r0_6)) (ix2 r l) = x5 (ix2 r ⟨128 + l.val, by omega⟩) := by
  pointwise [k0_pay5]

theorem a0 (q16 : FVec Ideal S1024x384 .bf16) (x3 : FVec Ideal S384x2048 .bf16) (r : Fin 1024) (l : Fin 128) :
    k0_pay7 (F := Ideal) q16 x3 (View.ld x4 r0_8) (ix2 r l) = aF 0 (k0_pay6 q16 x3) x4 r l := by
  have e : ∀ v : FVec Ideal S1x128x128 .bf16, k0_pay7 (F := Ideal) q16 x3 v (ix2 r l) = (∑ d : Fin 128, (k0_pay6 (F := Ideal) q16 x3) (ix2 r ⟨0 + d.val, by omega⟩) * v (ix3 0 d l)) * sc := by
    intro v
    unfold k0_pay7
    generalize k0_pay6 (F := Ideal) q16 x3 = q
    pointwise [sc]
  rw [e]
  exact congrArg (fun s : EReal => s * sc) (Finset.sum_congr (M := EReal) rfl fun d _ => congrArg (fun s : EReal => (k0_pay6 (F := Ideal) q16 x3) (ix2 r ⟨0 + d.val, by omega⟩) * s) (ld4 x4 0 0 _ rfl d l))

theorem g0 (q16 : FVec Ideal S1024x384 .bf16) (x3 : FVec Ideal S384x2048 .bf16) (r : Fin 1024) (l : Fin 128) :
    k0_pay8 (F := Ideal) q16 (k0_pay4 (View.ld x5 r0_5)) (View.ld x5 r0_6) x3 (ix2 r l) = rF 0 (k0_pay6 q16 x3) x5 r l := by
  unfold rF
  rw [← ldc x5 r l, ← lds x5 r l]
  unfold k0_pay8
  generalize k0_pay6 (F := Ideal) q16 x3 = q
  generalize k0_pay4 (F := Ideal) (View.ld x5 r0_5) = u
  generalize k0_pay5 (F := Ideal) (View.ld x5 r0_6) = v
  pointwise [sc]

theorem a1 (r : Fin 1024) (l : Fin 128) : k0_pay17 (F := Ideal) q (View.ld x4 r0_17) (ix2 r l) = aF 1 q x4 r l := by
  have e : ∀ v : FVec Ideal S1x128x128 .bf16, k0_pay17 (F := Ideal) q v (ix2 r l) = (∑ d : Fin 128, q (ix2 r ⟨256 + d.val, by omega⟩) * v (ix3 0 d l)) * sc := by
    intro v
    pointwise [k0_pay17, sc]
  rw [e]
  exact congrArg (fun s : EReal => s * sc) (Finset.sum_congr (M := EReal) rfl fun d _ => congrArg (fun s : EReal => q (ix2 r ⟨256 + d.val, by omega⟩) * s) (ld4 x4 1 1 _ rfl d l))

theorem g1 (r : Fin 1024) (l : Fin 128) : k0_pay18 (F := Ideal) (k0_pay4 (View.ld x5 r0_5)) (k0_pay5 (View.ld x5 r0_6)) q (ix2 r l) = rF 1 q x5 r l := by
  unfold rF
  rw [← ldc x5 r l, ← lds x5 r l]
  generalize k0_pay4 (F := Ideal) (View.ld x5 r0_5) = u
  generalize k0_pay5 (F := Ideal) (View.ld x5 r0_6) = v
  pointwise [k0_pay18, sc]

theorem a2 (r : Fin 1024) (l : Fin 128) : k0_pay27 (F := Ideal) q (View.ld x4 r0_26) (ix2 r l) = aF 2 q x4 r l := by
  have e : ∀ v : FVec Ideal S1x128x128 .bf16, k0_pay27 (F := Ideal) q v (ix2 r l) = (∑ d : Fin 128, q (ix2 r ⟨512 + d.val, by omega⟩) * v (ix3 0 d l)) * sc := by
    intro v
    pointwise [k0_pay27, sc]
  rw [e]
  exact congrArg (fun s : EReal => s * sc) (Finset.sum_congr (M := EReal) rfl fun d _ => congrArg (fun s : EReal => q (ix2 r ⟨512 + d.val, by omega⟩) * s) (ld4 x4 2 2 _ rfl d l))

theorem g2 (r : Fin 1024) (l : Fin 128) : k0_pay28 (F := Ideal) (k0_pay4 (View.ld x5 r0_5)) (k0_pay5 (View.ld x5 r0_6)) q (ix2 r l) = rF 2 q x5 r l := by
  unfold rF
  rw [← ldc x5 r l, ← lds x5 r l]
  generalize k0_pay4 (F := Ideal) (View.ld x5 r0_5) = u
  generalize k0_pay5 (F := Ideal) (View.ld x5 r0_6) = v
  pointwise [k0_pay28, sc]

theorem a3 (r : Fin 1024) (l : Fin 128) : k0_pay37 (F := Ideal) q (View.ld x4 r0_35) (ix2 r l) = aF 3 q x4 r l := by
  have e : ∀ v : FVec Ideal S1x128x128 .bf16, k0_pay37 (F := Ideal) q v (ix2 r l) = (∑ d : Fin 128, q (ix2 r ⟨768 + d.val, by omega⟩) * v (ix3 0 d l)) * sc := by
    intro v
    pointwise [k0_pay37, sc]
  rw [e]
  exact congrArg (fun s : EReal => s * sc) (Finset.sum_congr (M := EReal) rfl fun d _ => congrArg (fun s : EReal => q (ix2 r ⟨768 + d.val, by omega⟩) * s) (ld4 x4 3 3 _ rfl d l))

theorem g3 (r : Fin 1024) (l : Fin 128) : k0_pay38 (F := Ideal) (k0_pay4 (View.ld x5 r0_5)) (k0_pay5 (View.ld x5 r0_6)) q (ix2 r l) = rF 3 q x5 r l := by
  unfold rF
  rw [← ldc x5 r l, ← lds x5 r l]
  generalize k0_pay4 (F := Ideal) (View.ld x5 r0_5) = u
  generalize k0_pay5 (F := Ideal) (View.ld x5 r0_6) = v
  pointwise [k0_pay38, sc]

theorem a4 (r : Fin 1024) (l : Fin 128) : k0_pay47 (F := Ideal) q (View.ld x4 r0_44) (ix2 r l) = aF 4 q x4 r l := by
  have e : ∀ v : FVec Ideal S1x128x128 .bf16, k0_pay47 (F := Ideal) q v (ix2 r l) = (∑ d : Fin 128, q (ix2 r ⟨1024 + d.val, by omega⟩) * v (ix3 0 d l)) * sc := by
    intro v
    pointwise [k0_pay47, sc]
  rw [e]
  exact congrArg (fun s : EReal => s * sc) (Finset.sum_congr (M := EReal) rfl fun d _ => congrArg (fun s : EReal => q (ix2 r ⟨1024 + d.val, by omega⟩) * s) (ld4 x4 4 4 _ rfl d l))

theorem g4 (r : Fin 1024) (l : Fin 128) : k0_pay48 (F := Ideal) (k0_pay4 (View.ld x5 r0_5)) (k0_pay5 (View.ld x5 r0_6)) q (ix2 r l) = rF 4 q x5 r l := by
  unfold rF
  rw [← ldc x5 r l, ← lds x5 r l]
  generalize k0_pay4 (F := Ideal) (View.ld x5 r0_5) = u
  generalize k0_pay5 (F := Ideal) (View.ld x5 r0_6) = v
  pointwise [k0_pay48, sc]

theorem a5 (r : Fin 1024) (l : Fin 128) : k0_pay57 (F := Ideal) q (View.ld x4 r0_53) (ix2 r l) = aF 5 q x4 r l := by
  have e : ∀ v : FVec Ideal S1x128x128 .bf16, k0_pay57 (F := Ideal) q v (ix2 r l) = (∑ d : Fin 128, q (ix2 r ⟨1280 + d.val, by omega⟩) * v (ix3 0 d l)) * sc := by
    intro v
    pointwise [k0_pay57, sc]
  rw [e]
  exact congrArg (fun s : EReal => s * sc) (Finset.sum_congr (M := EReal) rfl fun d _ => congrArg (fun s : EReal => q (ix2 r ⟨1280 + d.val, by omega⟩) * s) (ld4 x4 5 5 _ rfl d l))

theorem g5 (r : Fin 1024) (l : Fin 128) : k0_pay58 (F := Ideal) (k0_pay4 (View.ld x5 r0_5)) (k0_pay5 (View.ld x5 r0_6)) q (ix2 r l) = rF 5 q x5 r l := by
  unfold rF
  rw [← ldc x5 r l, ← lds x5 r l]
  generalize k0_pay4 (F := Ideal) (View.ld x5 r0_5) = u
  generalize k0_pay5 (F := Ideal) (View.ld x5 r0_6) = v
  pointwise [k0_pay58, sc]

theorem a6 (r : Fin 1024) (l : Fin 128) : k0_pay67 (F := Ideal) q (View.ld x4 r0_62) (ix2 r l) = aF 6 q x4 r l := by
  have e : ∀ v : FVec Ideal S1x128x128 .bf16, k0_pay67 (F := Ideal) q v (ix2 r l) = (∑ d : Fin 128, q (ix2 r ⟨1536 + d.val, by omega⟩) * v (ix3 0 d l)) * sc := by
    intro v
    pointwise [k0_pay67, sc]
  rw [e]
  exact congrArg (fun s : EReal => s * sc) (Finset.sum_congr (M := EReal) rfl fun d _ => congrArg (fun s : EReal => q (ix2 r ⟨1536 + d.val, by omega⟩) * s) (ld4 x4 6 6 _ rfl d l))

theorem g6 (r : Fin 1024) (l : Fin 128) : k0_pay68 (F := Ideal) (k0_pay4 (View.ld x5 r0_5)) (k0_pay5 (View.ld x5 r0_6)) q (ix2 r l) = rF 6 q x5 r l := by
  unfold rF
  rw [← ldc x5 r l, ← lds x5 r l]
  generalize k0_pay4 (F := Ideal) (View.ld x5 r0_5) = u
  generalize k0_pay5 (F := Ideal) (View.ld x5 r0_6) = v
  pointwise [k0_pay68, sc]

theorem a7 (r : Fin 1024) (l : Fin 128) : k0_pay77 (F := Ideal) q (View.ld x4 r0_71) (ix2 r l) = aF 7 q x4 r l := by
  have e : ∀ v : FVec Ideal S1x128x128 .bf16, k0_pay77 (F := Ideal) q v (ix2 r l) = (∑ d : Fin 128, q (ix2 r ⟨1792 + d.val, by omega⟩) * v (ix3 0 d l)) * sc := by
    intro v
    pointwise [k0_pay77, sc]
  rw [e]
  exact congrArg (fun s : EReal => s * sc) (Finset.sum_congr (M := EReal) rfl fun d _ => congrArg (fun s : EReal => q (ix2 r ⟨1792 + d.val, by omega⟩) * s) (ld4 x4 7 7 _ rfl d l))

theorem g7 (r : Fin 1024) (l : Fin 128) : k0_pay78 (F := Ideal) (k0_pay4 (View.ld x5 r0_5)) (k0_pay5 (View.ld x5 r0_6)) q (ix2 r l) = rF 7 q x5 r l := by
  unfold rF
  rw [← ldc x5 r l, ← lds x5 r l]
  generalize k0_pay4 (F := Ideal) (View.ld x5 r0_5) = u
  generalize k0_pay5 (F := Ideal) (View.ld x5 r0_6) = v
  pointwise [k0_pay78, sc]

end Pieces

variable (x0 : FVec Ideal S1024x768 .f32) (x1 : FVec Ideal S1x384 .f32) (x2 : FVec Ideal S1x128 .f32) (x3 : FVec Ideal S384x2048 .bf16) (x4 : FVec Ideal S8x128x128 .bf16) (x5 : FVec Ideal S1024x256 .f32)

/-- The block of queries the body leaves. -/
theorem out6_blk (y : S8192x256.Idx) :
    out0_6 (F := Ideal) x0 x1 x2 x3 x4 x5 y = blkQ (k0_pay93 (F := Ideal) x0 x1 x2 x3 x4 x5) x4 x5 y := by
  unfold out0_6
  refine View.canon_append_of_piecesOf (Val := Elt Ideal) (e := .bf16) (blkQ (k0_pay93 (F := Ideal) x0 x1 x2 x3 x4 x5) x4 x5) [] [_, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _] ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, trivial⟩ y (cover0_6 ..)
  · intro x
    idx_vars x
    exact (cut_at 3 768 _ slices_S1024x128_o768_0_S256x128 rfl _ _).trans ((g7 _ x5 _ _).trans (blkQ_r _ x4 x5 3 7 7936 _ rfl _ _).symm)
  · intro x
    idx_vars x
    exact (cut_at 3 768 _ slices_S1024x128_o768_0_S256x128 rfl _ _).trans ((a7 _ x4 _ _).trans (blkQ_a _ x4 x5 3 7 7936 _ rfl _ _).symm)
  · intro x
    idx_vars x
    exact (cut_at 2 512 _ slices_S1024x128_o512_0_S256x128 rfl _ _).trans ((g7 _ x5 _ _).trans (blkQ_r _ x4 x5 2 7 5888 _ rfl _ _).symm)
  · intro x
    idx_vars x
    exact (cut_at 2 512 _ slices_S1024x128_o512_0_S256x128 rfl _ _).trans ((a7 _ x4 _ _).trans (blkQ_a _ x4 x5 2 7 5888 _ rfl _ _).symm)
  · intro x
    idx_vars x
    exact (cut_at 1 256 _ slices_S1024x128_o256_0_S256x128 rfl _ _).trans ((g7 _ x5 _ _).trans (blkQ_r _ x4 x5 1 7 3840 _ rfl _ _).symm)
  · intro x
    idx_vars x
    exact (cut_at 1 256 _ slices_S1024x128_o256_0_S256x128 rfl _ _).trans ((a7 _ x4 _ _).trans (blkQ_a _ x4 x5 1 7 3840 _ rfl _ _).symm)
  · intro x
    idx_vars x
    exact (cut_at 0 0 _ slices_S1024x128_o0_0_S256x128 rfl _ _).trans ((g7 _ x5 _ _).trans (blkQ_r _ x4 x5 0 7 1792 _ rfl _ _).symm)
  · intro x
    idx_vars x
    exact (cut_at 0 0 _ slices_S1024x128_o0_0_S256x128 rfl _ _).trans ((a7 _ x4 _ _).trans (blkQ_a _ x4 x5 0 7 1792 _ rfl _ _).symm)
  · intro x
    idx_vars x
    exact (cut_at 3 768 _ slices_S1024x128_o768_0_S256x128 rfl _ _).trans ((g6 _ x5 _ _).trans (blkQ_r _ x4 x5 3 6 7680 _ rfl _ _).symm)
  · intro x
    idx_vars x
    exact (cut_at 3 768 _ slices_S1024x128_o768_0_S256x128 rfl _ _).trans ((a6 _ x4 _ _).trans (blkQ_a _ x4 x5 3 6 7680 _ rfl _ _).symm)
  · intro x
    idx_vars x
    exact (cut_at 2 512 _ slices_S1024x128_o512_0_S256x128 rfl _ _).trans ((g6 _ x5 _ _).trans (blkQ_r _ x4 x5 2 6 5632 _ rfl _ _).symm)
  · intro x
    idx_vars x
    exact (cut_at 2 512 _ slices_S1024x128_o512_0_S256x128 rfl _ _).trans ((a6 _ x4 _ _).trans (blkQ_a _ x4 x5 2 6 5632 _ rfl _ _).symm)
  · intro x
    idx_vars x
    exact (cut_at 1 256 _ slices_S1024x128_o256_0_S256x128 rfl _ _).trans ((g6 _ x5 _ _).trans (blkQ_r _ x4 x5 1 6 3584 _ rfl _ _).symm)
  · intro x
    idx_vars x
    exact (cut_at 1 256 _ slices_S1024x128_o256_0_S256x128 rfl _ _).trans ((a6 _ x4 _ _).trans (blkQ_a _ x4 x5 1 6 3584 _ rfl _ _).symm)
  · intro x
    idx_vars x
    exact (cut_at 0 0 _ slices_S1024x128_o0_0_S256x128 rfl _ _).trans ((g6 _ x5 _ _).trans (blkQ_r _ x4 x5 0 6 1536 _ rfl _ _).symm)
  · intro x
    idx_vars x
    exact (cut_at 0 0 _ slices_S1024x128_o0_0_S256x128 rfl _ _).trans ((a6 _ x4 _ _).trans (blkQ_a _ x4 x5 0 6 1536 _ rfl _ _).symm)
  · intro x
    idx_vars x
    exact (cut_at 3 768 _ slices_S1024x128_o768_0_S256x128 rfl _ _).trans ((g5 _ x5 _ _).trans (blkQ_r _ x4 x5 3 5 7424 _ rfl _ _).symm)
  · intro x
    idx_vars x
    exact (cut_at 3 768 _ slices_S1024x128_o768_0_S256x128 rfl _ _).trans ((a5 _ x4 _ _).trans (blkQ_a _ x4 x5 3 5 7424 _ rfl _ _).symm)
  · intro x
    idx_vars x
    exact (cut_at 2 512 _ slices_S1024x128_o512_0_S256x128 rfl _ _).trans ((g5 _ x5 _ _).trans (blkQ_r _ x4 x5 2 5 5376 _ rfl _ _).symm)
  · intro x
    idx_vars x
    exact (cut_at 2 512 _ slices_S1024x128_o512_0_S256x128 rfl _ _).trans ((a5 _ x4 _ _).trans (blkQ_a _ x4 x5 2 5 5376 _ rfl _ _).symm)
  · intro x
    idx_vars x
    exact (cut_at 1 256 _ slices_S1024x128_o256_0_S256x128 rfl _ _).trans ((g5 _ x5 _ _).trans (blkQ_r _ x4 x5 1 5 3328 _ rfl _ _).symm)
  · intro x
    idx_vars x
    exact (cut_at 1 256 _ slices_S1024x128_o256_0_S256x128 rfl _ _).trans ((a5 _ x4 _ _).trans (blkQ_a _ x4 x5 1 5 3328 _ rfl _ _).symm)
  · intro x
    idx_vars x
    exact (cut_at 0 0 _ slices_S1024x128_o0_0_S256x128 rfl _ _).trans ((g5 _ x5 _ _).trans (blkQ_r _ x4 x5 0 5 1280 _ rfl _ _).symm)
  · intro x
    idx_vars x
    exact (cut_at 0 0 _ slices_S1024x128_o0_0_S256x128 rfl _ _).trans ((a5 _ x4 _ _).trans (blkQ_a _ x4 x5 0 5 1280 _ rfl _ _).symm)
  · intro x
    idx_vars x
    exact (cut_at 3 768 _ slices_S1024x128_o768_0_S256x128 rfl _ _).trans ((g4 _ x5 _ _).trans (blkQ_r _ x4 x5 3 4 7168 _ rfl _ _).symm)
  · intro x
    idx_vars x
    exact (cut_at 3 768 _ slices_S1024x128_o768_0_S256x128 rfl _ _).trans ((a4 _ x4 _ _).trans (blkQ_a _ x4 x5 3 4 7168 _ rfl _ _).symm)
  · intro x
    idx_vars x
    exact (cut_at 2 512 _ slices_S1024x128_o512_0_S256x128 rfl _ _).trans ((g4 _ x5 _ _).trans (blkQ_r _ x4 x5 2 4 5120 _ rfl _ _).symm)
  · intro x
    idx_vars x
    exact (cut_at 2 512 _ slices_S1024x128_o512_0_S256x128 rfl _ _).trans ((a4 _ x4 _ _).trans (blkQ_a _ x4 x5 2 4 5120 _ rfl _ _).symm)
  · intro x
    idx_vars x
    exact (cut_at 1 256 _ slices_S1024x128_o256_0_S256x128 rfl _ _).trans ((g4 _ x5 _ _).trans (blkQ_r _ x4 x5 1 4 3072 _ rfl _ _).symm)
  · intro x
    idx_vars x
    exact (cut_at 1 256 _ slices_S1024x128_o256_0_S256x128 rfl _ _).trans ((a4 _ x4 _ _).trans (blkQ_a _ x4 x5 1 4 3072 _ rfl _ _).symm)
  · intro x
    idx_vars x
    exact (cut_at 0 0 _ slices_S1024x128_o0_0_S256x128 rfl _ _).trans ((g4 _ x5 _ _).trans (blkQ_r _ x4 x5 0 4 1024 _ rfl _ _).symm)
  · intro x
    idx_vars x
    exact (cut_at 0 0 _ slices_S1024x128_o0_0_S256x128 rfl _ _).trans ((a4 _ x4 _ _).trans (blkQ_a _ x4 x5 0 4 1024 _ rfl _ _).symm)
  · intro x
    idx_vars x
    exact (cut_at 3 768 _ slices_S1024x128_o768_0_S256x128 rfl _ _).trans ((g3 _ x5 _ _).trans (blkQ_r _ x4 x5 3 3 6912 _ rfl _ _).symm)
  · intro x
    idx_vars x
    exact (cut_at 3 768 _ slices_S1024x128_o768_0_S256x128 rfl _ _).trans ((a3 _ x4 _ _).trans (blkQ_a _ x4 x5 3 3 6912 _ rfl _ _).symm)
  · intro x
    idx_vars x
    exact (cut_at 2 512 _ slices_S1024x128_o512_0_S256x128 rfl _ _).trans ((g3 _ x5 _ _).trans (blkQ_r _ x4 x5 2 3 4864 _ rfl _ _).symm)
  · intro x
    idx_vars x
    exact (cut_at 2 512 _ slices_S1024x128_o512_0_S256x128 rfl _ _).trans ((a3 _ x4 _ _).trans (blkQ_a _ x4 x5 2 3 4864 _ rfl _ _).symm)
  · intro x
    idx_vars x
    exact (cut_at 1 256 _ slices_S1024x128_o256_0_S256x128 rfl _ _).trans ((g3 _ x5 _ _).trans (blkQ_r _ x4 x5 1 3 2816 _ rfl _ _).symm)
  · intro x
    idx_vars x
    exact (cut_at 1 256 _ slices_S1024x128_o256_0_S256x128 rfl _ _).trans ((a3 _ x4 _ _).trans (blkQ_a _ x4 x5 1 3 2816 _ rfl _ _).symm)
  · intro x
    idx_vars x
    exact (cut_at 0 0 _ slices_S1024x128_o0_0_S256x128 rfl _ _).trans ((g3 _ x5 _ _).trans (blkQ_r _ x4 x5 0 3 768 _ rfl _ _).symm)
  · intro x
    idx_vars x
    exact (cut_at 0 0 _ slices_S1024x128_o0_0_S256x128 rfl _ _).trans ((a3 _ x4 _ _).trans (blkQ_a _ x4 x5 0 3 768 _ rfl _ _).symm)
  · intro x
    idx_vars x
    exact (cut_at 3 768 _ slices_S1024x128_o768_0_S256x128 rfl _ _).trans ((g2 _ x5 _ _).trans (blkQ_r _ x4 x5 3 2 6656 _ rfl _ _).symm)
  · intro x
    idx_vars x
    exact (cut_at 3 768 _ slices_S1024x128_o768_0_S256x128 rfl _ _).trans ((a2 _ x4 _ _).trans (blkQ_a _ x4 x5 3 2 6656 _ rfl _ _).symm)
  · intro x
    idx_vars x
    exact (cut_at 2 512 _ slices_S1024x128_o512_0_S256x128 rfl _ _).trans ((g2 _ x5 _ _).trans (blkQ_r _ x4 x5 2 2 4608 _ rfl _ _).symm)
  · intro x
    idx_vars x
    exact (cut_at 2 512 _ slices_S1024x128_o512_0_S256x128 rfl _ _).trans ((a2 _ x4 _ _).trans (blkQ_a _ x4 x5 2 2 4608 _ rfl _ _).symm)
  · intro x
    idx_vars x
    exact (cut_at 1 256 _ slices_S1024x128_o256_0_S256x128 rfl _ _).trans ((g2 _ x5 _ _).trans (blkQ_r _ x4 x5 1 2 2560 _ rfl _ _).symm)
  · intro x
    idx_vars x
    exact (cut_at 1 256 _ slices_S1024x128_o256_0_S256x128 rfl _ _).trans ((a2 _ x4 _ _).trans (blkQ_a _ x4 x5 1 2 2560 _ rfl _ _).symm)
  · intro x
    idx_vars x
    exact (cut_at 0 0 _ slices_S1024x128_o0_0_S256x128 rfl _ _).trans ((g2 _ x5 _ _).trans (blkQ_r _ x4 x5 0 2 512 _ rfl _ _).symm)
  · intro x
    idx_vars x
    exact (cut_at 0 0 _ slices_S1024x128_o0_0_S256x128 rfl _ _).trans ((a2 _ x4 _ _).trans (blkQ_a _ x4 x5 0 2 512 _ rfl _ _).symm)
  · intro x
    idx_vars x
    exact (cut_at 3 768 _ slices_S1024x128_o768_0_S256x128 rfl _ _).trans ((g1 _ x5 _ _).trans (blkQ_r _ x4 x5 3 1 6400 _ rfl _ _).symm)
  · intro x
    idx_vars x
    exact (cut_at 3 768 _ slices_S1024x128_o768_0_S256x128 rfl _ _).trans ((a1 _ x4 _ _).trans (blkQ_a _ x4 x5 3 1 6400 _ rfl _ _).symm)
  · intro x
    idx_vars x
    exact (cut_at 2 512 _ slices_S1024x128_o512_0_S256x128 rfl _ _).trans ((g1 _ x5 _ _).trans (blkQ_r _ x4 x5 2 1 4352 _ rfl _ _).symm)
  · intro x
    idx_vars x
    exact (cut_at 2 512 _ slices_S1024x128_o512_0_S256x128 rfl _ _).trans ((a1 _ x4 _ _).trans (blkQ_a _ x4 x5 2 1 4352 _ rfl _ _).symm)
  · intro x
    idx_vars x
    exact (cut_at 1 256 _ slices_S1024x128_o256_0_S256x128 rfl _ _).trans ((g1 _ x5 _ _).trans (blkQ_r _ x4 x5 1 1 2304 _ rfl _ _).symm)
  · intro x
    idx_vars x
    exact (cut_at 1 256 _ slices_S1024x128_o256_0_S256x128 rfl _ _).trans ((a1 _ x4 _ _).trans (blkQ_a _ x4 x5 1 1 2304 _ rfl _ _).symm)
  · intro x
    idx_vars x
    exact (cut_at 0 0 _ slices_S1024x128_o0_0_S256x128 rfl _ _).trans ((g1 _ x5 _ _).trans (blkQ_r _ x4 x5 0 1 256 _ rfl _ _).symm)
  · intro x
    idx_vars x
    exact (cut_at 0 0 _ slices_S1024x128_o0_0_S256x128 rfl _ _).trans ((a1 _ x4 _ _).trans (blkQ_a _ x4 x5 0 1 256 _ rfl _ _).symm)
  · intro x
    idx_vars x
    exact (cut_at 3 768 _ slices_S1024x128_o768_0_S256x128 rfl _ _).trans ((g0 x5 _ _ _ _).trans (blkQ_r _ x4 x5 3 0 6144 _ rfl _ _).symm)
  · intro x
    idx_vars x
    exact (cut_at 3 768 _ slices_S1024x128_o768_0_S256x128 rfl _ _).trans ((a0 x4 _ _ _ _).trans (blkQ_a _ x4 x5 3 0 6144 _ rfl _ _).symm)
  · intro x
    idx_vars x
    exact (cut_at 2 512 _ slices_S1024x128_o512_0_S256x128 rfl _ _).trans ((g0 x5 _ _ _ _).trans (blkQ_r _ x4 x5 2 0 4096 _ rfl _ _).symm)
  · intro x
    idx_vars x
    exact (cut_at 2 512 _ slices_S1024x128_o512_0_S256x128 rfl _ _).trans ((a0 x4 _ _ _ _).trans (blkQ_a _ x4 x5 2 0 4096 _ rfl _ _).symm)
  · intro x
    idx_vars x
    exact (cut_at 1 256 _ slices_S1024x128_o256_0_S256x128 rfl _ _).trans ((g0 x5 _ _ _ _).trans (blkQ_r _ x4 x5 1 0 2048 _ rfl _ _).symm)
  · intro x
    idx_vars x
    exact (cut_at 1 256 _ slices_S1024x128_o256_0_S256x128 rfl _ _).trans ((a0 x4 _ _ _ _).trans (blkQ_a _ x4 x5 1 0 2048 _ rfl _ _).symm)
  · intro x
    idx_vars x
    exact (cut_at 0 0 _ slices_S1024x128_o0_0_S256x128 rfl _ _).trans ((g0 x5 _ _ _ _).trans (blkQ_r _ x4 x5 0 0 0 _ rfl _ _).symm)
  · intro x
    idx_vars x
    exact (cut_at 0 0 _ slices_S1024x128_o0_0_S256x128 rfl _ _).trans ((a0 x4 _ _ _ _).trans (blkQ_a _ x4 x5 0 0 0 _ rfl _ _).symm)

theorem q_at (r : Fin 1024) (j : Fin 2048) :
    k0_pay93 (F := Ideal) x0 x1 x2 x3 x4 x5 (ix2 r j) = ∑ d, xqB x0 x1 r d * x3 (ix2 d j) := by
  have e : ∀ u : FVec Ideal S1024x384 .bf16, k0_pay6 (F := Ideal) u (View.ld x3 r0_7) (ix2 r j) = ∑ d : Fin 384, u (ix2 r d) * x3 (ix2 d j) := by
    intro u
    pointwise [k0_pay6]
  have e1 : ∀ d : Fin 384, k0_pay89 (F := Ideal) x0 x1 x2 x3 x4 x5 (ix2 r d) = xqB x0 x1 r d := by
    intro d
    pointwise [k0_pay89, k0_pay1, xqB, rsQ]
  refine (e _).trans (Finset.sum_congr (M := EReal) rfl fun d _ => ?_)
  exact congrArg (fun s : EReal => s * x3 (ix2 d j)) (e1 d)

/-- The block of keys the body leaves. -/
def blkK (y : S1024x256.Idx) : EReal :=
  if h : (y 1).val < 128 then ckB x0 x2 (y 0) ⟨(y 1).val, h⟩ else krB x0 x5 (y 0) ⟨(y 1).val - 128, by have : (y 1).val < 256 := (y 1).isLt; omega⟩

/-- The block of values the body leaves. -/
def blkV (y : S1024x256.Idx) : EReal :=
  if h : (y 1).val < 128 then ckB x0 x2 (y 0) ⟨(y 1).val, h⟩ else Ideal.ofBits FTy.bf16 0x3F80#16

theorem ck_at (r : Fin 1024) (l : Fin 128) : k0_pay90 (F := Ideal) x0 x1 x2 x3 x4 x5 (ix2 r l) = ckB x0 x2 r l := by
  pointwise [k0_pay90, k0_pay2, ckB, rsK]

theorem kr_at (r : Fin 1024) (l : Fin 128) :
    k0_pay87 (F := Ideal) (k0_pay3 (View.ld x0 r0_4)) (k0_pay4 (View.ld x5 r0_5)) (k0_pay5 (View.ld x5 r0_6)) (ix2 r l) = krB x0 x5 r l := by
  unfold krB
  rw [← ldc x5 r l, ← lds x5 r l]
  generalize k0_pay4 (F := Ideal) (View.ld x5 r0_5) = u
  generalize k0_pay5 (F := Ideal) (View.ld x5 r0_6) = v
  pointwise [k0_pay87, k0_pay3]

theorem embk (o0 o : ℕ) (inb) (r : Fin 1024) (l : Fin 128) (h0 : o0 + r.val < 1024) (h1 : o + l.val < 256) :
    (Rect.unit (s := S1024x256) ![o0, o] S1024x128.size inb).emb (ix2 r l) = ix2 ⟨o0 + r.val, h0⟩ ⟨o + l.val, h1⟩ := by
  funext a
  match a with
  | ⟨0, _⟩ => exact Fin.ext (by show o0 + 1 * r.val = o0 + r.val; omega)
  | ⟨1, _⟩ => exact Fin.ext (by show o + 1 * l.val = o + l.val; omega)

theorem out7_blk (y : S1024x256.Idx) : out0_7 (F := Ideal) x0 x1 x2 x3 x4 x5 y = blkK x0 x2 x5 y := by
  unfold out0_7
  refine View.canon_append_of_piecesOf (Val := Elt Ideal) (e := .bf16) (blkK x0 x2 x5) [] [_, _] ⟨?_, ?_, trivial⟩ y (cover0_7 ..)
  · intro x
    idx_vars x
    refine (kr_at _ _ _ _).trans (Eq.trans ?_ (congrArg (blkK _ x2 x5) ((embk 0 128 _ x0 x1 (by omega) (by omega)).trans (congrArg (fun k : Fin 1024 => (ix2 k ⟨128 + x1.val, by omega⟩ : S1024x256.Idx)) (Fin.ext (Nat.zero_add x0.val) : (⟨0 + x0.val, by omega⟩ : Fin 1024) = x0)))).symm)
    refine Eq.trans ?_ (dif_neg (by show ¬ 128 + x1.val < 128; omega)).symm
    exact congrArg (krB _ x5 x0) (Fin.ext (by show x1.val = 128 + x1.val - 128; omega))
  · intro x
    idx_vars x
    refine (ck_at _ _ _ _ _ _ _ _).trans (Eq.trans ?_ (congrArg (blkK _ x2 x5) ((embk 0 0 _ x0 x1 (by omega) (by omega)).trans (congrArg (fun k : Fin 1024 => (ix2 k ⟨0 + x1.val, by omega⟩ : S1024x256.Idx)) (Fin.ext (Nat.zero_add x0.val) : (⟨0 + x0.val, by omega⟩ : Fin 1024) = x0)))).symm)
    refine Eq.trans ?_ (dif_pos (by show 0 + x1.val < 128; omega)).symm
    exact congrArg (ckB _ x2 x0) (Fin.ext (by show x1.val = 0 + x1.val; omega))

theorem out8_blk (y : S1024x256.Idx) : out0_8 (F := Ideal) x0 x1 x2 x3 x4 x5 y = blkV x0 x2 y := by
  unfold out0_8
  refine View.canon_append_of_piecesOf (Val := Elt Ideal) (e := .bf16) (blkV x0 x2) [] [_, _] ⟨?_, ?_, trivial⟩ y (cover0_8 ..)
  · intro x
    idx_vars x
    refine Eq.trans ?_ (congrArg (blkV _ x2) ((embk 0 128 _ x0 x1 (by omega) (by omega)).trans (congrArg (fun k : Fin 1024 => (ix2 k ⟨128 + x1.val, by omega⟩ : S1024x256.Idx)) (Fin.ext (Nat.zero_add x0.val) : (⟨0 + x0.val, by omega⟩ : Fin 1024) = x0)))).symm
    refine Eq.trans ?_ (dif_neg (by show ¬ 128 + x1.val < 128; omega)).symm
    pointwise [k0_pay88]
  · intro x
    idx_vars x
    refine (ck_at _ _ _ _ _ _ _ _).trans (Eq.trans ?_ (congrArg (blkV _ x2) ((embk 0 0 _ x0 x1 (by omega) (by omega)).trans (congrArg (fun k : Fin 1024 => (ix2 k ⟨0 + x1.val, by omega⟩ : S1024x256.Idx)) (Fin.ext (Nat.zero_add x0.val) : (⟨0 + x0.val, by omega⟩ : Fin 1024) = x0)))).symm)
    refine Eq.trans ?_ (dif_pos (by show 0 + x1.val < 128; omega)).symm
    exact congrArg (ckB _ x2 x0) (Fin.ext (by show x1.val = 0 + x1.val; omega))

end Cert.MlaPrepIdeal.Body
end
-- ==== Proof.PrepHost.lean ====
module

public import proofs.«01_k».proof.Proof.PrepBody
public import Idealize.ShloMosaic.Lib.Pipeline.ValueKit
public import Idealize.ShloMosaic.Lib.Pipeline.ReadBack
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.MlaPrepIdeal.Body

open Cert.MlaPrepIdeal Cert.MlaPrepIdeal.Gen Cert.MlaPrepIdeal.Value

/-- Sixty-four rotary columns with the two halves 64 lanes apart, zeros between. -/
def spreadF (f : Fin 64 → EReal) (l : Fin 128) : EReal :=
  if h : l.val < 32 then f ⟨l.val, by omega⟩ else if h2 : l.val < 64 then 0 else if h3 : l.val < 96 then f ⟨l.val - 32, by omega⟩ else 0

/-- The latents as the call takes them. -/
def hlat (cq : FVec Ideal S2x8192x384 .f32) (ck : FVec Ideal S2x8192x128 .f32) (kr : FVec Ideal S2x8192x64 .f32) : FVec Ideal S16384x768 .f32 :=
  shapeCast _ (concatenate S2x8192x768 2 [⟨S2x8192x384, cq⟩, ⟨S2x8192x128, ck⟩, ⟨S2x8192x128, concatenate S2x8192x128 2 [⟨S2x8192x32, extractStridedSlice S2x8192x32 ![0, 0, 0] kr slices_S2x8192x64_S2x8192x32_0_0_0⟩, ⟨S2x8192x32, broadcastInDim S2x8192x32 ![] bcast_S_S2x8192x32 (constant (F := Ideal) S_ .f32 0x00000000#32)⟩, ⟨S2x8192x32, extractStridedSlice S2x8192x32 ![0, 0, 32] kr slices_S2x8192x64_S2x8192x32_0_0_32⟩, ⟨S2x8192x32, broadcastInDim S2x8192x32 ![] bcast_S_S2x8192x32 (constant (F := Ideal) S_ .f32 0x00000000#32)⟩] concatenates_S2x8192x32_S2x8192x32_S2x8192x32_S2x8192x32_S2x8192x128_d2⟩, ⟨S2x8192x128, broadcastInDim S2x8192x128 ![] bcast_S_S2x8192x128 (constant (F := Ideal) S_ .f32 0x00000000#32)⟩] concatenates_S2x8192x384_S2x8192x128_S2x8192x128_S2x8192x128_S2x8192x768_d2) shapeCasts_S2x8192x768_S16384x768

/-- The query up-projection as the call takes it. -/
def hwq (w : FVec Ideal S384x1536 .f32) : FVec Ideal S384x2048 .bf16 :=
  truncf .bf16 (shapeCast _ (concatenate S384x8x256 2 [⟨S384x8x128, extractStridedSlice S384x8x128 ![0, 0, 0] (shapeCast S384x8x192 w shapeCasts_S384x1536_S384x8x192) slices_S384x8x192_S384x8x128_0_0_0⟩, ⟨S384x8x128, concatenate S384x8x128 2 [⟨S384x8x32, extractStridedSlice S384x8x32 ![0, 0, 0] (extractStridedSlice S384x8x64 ![0, 0, 128] (shapeCast S384x8x192 w shapeCasts_S384x1536_S384x8x192) slices_S384x8x192_S384x8x64_0_0_128) slices_S384x8x64_S384x8x32_0_0_0⟩, ⟨S384x8x32, broadcastInDim S384x8x32 ![] bcast_S_S384x8x32 (constant (F := Ideal) S_ .f32 0x00000000#32)⟩, ⟨S384x8x32, extractStridedSlice S384x8x32 ![0, 0, 32] (extractStridedSlice S384x8x64 ![0, 0, 128] (shapeCast S384x8x192 w shapeCasts_S384x1536_S384x8x192) slices_S384x8x192_S384x8x64_0_0_128) slices_S384x8x64_S384x8x32_0_0_32⟩, ⟨S384x8x32, broadcastInDim S384x8x32 ![] bcast_S_S384x8x32 (constant (F := Ideal) S_ .f32 0x00000000#32)⟩] concatenates_S384x8x32_S384x8x32_S384x8x32_S384x8x32_S384x8x128_d2⟩] concatenates_S384x8x128_S384x8x128_S384x8x256_d2) shapeCasts_S384x8x256_S384x2048) bitsLt_bf16_f32

/-- The keys' up-projection as the call takes it. -/
def hwk (w : FVec Ideal S128x2048 .f32) : FVec Ideal S8x128x128 .bf16 :=
  truncf .bf16 (transpose S8x128x128 [1, 2, 0] (extractStridedSlice S128x8x128 ![0, 0, 0] (shapeCast S128x8x256 w shapeCasts_S128x2048_S128x8x256) slices_S128x8x256_S128x8x128_0_0_0) transposes_S128x8x128_S8x128x128_1_2_0) bitsLt_bf16_f32

/-- The divisor the remainder divides by: one in place of zero. -/
def remD (n : BitVec 32) : IVec S_ 32 :=
  select (cmpi .eq (constantI S_ 32 n) (constantI S_ 32 0#32)) (constantI S_ 32 1#32) (constantI S_ 32 n)

/-- The remainder with the dividend's sign. -/
def remS (n : BitVec 32) : IVec S128 32 :=
  Host.remsi (iotaInDim S128 32 0) (broadcastInDim S128 ![] bcast_S_S128 (remD n))

/-- Every lane's remainder. -/
def remT (n : BitVec 32) : IVec S128 32 :=
  select (andi (cmpi .ne (cmpi .slt (remS n) (broadcastInDim S128 ![] bcast_S_S128 (constantI S_ 32 0#32))) (broadcastInDim S128 ![] bcast_S_S128 (cmpi .slt (remD n) (constantI S_ 32 0#32))))
      (cmpi .ne (remS n) (broadcastInDim S128 ![] bcast_S_S128 (constantI S_ 32 0#32))))
    (addi (remS n) (broadcastInDim S128 ![] bcast_S_S128 (remD n))) (remS n)

/-- The angles. -/
def angT : FVec Ideal S8192x128 .f32 :=
  mulf (broadcastInDim S8192x128 ![0, 1] bcast_S8192x1_S8192x128_0_1 (broadcastInDim S8192x1 ![0] bcast_S8192_S8192x1_0 (sitofp (F := Ideal) .f32 (iotaInDim S8192 32 0))))
    (broadcastInDim S8192x128 ![0, 1] bcast_S1x128_S8192x128_0_1 (broadcastInDim S1x128 ![1] bcast_S128_S1x128_1
      (Host.powf (broadcastInDim S128 ![] bcast_S_S128 (constant (F := Ideal) S_ .f32 0x461C4000#32))
        (Host.divf (Host.negf (sitofp (F := Ideal) .f32 (remT 32#32))) (broadcastInDim S128 ![] bcast_S_S128 (constant (F := Ideal) S_ .f32 0x42000000#32))))))

/-- Which lanes hold a rotary column. -/
def mskT : IVec S128 1 := cmpi .slt (remT 64#32) (broadcastInDim S128 ![] bcast_S_S128 (constantI S_ 32 32#32))

/-- Which lanes hold the first half. -/
def lowT : IVec S128 1 := cmpi .slt (iotaInDim S128 32 0) (broadcastInDim S128 ![] bcast_S_S128 (constantI S_ 32 64#32))

def zT : FVec Ideal S8192x128 .f32 := broadcastInDim S8192x128 ![] bcast_S_S8192x128 (constant (F := Ideal) S_ .f32 0x00000000#32)

/-- The rotary table: cosines, then signed sines. -/
def hrope : FVec Ideal S8192x256 .f32 :=
  concatenate S8192x256 1 [⟨S8192x128, (select (broadcastInDim S8192x128 ![1] bcast_S128_S8192x128_1 mskT) (Host.cos angT) zT : FVec Ideal S8192x128 .f32)⟩,
    ⟨S8192x128, (select (broadcastInDim S8192x128 ![1] bcast_S128_S8192x128_1 mskT) (select (broadcastInDim S8192x128 ![1] bcast_S128_S8192x128_1 lowT) (Host.negf (Host.sin angT)) (Host.sin angT)) zT : FVec Ideal S8192x128 .f32)⟩] concatenates_S8192x128_S8192x128_S8192x256_d1

variable (cq : FVec Ideal S2x8192x384 .f32) (ck : FVec Ideal S2x8192x128 .f32) (kr : FVec Ideal S2x8192x64 .f32)

theorem lat_at (n : Fin 16384) (l : Fin 768) : hlat cq ck kr (ix2 n l) =
    if h : l.val < 384 then cq (ix3 ⟨n.val / 8192, by omega⟩ ⟨n.val % 8192, by omega⟩ ⟨l.val, by omega⟩)
    else if h1 : l.val - 384 < 128 then ck (ix3 ⟨n.val / 8192, by omega⟩ ⟨n.val % 8192, by omega⟩ ⟨l.val - 384, by omega⟩)
    else if h2 : l.val - 384 - 128 < 128 then
      (if h3 : l.val - 384 - 128 < 32 then kr (ix3 ⟨n.val / 8192, by omega⟩ ⟨n.val % 8192, by omega⟩ ⟨l.val - 384 - 128, by omega⟩)
      else if h4 : l.val - 384 - 128 - 32 < 32 then 0
      else if h5 : l.val - 384 - 128 - 32 - 32 < 32 then kr (ix3 ⟨n.val / 8192, by omega⟩ ⟨n.val % 8192, by omega⟩ ⟨32 + (l.val - 384 - 128 - 32 - 32), by omega⟩)
      else 0)
    else 0 := by
  pointwise [hlat]

theorem lat_q (n : Fin 16384) (l : Fin 384) : hlat cq ck kr (ix2 n ⟨l.val, by omega⟩) = cq (ix3 ⟨n.val / 8192, by omega⟩ ⟨n.val % 8192, by omega⟩ l) :=
  (lat_at cq ck kr n ⟨l.val, by omega⟩).trans (dif_pos l.isLt)

theorem lat_k (n : Fin 16384) (l : Fin 128) : hlat cq ck kr (ix2 n ⟨384 + l.val, by omega⟩) = ck (ix3 ⟨n.val / 8192, by omega⟩ ⟨n.val % 8192, by omega⟩ l) := by
  rw [lat_at, dif_neg (by dsimp only; omega), dif_pos (by dsimp only; omega)]
  exact congrArg (fun j => ck (ix3 _ _ j)) (Fin.ext (by dsimp only; omega))

theorem lat_r (n : Fin 16384) (l : Fin 128) : hlat cq ck kr (ix2 n ⟨512 + l.val, by omega⟩) = spreadF (fun j => kr (ix3 ⟨n.val / 8192, by omega⟩ ⟨n.val % 8192, by omega⟩ j)) l := by
  rw [lat_at, dif_neg (by dsimp only; omega), dif_neg (by dsimp only; omega), dif_pos (by dsimp only; omega)]
  unfold spreadF
  by_cases c1 : l.val < 32
  · rw [dif_pos (by dsimp only; omega), dif_pos c1]
    exact congrArg (fun j => kr (ix3 _ _ j)) (Fin.ext (by dsimp only; omega))
  by_cases c2 : l.val < 64
  · rw [dif_neg (by dsimp only; omega), dif_pos (by dsimp only; omega), dif_neg c1, dif_pos c2]
  by_cases c3 : l.val < 96
  · rw [dif_neg (by dsimp only; omega), dif_neg (by dsimp only; omega), dif_pos (by dsimp only; omega), dif_neg c1, dif_neg c2, dif_pos c3]
    exact congrArg (fun j => kr (ix3 _ _ j)) (Fin.ext (by dsimp only; omega))
  · rw [dif_neg (by dsimp only; omega), dif_neg (by dsimp only; omega), dif_neg (by dsimp only; omega), dif_neg c1, dif_neg c2, dif_neg c3]

theorem wq_at (w : FVec Ideal S384x1536 .f32) (d : Fin 384) (j : Fin 2048) :
    hwq w (ix2 d j) = if h : j.val % 256 < 128 then w (ix2 d ⟨j.val / 256 * 192 + j.val % 256, by omega⟩)
      else if h1 : j.val % 256 - 128 < 32 then w (ix2 d ⟨j.val / 256 * 192 + (128 + (j.val % 256 - 128)), by omega⟩)
      else if h2 : j.val % 256 - 128 - 32 < 32 then 0
      else if h3 : j.val % 256 - 128 - 32 - 32 < 32 then w (ix2 d ⟨j.val / 256 * 192 + (128 + (32 + (j.val % 256 - 128 - 32 - 32))), by omega⟩)
      else 0 := by
  pointwise [hwq]

theorem wq_a (w : FVec Ideal S384x1536 .f32) (d : Fin 384) (h : Fin 8) (e : Fin 128) :
    hwq w (ix2 d ⟨256 * h.val + e.val, by omega⟩) = w (ix2 d ⟨h.val * 192 + e.val, by omega⟩) := by
  rw [wq_at, dif_pos (by dsimp only; omega)]
  exact congrArg (fun j => w (ix2 d j)) (Fin.ext (by dsimp only; omega))

theorem wq_r (w : FVec Ideal S384x1536 .f32) (d : Fin 384) (h : Fin 8) (l : Fin 128) :
    hwq w (ix2 d ⟨256 * h.val + 128 + l.val, by omega⟩) = spreadF (fun j => w (ix2 d ⟨h.val * 192 + 128 + j.val, by omega⟩)) l := by
  rw [wq_at, dif_neg (by dsimp only; omega)]
  unfold spreadF
  by_cases c1 : l.val < 32
  · rw [dif_pos (by dsimp only; omega), dif_pos c1]
    exact congrArg (fun j => w (ix2 d j)) (Fin.ext (by dsimp only; omega))
  by_cases c2 : l.val < 64
  · rw [dif_neg (by dsimp only; omega), dif_pos (by dsimp only; omega), dif_neg c1, dif_pos c2]
  by_cases c3 : l.val < 96
  · rw [dif_neg (by dsimp only; omega), dif_neg (by dsimp only; omega), dif_pos (by dsimp only; omega), dif_neg c1, dif_neg c2, dif_pos c3]
    exact congrArg (fun j => w (ix2 d j)) (Fin.ext (by dsimp only; omega))
  · rw [dif_neg (by dsimp only; omega), dif_neg (by dsimp only; omega), dif_neg (by dsimp only; omega), dif_neg c1, dif_neg c2, dif_neg c3]

theorem wk_at (w : FVec Ideal S128x2048 .f32) (h : Fin 8) (d l : Fin 128) :
    hwk w (ix3 h d l) = w (ix2 l ⟨h.val * 256 + d.val, by omega⟩) := by
  pointwise [hwk]

theorem rem32 : ∀ l : Fin 128, remT 32#32 (ix1 l) = BitVec.ofNat 32 (l.val % 32) := by decide +kernel

theorem msk : ∀ l : Fin 128, mskT (ix1 l) = if l.val % 64 < 32 then 1#1 else 0#1 := by decide +kernel

theorem low : ∀ l : Fin 128, lowT (ix1 l) = if l.val < 64 then 1#1 else 0#1 := by decide +kernel

/-- The angle of a position's rotary column. -/
def angE (p : Fin 8192) (j : Fin 32) : EReal :=
  FloatOps.sitofp (F := Ideal) FTy.f32 (BitVec.ofNat 32 p.val) *
    Ideal.pow (Ideal.ofBits FTy.f32 1176256512#32) (Ideal.div (-FloatOps.sitofp (F := Ideal) FTy.f32 (BitVec.ofNat 32 j.val)) (Ideal.ofBits FTy.f32 1107296256#32))

theorem ang_at (p : Fin 8192) (l : Fin 128) : angT (ix2 p l) = angE p ⟨l.val % 32, by omega⟩ := by
  have e : angT (ix2 p l) = FloatOps.sitofp (F := Ideal) FTy.f32 (BitVec.ofNat 32 p.val) *
    Ideal.pow (Ideal.ofBits FTy.f32 1176256512#32) (Ideal.div (-FloatOps.sitofp (F := Ideal) FTy.f32 (remT 32#32 (ix1 l))) (Ideal.ofBits FTy.f32 1107296256#32)) := by
    pointwise [angT]
  rw [e, rem32]
  rfl

/-- The cosine of a lane: zero where the lane holds no rotary column. -/
def cosL (p : Fin 8192) (l : Fin 128) : EReal :=
  if l.val % 64 < 32 then Ideal.cos (angE p ⟨l.val % 32, by omega⟩) else 0

/-- The signed sine of a lane. -/
def sinL (p : Fin 8192) (l : Fin 128) : EReal :=
  if l.val % 64 < 32 then (if l.val < 64 then -Ideal.sin (angE p ⟨l.val % 32, by omega⟩) else Ideal.sin (angE p ⟨l.val % 32, by omega⟩)) else 0

theorem sel (q : Prop) [Decidable q] (a b : EReal) : Scalar.select (if q then 1#1 else 0#1) a b = if q then a else b := by
  by_cases h : q
  · rw [if_pos h, if_pos h]
    rfl
  · rw [if_neg h, if_neg h]
    rfl

theorem rope_c (p : Fin 8192) (l : Fin 128) : hrope (ix2 p ⟨l.val, by omega⟩) = cosL p l := by
  have e : hrope (ix2 p ⟨l.val, by omega⟩) = Scalar.select (mskT (ix1 l)) (Ideal.cos (angT (ix2 p l))) (0 : EReal) := by
    pointwise [hrope, zT]
  rw [e, msk, sel, ang_at]
  rfl

theorem rope_s (p : Fin 8192) (l : Fin 128) : hrope (ix2 p ⟨128 + l.val, by omega⟩) = sinL p l := by
  have e : hrope (ix2 p ⟨128 + l.val, by omega⟩) = Scalar.select (mskT (ix1 l)) (Scalar.select (lowT (ix1 l)) (-Ideal.sin (angT (ix2 p l))) (Ideal.sin (angT (ix2 p l)))) (0 : EReal) := by
    pointwise [hrope, zT]
  rw [e, msk, sel, low, sel, ang_at]
  rfl

end Cert.MlaPrepIdeal.Body
end
-- ==== Proof.PrepHv.lean ====
module

public import proofs.«01_k».proof.Proof.PrepHost
public import Idealize.ShloMosaic.Lib.Pipeline.ValueKit
public import Idealize.ShloMosaic.Lib.Pipeline.ReadBack
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.MlaPrepIdeal.Body

open Cert.MlaPrepIdeal Cert.MlaPrepIdeal.Gen Cert.MlaPrepIdeal.Value

variable (m : (ℓ : Loc nD τ sig) → Buf (Elt Ideal) ℓ) (c : Dev nD)

theorem hv20 : (V m c main_v20 : FVec Ideal S16384x768 .f32) = hlat (m ((c.tc : Thread nD τ).loc main_arg0)) (m ((c.tc : Thread nD τ).loc main_arg1)) (m ((c.tc : Thread nD τ).loc main_arg2)) := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results <;> rfl

theorem hv21 : (V m c main_v21 : FVec Ideal S1x384 .f32) = shapeCast _ (m ((c.tc : Thread nD τ).loc main_arg3) : FVec Ideal S384 .f32) shapeCasts_S384_S1x384 := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results <;> rfl

theorem hv22 : (V m c main_v22 : FVec Ideal S1x128 .f32) = shapeCast _ (m ((c.tc : Thread nD τ).loc main_arg4) : FVec Ideal S128 .f32) shapeCasts_S128_S1x128 := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results <;> rfl

theorem hv15 : (V m c main_v15 : FVec Ideal S384x2048 .bf16) = hwq (m ((c.tc : Thread nD τ).loc main_arg5)) := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results <;> rfl

theorem hv19 : (V m c main_v19 : FVec Ideal S8x128x128 .bf16) = hwk (m ((c.tc : Thread nD τ).loc main_arg6)) := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results <;> rfl

end Cert.MlaPrepIdeal.Body
end
-- ==== Proof.PrepHv48.lean ====
module

public import proofs.«01_k».proof.Proof.PrepHost
public import Idealize.ShloMosaic.Lib.Pipeline.ValueKit
public import Idealize.ShloMosaic.Lib.Pipeline.ReadBack
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.MlaPrepIdeal.Body

open Cert.MlaPrepIdeal Cert.MlaPrepIdeal.Gen Cert.MlaPrepIdeal.Value

variable (m : (ℓ : Loc nD τ sig) → Buf (Elt Ideal) ℓ) (c : Dev nD)

theorem hv48 : (V m c main_v48 : FVec Ideal S8192x256 .f32) = hrope := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append,
    StableHlo.TRef.binary, StableHlo.TRef.unary, StableHlo.TRef.nullary, StableHlo.TRef.ternary, StableHlo.TRef.toBuf, StableHlo.TRef.ofBuf, cast_eq]
  after_results <;> rfl

end Cert.MlaPrepIdeal.Body
end
-- ==== Proof.PrepArr.lean ====
module

public import proofs.«01_k».proof.Proof.PrepHv
public import proofs.«01_k».proof.Proof.PrepHv48
public import Idealize.ShloMosaic.Lib.Pipeline.ValueKit
public import Idealize.ShloMosaic.Lib.Pipeline.ReadBack
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.MlaPrepIdeal.Body

open Cert.MlaPrepIdeal Cert.MlaPrepIdeal.Gen Cert.MlaPrepIdeal.Value

section Spec

variable (cq : FVec Ideal S2x8192x384 .f32) (ck : FVec Ideal S2x8192x128 .f32) (kr : FVec Ideal S2x8192x64 .f32) (gq : FVec Ideal S384 .f32) (gk : FVec Ideal S128 .f32) (wq : FVec Ideal S384x1536 .f32) (wk : FVec Ideal S128x2048 .f32)

/-- A row's query latents, normalised and weighted. -/
def XQ (n : Fin 16384) (l : Fin 384) : EReal :=
  cq (ix3 ⟨n.val / 8192, by omega⟩ ⟨n.val % 8192, by omega⟩ l) * rsQ (fun d => cq (ix3 ⟨n.val / 8192, by omega⟩ ⟨n.val % 8192, by omega⟩ d)) * gq (ix1 l)

/-- A row's key latents, normalised and weighted. -/
def CK (n : Fin 16384) (l : Fin 128) : EReal :=
  ck (ix3 ⟨n.val / 8192, by omega⟩ ⟨n.val % 8192, by omega⟩ l) * rsK (fun d => ck (ix3 ⟨n.val / 8192, by omega⟩ ⟨n.val % 8192, by omega⟩ d)) * gk (ix1 l)

/-- A row's queries. -/
def QP (n : Fin 16384) (j : Fin 1536) : EReal := ∑ d, XQ cq gq n d * wq (ix2 d j)

/-- A head's queries taken to the latents, scaled. -/
def QA (n : Fin 16384) (h : Fin 8) (l : Fin 128) : EReal :=
  (∑ d : Fin 128, QP cq gq wq n ⟨h.val * 192 + d.val, by omega⟩ * wk (ix2 l ⟨h.val * 256 + d.val, by omega⟩)) * sc

/-- Sixty-four rotary columns rotated to a position, the halves 64 lanes apart. -/
def ropeE (p : Fin 8192) (f : Fin 64 → EReal) (l : Fin 128) : EReal :=
  if h : l.val < 32 then f ⟨l.val, by omega⟩ * Ideal.cos (angE p ⟨l.val, h⟩) - f ⟨32 + l.val, by omega⟩ * Ideal.sin (angE p ⟨l.val, h⟩)
  else if h2 : l.val < 64 then 0
  else if h3 : l.val < 96 then f ⟨l.val - 32, by omega⟩ * Ideal.cos (angE p ⟨l.val - 64, by omega⟩) + f ⟨l.val - 64, by omega⟩ * Ideal.sin (angE p ⟨l.val - 64, by omega⟩)
  else 0

/-- A head's rotary queries, scaled. -/
def QR (n : Fin 16384) (h : Fin 8) (l : Fin 128) : EReal :=
  ropeE ⟨n.val % 8192, by omega⟩ (fun j => QP cq gq wq n ⟨h.val * 192 + 128 + j.val, by omega⟩) l * sc

/-- The rotary keys. -/
def KR (n : Fin 16384) (l : Fin 128) : EReal :=
  ropeE ⟨n.val % 8192, by omega⟩ (fun j => kr (ix3 ⟨n.val / 8192, by omega⟩ ⟨n.val % 8192, by omega⟩ j)) l

/-- The queries' array: blocks of 256 rows, within each the heads, within each the rows. -/
def OutQ (n : Fin 131072) (l : Fin 256) : EReal :=
  if h : l.val < 128 then QA cq gq wq wk ⟨n.val / 2048 * 256 + n.val % 256, by omega⟩ ⟨n.val % 2048 / 256, by omega⟩ ⟨l.val, h⟩
  else QR cq gq wq ⟨n.val / 2048 * 256 + n.val % 256, by omega⟩ ⟨n.val % 2048 / 256, by omega⟩ ⟨l.val - 128, by omega⟩

def OutK (n : Fin 16384) (l : Fin 256) : EReal :=
  if h : l.val < 128 then CK ck gk n ⟨l.val, h⟩ else KR kr n ⟨l.val - 128, by omega⟩

def OutV (n : Fin 16384) (l : Fin 256) : EReal :=
  if h : l.val < 128 then CK ck gk n ⟨l.val, h⟩ else Ideal.ofBits FTy.bf16 0x3F80#16

end Spec

/-- Rotating the spread columns by 64 lanes is the rotary embedding. -/
theorem rope_eq (p : Fin 8192) (f : Fin 64 → EReal) (l : Fin 128) (h) :
    spreadF f l * cosL p l + spreadF f ⟨(l.val + 128 - 64) % 128, h⟩ * sinL p l = ropeE p f l := by
  unfold spreadF cosL sinL ropeE
  by_cases c1 : l.val < 32
  · have e : (l.val + 128 - 64) % 128 = l.val + 64 := by omega
    rw [dif_pos c1, if_pos (by omega), if_pos (by omega), if_pos (by omega), dif_pos c1, dif_neg (by dsimp only; omega), dif_neg (by dsimp only; omega), dif_pos (by dsimp only; omega)]
    have e1 : (⟨l.val % 32, by omega⟩ : Fin 32) = ⟨l.val, c1⟩ := Fin.ext (by dsimp only; omega)
    have e2 : (⟨(l.val + 128 - 64) % 128 - 32, by omega⟩ : Fin 64) = ⟨32 + l.val, by omega⟩ := Fin.ext (by dsimp only; omega)
    rw [e1, e2, mul_neg, sub_eq_add_neg]
  by_cases c2 : l.val < 64
  · rw [dif_neg c1, dif_pos c2, if_neg (by omega), if_neg (by omega), dif_neg c1, dif_pos c2, mul_zero, mul_zero, add_zero]
  by_cases c3 : l.val < 96
  · have e : (l.val + 128 - 64) % 128 = l.val - 64 := by omega
    rw [dif_neg c1, dif_neg c2, dif_pos c3, if_pos (by omega), if_pos (by omega), if_neg c2, dif_neg c1, dif_neg c2, dif_pos c3, dif_pos (by dsimp only; omega)]
    have e1 : (⟨l.val % 32, by omega⟩ : Fin 32) = ⟨l.val - 64, by omega⟩ := Fin.ext (by dsimp only; omega)
    have e2 : (⟨(l.val + 128 - 64) % 128, by omega⟩ : Fin 64) = ⟨l.val - 64, by omega⟩ := Fin.ext (by dsimp only; omega)
    rw [e1, e2]
  · rw [dif_neg c1, dif_neg c2, dif_neg c3, if_neg (by omega), if_neg (by omega), dif_neg c1, dif_neg c2, dif_neg c3, mul_zero, mul_zero, add_zero]

variable (m : (ℓ : Loc nD τ sig) → Buf (Elt Ideal) ℓ) (c : Dev nD)

/-- Which block each window holds at a point. -/
theorem idx : ∀ t : Fin cfg0.N, win0_0.index t = ![t.val, 0] ∧ win0_1.index t = ![0, 0] ∧ win0_2.index t = ![0, 0]
    ∧ win0_3.index t = ![0, 0] ∧ win0_4.index t = ![0, 0, 0] ∧ win0_5.index t = ![t.val % 8, 0] ∧ win0_6.index t = ![t.val, 0] ∧ win0_7.index t = ![t.val, 0] ∧ win0_8.index t = ![t.val, 0] := by decide +kernel

theorem tlt (t : Fin cfg0.N) : t.val < 16 := lt_of_lt_of_eq t.isLt N_0

theorem read0 (t : Fin cfg0.N) (n : Fin 16384) (r : Fin 1024) (l : Fin 768) (hn : n.val = t.val * 1024 + r.val) :
    (iblk m c 0 t : FVec Ideal S1024x768 .f32) (ix2 r l) = (V m c main_v20 : FVec Ideal S16384x768 .f32) (ix2 n l) := by
  refine congrArg (V m c main_v20 : FVec Ideal S16384x768 .f32) ?_
  have hi := (idx t).1
  funext a
  match a with
  | ⟨0, _⟩ =>
    refine Fin.ext ((ValueKit.view_emb_slice_whole_unit_val _ _ _ _ _ _).trans ?_)
    show win0_0.index t 0 * 1024 + r.val = n.val
    rw [hi]
    show t.val * 1024 + r.val = n.val
    omega
  | ⟨1, _⟩ =>
    refine Fin.ext ((ValueKit.view_emb_slice_whole_unit_val _ _ _ _ _ _).trans ?_)
    show win0_0.index t 1 * 768 + l.val = l.val
    rw [hi]
    show 0 * 768 + l.val = l.val
    omega

theorem read1 (t : Fin cfg0.N) (l : Fin 384) :
    (iblk m c 1 t : FVec Ideal S1x384 .f32) (ix2 0 l) = (V m c main_v21 : FVec Ideal S1x384 .f32) (ix2 0 l) := by
  refine congrArg (V m c main_v21 : FVec Ideal S1x384 .f32) ?_
  have hi := (idx t).2.1
  funext a
  match a with
  | ⟨0, _⟩ =>
    refine Fin.ext ((ValueKit.view_emb_slice_whole_unit_val _ _ _ _ _ _).trans ?_)
    show win0_1.index t 0 * 1 + 0 = 0
    rw [hi]
    show 0 * 1 + 0 = 0
    omega
  | ⟨1, _⟩ =>
    refine Fin.ext ((ValueKit.view_emb_slice_whole_unit_val _ _ _ _ _ _).trans ?_)
    show win0_1.index t 1 * 384 + l.val = l.val
    rw [hi]
    show 0 * 384 + l.val = l.val
    omega

theorem read2 (t : Fin cfg0.N) (l : Fin 128) :
    (iblk m c 2 t : FVec Ideal S1x128 .f32) (ix2 0 l) = (V m c main_v22 : FVec Ideal S1x128 .f32) (ix2 0 l) := by
  refine congrArg (V m c main_v22 : FVec Ideal S1x128 .f32) ?_
  have hi := (idx t).2.2.1
  funext a
  match a with
  | ⟨0, _⟩ =>
    refine Fin.ext ((ValueKit.view_emb_slice_whole_unit_val _ _ _ _ _ _).trans ?_)
    show win0_2.index t 0 * 1 + 0 = 0
    rw [hi]
    show 0 * 1 + 0 = 0
    omega
  | ⟨1, _⟩ =>
    refine Fin.ext ((ValueKit.view_emb_slice_whole_unit_val _ _ _ _ _ _).trans ?_)
    show win0_2.index t 1 * 128 + l.val = l.val
    rw [hi]
    show 0 * 128 + l.val = l.val
    omega

theorem read3 (t : Fin cfg0.N) (d : Fin 384) (l : Fin 2048) :
    (iblk m c 3 t : FVec Ideal S384x2048 .bf16) (ix2 d l) = (V m c main_v15 : FVec Ideal S384x2048 .bf16) (ix2 d l) := by
  refine congrArg (V m c main_v15 : FVec Ideal S384x2048 .bf16) ?_
  have hi := (idx t).2.2.2.1
  funext a
  match a with
  | ⟨0, _⟩ =>
    refine Fin.ext ((ValueKit.view_emb_slice_whole_unit_val _ _ _ _ _ _).trans ?_)
    show win0_3.index t 0 * 384 + d.val = d.val
    rw [hi]
    show 0 * 384 + d.val = d.val
    omega
  | ⟨1, _⟩ =>
    refine Fin.ext ((ValueKit.view_emb_slice_whole_unit_val _ _ _ _ _ _).trans ?_)
    show win0_3.index t 1 * 2048 + l.val = l.val
    rw [hi]
    show 0 * 2048 + l.val = l.val
    omega

theorem read4 (t : Fin cfg0.N) (h : Fin 8) (d l : Fin 128) :
    (iblk m c 4 t : FVec Ideal S8x128x128 .bf16) (ix3 h d l) = (V m c main_v19 : FVec Ideal S8x128x128 .bf16) (ix3 h d l) := by
  refine congrArg (V m c main_v19 : FVec Ideal S8x128x128 .bf16) ?_
  have hi := (idx t).2.2.2.2.1
  funext a
  match a with
  | ⟨0, _⟩ =>
    refine Fin.ext ((ValueKit.view_emb_slice_whole_unit_val _ _ _ _ _ _).trans ?_)
    show win0_4.index t 0 * 8 + h.val = h.val
    rw [hi]
    show 0 * 8 + h.val = h.val
    omega
  | ⟨1, _⟩ =>
    refine Fin.ext ((ValueKit.view_emb_slice_whole_unit_val _ _ _ _ _ _).trans ?_)
    show win0_4.index t 1 * 128 + d.val = d.val
    rw [hi]
    show 0 * 128 + d.val = d.val
    omega
  | ⟨2, _⟩ =>
    refine Fin.ext ((ValueKit.view_emb_slice_whole_unit_val _ _ _ _ _ _).trans ?_)
    show win0_4.index t 2 * 128 + l.val = l.val
    rw [hi]
    show 0 * 128 + l.val = l.val
    omega

theorem read5 (t : Fin cfg0.N) (n : Fin 16384) (p : Fin 8192) (r : Fin 1024) (l : Fin 256) (hn : n.val = t.val * 1024 + r.val) (hp : p.val = n.val % 8192) :
    (iblk m c 5 t : FVec Ideal S1024x256 .f32) (ix2 r l) = (V m c main_v48 : FVec Ideal S8192x256 .f32) (ix2 p l) := by
  refine congrArg (V m c main_v48 : FVec Ideal S8192x256 .f32) ?_
  have hi := (idx t).2.2.2.2.2.1
  funext a
  match a with
  | ⟨0, _⟩ =>
    refine Fin.ext ((ValueKit.view_emb_slice_whole_unit_val _ _ _ _ _ _).trans ?_)
    show win0_5.index t 0 * 1024 + r.val = p.val
    rw [hi]
    show t.val % 8 * 1024 + r.val = p.val
    omega
  | ⟨1, _⟩ =>
    refine Fin.ext ((ValueKit.view_emb_slice_whole_unit_val _ _ _ _ _ _).trans ?_)
    show win0_5.index t 1 * 256 + l.val = l.val
    rw [hi]
    show 0 * 256 + l.val = l.val
    omega

theorem gam1 (g : FVec Ideal S384 .f32) (l : Fin 384) : shapeCast S1x384 g shapeCasts_S384_S1x384 (ix2 0 l) = g (ix1 l) := by
  pointwise []

theorem gam2 (g : FVec Ideal S128 .f32) (l : Fin 128) : shapeCast S1x128 g shapeCasts_S128_S1x128 (ix2 0 l) = g (ix1 l) := by
  pointwise []

theorem rowXQ (t : Fin cfg0.N) (n : Fin 16384) (r : Fin 1024) (l : Fin 384) (hn : n.val = t.val * 1024 + r.val) :
    xqB (iblk m c 0 t) (iblk m c 1 t) r l = XQ (m ((c.tc : Thread nD τ).loc main_arg0)) (m ((c.tc : Thread nD τ).loc main_arg3)) n l := by
  have e : ∀ d : Fin 384, (iblk m c 0 t : FVec Ideal S1024x768 .f32) (ix2 r ⟨d.val, by omega⟩) = _ := fun d => (read0 m c t n r ⟨d.val, by omega⟩ hn).trans ((congrFun (hv20 m c) _).trans (lat_q _ _ _ n d))
  have e1 := (read1 m c t l).trans ((congrFun (hv21 m c) _).trans (gam1 _ l))
  exact congrArg₂ (fun a b : EReal => a * b) (congrArg₂ (fun a b : EReal => a * b) (e l) (congrArg rsQ (funext e))) e1

theorem rowCK (t : Fin cfg0.N) (n : Fin 16384) (r : Fin 1024) (l : Fin 128) (hn : n.val = t.val * 1024 + r.val) :
    ckB (iblk m c 0 t) (iblk m c 2 t) r l = CK (m ((c.tc : Thread nD τ).loc main_arg1)) (m ((c.tc : Thread nD τ).loc main_arg4)) n l := by
  have e : ∀ d : Fin 128, (iblk m c 0 t : FVec Ideal S1024x768 .f32) (ix2 r ⟨384 + d.val, by omega⟩) = _ := fun d => (read0 m c t n r ⟨384 + d.val, by omega⟩ hn).trans ((congrFun (hv20 m c) _).trans (lat_k _ _ _ n d))
  have e1 := (read2 m c t l).trans ((congrFun (hv22 m c) _).trans (gam2 _ l))
  exact congrArg₂ (fun a b : EReal => a * b) (congrArg₂ (fun a b : EReal => a * b) (e l) (congrArg rsK (funext e))) e1

theorem rowC (t : Fin cfg0.N) (n : Fin 16384) (r : Fin 1024) (l : Fin 128) (hn : n.val = t.val * 1024 + r.val) (hl) :
    (iblk m c 5 t : FVec Ideal S1024x256 .f32) (ix2 r ⟨l.val, hl⟩) = cosL ⟨n.val % 8192, by omega⟩ l :=
  (read5 m c t n ⟨n.val % 8192, by omega⟩ r _ hn rfl).trans ((congrFun (hv48 m c) _).trans (rope_c _ l))

theorem rowS (t : Fin cfg0.N) (n : Fin 16384) (r : Fin 1024) (l : Fin 128) (hn : n.val = t.val * 1024 + r.val) (hl) :
    (iblk m c 5 t : FVec Ideal S1024x256 .f32) (ix2 r ⟨128 + l.val, hl⟩) = sinL ⟨n.val % 8192, by omega⟩ l :=
  (read5 m c t n ⟨n.val % 8192, by omega⟩ r _ hn rfl).trans ((congrFun (hv48 m c) _).trans (rope_s _ l))

theorem rowKR (t : Fin cfg0.N) (n : Fin 16384) (r : Fin 1024) (l : Fin 128) (hn : n.val = t.val * 1024 + r.val) :
    krB (iblk m c 0 t) (iblk m c 5 t) r l = KR (m ((c.tc : Thread nD τ).loc main_arg2)) n l := by
  have e : ∀ d : Fin 128, (iblk m c 0 t : FVec Ideal S1024x768 .f32) (ix2 r ⟨512 + d.val, by omega⟩) = _ := fun d => (read0 m c t n r ⟨512 + d.val, by omega⟩ hn).trans ((congrFun (hv20 m c) _).trans (lat_r _ _ _ n d))
  refine Eq.trans ?_ (rope_eq _ _ l (by omega))
  exact congrArg₂ (fun a b : EReal => a + b) (congrArg₂ (fun a b : EReal => a * b) (e l) (rowC m c t n r l hn _))
    (congrArg₂ (fun a b : EReal => a * b) (e ⟨(l.val + 128 - 64) % 128, by omega⟩) (rowS m c t n r l hn _))

/-- A block's queries, all heads side by side. -/
abbrev qBlk (t : Fin cfg0.N) : FVec Ideal S1024x2048 .f32 := k0_pay93 (F := Ideal) (iblk m c 0 t) (iblk m c 1 t) (iblk m c 2 t) (iblk m c 3 t) (iblk m c 4 t) (iblk m c 5 t)

theorem rowQ (t : Fin cfg0.N) (n : Fin 16384) (r : Fin 1024) (j : Fin 2048) (hn : n.val = t.val * 1024 + r.val) :
    qBlk m c t (ix2 r j) = ∑ d, XQ (m ((c.tc : Thread nD τ).loc main_arg0)) (m ((c.tc : Thread nD τ).loc main_arg3)) n d * hwq (m ((c.tc : Thread nD τ).loc main_arg5)) (ix2 d j) := by
  refine (q_at _ _ _ _ _ _ r j).trans (Finset.sum_congr (M := EReal) rfl fun d _ => ?_)
  exact congrArg₂ (fun a b : EReal => a * b) (rowXQ m c t n r d hn) ((read3 m c t d j).trans (congrFun (hv15 m c) _))

theorem rowQa (t : Fin cfg0.N) (n : Fin 16384) (r : Fin 1024) (h : Fin 8) (e : Fin 128) (hn : n.val = t.val * 1024 + r.val) :
    qBlk m c t (ix2 r ⟨256 * h.val + e.val, by omega⟩) = QP (m ((c.tc : Thread nD τ).loc main_arg0)) (m ((c.tc : Thread nD τ).loc main_arg3)) (m ((c.tc : Thread nD τ).loc main_arg5)) n ⟨h.val * 192 + e.val, by omega⟩ := by
  refine (rowQ m c t n r _ hn).trans (Finset.sum_congr (M := EReal) rfl fun d _ => ?_)
  exact congrArg (fun a : EReal => XQ (m ((c.tc : Thread nD τ).loc main_arg0)) (m ((c.tc : Thread nD τ).loc main_arg3)) n d * a) (wq_a _ d h e)

/-- A sum against spread columns is the spread sums. -/
theorem sum_spread (u : Fin 384 → EReal) (f : Fin 384 → Fin 64 → EReal) (l : Fin 128) :
    (∑ d, u d * spreadF (f d) l) = spreadF (fun j => ∑ d, u d * f d j) l := by
  unfold spreadF
  by_cases c1 : l.val < 32
  · simp only [dif_pos c1]
  by_cases c2 : l.val < 64
  · simp only [dif_neg c1, dif_pos c2, mul_zero, Finset.sum_const_zero]
  by_cases c3 : l.val < 96
  · simp only [dif_neg c1, dif_neg c2, dif_pos c3]
  · simp only [dif_neg c1, dif_neg c2, dif_neg c3, mul_zero, Finset.sum_const_zero]

theorem rowQr (t : Fin cfg0.N) (n : Fin 16384) (r : Fin 1024) (h : Fin 8) (l : Fin 128) (hn : n.val = t.val * 1024 + r.val) :
    qBlk m c t (ix2 r ⟨256 * h.val + 128 + l.val, by omega⟩) = spreadF (fun j => QP (m ((c.tc : Thread nD τ).loc main_arg0)) (m ((c.tc : Thread nD τ).loc main_arg3)) (m ((c.tc : Thread nD τ).loc main_arg5)) n ⟨h.val * 192 + 128 + j.val, by omega⟩) l := by
  refine (rowQ m c t n r _ hn).trans (Eq.trans (Finset.sum_congr (M := EReal) rfl fun d _ => ?_) (sum_spread (fun d => XQ (m ((c.tc : Thread nD τ).loc main_arg0)) (m ((c.tc : Thread nD τ).loc main_arg3)) n d) (fun d j => (m ((c.tc : Thread nD τ).loc main_arg5)) (ix2 d ⟨h.val * 192 + 128 + j.val, by omega⟩)) l))
  exact congrArg (fun a : EReal => XQ (m ((c.tc : Thread nD τ).loc main_arg0)) (m ((c.tc : Thread nD τ).loc main_arg3)) n d * a) (wq_r _ d h l)

theorem rowA (t : Fin cfg0.N) (n : Fin 16384) (r : Fin 1024) (h : Fin 8) (l : Fin 128) (hn : n.val = t.val * 1024 + r.val) :
    aF h (qBlk m c t) (iblk m c 4 t) r l = QA (m ((c.tc : Thread nD τ).loc main_arg0)) (m ((c.tc : Thread nD τ).loc main_arg3)) (m ((c.tc : Thread nD τ).loc main_arg5)) (m ((c.tc : Thread nD τ).loc main_arg6)) n h l := by
  refine congrArg (fun s : EReal => s * sc) (Finset.sum_congr (M := EReal) rfl fun d _ => ?_)
  exact congrArg₂ (fun a b : EReal => a * b) (rowQa m c t n r h d hn) ((read4 m c t h d l).trans ((congrFun (hv19 m c) _).trans (wk_at _ h d l)))

theorem rowR (t : Fin cfg0.N) (n : Fin 16384) (r : Fin 1024) (h : Fin 8) (l : Fin 128) (hn : n.val = t.val * 1024 + r.val) :
    rF h (qBlk m c t) (iblk m c 5 t) r l = QR (m ((c.tc : Thread nD τ).loc main_arg0)) (m ((c.tc : Thread nD τ).loc main_arg3)) (m ((c.tc : Thread nD τ).loc main_arg5)) n h l := by
  refine congrArg (fun s : EReal => s * sc) (Eq.trans ?_ (rope_eq _ _ l (by omega)))
  exact congrArg₂ (fun a b : EReal => a + b) (congrArg₂ (fun a b : EReal => a * b) (rowQr m c t n r h l hn) (rowC m c t n r l hn _))
    (congrArg₂ (fun a b : EReal => a * b) (rowQr m c t n r h ⟨(l.val + 128 - 64) % 128, by omega⟩ hn) (rowS m c t n r l hn _))

/-- The array of result 0, an entry at a time. -/
theorem arr6_at (n : Fin 131072) (l : Fin 256) : ((dats m 0 c).arrAt 6 cfg0.N : FVec Ideal S131072x256 .bf16) (ix2 n l) = OutQ (m ((c.tc : Thread nD τ).loc main_arg0)) (m ((c.tc : Thread nD τ).loc main_arg3)) (m ((c.tc : Thread nD τ).loc main_arg5)) (m ((c.tc : Thread nD τ).loc main_arg6)) n l := by
  have hN : n.val / 8192 < cfg0.N := lt_of_lt_of_eq (by omega) N_0.symm
  have hf : (cfg0.win 6).flush ⟨n.val / 8192, hN⟩ = true := (by decide +kernel : ∀ t : Fin grid0.N, (cfg0.win 6).flush t = true) ⟨n.val / 8192, hN⟩
  have hb := congrFun ((blocks6 m c ⟨n.val / 8192, hN⟩ hf).trans (flushed6 m c ⟨n.val / 8192, hN⟩)) (ix2 ⟨n.val % 8192, by omega⟩ l)
  have he : ((dats m 0 c).arrAt 6 cfg0.N : FVec Ideal S131072x256 .bf16) (ix2 n l)
      = (((cfg0.win 6).blk ⟨n.val / 8192, hN⟩).view.read (Elt Ideal) ((dats m 0 c).arrAt 6 cfg0.N)) (ix2 ⟨n.val % 8192, by omega⟩ l) := by
    refine congrArg ((dats m 0 c).arrAt 6 cfg0.N : FVec Ideal S131072x256 .bf16) ?_
    have hi := (idx ⟨n.val / 8192, hN⟩).2.2.2.2.2.2.1
    funext a
    match a with
    | ⟨0, _⟩ =>
      refine Fin.ext (Eq.trans ?_ (ValueKit.view_emb_slice_whole_unit_val _ _ _ _ _ _).symm)
      show n.val = win0_6.index ⟨n.val / 8192, hN⟩ 0 * 8192 + n.val % 8192
      rw [hi]
      show n.val = n.val / 8192 * 8192 + n.val % 8192
      omega
    | ⟨1, _⟩ =>
      refine Fin.ext (Eq.trans ?_ (ValueKit.view_emb_slice_whole_unit_val _ _ _ _ _ _).symm)
      show l.val = win0_6.index ⟨n.val / 8192, hN⟩ 1 * 256 + l.val
      rw [hi]
      show l.val = 0 * 256 + l.val
      omega
  refine he.trans (hb.trans (Eq.trans ?_ (Eq.trans (out6_blk (iblk m c 0 ⟨n.val / 8192, hN⟩) (iblk m c 1 ⟨n.val / 8192, hN⟩) (iblk m c 2 ⟨n.val / 8192, hN⟩) (iblk m c 3 ⟨n.val / 8192, hN⟩) (iblk m c 4 ⟨n.val / 8192, hN⟩) (iblk m c 5 ⟨n.val / 8192, hN⟩) (ix2 ⟨n.val % 8192, by omega⟩ l)) ?_)))
  · rfl
  · by_cases h : l.val < 128
    · have e : OutQ (m ((c.tc : Thread nD τ).loc main_arg0)) (m ((c.tc : Thread nD τ).loc main_arg3)) (m ((c.tc : Thread nD τ).loc main_arg5)) (m ((c.tc : Thread nD τ).loc main_arg6)) n l = QA (m ((c.tc : Thread nD τ).loc main_arg0)) (m ((c.tc : Thread nD τ).loc main_arg3)) (m ((c.tc : Thread nD τ).loc main_arg5)) (m ((c.tc : Thread nD τ).loc main_arg6)) ⟨n.val / 2048 * 256 + n.val % 256, by omega⟩ ⟨n.val % 2048 / 256, by omega⟩ ⟨l.val, h⟩ := dif_pos h
      have hh : (⟨n.val % 8192 % 2048 / 256, by omega⟩ : Fin 8) = ⟨n.val % 2048 / 256, by omega⟩ := Fin.ext (by dsimp only; omega)
      rw [e, ← hh]
      exact (dif_pos h).trans (rowA m c ⟨n.val / 8192, hN⟩ ⟨n.val / 2048 * 256 + n.val % 256, by omega⟩ ⟨n.val % 8192 / 2048 * 256 + n.val % 8192 % 256, by omega⟩ ⟨n.val % 8192 % 2048 / 256, by omega⟩ ⟨l.val, h⟩ (by dsimp only; omega))
    · have e : OutQ (m ((c.tc : Thread nD τ).loc main_arg0)) (m ((c.tc : Thread nD τ).loc main_arg3)) (m ((c.tc : Thread nD τ).loc main_arg5)) (m ((c.tc : Thread nD τ).loc main_arg6)) n l = QR (m ((c.tc : Thread nD τ).loc main_arg0)) (m ((c.tc : Thread nD τ).loc main_arg3)) (m ((c.tc : Thread nD τ).loc main_arg5)) ⟨n.val / 2048 * 256 + n.val % 256, by omega⟩ ⟨n.val % 2048 / 256, by omega⟩ ⟨l.val - 128, by omega⟩ := dif_neg h
      have hh : (⟨n.val % 8192 % 2048 / 256, by omega⟩ : Fin 8) = ⟨n.val % 2048 / 256, by omega⟩ := Fin.ext (by dsimp only; omega)
      rw [e, ← hh]
      exact (dif_neg h).trans (rowR m c ⟨n.val / 8192, hN⟩ ⟨n.val / 2048 * 256 + n.val % 256, by omega⟩ ⟨n.val % 8192 / 2048 * 256 + n.val % 8192 % 256, by omega⟩ ⟨n.val % 8192 % 2048 / 256, by omega⟩ ⟨l.val - 128, by omega⟩ (by dsimp only; omega))

/-- The array of result 1, an entry at a time. -/
theorem arr7_at (n : Fin 16384) (l : Fin 256) : ((dats m 0 c).arrAt 7 cfg0.N : FVec Ideal S16384x256 .bf16) (ix2 n l) = OutK (m ((c.tc : Thread nD τ).loc main_arg1)) (m ((c.tc : Thread nD τ).loc main_arg2)) (m ((c.tc : Thread nD τ).loc main_arg4)) n l := by
  have hN : n.val / 1024 < cfg0.N := lt_of_lt_of_eq (by omega) N_0.symm
  have hf : (cfg0.win 7).flush ⟨n.val / 1024, hN⟩ = true := (by decide +kernel : ∀ t : Fin grid0.N, (cfg0.win 7).flush t = true) ⟨n.val / 1024, hN⟩
  have hb := congrFun ((blocks7 m c ⟨n.val / 1024, hN⟩ hf).trans (flushed7 m c ⟨n.val / 1024, hN⟩)) (ix2 ⟨n.val % 1024, by omega⟩ l)
  have he : ((dats m 0 c).arrAt 7 cfg0.N : FVec Ideal S16384x256 .bf16) (ix2 n l)
      = (((cfg0.win 7).blk ⟨n.val / 1024, hN⟩).view.read (Elt Ideal) ((dats m 0 c).arrAt 7 cfg0.N)) (ix2 ⟨n.val % 1024, by omega⟩ l) := by
    refine congrArg ((dats m 0 c).arrAt 7 cfg0.N : FVec Ideal S16384x256 .bf16) ?_
    have hi := (idx ⟨n.val / 1024, hN⟩).2.2.2.2.2.2.2.1
    funext a
    match a with
    | ⟨0, _⟩ =>
      refine Fin.ext (Eq.trans ?_ (ValueKit.view_emb_slice_whole_unit_val _ _ _ _ _ _).symm)
      show n.val = win0_7.index ⟨n.val / 1024, hN⟩ 0 * 1024 + n.val % 1024
      rw [hi]
      show n.val = n.val / 1024 * 1024 + n.val % 1024
      omega
    | ⟨1, _⟩ =>
      refine Fin.ext (Eq.trans ?_ (ValueKit.view_emb_slice_whole_unit_val _ _ _ _ _ _).symm)
      show l.val = win0_7.index ⟨n.val / 1024, hN⟩ 1 * 256 + l.val
      rw [hi]
      show l.val = 0 * 256 + l.val
      omega
  refine he.trans (hb.trans (Eq.trans ?_ (Eq.trans (out7_blk (iblk m c 0 ⟨n.val / 1024, hN⟩) (iblk m c 1 ⟨n.val / 1024, hN⟩) (iblk m c 2 ⟨n.val / 1024, hN⟩) (iblk m c 3 ⟨n.val / 1024, hN⟩) (iblk m c 4 ⟨n.val / 1024, hN⟩) (iblk m c 5 ⟨n.val / 1024, hN⟩) (ix2 ⟨n.val % 1024, by omega⟩ l)) ?_)))
  · rfl
  · by_cases h : l.val < 128
    · have e : OutK (m ((c.tc : Thread nD τ).loc main_arg1)) (m ((c.tc : Thread nD τ).loc main_arg2)) (m ((c.tc : Thread nD τ).loc main_arg4)) n l = CK (m ((c.tc : Thread nD τ).loc main_arg1)) (m ((c.tc : Thread nD τ).loc main_arg4)) n ⟨l.val, h⟩ := dif_pos h
      rw [e]
      exact (dif_pos h).trans (rowCK m c ⟨n.val / 1024, hN⟩ n ⟨n.val % 1024, by omega⟩ ⟨l.val, h⟩ (by dsimp only; omega))
    · have e : OutK (m ((c.tc : Thread nD τ).loc main_arg1)) (m ((c.tc : Thread nD τ).loc main_arg2)) (m ((c.tc : Thread nD τ).loc main_arg4)) n l = KR (m ((c.tc : Thread nD τ).loc main_arg2)) n ⟨l.val - 128, by omega⟩ := dif_neg h
      rw [e]
      exact (dif_neg h).trans (rowKR m c ⟨n.val / 1024, hN⟩ n ⟨n.val % 1024, by omega⟩ ⟨l.val - 128, by omega⟩ (by dsimp only; omega))

/-- The array of result 2, an entry at a time. -/
theorem arr8_at (n : Fin 16384) (l : Fin 256) : ((dats m 0 c).arrAt 8 cfg0.N : FVec Ideal S16384x256 .bf16) (ix2 n l) = OutV (m ((c.tc : Thread nD τ).loc main_arg1)) (m ((c.tc : Thread nD τ).loc main_arg4)) n l := by
  have hN : n.val / 1024 < cfg0.N := lt_of_lt_of_eq (by omega) N_0.symm
  have hf : (cfg0.win 8).flush ⟨n.val / 1024, hN⟩ = true := (by decide +kernel : ∀ t : Fin grid0.N, (cfg0.win 8).flush t = true) ⟨n.val / 1024, hN⟩
  have hb := congrFun ((blocks8 m c ⟨n.val / 1024, hN⟩ hf).trans (flushed8 m c ⟨n.val / 1024, hN⟩)) (ix2 ⟨n.val % 1024, by omega⟩ l)
  have he : ((dats m 0 c).arrAt 8 cfg0.N : FVec Ideal S16384x256 .bf16) (ix2 n l)
      = (((cfg0.win 8).blk ⟨n.val / 1024, hN⟩).view.read (Elt Ideal) ((dats m 0 c).arrAt 8 cfg0.N)) (ix2 ⟨n.val % 1024, by omega⟩ l) := by
    refine congrArg ((dats m 0 c).arrAt 8 cfg0.N : FVec Ideal S16384x256 .bf16) ?_
    have hi := (idx ⟨n.val / 1024, hN⟩).2.2.2.2.2.2.2.2
    funext a
    match a with
    | ⟨0, _⟩ =>
      refine Fin.ext (Eq.trans ?_ (ValueKit.view_emb_slice_whole_unit_val _ _ _ _ _ _).symm)
      show n.val = win0_8.index ⟨n.val / 1024, hN⟩ 0 * 1024 + n.val % 1024
      rw [hi]
      show n.val = n.val / 1024 * 1024 + n.val % 1024
      omega
    | ⟨1, _⟩ =>
      refine Fin.ext (Eq.trans ?_ (ValueKit.view_emb_slice_whole_unit_val _ _ _ _ _ _).symm)
      show l.val = win0_8.index ⟨n.val / 1024, hN⟩ 1 * 256 + l.val
      rw [hi]
      show l.val = 0 * 256 + l.val
      omega
  refine he.trans (hb.trans (Eq.trans ?_ (Eq.trans (out8_blk (iblk m c 0 ⟨n.val / 1024, hN⟩) (iblk m c 1 ⟨n.val / 1024, hN⟩) (iblk m c 2 ⟨n.val / 1024, hN⟩) (iblk m c 3 ⟨n.val / 1024, hN⟩) (iblk m c 4 ⟨n.val / 1024, hN⟩) (iblk m c 5 ⟨n.val / 1024, hN⟩) (ix2 ⟨n.val % 1024, by omega⟩ l)) ?_)))
  · rfl
  · by_cases h : l.val < 128
    · have e : OutV (m ((c.tc : Thread nD τ).loc main_arg1)) (m ((c.tc : Thread nD τ).loc main_arg4)) n l = CK (m ((c.tc : Thread nD τ).loc main_arg1)) (m ((c.tc : Thread nD τ).loc main_arg4)) n ⟨l.val, h⟩ := dif_pos h
      rw [e]
      exact (dif_pos h).trans (rowCK m c ⟨n.val / 1024, hN⟩ n ⟨n.val % 1024, by omega⟩ ⟨l.val, h⟩ (by dsimp only; omega))
    · have e : OutV (m ((c.tc : Thread nD τ).loc main_arg1)) (m ((c.tc : Thread nD τ).loc main_arg4)) n l = Ideal.ofBits FTy.bf16 0x3F80#16 := dif_neg h
      rw [e]
      exact dif_neg h

end Cert.MlaPrepIdeal.Body
end
-- ==== Proof.PrepRef.lean ====
module

public import proofs.«01_k».proof.Proof.PrepArr
public import proofs.«01_k».proof.Proof.Gen.MlaPrepReferenceIdeal.Run
public import Idealize.ShloMosaic.Lib.Pipeline.ValueKit
public import Idealize.ShloMosaic.Lib.Pipeline.ReadBack
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.MlaPrepReferenceIdeal.Body

open Cert.MlaPrepReferenceIdeal Cert.MlaPrepReferenceIdeal.Gen

/-- The query latents, normalised and weighted. -/
def hxq (cq : FVec Ideal S2x8192x384 .f32) (gq : FVec Ideal S384 .f32) : FVec Ideal S2x8192x384 .f32 :=
  mulf (mulf cq (broadcastInDim S2x8192x384 ![0, 1, 2] bcast_S2x8192x1_S2x8192x384_0_1_2 (Host.rsqrt (addf (Host.divf (broadcastInDim S2x8192x1 ![0, 1] bcast_S2x8192_S2x8192x1_0_1 (Host.reduceAdd (mulf cq cq) (constant (F := Ideal) S_ .f32 0x00000000#32) reducesTo_S2x8192x384_S2x8192_d2 h_S_)) (broadcastInDim S2x8192x1 ![] bcast_S_S2x8192x1 (constant (F := Ideal) S_ .f32 0x43C00000#32))) (broadcastInDim S2x8192x1 ![] bcast_S_S2x8192x1 (constant (F := Ideal) S_ .f32 0x358637BD#32)))))) (broadcastInDim S2x8192x384 ![0, 1, 2] bcast_S1x1x384_S2x8192x384_0_1_2 (broadcastInDim S1x1x384 ![2] bcast_S384_S1x1x384_2 gq))

/-- The key latents, normalised and weighted. -/
def hck (ck : FVec Ideal S2x8192x128 .f32) (gk : FVec Ideal S128 .f32) : FVec Ideal S2x8192x128 .f32 :=
  mulf (mulf ck (broadcastInDim S2x8192x128 ![0, 1, 2] bcast_S2x8192x1_S2x8192x128_0_1_2 (Host.rsqrt (addf (Host.divf (broadcastInDim S2x8192x1 ![0, 1] bcast_S2x8192_S2x8192x1_0_1 (Host.reduceAdd (mulf ck ck) (constant (F := Ideal) S_ .f32 0x00000000#32) reducesTo_S2x8192x128_S2x8192_d2 h_S_)) (broadcastInDim S2x8192x1 ![] bcast_S_S2x8192x1 (constant (F := Ideal) S_ .f32 0x43000000#32))) (broadcastInDim S2x8192x1 ![] bcast_S_S2x8192x1 (constant (F := Ideal) S_ .f32 0x358637BD#32)))))) (broadcastInDim S2x8192x128 ![0, 1, 2] bcast_S1x1x128_S2x8192x128_0_1_2 (broadcastInDim S1x1x128 ![2] bcast_S128_S1x1x128_2 gk))

/-- The rotary angles, a position and a pair of columns. -/
def hang  : FVec Ideal S8192x32 .f32 :=
  mulf (broadcastInDim S8192x32 ![0, 1] bcast_S8192x1_S8192x32_0_1 (broadcastInDim S8192x1 ![0] bcast_S8192_S8192x1_0 (sitofp (F := Ideal) .f32 (iotaInDim S8192 32 0)))) (broadcastInDim S8192x32 ![0, 1] bcast_S1x32_S8192x32_0_1 (broadcastInDim S1x32 ![1] bcast_S32_S1x32_1 (Host.powf (broadcastInDim S32 ![] bcast_S_S32 (constant (F := Ideal) S_ .f32 0x461C4000#32)) (Host.divf (Host.negf (sitofp (F := Ideal) .f32 (iotaInDim S32 32 0))) (broadcastInDim S32 ![] bcast_S_S32 (constant (F := Ideal) S_ .f32 0x42000000#32))))))

/-- The queries by head. -/
def hq (x : FVec Ideal S2x8192x384 .f32) (wq : FVec Ideal S384x1536 .f32) : FVec Ideal S2x8192x8x192 .f32 :=
  shapeCast _ (Host.dotGeneral dot_S2x8192x384_S384x1536_S2x8192x1536_2_0_01_1_n_n none x wq) shapeCasts_S2x8192x1536_S2x8192x8x192

/-- The queries taken to the latents. -/
def habs (q : FVec Ideal S2x8192x8x192 .f32) (wk : FVec Ideal S128x2048 .f32) : FVec Ideal S2x8192x8x128 .f32 :=
  transpose S2x8192x8x128 [2, 3, 0, 1] (Host.dotGeneral dot_S128x8x128_S2x8192x8x128_S8x128x2x8192_2_3_0_01_1_2 none (extractStridedSlice S128x8x128 ![0, 0, 0] (shapeCast _ wk shapeCasts_S128x2048_S128x8x256) slices_S128x8x256_S128x8x128_0_0_0) (extractStridedSlice S2x8192x8x128 ![0, 0, 0, 0] q slices_S2x8192x8x192_S2x8192x8x128_0_0_0_0)) transposes_S8x128x2x8192_S2x8192x8x128_2_3_0_1

/-- The queries' rotary columns, rotated. -/
def hrq (q : FVec Ideal S2x8192x8x192 .f32) : FVec Ideal S2x8192x8x128 .f32 :=
  concatenate S2x8192x8x128 3 [⟨S2x8192x8x32, ((subf (mulf (extractStridedSlice S2x8192x8x32 ![0, 0, 0, 0] (extractStridedSlice S2x8192x8x64 ![0, 0, 0, 128] q slices_S2x8192x8x192_S2x8192x8x64_0_0_0_128) slices_S2x8192x8x64_S2x8192x8x32_0_0_0_0) (broadcastInDim S2x8192x8x32 ![0, 1, 2, 3] bcast_S1x8192x1x32_S2x8192x8x32_0_1_2_3 (broadcastInDim S1x8192x1x32 ![1, 2, 3] bcast_S8192x1x32_S1x8192x1x32_1_2_3 (broadcastInDim S8192x1x32 ![0, 2] bcast_S8192x32_S8192x1x32_0_2 (Host.cos hang))))) (mulf (extractStridedSlice S2x8192x8x32 ![0, 0, 0, 32] (extractStridedSlice S2x8192x8x64 ![0, 0, 0, 128] q slices_S2x8192x8x192_S2x8192x8x64_0_0_0_128) slices_S2x8192x8x64_S2x8192x8x32_0_0_0_32) (broadcastInDim S2x8192x8x32 ![0, 1, 2, 3] bcast_S1x8192x1x32_S2x8192x8x32_0_1_2_3 (broadcastInDim S1x8192x1x32 ![1, 2, 3] bcast_S8192x1x32_S1x8192x1x32_1_2_3 (broadcastInDim S8192x1x32 ![0, 2] bcast_S8192x32_S8192x1x32_0_2 (Host.sin hang)))))) : FVec Ideal S2x8192x8x32 .f32)⟩, ⟨S2x8192x8x32, ((broadcastInDim S2x8192x8x32 ![] bcast_S_S2x8192x8x32 (constant (F := Ideal) S_ .f32 0x00000000#32)) : FVec Ideal S2x8192x8x32 .f32)⟩, ⟨S2x8192x8x32, ((addf (mulf (extractStridedSlice S2x8192x8x32 ![0, 0, 0, 32] (extractStridedSlice S2x8192x8x64 ![0, 0, 0, 128] q slices_S2x8192x8x192_S2x8192x8x64_0_0_0_128) slices_S2x8192x8x64_S2x8192x8x32_0_0_0_32) (broadcastInDim S2x8192x8x32 ![0, 1, 2, 3] bcast_S1x8192x1x32_S2x8192x8x32_0_1_2_3 (broadcastInDim S1x8192x1x32 ![1, 2, 3] bcast_S8192x1x32_S1x8192x1x32_1_2_3 (broadcastInDim S8192x1x32 ![0, 2] bcast_S8192x32_S8192x1x32_0_2 (Host.cos hang))))) (mulf (extractStridedSlice S2x8192x8x32 ![0, 0, 0, 0] (extractStridedSlice S2x8192x8x64 ![0, 0, 0, 128] q slices_S2x8192x8x192_S2x8192x8x64_0_0_0_128) slices_S2x8192x8x64_S2x8192x8x32_0_0_0_0) (broadcastInDim S2x8192x8x32 ![0, 1, 2, 3] bcast_S1x8192x1x32_S2x8192x8x32_0_1_2_3 (broadcastInDim S1x8192x1x32 ![1, 2, 3] bcast_S8192x1x32_S1x8192x1x32_1_2_3 (broadcastInDim S8192x1x32 ![0, 2] bcast_S8192x32_S8192x1x32_0_2 (Host.sin hang)))))) : FVec Ideal S2x8192x8x32 .f32)⟩, ⟨S2x8192x8x32, ((broadcastInDim S2x8192x8x32 ![] bcast_S_S2x8192x8x32 (constant (F := Ideal) S_ .f32 0x00000000#32)) : FVec Ideal S2x8192x8x32 .f32)⟩] concatenates_S2x8192x8x32_S2x8192x8x32_S2x8192x8x32_S2x8192x8x32_S2x8192x8x128_d3

/-- The keys' rotary columns, rotated. -/
def hrk (kr : FVec Ideal S2x8192x64 .f32) : FVec Ideal S2x8192x1x128 .f32 :=
  concatenate S2x8192x1x128 3 [⟨S2x8192x1x32, ((subf (mulf (extractStridedSlice S2x8192x1x32 ![0, 0, 0, 0] (broadcastInDim S2x8192x1x64 ![0, 1, 3] bcast_S2x8192x64_S2x8192x1x64_0_1_3 kr) slices_S2x8192x1x64_S2x8192x1x32_0_0_0_0) (broadcastInDim S2x8192x1x32 ![0, 1, 2, 3] bcast_S1x8192x1x32_S2x8192x1x32_0_1_2_3 (broadcastInDim S1x8192x1x32 ![1, 2, 3] bcast_S8192x1x32_S1x8192x1x32_1_2_3 (broadcastInDim S8192x1x32 ![0, 2] bcast_S8192x32_S8192x1x32_0_2 (Host.cos hang))))) (mulf (extractStridedSlice S2x8192x1x32 ![0, 0, 0, 32] (broadcastInDim S2x8192x1x64 ![0, 1, 3] bcast_S2x8192x64_S2x8192x1x64_0_1_3 kr) slices_S2x8192x1x64_S2x8192x1x32_0_0_0_32) (broadcastInDim S2x8192x1x32 ![0, 1, 2, 3] bcast_S1x8192x1x32_S2x8192x1x32_0_1_2_3 (broadcastInDim S1x8192x1x32 ![1, 2, 3] bcast_S8192x1x32_S1x8192x1x32_1_2_3 (broadcastInDim S8192x1x32 ![0, 2] bcast_S8192x32_S8192x1x32_0_2 (Host.sin hang)))))) : FVec Ideal S2x8192x1x32 .f32)⟩, ⟨S2x8192x1x32, ((broadcastInDim S2x8192x1x32 ![] bcast_S_S2x8192x1x32 (constant (F := Ideal) S_ .f32 0x00000000#32)) : FVec Ideal S2x8192x1x32 .f32)⟩, ⟨S2x8192x1x32, ((addf (mulf (extractStridedSlice S2x8192x1x32 ![0, 0, 0, 32] (broadcastInDim S2x8192x1x64 ![0, 1, 3] bcast_S2x8192x64_S2x8192x1x64_0_1_3 kr) slices_S2x8192x1x64_S2x8192x1x32_0_0_0_32) (broadcastInDim S2x8192x1x32 ![0, 1, 2, 3] bcast_S1x8192x1x32_S2x8192x1x32_0_1_2_3 (broadcastInDim S1x8192x1x32 ![1, 2, 3] bcast_S8192x1x32_S1x8192x1x32_1_2_3 (broadcastInDim S8192x1x32 ![0, 2] bcast_S8192x32_S8192x1x32_0_2 (Host.cos hang))))) (mulf (extractStridedSlice S2x8192x1x32 ![0, 0, 0, 0] (broadcastInDim S2x8192x1x64 ![0, 1, 3] bcast_S2x8192x64_S2x8192x1x64_0_1_3 kr) slices_S2x8192x1x64_S2x8192x1x32_0_0_0_0) (broadcastInDim S2x8192x1x32 ![0, 1, 2, 3] bcast_S1x8192x1x32_S2x8192x1x32_0_1_2_3 (broadcastInDim S1x8192x1x32 ![1, 2, 3] bcast_S8192x1x32_S1x8192x1x32_1_2_3 (broadcastInDim S8192x1x32 ![0, 2] bcast_S8192x32_S8192x1x32_0_2 (Host.sin hang)))))) : FVec Ideal S2x8192x1x32 .f32)⟩, ⟨S2x8192x1x32, ((broadcastInDim S2x8192x1x32 ![] bcast_S_S2x8192x1x32 (constant (F := Ideal) S_ .f32 0x00000000#32)) : FVec Ideal S2x8192x1x32 .f32)⟩] concatenates_S2x8192x1x32_S2x8192x1x32_S2x8192x1x32_S2x8192x1x32_S2x8192x1x128_d3

/-- The queries in the call's order. -/
def hOutQ (A : FVec Ideal S2x8192x8x128 .f32) (R : FVec Ideal S2x8192x8x128 .f32) : FVec Ideal S131072x256 .bf16 :=
  truncf .bf16 (shapeCast _ (transpose S2x32x8x256x256 [0, 1, 3, 2, 4] (shapeCast _ (mulf (concatenate S2x8192x8x256 3 [⟨S2x8192x8x128, A⟩, ⟨S2x8192x8x128, (R)⟩] concatenates_S2x8192x8x128_S2x8192x8x128_S2x8192x8x256_d3) (broadcastInDim S2x8192x8x256 ![] bcast_S_S2x8192x8x256 (constant (F := Ideal) S_ .f32 0x3DD53B95#32))) shapeCasts_S2x8192x8x256_S2x32x256x8x256) transposes_S2x32x256x8x256_S2x32x8x256x256_0_1_3_2_4) shapeCasts_S2x32x8x256x256_S131072x256) bitsLt_bf16_f32

/-- The keys. -/
def hOutK (C : FVec Ideal S2x8192x128 .f32) (R : FVec Ideal S2x8192x1x128 .f32) : FVec Ideal S16384x256 .bf16 :=
  truncf .bf16 (shapeCast _ (concatenate S2x8192x256 2 [⟨S2x8192x128, C⟩, ⟨S2x8192x128, (shapeCast _ (R) shapeCasts_S2x8192x1x128_S2x8192x128)⟩] concatenates_S2x8192x128_S2x8192x128_S2x8192x256_d2) shapeCasts_S2x8192x256_S16384x256) bitsLt_bf16_f32

/-- The values. -/
def hOutV (C : FVec Ideal S2x8192x128 .f32) : FVec Ideal S16384x256 .bf16 :=
  truncf .bf16 (shapeCast _ (concatenate S2x8192x256 2 [⟨S2x8192x128, C⟩, ⟨S2x8192x128, (broadcastInDim S2x8192x128 ![] bcast_S_S2x8192x128 (constant (F := Ideal) S_ .f32 0x3F800000#32))⟩] concatenates_S2x8192x128_S2x8192x128_S2x8192x256_d2) shapeCasts_S2x8192x256_S16384x256) bitsLt_bf16_f32

open Cert.MlaPrepIdeal.Body (XQ CK QP QA QR KR OutQ OutK OutV ropeE angE rsQ rsK sc)

theorem xq_at (cq : FVec Ideal S2x8192x384 .f32) (gq : FVec Ideal S384 .f32) (n : Fin 16384) (l : Fin 384) :
    hxq cq gq (ix3 ⟨n.val / 8192, by omega⟩ ⟨n.val % 8192, by omega⟩ l) = XQ cq gq n l := by
  pointwise [hxq, XQ, rsQ]

theorem ck_at (ck : FVec Ideal S2x8192x128 .f32) (gk : FVec Ideal S128 .f32) (n : Fin 16384) (l : Fin 128) :
    hck ck gk (ix3 ⟨n.val / 8192, by omega⟩ ⟨n.val % 8192, by omega⟩ l) = CK ck gk n l := by
  pointwise [hck, CK, rsK]

theorem ang_at (p : Fin 8192) (j : Fin 32) : hang (ix2 p j) = angE p j := by
  pointwise [hang, angE]

theorem hq_at (x : FVec Ideal S2x8192x384 .f32) (wq : FVec Ideal S384x1536 .f32) (b : Fin 2) (s : Fin 8192) (h : Fin 8) (e : Fin 192) :
    hq x wq (ix4 b s h e) = ∑ d, x (ix3 b s d) * wq (ix2 d ⟨h.val * 192 + e.val, by omega⟩) := by
  pointwise [hq]

theorem habs_at (q : FVec Ideal S2x8192x8x192 .f32) (wk : FVec Ideal S128x2048 .f32) (b : Fin 2) (s : Fin 8192) (h : Fin 8) (l : Fin 128) :
    habs q wk (ix4 b s h l) = ∑ d : Fin 128, wk (ix2 l ⟨h.val * 256 + d.val, by omega⟩) * q (ix4 b s h ⟨d.val, by omega⟩) := by
  pointwise [habs]

/-- The four parts side by side are the rotary embedding. -/
theorem four_eq (p : Fin 8192) (f : Fin 64 → EReal) (l : Fin 128) :
    (if h : l.val < 32 then f ⟨l.val, by omega⟩ * Ideal.cos (angE p ⟨l.val, h⟩) - f ⟨32 + l.val, by omega⟩ * Ideal.sin (angE p ⟨l.val, h⟩)
      else if h' : l.val - 32 < 32 then (0 : EReal)
      else if h'' : l.val - 32 - 32 < 32 then f ⟨32 + (l.val - 32 - 32), by omega⟩ * Ideal.cos (angE p ⟨l.val - 32 - 32, h''⟩) + f ⟨l.val - 32 - 32, by omega⟩ * Ideal.sin (angE p ⟨l.val - 32 - 32, h''⟩)
      else 0) = ropeE p f l := by
  unfold ropeE
  by_cases c1 : l.val < 32
  · rw [dif_pos c1, dif_pos c1]
  by_cases c2 : l.val < 64
  · rw [dif_neg c1, dif_pos (by omega), dif_neg c1, dif_pos c2]
  by_cases c3 : l.val < 96
  · rw [dif_neg c1, dif_neg (by omega), dif_pos (by omega), dif_neg c1, dif_neg c2, dif_pos c3]
    have e0 : (⟨l.val - 32 - 32, by omega⟩ : Fin 32) = ⟨l.val - 64, by omega⟩ := Fin.ext (by dsimp only; omega)
    have e1 : (⟨32 + (l.val - 32 - 32), by omega⟩ : Fin 64) = ⟨l.val - 32, by omega⟩ := Fin.ext (by dsimp only; omega)
    have e2 : (⟨l.val - 32 - 32, by omega⟩ : Fin 64) = ⟨l.val - 64, by omega⟩ := Fin.ext (by dsimp only; omega)
    rw [e0, e1, e2]
  · rw [dif_neg c1, dif_neg (by omega), dif_neg (by omega), dif_neg c1, dif_neg c2, dif_neg c3]

theorem hrq_at (q : FVec Ideal S2x8192x8x192 .f32) (b : Fin 2) (s : Fin 8192) (h : Fin 8) (l : Fin 128) :
    hrq q (ix4 b s h l) = ropeE s (fun j => q (ix4 b s h ⟨128 + j.val, by omega⟩)) l := by
  refine Eq.trans ?_ (four_eq s (fun j => q (ix4 b s h ⟨128 + j.val, by omega⟩)) l)
  simp only [← ang_at]
  unfold hrq
  generalize hang = g
  pointwise []

theorem hrk_at (kr : FVec Ideal S2x8192x64 .f32) (b : Fin 2) (s : Fin 8192) (l : Fin 128) :
    hrk kr (ix4 b s 0 l) = ropeE s (fun j => kr (ix3 b s j)) l := by
  refine Eq.trans ?_ (four_eq s (fun j => kr (ix3 b s j)) l)
  simp only [← ang_at]
  unfold hrk
  generalize hang = g
  pointwise []

theorem hOutQ_at (A R : FVec Ideal S2x8192x8x128 .f32) (n : Fin 131072) (l : Fin 256) :
    hOutQ A R (ix2 n l) = (if h : l.val < 128 then A (ix4 ⟨n.val / 65536, by omega⟩ ⟨n.val / 2048 % 32 * 256 + n.val % 256, by omega⟩ ⟨n.val / 256 % 8, by omega⟩ ⟨l.val, h⟩)
      else R (ix4 ⟨n.val / 65536, by omega⟩ ⟨n.val / 2048 % 32 * 256 + n.val % 256, by omega⟩ ⟨n.val / 256 % 8, by omega⟩ ⟨l.val - 128, by omega⟩)) * sc := by
  pointwise [hOutQ, sc]

theorem hOutK_at (C : FVec Ideal S2x8192x128 .f32) (R : FVec Ideal S2x8192x1x128 .f32) (n : Fin 16384) (l : Fin 256) :
    hOutK C R (ix2 n l) = if h : l.val < 128 then C (ix3 ⟨n.val / 8192, by omega⟩ ⟨n.val % 8192, by omega⟩ ⟨l.val, h⟩)
      else R (ix4 ⟨n.val / 8192, by omega⟩ ⟨n.val % 8192, by omega⟩ 0 ⟨l.val - 128, by omega⟩) := by
  pointwise [hOutK]

theorem hOutV_at (C : FVec Ideal S2x8192x128 .f32) (n : Fin 16384) (l : Fin 256) :
    hOutV C (ix2 n l) = if h : l.val < 128 then C (ix3 ⟨n.val / 8192, by omega⟩ ⟨n.val % 8192, by omega⟩ ⟨l.val, h⟩) else 1 := by
  pointwise [hOutV]

section Spec

variable (cq : FVec Ideal S2x8192x384 .f32) (ck : FVec Ideal S2x8192x128 .f32) (kr : FVec Ideal S2x8192x64 .f32) (gq : FVec Ideal S384 .f32) (gk : FVec Ideal S128 .f32) (wq : FVec Ideal S384x1536 .f32) (wk : FVec Ideal S128x2048 .f32)

/-- The reference's queries are the specification's. -/
theorem qp_at (n : Fin 16384) (b : Fin 2) (s : Fin 8192) (hb : b.val = n.val / 8192) (hs : s.val = n.val % 8192) (h : Fin 8) (e : Fin 192) :
    hq (hxq cq gq) wq (ix4 b s h e) = QP cq gq wq n ⟨h.val * 192 + e.val, by omega⟩ := by
  obtain rfl : b = ⟨n.val / 8192, Nat.div_lt_of_lt_mul n.isLt⟩ := Fin.ext hb
  obtain rfl : s = ⟨n.val % 8192, Nat.mod_lt _ (by decide)⟩ := Fin.ext hs
  refine (hq_at _ _ _ _ _ _).trans (Finset.sum_congr (M := EReal) rfl fun d _ => ?_)
  exact congrArg (fun a : EReal => a * wq (ix2 d ⟨h.val * 192 + e.val, by omega⟩)) (xq_at cq gq n d)

theorem outQ_at (n : Fin 131072) (l : Fin 256) :
    hOutQ (habs (hq (hxq cq gq) wq) wk) (hrq (hq (hxq cq gq) wq)) (ix2 n l) = OutQ cq gq wq wk n l := by
  have hqp := fun h e => qp_at cq gq wq ⟨n.val / 2048 * 256 + n.val % 256, by omega⟩ ⟨n.val / 65536, by omega⟩ ⟨n.val / 2048 % 32 * 256 + n.val % 256, by omega⟩ (by dsimp only; omega) (by dsimp only; omega) h e
  have hh : (⟨n.val / 256 % 8, by omega⟩ : Fin 8) = ⟨n.val % 2048 / 256, by omega⟩ := Fin.ext (by dsimp only; omega)
  have hp : (⟨n.val / 2048 % 32 * 256 + n.val % 256, by omega⟩ : Fin 8192) = ⟨(n.val / 2048 * 256 + n.val % 256) % 8192, by omega⟩ := Fin.ext (by dsimp only; omega)
  rw [hOutQ_at]
  by_cases c : l.val < 128
  · have e : OutQ cq gq wq wk n l = QA cq gq wq wk ⟨n.val / 2048 * 256 + n.val % 256, by omega⟩ ⟨n.val % 2048 / 256, by omega⟩ ⟨l.val, c⟩ := dif_pos c
    rw [e, dif_pos c, habs_at, hh]
    refine congrArg (fun s : EReal => s * sc) (Finset.sum_congr (M := EReal) rfl fun d _ => ?_)
    refine (mul_comm _ _).trans ?_
    exact congrArg (fun a : EReal => a * wk (ix2 ⟨l.val, c⟩ ⟨n.val % 2048 / 256 * 256 + d.val, by omega⟩)) (hqp ⟨n.val % 2048 / 256, by omega⟩ ⟨d.val, by omega⟩)
  · have e : OutQ cq gq wq wk n l = QR cq gq wq ⟨n.val / 2048 * 256 + n.val % 256, by omega⟩ ⟨n.val % 2048 / 256, by omega⟩ ⟨l.val - 128, by omega⟩ := dif_neg c
    rw [e, dif_neg c, hrq_at, hh]
    refine congrArg (fun s : EReal => s * sc) ?_
    refine Eq.trans (congrArg (fun f => ropeE _ f _) (funext fun j => hqp ⟨n.val % 2048 / 256, by omega⟩ ⟨128 + j.val, by omega⟩)) ?_
    refine Eq.trans (congrArg (fun p => ropeE p _ _) hp) (congrArg (fun f => ropeE _ f _) (funext fun j => ?_))
    exact congrArg (QP cq gq wq ⟨n.val / 2048 * 256 + n.val % 256, by omega⟩) (Fin.ext (by dsimp only; omega))

theorem outK_at (n : Fin 16384) (l : Fin 256) : hOutK (hck ck gk) (hrk kr) (ix2 n l) = OutK ck kr gk n l := by
  rw [hOutK_at]
  by_cases c : l.val < 128
  · have e : OutK ck kr gk n l = CK ck gk n ⟨l.val, c⟩ := dif_pos c
    rw [e, dif_pos c]
    exact ck_at ck gk n _
  · have e : OutK ck kr gk n l = KR kr n ⟨l.val - 128, by omega⟩ := dif_neg c
    rw [e, dif_neg c]
    exact hrk_at kr _ _ _

/-- One in either width. -/
theorem one_bits : Ideal.ofBits FTy.bf16 0x3F80#16 = 1 := by
  pointwise []

theorem outV_at (n : Fin 16384) (l : Fin 256) : hOutV (hck ck gk) (ix2 n l) = OutV ck gk n l := by
  rw [hOutV_at]
  by_cases c : l.val < 128
  · have e : OutV ck gk n l = CK ck gk n ⟨l.val, c⟩ := dif_pos c
    rw [e, dif_pos c]
    exact ck_at ck gk n _
  · have e : OutV ck gk n l = Ideal.ofBits FTy.bf16 0x3F80#16 := dif_neg c
    rw [e, dif_neg c, one_bits]

end Spec

theorem tie6 (m : (ℓ : Loc Cert.MlaPrepIdeal.nD Cert.MlaPrepIdeal.τ Cert.MlaPrepIdeal.sig) → Buf (Elt Ideal) ℓ) (c : Dev Cert.MlaPrepIdeal.nD) :
    hOutQ (habs (hq (hxq (m ((c.tc : Thread Cert.MlaPrepIdeal.nD Cert.MlaPrepIdeal.τ).loc Cert.MlaPrepIdeal.main_arg0)) (m ((c.tc : Thread Cert.MlaPrepIdeal.nD Cert.MlaPrepIdeal.τ).loc Cert.MlaPrepIdeal.main_arg3))) (m ((c.tc : Thread Cert.MlaPrepIdeal.nD Cert.MlaPrepIdeal.τ).loc Cert.MlaPrepIdeal.main_arg5))) (m ((c.tc : Thread Cert.MlaPrepIdeal.nD Cert.MlaPrepIdeal.τ).loc Cert.MlaPrepIdeal.main_arg6))) (hrq (hq (hxq (m ((c.tc : Thread Cert.MlaPrepIdeal.nD Cert.MlaPrepIdeal.τ).loc Cert.MlaPrepIdeal.main_arg0)) (m ((c.tc : Thread Cert.MlaPrepIdeal.nD Cert.MlaPrepIdeal.τ).loc Cert.MlaPrepIdeal.main_arg3))) (m ((c.tc : Thread Cert.MlaPrepIdeal.nD Cert.MlaPrepIdeal.τ).loc Cert.MlaPrepIdeal.main_arg5)))) = ((Cert.MlaPrepIdeal.Gen.dats m 0 c).arrAt 6 Cert.MlaPrepIdeal.cfg0.N : FVec Ideal S131072x256 .bf16) := by
  refine funext fun (y : S131072x256.Idx) => ?_
  obtain ⟨n, l, rfl⟩ : ∃ n l, y = ix2 n l := ⟨y 0, y 1, funext fun a => match a with | ⟨0, _⟩ => rfl | ⟨1, _⟩ => rfl⟩
  exact (outQ_at (m ((c.tc : Thread Cert.MlaPrepIdeal.nD Cert.MlaPrepIdeal.τ).loc Cert.MlaPrepIdeal.main_arg0)) (m ((c.tc : Thread Cert.MlaPrepIdeal.nD Cert.MlaPrepIdeal.τ).loc Cert.MlaPrepIdeal.main_arg3)) (m ((c.tc : Thread Cert.MlaPrepIdeal.nD Cert.MlaPrepIdeal.τ).loc Cert.MlaPrepIdeal.main_arg5)) (m ((c.tc : Thread Cert.MlaPrepIdeal.nD Cert.MlaPrepIdeal.τ).loc Cert.MlaPrepIdeal.main_arg6)) n l).trans (Cert.MlaPrepIdeal.Body.arr6_at m c n l).symm

theorem tie7 (m : (ℓ : Loc Cert.MlaPrepIdeal.nD Cert.MlaPrepIdeal.τ Cert.MlaPrepIdeal.sig) → Buf (Elt Ideal) ℓ) (c : Dev Cert.MlaPrepIdeal.nD) :
    hOutK (hck (m ((c.tc : Thread Cert.MlaPrepIdeal.nD Cert.MlaPrepIdeal.τ).loc Cert.MlaPrepIdeal.main_arg1)) (m ((c.tc : Thread Cert.MlaPrepIdeal.nD Cert.MlaPrepIdeal.τ).loc Cert.MlaPrepIdeal.main_arg4))) (hrk (m ((c.tc : Thread Cert.MlaPrepIdeal.nD Cert.MlaPrepIdeal.τ).loc Cert.MlaPrepIdeal.main_arg2))) = ((Cert.MlaPrepIdeal.Gen.dats m 0 c).arrAt 7 Cert.MlaPrepIdeal.cfg0.N : FVec Ideal S16384x256 .bf16) := by
  refine funext fun (y : S16384x256.Idx) => ?_
  obtain ⟨n, l, rfl⟩ : ∃ n l, y = ix2 n l := ⟨y 0, y 1, funext fun a => match a with | ⟨0, _⟩ => rfl | ⟨1, _⟩ => rfl⟩
  exact (outK_at (m ((c.tc : Thread Cert.MlaPrepIdeal.nD Cert.MlaPrepIdeal.τ).loc Cert.MlaPrepIdeal.main_arg1)) (m ((c.tc : Thread Cert.MlaPrepIdeal.nD Cert.MlaPrepIdeal.τ).loc Cert.MlaPrepIdeal.main_arg2)) (m ((c.tc : Thread Cert.MlaPrepIdeal.nD Cert.MlaPrepIdeal.τ).loc Cert.MlaPrepIdeal.main_arg4)) n l).trans (Cert.MlaPrepIdeal.Body.arr7_at m c n l).symm

theorem tie8 (m : (ℓ : Loc Cert.MlaPrepIdeal.nD Cert.MlaPrepIdeal.τ Cert.MlaPrepIdeal.sig) → Buf (Elt Ideal) ℓ) (c : Dev Cert.MlaPrepIdeal.nD) :
    hOutV (hck (m ((c.tc : Thread Cert.MlaPrepIdeal.nD Cert.MlaPrepIdeal.τ).loc Cert.MlaPrepIdeal.main_arg1)) (m ((c.tc : Thread Cert.MlaPrepIdeal.nD Cert.MlaPrepIdeal.τ).loc Cert.MlaPrepIdeal.main_arg4))) = ((Cert.MlaPrepIdeal.Gen.dats m 0 c).arrAt 8 Cert.MlaPrepIdeal.cfg0.N : FVec Ideal S16384x256 .bf16) := by
  refine funext fun (y : S16384x256.Idx) => ?_
  obtain ⟨n, l, rfl⟩ : ∃ n l, y = ix2 n l := ⟨y 0, y 1, funext fun a => match a with | ⟨0, _⟩ => rfl | ⟨1, _⟩ => rfl⟩
  exact (outV_at (m ((c.tc : Thread Cert.MlaPrepIdeal.nD Cert.MlaPrepIdeal.τ).loc Cert.MlaPrepIdeal.main_arg1)) (m ((c.tc : Thread Cert.MlaPrepIdeal.nD Cert.MlaPrepIdeal.τ).loc Cert.MlaPrepIdeal.main_arg4)) n l).trans (Cert.MlaPrepIdeal.Body.arr8_at m c n l).symm

/-- The first result, in the pieces above. -/
theorem res0 (m : (ℓ : Loc nD τ sig) → Buf (Elt Ideal) ℓ) (c : Dev nD) :
    Value.res_out0 m c = hOutQ (habs (hq (hxq (m ((c.tc : Thread nD τ).loc main_arg0)) (m ((c.tc : Thread nD τ).loc main_arg3))) (m ((c.tc : Thread nD τ).loc main_arg5))) (m ((c.tc : Thread nD τ).loc main_arg6))) (hrq (hq (hxq (m ((c.tc : Thread nD τ).loc main_arg0)) (m ((c.tc : Thread nD τ).loc main_arg3))) (m ((c.tc : Thread nD τ).loc main_arg5)))) := rfl

/-- The second result, in the pieces above. -/
theorem res1 (m : (ℓ : Loc nD τ sig) → Buf (Elt Ideal) ℓ) (c : Dev nD) :
    Value.res_out1 m c = hOutK (hck (m ((c.tc : Thread nD τ).loc main_arg1)) (m ((c.tc : Thread nD τ).loc main_arg4))) (hrk (m ((c.tc : Thread nD τ).loc main_arg2))) := rfl

end Cert.MlaPrepReferenceIdeal.Body
end
-- ==== Proof.MlaBody.lean ====
module

public import proofs.«01_k».proof.Proof.Gen.MlaIdeal.Skeleton
public import Idealize.ShloMosaic.Lib.Exec
public import Idealize.ShloMosaic.Lib.Tactic
public import Idealize.ShloMosaic.Lib.Pipeline.Kit
public import Idealize.ShloMosaic.Lib.Pipeline.ReadBack
public import Idealize.ShloMosaic.Lib.Pipeline.ValueKit
public import Idealize.ShloMosaic.Lib.LoopRemainder

@[expose] public section

set_option maxRecDepth 16384
set_option maxHeartbeats 4000000

noncomputable section

namespace Cert.MlaIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.MlaIdeal.Gen

variable {F : FTy → Type} [FloatOps F] [Named F]

abbrev 𝕄G (F : FTy → Type) [FloatOps F] [Named F] := MT nD τ sig Unit (Elt F) ℕ (UR sig nD τ) ℕ

/-- The four scratch buffers of the attention kernel: the two score tiles, the running maximum and
the running accumulator. -/
structure St (F : FTy → Type) where
  sa : Vec F S2048x512 .f32
  sb : Vec F S2048x512 .f32
  mx : Vec F S2048x128 .f32
  ac : Vec F S2048x256 .f32

/-- A tile of 512 rows of a key or value array. -/
def tileAt (x : Vec F S8192x256 .bf16) (o : Fin 2 → Nat) (h : ∀ a, o a + S512x256.size a ≤ S8192x256.size a) :
    Vec F S512x256 .bf16 :=
  fun y => x ((Rect.unit (s := S8192x256) o S512x256.size h).emb y)

/-- The scores of all query rows against one tile of keys. -/
abbrev sc (q : Vec F S2048x256 .bf16) (k : Vec F S512x256 .bf16) : Vec F S2048x512 .f32 := k0_pay2 q k

/-- One online-softmax step on the tile of scores `s` and the tile of values `v`: the new maximum
and the new accumulator. -/
abbrev updM (s : Vec F S2048x512 .f32) (m : Vec F S2048x128 .f32) : Vec F S2048x128 .f32 :=
  k0_pay6 (k0_pay3 s m)
abbrev updA (s : Vec F S2048x512 .f32) (m : Vec F S2048x128 .f32) (v : Vec F S512x256 .bf16)
    (a : Vec F S2048x256 .f32) : Vec F S2048x256 .f32 := k0_pay5 (k0_pay4 s m v a)

/-- What one trip of the main loop leaves in the scratch buffers. -/
def tripSt (i : grid0.Coords) (x0 : Vec F S2048x256 .bf16) (x1 x2 : Vec F S8192x256 .bf16)
    (k : Fin (k0_t1_loop i).trips) (s : St F) : St F :=
  let s1 := sc x0 (tileAt x1 (k0_off1 i k 1#32) (k0_off1_inb i k 0))
  let m1 := updM s.sa s.mx
  let a1 := updA s.sa s.mx (tileAt x2 (k0_off2 i k) (k0_off2_inb i k)) s.ac
  let s2 := sc x0 (tileAt x1 (k0_off1 i k 2#32) (k0_off1_inb i k 1))
  let m2 := updM s1 m1
  let a2 := updA s1 m1 (tileAt x2 (k0_off1 i k 1#32) (k0_off1_inb i k 0)) a1
  let s3 := sc x0 (tileAt x1 (k0_off3 i k 1#32) (k0_off3_inb i k 0))
  let m3 := updM s2 m2
  let a3 := updA s2 m2 (tileAt x2 (k0_off1 i k 2#32) (k0_off1_inb i k 1)) a2
  let s4 := sc x0 (tileAt x1 (k0_off3 i k 2#32) (k0_off3_inb i k 1))
  let m4 := updM s3 m3
  let a4 := updA s3 m3 (tileAt x2 (k0_off3 i k 1#32) (k0_off3_inb i k 0)) a3
  ⟨s4, s3, m4, a4⟩

/-- A whole-buffer store on top of a list of stores is what is read back. -/
theorem rw_whole {κ : Kind} {sp : Space} {s : Shape} {e : EltTy} (v : View sig κ sp s e) (f : v.ty.Contents (Elt F))
    {off : Fin s.rank → ℕ} (inb : ∀ a, off a + s.size a ≤ s.size a)
    (w : (Rect.unit (s := s) off s.size inb).shape.Idx → Elt F e) (L : List (View.Piece (Elt F) s e)) :
    v.read (Elt F) (v.writes (Elt F) f (⟨Rect.unit (s := s) off s.size inb, w⟩ :: L)) = w := by
  have h0 : off = fun _ => 0 := by
    funext a; have := inb a; omega
  subst h0
  funext y
  have := View.read_writes_cons_emb v f (Rect.unit (s := s) (fun _ => 0) s.size inb) w L y
  rw [show (Rect.unit (s := s) (fun _ => 0) s.size inb).emb y = y from by
    funext a; apply Fin.ext; simp [Rect.emb, Rect.unit]] at this
  exact this

theorem trip1 (𝒱 : Variants) (c : Dev nD) (bd : Option 𝒱.V) (E : Set ℕ) (i : grid0.Coords) (arg2 : Memref sig .tc .vmem S2048x256 .bf16) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S8x128x128 .bf16) (harg5 : arg5.IsWhole) (arg6 : Memref sig .tc .vmem S256x1024 .bf16) (harg6 : arg6.IsWhole) (arg7 : Memref sig .tc .vmem S2048x512 .f32) (harg7 : arg7.IsWhole) (arg8 : Memref sig .tc .vmem S2048x512 .f32) (harg8 : arg8.IsWhole) (arg9 : Memref sig .tc .vmem S2048x128 .f32) (harg9 : arg9.IsWhole) (arg10 : Memref sig .tc .vmem S2048x256 .f32) (harg10 : arg10.IsWhole)
    (arg1 v17 v18 : BitVec 32) (v33 : FVec F S2048x512 .f32) (k : Fin (k0_t1_loop i).trips)
    (x0 : Vec F S2048x256 .bf16) (x1 x2 : Vec F S8192x256 .bf16) (s : St F) :
    iprop(owns (c : Thread nD τ) arg2 fullShare x0 ∗ owns (c : Thread nD τ) arg3 fullShare x1
        ∗ owns (c : Thread nD τ) arg4 fullShare x2 ∗ owns (c : Thread nD τ) arg7 fullShare s.sa
        ∗ owns (c : Thread nD τ) arg8 fullShare s.sb ∗ owns (c : Thread nD τ) arg9 fullShare s.mx
        ∗ owns (c : Thread nD τ) arg10 fullShare s.ac)
      ⊢ wp (M := 𝕄G F) Idealize.ShloMosaic.frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg1 v17 v18 v33 k ())
        (fun _ => iprop(owns (c : Thread nD τ) arg2 fullShare x0 ∗ owns (c : Thread nD τ) arg3 fullShare x1
        ∗ owns (c : Thread nD τ) arg4 fullShare x2 ∗ owns (c : Thread nD τ) arg7 fullShare (tripSt i x0 x1 x2 k s).sa
        ∗ owns (c : Thread nD τ) arg8 fullShare (tripSt i x0 x1 x2 k s).sb ∗ owns (c : Thread nD τ) arg9 fullShare (tripSt i x0 x1 x2 k s).mx
        ∗ owns (c : Thread nD τ) arg10 fullShare (tripSt i x0 x1 x2 k s).ac)) := by
  unfold k0_t1_body
  simp only [k0_part1_eq_skeleton, k0_part2_eq_skeleton, k0_part3_eq_skeleton, k0_part4_eq_skeleton]
  unfold owns
  iintro ⟨⟨%f2, %hf2, H2⟩, ⟨%f3, %hf3, H3⟩, ⟨%f4, %hf4, H4⟩, ⟨%f7, %hf7, H7⟩, ⟨%f8, %hf8, H8⟩, ⟨%f9, %hf9, H9⟩, ⟨%f10, %hf10, H10⟩⟩
  obtain rfl := harg2.eq_unread hf2; obtain rfl := harg3.eq_unread hf3; obtain rfl := harg4.eq_unread hf4
  obtain rfl := harg7.eq_unread hf7; obtain rfl := harg8.eq_unread hf8; obtain rfl := harg9.eq_unread hf9
  obtain rfl := harg10.eq_unread hf10
  sl_exec
  sl_step
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H7]
  · iexists _; isplitr; swap; · iexact H7
    ipureintro
    sl_unfold_run_names
    rw [rw_whole]
    simp (disch := decide) only [↓ View.readCov_cons_unit_lit', ↓ View.readCov_unit_lit', View.ld_unit_lit', View.readAt_eq_ld, Memref.IsWhole.read_unread]
    rfl
  isplitl [H8]
  · iexists _; isplitr; swap; · iexact H8
    ipureintro
    sl_unfold_run_names
    rw [rw_whole]
    simp (disch := decide) only [↓ View.readCov_cons_unit_lit', ↓ View.readCov_unit_lit', View.ld_unit_lit', View.readAt_eq_ld, Memref.IsWhole.read_unread]
    rfl
  isplitl [H9]
  · iexists _; isplitr; swap; · iexact H9
    ipureintro
    sl_unfold_run_names
    rw [rw_whole]
    simp (disch := decide) only [↓ View.readCov_cons_unit_lit', ↓ View.readCov_unit_lit', View.ld_unit_lit', View.readAt_eq_ld, Memref.IsWhole.read_unread]
    rfl
  iexists _; isplitr; swap; · iexact H10
  ipureintro
  sl_unfold_run_names
  rw [rw_whole]
  simp (disch := decide) only [↓ View.readCov_cons_unit_lit', ↓ View.readCov_unit_lit', View.ld_unit_lit', View.readAt_eq_ld, Memref.IsWhole.read_unread]
  rfl

/-- The scratch buffers before trip `n` of the main loop. -/
def loopSt (i : grid0.Coords) (x0 : Vec F S2048x256 .bf16) (x1 x2 : Vec F S8192x256 .bf16) (s : St F) : ℕ → St F
  | 0 => s
  | n + 1 => if h : n < (k0_t1_loop i).trips then tripSt i x0 x1 x2 ⟨n, h⟩ (loopSt i x0 x1 x2 s n)
      else loopSt i x0 x1 x2 s n

theorem loopSt_succ (i : grid0.Coords) (x0 : Vec F S2048x256 .bf16) (x1 x2 : Vec F S8192x256 .bf16) (s : St F)
    (k : Fin (k0_t1_loop i).trips) :
    loopSt i x0 x1 x2 s (k.val + 1) = tripSt i x0 x1 x2 k (loopSt i x0 x1 x2 s k.val) := by
  rw [loopSt]; exact dif_pos k.isLt

/-- The main loop, run by its trips. -/
theorem loop1 (𝒱 : Variants) (c : Dev nD) (bd : Option 𝒱.V) (E : Set ℕ) (i : grid0.Coords) (arg2 : Memref sig .tc .vmem S2048x256 .bf16) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S8x128x128 .bf16) (harg5 : arg5.IsWhole) (arg6 : Memref sig .tc .vmem S256x1024 .bf16) (harg6 : arg6.IsWhole) (arg7 : Memref sig .tc .vmem S2048x512 .f32) (harg7 : arg7.IsWhole) (arg8 : Memref sig .tc .vmem S2048x512 .f32) (harg8 : arg8.IsWhole) (arg9 : Memref sig .tc .vmem S2048x128 .f32) (harg9 : arg9.IsWhole) (arg10 : Memref sig .tc .vmem S2048x256 .f32) (harg10 : arg10.IsWhole)
    (arg1 v17 v18 : BitVec 32) (v33 : FVec F S2048x512 .f32)
    (x0 : Vec F S2048x256 .bf16) (x1 x2 : Vec F S8192x256 .bf16) (s : St F) :
    iprop(owns (c : Thread nD τ) arg2 fullShare x0 ∗ owns (c : Thread nD τ) arg3 fullShare x1
        ∗ owns (c : Thread nD τ) arg4 fullShare x2 ∗ owns (c : Thread nD τ) arg7 fullShare (s).sa
        ∗ owns (c : Thread nD τ) arg8 fullShare (s).sb ∗ owns (c : Thread nD τ) arg9 fullShare (s).mx
        ∗ owns (c : Thread nD τ) arg10 fullShare (s).ac)
      ⊢ wp (M := 𝕄G F) Idealize.ShloMosaic.frame (wpE (defs₀ (F := F)) 𝒱 (c : Thread nD τ) bd) E
        (Scf.Loop.for (k0_t1_loop i) (k0_t1_ok i) ⟨⟩ (k0_t1_body (F := F) i arg2 harg2 arg3 harg3 arg4 harg4 arg5 harg5 arg6 harg6 arg7 harg7 arg8 harg8 arg9 harg9 arg10 harg10 arg1 v17 v18 v33))
        (fun _ => iprop(owns (c : Thread nD τ) arg2 fullShare x0 ∗ owns (c : Thread nD τ) arg3 fullShare x1
        ∗ owns (c : Thread nD τ) arg4 fullShare x2 ∗ owns (c : Thread nD τ) arg7 fullShare (loopSt i x0 x1 x2 s (k0_t1_loop i).trips).sa
        ∗ owns (c : Thread nD τ) arg8 fullShare (loopSt i x0 x1 x2 s (k0_t1_loop i).trips).sb ∗ owns (c : Thread nD τ) arg9 fullShare (loopSt i x0 x1 x2 s (k0_t1_loop i).trips).mx
        ∗ owns (c : Thread nD τ) arg10 fullShare (loopSt i x0 x1 x2 s (k0_t1_loop i).trips).ac)) := by
  iintro H
  iapply (Scf.wp_for (M := 𝕄G F) Idealize.ShloMosaic.frame (wpE (defs₀ (F := F)) 𝒱 (c : Thread nD τ) bd) E (k0_t1_loop i).lb (k0_t1_loop i).ub (k0_t1_loop i).st
    (k0_t1_ok i) () (k0_t1_body (F := F) i arg2 harg2 arg3 harg3 arg4 harg4 arg5 harg5 arg6 harg6 arg7 harg7 arg8 harg8 arg9 harg9 arg10 harg10 arg1 v17 v18 v33)
    (fun n _ => iprop(owns (c : Thread nD τ) arg2 fullShare x0 ∗ owns (c : Thread nD τ) arg3 fullShare x1
        ∗ owns (c : Thread nD τ) arg4 fullShare x2 ∗ owns (c : Thread nD τ) arg7 fullShare (loopSt i x0 x1 x2 s n).sa
        ∗ owns (c : Thread nD τ) arg8 fullShare (loopSt i x0 x1 x2 s n).sb ∗ owns (c : Thread nD τ) arg9 fullShare (loopSt i x0 x1 x2 s n).mx
        ∗ owns (c : Thread nD τ) arg10 fullShare (loopSt i x0 x1 x2 s n).ac))
    (fun k _ => by
      rw [loopSt_succ]
      exact trip1 𝒱 c bd E i arg2 harg2 arg3 harg3 arg4 harg4 arg5 harg5 arg6 harg6 arg7 harg7 arg8 harg8 arg9 harg9 arg10 harg10 arg1 v17 v18 v33 k x0 x1 x2 (loopSt i x0 x1 x2 s k.val)))
  isplitl [H]
  · iexact H
  · iintro %_ H
    iexact H

/-- The pair of tiles left over when the number of whole pairs is odd. -/
def pairSt (i : grid0.Coords) (x0 : Vec F S2048x256 .bf16) (x1 x2 : Vec F S8192x256 .bf16) (s : St F) : St F :=
  if h : k0_cond1 i = 1#1 then
    let s1 := sc x0 (tileAt x1 (k0_off7 i 1#32) (k0_off7_inb i h 0))
    let m1 := updM s.sa s.mx
    let a1 := updA s.sa s.mx (tileAt x2 (k0_off8 i) (k0_off8_inb i h)) s.ac
    let s2 := sc x0 (tileAt x1 (k0_off7 i 2#32) (k0_off7_inb i h 1))
    let m2 := updM s1 m1
    let a2 := updA s1 m1 (tileAt x2 (k0_off7 i 1#32) (k0_off7_inb i h 0)) a1
    ⟨s2, s1, m2, a2⟩
  else s

/-- The last tile, masked, where the number of whole tiles is even. -/
def lastESt (i : grid0.Coords) (arg1 v17 : BitVec 32) (x2 : Vec F S8192x256 .bf16) (s : St F) : St F :=
  if h : k0_cond2 i = 1#1 then
    ⟨s.sa, s.sb, k0_pay73 (k0_pay52 arg1 v17 s.sa s.mx),
      k0_pay72 (k0_pay53 arg1 v17 s.sa s.mx (tileAt x2 (k0_off9 i) (k0_off9_inb i h)) s.ac)⟩
  else s

/-- The last two tiles, the second masked, where the number of whole tiles is odd. -/
def lastOSt (i : grid0.Coords) (arg1 v17 : BitVec 32) (x0 : Vec F S2048x256 .bf16) (x1 x2 : Vec F S8192x256 .bf16)
    (s : St F) : St F :=
  if h : k0_cond3 i = 1#1 then
    let s1 := sc x0 (tileAt x1 (k0_off10 i) (k0_off10_inb i h))
    let m1 := updM s.sa s.mx
    let a1 := updA s.sa s.mx (tileAt x2 (k0_off11 i) (k0_off11_inb i h)) s.ac
    ⟨s.sa, s1, k0_pay73 (k0_pay52 arg1 v17 s1 m1),
      k0_pay72 (k0_pay53 arg1 v17 s1 m1 (tileAt x2 (k0_off10 i) (k0_off10_inb i h)) a1)⟩
  else s

set_option maxRecDepth 65536 in
/-- The conditional pair, run. -/
theorem pair1 (𝒱 : Variants) (c : Dev nD) (bd : Option 𝒱.V) (E : Set ℕ) (i : grid0.Coords) (arg2 : Memref sig .tc .vmem S2048x256 .bf16) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S8x128x128 .bf16) (harg5 : arg5.IsWhole) (arg6 : Memref sig .tc .vmem S256x1024 .bf16) (harg6 : arg6.IsWhole) (arg7 : Memref sig .tc .vmem S2048x512 .f32) (harg7 : arg7.IsWhole) (arg8 : Memref sig .tc .vmem S2048x512 .f32) (harg8 : arg8.IsWhole) (arg9 : Memref sig .tc .vmem S2048x128 .f32) (harg9 : arg9.IsWhole) (arg10 : Memref sig .tc .vmem S2048x256 .f32) (harg10 : arg10.IsWhole)
    (v18 : BitVec 32) (x0 : Vec F S2048x256 .bf16) (x1 x2 : Vec F S8192x256 .bf16) (s : St F) :
    iprop(owns (c : Thread nD τ) arg2 fullShare x0 ∗ owns (c : Thread nD τ) arg3 fullShare x1
        ∗ owns (c : Thread nD τ) arg4 fullShare x2 ∗ owns (c : Thread nD τ) arg7 fullShare (s).sa
        ∗ owns (c : Thread nD τ) arg8 fullShare (s).sb ∗ owns (c : Thread nD τ) arg9 fullShare (s).mx
        ∗ owns (c : Thread nD τ) arg10 fullShare (s).ac)
      ⊢ wp (M := 𝕄G F) Idealize.ShloMosaic.frame (wpE (defs₀ (F := F)) 𝒱 (c : Thread nD τ) bd) E (α := PUnit) (
        if k0_h1 : k0_cond1 i = 1#1 then do
          let ⟨v136, v154, v170, v171⟩ : Σ' (v136 : BitVec 32) (v154 : FVec F S2048x128 .f32) (v170 : FVec F S2048x256 .f32), Vec F S2048x256 .f32 ← k0_part9 i arg2 harg2 arg3 harg3 arg4 harg4 arg5 harg5 arg6 harg6 arg7 harg7 arg8 harg8 arg9 harg9 arg10 harg10 v18 k0_h1
          let ⟨v195, v207, v208⟩ : Σ' (v195 : FVec F S2048x128 .f32) (v207 : FVec F S2048x256 .f32), FVec F S2048x256 .f32 ← k0_part10 i arg2 harg2 arg3 harg3 arg4 harg4 arg5 harg5 arg6 harg6 arg7 harg7 arg8 harg8 arg9 harg9 arg10 harg10 k0_h1 v136 v154 v170 v171
          let v209 : Vec F S2048x256 .f32 ← Prog.lift (.load arg10 (Rect.unit (s := S2048x256) ![0, 0] S2048x256.size inb_S2048x256_S2048x256_0_0).toLoadRect (View.loadsAt_vmem h_S2048x256))
          let v212 : Vec F S2048x256 .f32 ← Prog.lift (.load arg10 (Rect.unit (s := S2048x256) ![0, 0] S2048x256.size inb_S2048x256_S2048x256_0_0).toLoadRect (View.loadsAt_vmem h_S2048x256))
          Prog.lift (.store arg10 (Rect.unit (s := S2048x256) ![0, 0] S2048x256.size inb_S2048x256_S2048x256_0_0) (k0_pay70 v207 v208 v209) Finset.univ (View.stores_vmem_bits_univ h_S2048x256 rfl) (.inl rfl))
          let v215 : Vec F S2048x128 .f32 ← Prog.lift (.load arg9 (Rect.unit (s := S2048x128) ![0, 0] S2048x128.size inb_S2048x128_S2048x128_0_0).toLoadRect (View.loadsAt_vmem h_S2048x128))
          Prog.lift (.store arg9 (Rect.unit (s := S2048x128) ![0, 0] S2048x128.size inb_S2048x128_S2048x128_0_0) (k0_pay71 v195) Finset.univ (View.stores_vmem_bits_univ h_S2048x128 rfl) (.inl rfl))
          pure ⟨⟩
        else do
          pure ⟨⟩)
        (fun _ => iprop(owns (c : Thread nD τ) arg2 fullShare x0 ∗ owns (c : Thread nD τ) arg3 fullShare x1
        ∗ owns (c : Thread nD τ) arg4 fullShare x2 ∗ owns (c : Thread nD τ) arg7 fullShare (pairSt i x0 x1 x2 s).sa
        ∗ owns (c : Thread nD τ) arg8 fullShare (pairSt i x0 x1 x2 s).sb ∗ owns (c : Thread nD τ) arg9 fullShare (pairSt i x0 x1 x2 s).mx
        ∗ owns (c : Thread nD τ) arg10 fullShare (pairSt i x0 x1 x2 s).ac)) := by
  by_cases h : k0_cond1 i = 1#1
  · rw [show pairSt i x0 x1 x2 s = _ from dif_pos h, dif_pos h]
    simp only [k0_part9_eq_skeleton, k0_part10_eq_skeleton]
    unfold owns
    iintro ⟨⟨%f2, %hf2, H2⟩, ⟨%f3, %hf3, H3⟩, ⟨%f4, %hf4, H4⟩, ⟨%f7, %hf7, H7⟩, ⟨%f8, %hf8, H8⟩, ⟨%f9, %hf9, H9⟩, ⟨%f10, %hf10, H10⟩⟩
    obtain rfl := harg2.eq_unread hf2; obtain rfl := harg3.eq_unread hf3; obtain rfl := harg4.eq_unread hf4
    obtain rfl := harg7.eq_unread hf7; obtain rfl := harg8.eq_unread hf8; obtain rfl := harg9.eq_unread hf9
    obtain rfl := harg10.eq_unread hf10
    sl_exec
    sl_step
    isplitl [H2]
    · iexists _; isplitr; swap; · iexact H2
      ipureintro; exact harg2.read_unread _
    isplitl [H3]
    · iexists _; isplitr; swap; · iexact H3
      ipureintro; exact harg3.read_unread _
    isplitl [H4]
    · iexists _; isplitr; swap; · iexact H4
      ipureintro; exact harg4.read_unread _
    isplitl [H7]
    · iexists _; isplitr; swap; · iexact H7
      ipureintro
      sl_unfold_run_names
      rw [rw_whole]
      simp (disch := decide) only [↓ View.readCov_cons_unit_lit', ↓ View.readCov_unit_lit', View.ld_unit_lit', View.readAt_eq_ld, Memref.IsWhole.read_unread]
      try rfl
    isplitl [H8]
    · iexists _; isplitr; swap; · iexact H8
      ipureintro
      sl_unfold_run_names
      rw [rw_whole]
      simp (disch := decide) only [↓ View.readCov_cons_unit_lit', ↓ View.readCov_unit_lit', View.ld_unit_lit', View.readAt_eq_ld, Memref.IsWhole.read_unread]
      try rfl
    isplitl [H9]
    · iexists _; isplitr; swap; · iexact H9
      ipureintro
      sl_unfold_run_names
      rw [rw_whole]
      simp (disch := decide) only [↓ View.readCov_cons_unit_lit', ↓ View.readCov_unit_lit', View.ld_unit_lit', View.readAt_eq_ld, Memref.IsWhole.read_unread]
      try rfl
    iexists _; isplitr; swap; · iexact H10
    ipureintro
    sl_unfold_run_names
    rw [rw_whole]
    simp (disch := decide) only [↓ View.readCov_cons_unit_lit', ↓ View.readCov_unit_lit', View.ld_unit_lit', View.readAt_eq_ld, Memref.IsWhole.read_unread]
    try rfl
  · rw [show pairSt i x0 x1 x2 s = _ from dif_neg h, dif_neg h]
    iintro H
    iapply (Idealize.SL.Sem.le_wp_ret _ _)
    iexact H

set_option maxRecDepth 65536 in
/-- The conditional even end, run. -/
theorem lastE (𝒱 : Variants) (c : Dev nD) (bd : Option 𝒱.V) (E : Set ℕ) (i : grid0.Coords) (arg2 : Memref sig .tc .vmem S2048x256 .bf16) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S8x128x128 .bf16) (harg5 : arg5.IsWhole) (arg6 : Memref sig .tc .vmem S256x1024 .bf16) (harg6 : arg6.IsWhole) (arg7 : Memref sig .tc .vmem S2048x512 .f32) (harg7 : arg7.IsWhole) (arg8 : Memref sig .tc .vmem S2048x512 .f32) (harg8 : arg8.IsWhole) (arg9 : Memref sig .tc .vmem S2048x128 .f32) (harg9 : arg9.IsWhole) (arg10 : Memref sig .tc .vmem S2048x256 .f32) (harg10 : arg10.IsWhole)
    (arg1 v17 : BitVec 32) (x0 : Vec F S2048x256 .bf16) (x1 x2 : Vec F S8192x256 .bf16) (s : St F) :
    iprop(owns (c : Thread nD τ) arg2 fullShare x0 ∗ owns (c : Thread nD τ) arg3 fullShare x1
        ∗ owns (c : Thread nD τ) arg4 fullShare x2 ∗ owns (c : Thread nD τ) arg7 fullShare (s).sa
        ∗ owns (c : Thread nD τ) arg8 fullShare (s).sb ∗ owns (c : Thread nD τ) arg9 fullShare (s).mx
        ∗ owns (c : Thread nD τ) arg10 fullShare (s).ac)
      ⊢ wp (M := 𝕄G F) Idealize.ShloMosaic.frame (wpE (defs₀ (F := F)) 𝒱 (c : Thread nD τ) bd) E (α := PUnit) (
        if k0_h2 : k0_cond2 i = 1#1 then do
          let ⟨v158, v174⟩ : Σ' (v158 : FVec F S2048x128 .f32), FVec F S2048x256 .f32 ← k0_part11 i arg2 harg2 arg3 harg3 arg4 harg4 arg5 harg5 arg6 harg6 arg7 harg7 arg8 harg8 arg9 harg9 arg10 harg10 arg1 v17 k0_h2
          Prog.lift (.store arg10 (Rect.unit (s := S2048x256) ![0, 0] S2048x256.size inb_S2048x256_S2048x256_0_0) (k0_pay72 v174) Finset.univ (View.stores_vmem_bits_univ h_S2048x256 rfl) (.inl rfl))
          let v178 : Vec F S2048x128 .f32 ← Prog.lift (.load arg9 (Rect.unit (s := S2048x128) ![0, 0] S2048x128.size inb_S2048x128_S2048x128_0_0).toLoadRect (View.loadsAt_vmem h_S2048x128))
          Prog.lift (.store arg9 (Rect.unit (s := S2048x128) ![0, 0] S2048x128.size inb_S2048x128_S2048x128_0_0) (k0_pay73 v158) Finset.univ (View.stores_vmem_bits_univ h_S2048x128 rfl) (.inl rfl))
          pure ⟨⟩
        else do
          pure ⟨⟩)
        (fun _ => iprop(owns (c : Thread nD τ) arg2 fullShare x0 ∗ owns (c : Thread nD τ) arg3 fullShare x1
        ∗ owns (c : Thread nD τ) arg4 fullShare x2 ∗ owns (c : Thread nD τ) arg7 fullShare (lastESt i arg1 v17 x2 s).sa
        ∗ owns (c : Thread nD τ) arg8 fullShare (lastESt i arg1 v17 x2 s).sb ∗ owns (c : Thread nD τ) arg9 fullShare (lastESt i arg1 v17 x2 s).mx
        ∗ owns (c : Thread nD τ) arg10 fullShare (lastESt i arg1 v17 x2 s).ac)) := by
  by_cases h : k0_cond2 i = 1#1
  · rw [show lastESt i arg1 v17 x2 s = _ from dif_pos h, dif_pos h]
    simp only [k0_part11_eq_skeleton]
    unfold owns
    iintro ⟨⟨%f2, %hf2, H2⟩, ⟨%f3, %hf3, H3⟩, ⟨%f4, %hf4, H4⟩, ⟨%f7, %hf7, H7⟩, ⟨%f8, %hf8, H8⟩, ⟨%f9, %hf9, H9⟩, ⟨%f10, %hf10, H10⟩⟩
    obtain rfl := harg2.eq_unread hf2; obtain rfl := harg3.eq_unread hf3; obtain rfl := harg4.eq_unread hf4
    obtain rfl := harg7.eq_unread hf7; obtain rfl := harg8.eq_unread hf8; obtain rfl := harg9.eq_unread hf9
    obtain rfl := harg10.eq_unread hf10
    sl_exec
    sl_step
    isplitl [H2]
    · iexists _; isplitr; swap; · iexact H2
      ipureintro; exact harg2.read_unread _
    isplitl [H3]
    · iexists _; isplitr; swap; · iexact H3
      ipureintro; exact harg3.read_unread _
    isplitl [H4]
    · iexists _; isplitr; swap; · iexact H4
      ipureintro; exact harg4.read_unread _
    isplitl [H7]
    · iexists _; isplitr; swap; · iexact H7
      ipureintro; exact harg7.read_unread _
    isplitl [H8]
    · iexists _; isplitr; swap; · iexact H8
      ipureintro; exact harg8.read_unread _
    isplitl [H9]
    · iexists _; isplitr; swap; · iexact H9
      ipureintro
      sl_unfold_run_names
      rw [rw_whole]
      simp (disch := decide) only [↓ View.readCov_cons_unit_lit', ↓ View.readCov_unit_lit', View.ld_unit_lit', View.readAt_eq_ld, Memref.IsWhole.read_unread]
      try rfl
    iexists _; isplitr; swap; · iexact H10
    ipureintro
    sl_unfold_run_names
    rw [rw_whole]
    simp (disch := decide) only [↓ View.readCov_cons_unit_lit', ↓ View.readCov_unit_lit', View.ld_unit_lit', View.readAt_eq_ld, Memref.IsWhole.read_unread]
    try rfl
  · rw [show lastESt i arg1 v17 x2 s = _ from dif_neg h, dif_neg h]
    iintro H
    iapply (Idealize.SL.Sem.le_wp_ret _ _)
    iexact H

set_option maxRecDepth 65536 in
/-- The conditional odd end, run. -/
theorem lastO (𝒱 : Variants) (c : Dev nD) (bd : Option 𝒱.V) (E : Set ℕ) (i : grid0.Coords) (arg2 : Memref sig .tc .vmem S2048x256 .bf16) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S8x128x128 .bf16) (harg5 : arg5.IsWhole) (arg6 : Memref sig .tc .vmem S256x1024 .bf16) (harg6 : arg6.IsWhole) (arg7 : Memref sig .tc .vmem S2048x512 .f32) (harg7 : arg7.IsWhole) (arg8 : Memref sig .tc .vmem S2048x512 .f32) (harg8 : arg8.IsWhole) (arg9 : Memref sig .tc .vmem S2048x128 .f32) (harg9 : arg9.IsWhole) (arg10 : Memref sig .tc .vmem S2048x256 .f32) (harg10 : arg10.IsWhole)
    (arg1 v17 : BitVec 32) (x0 : Vec F S2048x256 .bf16) (x1 x2 : Vec F S8192x256 .bf16) (s : St F) :
    iprop(owns (c : Thread nD τ) arg2 fullShare x0 ∗ owns (c : Thread nD τ) arg3 fullShare x1
        ∗ owns (c : Thread nD τ) arg4 fullShare x2 ∗ owns (c : Thread nD τ) arg7 fullShare (s).sa
        ∗ owns (c : Thread nD τ) arg8 fullShare (s).sb ∗ owns (c : Thread nD τ) arg9 fullShare (s).mx
        ∗ owns (c : Thread nD τ) arg10 fullShare (s).ac)
      ⊢ wp (M := 𝕄G F) Idealize.ShloMosaic.frame (wpE (defs₀ (F := F)) 𝒱 (c : Thread nD τ) bd) E (α := PUnit) (
        if k0_h3 : k0_cond3 i = 1#1 then do
          let v152 : FVec F S2048x128 .f32 ← k0_part12 i arg2 harg2 arg3 harg3 arg4 harg4 arg5 harg5 arg6 harg6 arg7 harg7 arg8 harg8 arg9 harg9 arg10 harg10 v17 k0_h3
          let ⟨v198, v210, v213⟩ : Σ' (v198 : FVec F S2048x128 .f32) (v210 : FVec F S2048x256 .f32), FVec F S2048x256 .f32 ← k0_part13 i arg2 harg2 arg3 harg3 arg4 harg4 arg5 harg5 arg6 harg6 arg7 harg7 arg8 harg8 arg9 harg9 arg10 harg10 arg1 v17 k0_h3 v152
          let v215 : Vec F S2048x256 .f32 ← Prog.lift (.load arg10 (Rect.unit (s := S2048x256) ![0, 0] S2048x256.size inb_S2048x256_S2048x256_0_0).toLoadRect (View.loadsAt_vmem h_S2048x256))
          Prog.lift (.store arg10 (Rect.unit (s := S2048x256) ![0, 0] S2048x256.size inb_S2048x256_S2048x256_0_0) (k0_pay74 v210 v213) Finset.univ (View.stores_vmem_bits_univ h_S2048x256 rfl) (.inl rfl))
          let v218 : Vec F S2048x128 .f32 ← Prog.lift (.load arg9 (Rect.unit (s := S2048x128) ![0, 0] S2048x128.size inb_S2048x128_S2048x128_0_0).toLoadRect (View.loadsAt_vmem h_S2048x128))
          Prog.lift (.store arg9 (Rect.unit (s := S2048x128) ![0, 0] S2048x128.size inb_S2048x128_S2048x128_0_0) (k0_pay75 v198) Finset.univ (View.stores_vmem_bits_univ h_S2048x128 rfl) (.inl rfl))
          pure ⟨⟩
        else do
          pure ⟨⟩)
        (fun _ => iprop(owns (c : Thread nD τ) arg2 fullShare x0 ∗ owns (c : Thread nD τ) arg3 fullShare x1
        ∗ owns (c : Thread nD τ) arg4 fullShare x2 ∗ owns (c : Thread nD τ) arg7 fullShare (lastOSt i arg1 v17 x0 x1 x2 s).sa
        ∗ owns (c : Thread nD τ) arg8 fullShare (lastOSt i arg1 v17 x0 x1 x2 s).sb ∗ owns (c : Thread nD τ) arg9 fullShare (lastOSt i arg1 v17 x0 x1 x2 s).mx
        ∗ owns (c : Thread nD τ) arg10 fullShare (lastOSt i arg1 v17 x0 x1 x2 s).ac)) := by
  by_cases h : k0_cond3 i = 1#1
  · rw [show lastOSt i arg1 v17 x0 x1 x2 s = _ from dif_pos h, dif_pos h]
    simp only [k0_part12_eq_skeleton, k0_part13_eq_skeleton]
    unfold owns
    iintro ⟨⟨%f2, %hf2, H2⟩, ⟨%f3, %hf3, H3⟩, ⟨%f4, %hf4, H4⟩, ⟨%f7, %hf7, H7⟩, ⟨%f8, %hf8, H8⟩, ⟨%f9, %hf9, H9⟩, ⟨%f10, %hf10, H10⟩⟩
    obtain rfl := harg2.eq_unread hf2; obtain rfl := harg3.eq_unread hf3; obtain rfl := harg4.eq_unread hf4
    obtain rfl := harg7.eq_unread hf7; obtain rfl := harg8.eq_unread hf8; obtain rfl := harg9.eq_unread hf9
    obtain rfl := harg10.eq_unread hf10
    sl_exec
    sl_step
    isplitl [H2]
    · iexists _; isplitr; swap; · iexact H2
      ipureintro; exact harg2.read_unread _
    isplitl [H3]
    · iexists _; isplitr; swap; · iexact H3
      ipureintro; exact harg3.read_unread _
    isplitl [H4]
    · iexists _; isplitr; swap; · iexact H4
      ipureintro; exact harg4.read_unread _
    isplitl [H7]
    · iexists _; isplitr; swap; · iexact H7
      ipureintro; exact harg7.read_unread _
    isplitl [H8]
    · iexists _; isplitr; swap; · iexact H8
      ipureintro
      sl_unfold_run_names
      rw [rw_whole]
      simp (disch := decide) only [↓ View.readCov_cons_unit_lit', ↓ View.readCov_unit_lit', View.ld_unit_lit', View.readAt_eq_ld, Memref.IsWhole.read_unread]
      try rfl
    isplitl [H9]
    · iexists _; isplitr; swap; · iexact H9
      ipureintro
      sl_unfold_run_names
      rw [rw_whole]
      simp (disch := decide) only [↓ View.readCov_cons_unit_lit', ↓ View.readCov_unit_lit', View.ld_unit_lit', View.readAt_eq_ld, Memref.IsWhole.read_unread]
      try rfl
    iexists _; isplitr; swap; · iexact H10
    ipureintro
    sl_unfold_run_names
    rw [rw_whole]
    simp (disch := decide) only [↓ View.readCov_cons_unit_lit', ↓ View.readCov_unit_lit', View.ld_unit_lit', View.readAt_eq_ld, Memref.IsWhole.read_unread]
    try rfl
  · rw [show lastOSt i arg1 v17 x0 x1 x2 s = _ from dif_neg h, dif_neg h]
    iintro H
    iapply (Idealize.SL.Sem.le_wp_ret _ _)
    iexact H

end Cert.MlaIdeal.Attn
end
-- ==== Proof.MlaRun.lean ====
module

public import proofs.«01_k».proof.Proof.MlaBody
public import Idealize.ShloMosaic.Lib.Ring
public import Idealize.ShloMosaic.Lib.LoopRemainder

@[expose] public section

set_option maxRecDepth 16384
set_option maxHeartbeats 4000000

noncomputable section

namespace Cert.MlaIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.MlaIdeal.Gen

variable {F : FTy → Type} [FloatOps F] [Named F]

/-- A run of a program that returns nothing, at the head of a longer program. -/
theorem run_then {P Post : sProp (𝕄G F)} {c : Dev nD} {E : Set ℕ} {prog : Prog (TpuEff nD τ sig (Elt F) Λ₀ .tc) PUnit}
    (h : P ⊢ wp (M := 𝕄G F) Idealize.ShloMosaic.frame (wpE (defs₀ (F := F)) Variants.none (c : Thread nD τ) none) E prog (fun _ => Post))
    {β : Type} (kk : PUnit → Prog (TpuEff nD τ sig (Elt F) Λ₀ .tc) β) (Qk : β → sProp (𝕄G F)) :
    iprop(P ∗ (Post -∗ wp (M := 𝕄G F) Idealize.ShloMosaic.frame (wpE (defs₀ (F := F)) Variants.none (c : Thread nD τ) none) E (kk ⟨⟩) Qk))
      ⊢ wp (M := 𝕄G F) Idealize.ShloMosaic.frame (wpE (defs₀ (F := F)) Variants.none (c : Thread nD τ) none) E (prog >>= kk) Qk := by
  rw [wp_bind]
  iintro ⟨HP, HK⟩
  iapply (wp_wand_r Idealize.ShloMosaic.frame (wpE (defs₀ (F := F)) Variants.none (c : Thread nD τ) none) E)
  isplitl [HP]
  · iapply h; iexact HP
  · iintro %x HPost
    iapply HK; iexact HPost

/-- The body's middle part with each conditional bound before what follows it. -/
def part15 (i : grid0.Coords) (arg2 : Memref sig .tc .vmem S2048x256 .bf16) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S8x128x128 .bf16) (harg5 : arg5.IsWhole) (arg6 : Memref sig .tc .vmem S256x1024 .bf16) (harg6 : arg6.IsWhole) (arg7 : Memref sig .tc .vmem S2048x512 .f32) (harg7 : arg7.IsWhole) (arg8 : Memref sig .tc .vmem S2048x512 .f32) (harg8 : arg8.IsWhole) (arg9 : Memref sig .tc .vmem S2048x128 .f32) (harg9 : arg9.IsWhole) (arg10 : Memref sig .tc .vmem S2048x256 .f32) (harg10 : arg10.IsWhole) (arg1 : BitVec 32) (v17 : BitVec 32) (v18 : BitVec 32) (v33 : FVec F S2048x512 .f32) :
    Prog (TpuEff nD τ sig (Elt F) Λ₀ .tc) (FVec F S256x128 .bf16) := do
  let v34 : Vec F S2048x512 .f32 ← Prog.lift (.load arg7 (Rect.unit (s := S2048x512) ![0, 0] S2048x512.size inb_S2048x512_S2048x512_0_0).toLoadRect (View.loadsAt_vmem h_S2048x512))
  Prog.lift (.store arg7 (Rect.unit (s := S2048x512) ![0, 0] S2048x512.size inb_S2048x512_S2048x512_0_0) (k0_pay65 v33) Finset.univ (View.stores_vmem_bits_univ h_S2048x512 rfl) (.inl rfl))
  let v37 : BitVec 32 := Scalar.shrsi v18 1#32
  let v38 : BitVec 32 := Scalar.subi v37 0#32
  let v40 : BitVec 32 := Scalar.divsi v38 1#32
  let v41 : BitVec 32 := Scalar.muli v40 1#32
  let v42 : BitVec 32 := Scalar.addi 0#32 v41
  Scf.Loop.for (k0_t1_loop i) (k0_t1_ok i) ⟨⟩ (k0_t1_body i arg2 harg2 arg3 harg3 arg4 harg4 arg5 harg5 arg6 harg6 arg7 harg7 arg8 harg8 arg9 harg9 arg10 harg10 arg1 v17 v18 v33)
  Scf.Loop.for (k0_t2_loop i) (k0_t2_ok i) ⟨⟩ (k0_t2_body i arg2 harg2 arg3 harg3 arg4 harg4 arg5 harg5 arg6 harg6 arg7 harg7 arg8 harg8 arg9 harg9 arg10 harg10 arg1 v17 v18 v33 v42)
  let _ : PUnit ← (if k0_h1 : k0_cond1 i = 1#1 then do
      let ⟨v136, v154, v170, v171⟩ : Σ' (v136 : BitVec 32) (v154 : FVec F S2048x128 .f32) (v170 : FVec F S2048x256 .f32), Vec F S2048x256 .f32 ← k0_part9 i arg2 harg2 arg3 harg3 arg4 harg4 arg5 harg5 arg6 harg6 arg7 harg7 arg8 harg8 arg9 harg9 arg10 harg10 v18 k0_h1
      let ⟨v195, v207, v208⟩ : Σ' (v195 : FVec F S2048x128 .f32) (v207 : FVec F S2048x256 .f32), FVec F S2048x256 .f32 ← k0_part10 i arg2 harg2 arg3 harg3 arg4 harg4 arg5 harg5 arg6 harg6 arg7 harg7 arg8 harg8 arg9 harg9 arg10 harg10 k0_h1 v136 v154 v170 v171
      let v209 : Vec F S2048x256 .f32 ← Prog.lift (.load arg10 (Rect.unit (s := S2048x256) ![0, 0] S2048x256.size inb_S2048x256_S2048x256_0_0).toLoadRect (View.loadsAt_vmem h_S2048x256))
      let v212 : Vec F S2048x256 .f32 ← Prog.lift (.load arg10 (Rect.unit (s := S2048x256) ![0, 0] S2048x256.size inb_S2048x256_S2048x256_0_0).toLoadRect (View.loadsAt_vmem h_S2048x256))
      Prog.lift (.store arg10 (Rect.unit (s := S2048x256) ![0, 0] S2048x256.size inb_S2048x256_S2048x256_0_0) (k0_pay70 v207 v208 v209) Finset.univ (View.stores_vmem_bits_univ h_S2048x256 rfl) (.inl rfl))
      let v215 : Vec F S2048x128 .f32 ← Prog.lift (.load arg9 (Rect.unit (s := S2048x128) ![0, 0] S2048x128.size inb_S2048x128_S2048x128_0_0).toLoadRect (View.loadsAt_vmem h_S2048x128))
      Prog.lift (.store arg9 (Rect.unit (s := S2048x128) ![0, 0] S2048x128.size inb_S2048x128_S2048x128_0_0) (k0_pay71 v195) Finset.univ (View.stores_vmem_bits_univ h_S2048x128 rfl) (.inl rfl))
      pure ⟨⟩
    else do
      pure ⟨⟩)
  let _ : PUnit ← (if k0_h2 : k0_cond2 i = 1#1 then do
      let ⟨v158, v174⟩ : Σ' (v158 : FVec F S2048x128 .f32), FVec F S2048x256 .f32 ← k0_part11 i arg2 harg2 arg3 harg3 arg4 harg4 arg5 harg5 arg6 harg6 arg7 harg7 arg8 harg8 arg9 harg9 arg10 harg10 arg1 v17 k0_h2
      Prog.lift (.store arg10 (Rect.unit (s := S2048x256) ![0, 0] S2048x256.size inb_S2048x256_S2048x256_0_0) (k0_pay72 v174) Finset.univ (View.stores_vmem_bits_univ h_S2048x256 rfl) (.inl rfl))
      let v178 : Vec F S2048x128 .f32 ← Prog.lift (.load arg9 (Rect.unit (s := S2048x128) ![0, 0] S2048x128.size inb_S2048x128_S2048x128_0_0).toLoadRect (View.loadsAt_vmem h_S2048x128))
      Prog.lift (.store arg9 (Rect.unit (s := S2048x128) ![0, 0] S2048x128.size inb_S2048x128_S2048x128_0_0) (k0_pay73 v158) Finset.univ (View.stores_vmem_bits_univ h_S2048x128 rfl) (.inl rfl))
      pure ⟨⟩
    else do
      pure ⟨⟩)
  let _ : PUnit ← (if k0_h3 : k0_cond3 i = 1#1 then do
      let v152 : FVec F S2048x128 .f32 ← k0_part12 i arg2 harg2 arg3 harg3 arg4 harg4 arg5 harg5 arg6 harg6 arg7 harg7 arg8 harg8 arg9 harg9 arg10 harg10 v17 k0_h3
      let ⟨v198, v210, v213⟩ : Σ' (v198 : FVec F S2048x128 .f32) (v210 : FVec F S2048x256 .f32), FVec F S2048x256 .f32 ← k0_part13 i arg2 harg2 arg3 harg3 arg4 harg4 arg5 harg5 arg6 harg6 arg7 harg7 arg8 harg8 arg9 harg9 arg10 harg10 arg1 v17 k0_h3 v152
      let v215 : Vec F S2048x256 .f32 ← Prog.lift (.load arg10 (Rect.unit (s := S2048x256) ![0, 0] S2048x256.size inb_S2048x256_S2048x256_0_0).toLoadRect (View.loadsAt_vmem h_S2048x256))
      Prog.lift (.store arg10 (Rect.unit (s := S2048x256) ![0, 0] S2048x256.size inb_S2048x256_S2048x256_0_0) (k0_pay74 v210 v213) Finset.univ (View.stores_vmem_bits_univ h_S2048x256 rfl) (.inl rfl))
      let v218 : Vec F S2048x128 .f32 ← Prog.lift (.load arg9 (Rect.unit (s := S2048x128) ![0, 0] S2048x128.size inb_S2048x128_S2048x128_0_0).toLoadRect (View.loadsAt_vmem h_S2048x128))
      Prog.lift (.store arg9 (Rect.unit (s := S2048x128) ![0, 0] S2048x128.size inb_S2048x128_S2048x128_0_0) (k0_pay75 v198) Finset.univ (View.stores_vmem_bits_univ h_S2048x128 rfl) (.inl rfl))
      pure ⟨⟩
    else do
      pure ⟨⟩)
  let v55 : Vec F S256x256 .f32 ← Prog.lift (.load arg10 (Rect.unit (s := S2048x256) ![0, 0] S256x256.size inb_S2048x256_S256x256_0_0).toLoadRect (View.loadsAt_vmem h_S256x256))
  let v60 : Vec F S1x128x128 .bf16 ← Prog.lift (.load arg5 (Rect.unit (s := S8x128x128) ![0, 0, 0] S1x128x128.size inb_S8x128x128_S1x128x128_0_0_0).toLoadRect (View.loadsAt_vmem h_S1x128x128))
  let v64 : Vec F S256x128 .bf16 ← Prog.lift (.load arg6 (Rect.unit (s := S256x1024) ![0, 0] S256x128.size inb_S256x1024_S256x128_0_0).toLoadRect (View.loadsAt_vmem h_S256x128))
  pure (k0_pay76 v55 v60)

theorem part15_eq (i : grid0.Coords) (arg2 : Memref sig .tc .vmem S2048x256 .bf16) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S8x128x128 .bf16) (harg5 : arg5.IsWhole) (arg6 : Memref sig .tc .vmem S256x1024 .bf16) (harg6 : arg6.IsWhole) (arg7 : Memref sig .tc .vmem S2048x512 .f32) (harg7 : arg7.IsWhole) (arg8 : Memref sig .tc .vmem S2048x512 .f32) (harg8 : arg8.IsWhole) (arg9 : Memref sig .tc .vmem S2048x128 .f32) (harg9 : arg9.IsWhole) (arg10 : Memref sig .tc .vmem S2048x256 .f32) (harg10 : arg10.IsWhole) (arg1 v17 v18 : BitVec 32) (v33 : FVec F S2048x512 .f32) :
    k0_part15_skel (F := F) i arg2 harg2 arg3 harg3 arg4 harg4 arg5 harg5 arg6 harg6 arg7 harg7 arg8 harg8 arg9 harg9 arg10 harg10 arg1 v17 v18 v33 = part15 i arg2 harg2 arg3 harg3 arg4 harg4 arg5 harg5 arg6 harg6 arg7 harg7 arg8 harg8 arg9 harg9 arg10 harg10 arg1 v17 v18 v33 := by
  unfold k0_part15_skel part15
  by_cases h1 : k0_cond1 i = 1#1 <;> by_cases h2 : k0_cond2 i = 1#1 <;> by_cases h3 : k0_cond3 i = 1#1 <;>
    simp only [h1, h2, h3, ↓reduceDIte, bind_assoc, pure_bind]

/-- The number of the last tile of keys a block of queries reaches. -/
def w17 (i : grid0.Coords) : BitVec 32 :=
  let v0 : BitVec 32 := Scalar.muli (BitVec.ofNat 32 (i 1).val) 256#32
  let v1 : BitVec 32 := Scalar.divsi v0 512#32
  let v6 : BitVec 32 := Scalar.subi (Scalar.extui (Scalar.cmpi .sgt v0 0#32)) (Scalar.extui (Scalar.cmpi .slt v0 0#32))
  let v11 : BitVec 32 := Scalar.subi (Scalar.extui (Scalar.cmpi .sgt 512#32 0#32)) (Scalar.extui (Scalar.cmpi .slt 512#32 0#32))
  let v15 : BitVec 1 := Scalar.andi (Scalar.cmpi .ne v6 v11) (Scalar.cmpi .ne (Scalar.remsi v0 512#32) 0#32)
  Scalar.select v15 (Scalar.subi v1 1#32) v1

/-- The scratch as the loop finds it: the scores of tile zero, the running maximum and sums reset. -/
def initSt (x0 : Vec F S2048x256 .bf16) (x1 : Vec F S8192x256 .bf16) (sb : Vec F S2048x512 .f32) : St F :=
  ⟨k0_pay65 (k0_pay64 x0 (tileAt x1 ![0, 0] inb_S8192x256_S512x256_0_0)), sb, k0_pay62, k0_pay63⟩

/-- The scratch when every tile has been folded in. -/
def finSt (i : grid0.Coords) (x0 : Vec F S2048x256 .bf16) (x1 x2 : Vec F S8192x256 .bf16) (sb : Vec F S2048x512 .f32) : St F :=
  lastOSt i (BitVec.ofNat 32 (i 1).val) (w17 i) x0 x1 x2
    (lastESt i (BitVec.ofNat 32 (i 1).val) (w17 i) x2
      (pairSt i x0 x1 x2 (loopSt i x0 x1 x2 (initSt x0 x1 sb) (k0_t1_loop i).trips)))

/-- The rows of the sums that belong to one head. -/
def accAt (a : Vec F S2048x256 .f32) (o : Fin 2 → Nat) (h : ∀ j, o j + S256x256.size j ≤ S2048x256.size j) :
    Vec F S256x256 .f32 := fun y => a ((Rect.unit (s := S2048x256) o S256x256.size h).emb y)
/-- One head's absorbed value projection. -/
def uvAt (x : Vec F S8x128x128 .bf16) (o : Fin 3 → Nat) (h : ∀ j, o j + S1x128x128.size j ≤ S8x128x128.size j) :
    Vec F S1x128x128 .bf16 := fun y => x ((Rect.unit (s := S8x128x128) o S1x128x128.size h).emb y)

/-- The eight heads' pieces of the output block, the last one first. -/
def outL (x3 : Vec F S8x128x128 .bf16) (a : Vec F S2048x256 .f32) : List (View.Piece (Elt F) S256x1024 .bf16) :=
  [⟨Rect.unit (s := S256x1024) ![0, 896] S256x128.size inb_S256x1024_S256x128_0_896, k0_pay1 (k0_pay83 (accAt a ![1792, 0] inb_S2048x256_S256x256_1792_0)) (k0_pay84 (accAt a ![1792, 0] inb_S2048x256_S256x256_1792_0)) (uvAt x3 ![7, 0, 0] inb_S8x128x128_S1x128x128_7_0_0)⟩,
   ⟨Rect.unit (s := S256x1024) ![0, 768] S256x128.size inb_S256x1024_S256x128_0_768, k0_pay82 (accAt a ![1536, 0] inb_S2048x256_S256x256_1536_0) (uvAt x3 ![6, 0, 0] inb_S8x128x128_S1x128x128_6_0_0)⟩,
   ⟨Rect.unit (s := S256x1024) ![0, 640] S256x128.size inb_S256x1024_S256x128_0_640, k0_pay81 (accAt a ![1280, 0] inb_S2048x256_S256x256_1280_0) (uvAt x3 ![5, 0, 0] inb_S8x128x128_S1x128x128_5_0_0)⟩,
   ⟨Rect.unit (s := S256x1024) ![0, 512] S256x128.size inb_S256x1024_S256x128_0_512, k0_pay80 (accAt a ![1024, 0] inb_S2048x256_S256x256_1024_0) (uvAt x3 ![4, 0, 0] inb_S8x128x128_S1x128x128_4_0_0)⟩,
   ⟨Rect.unit (s := S256x1024) ![0, 384] S256x128.size inb_S256x1024_S256x128_0_384, k0_pay79 (accAt a ![768, 0] inb_S2048x256_S256x256_768_0) (uvAt x3 ![3, 0, 0] inb_S8x128x128_S1x128x128_3_0_0)⟩,
   ⟨Rect.unit (s := S256x1024) ![0, 256] S256x128.size inb_S256x1024_S256x128_0_256, k0_pay78 (accAt a ![512, 0] inb_S2048x256_S256x256_512_0) (uvAt x3 ![2, 0, 0] inb_S8x128x128_S1x128x128_2_0_0)⟩,
   ⟨Rect.unit (s := S256x1024) ![0, 128] S256x128.size inb_S256x1024_S256x128_0_128, k0_pay77 (accAt a ![256, 0] inb_S2048x256_S256x256_256_0) (uvAt x3 ![1, 0, 0] inb_S8x128x128_S1x128x128_1_0_0)⟩,
   ⟨Rect.unit (s := S256x1024) ![0, 0] S256x128.size inb_S256x1024_S256x128_0_0, k0_pay76 (accAt a ![0, 0] inb_S2048x256_S256x256_0_0) (uvAt x3 ![0, 0, 0] inb_S8x128x128_S1x128x128_0_0_0)⟩]

theorem outL_covers (y : S256x1024.Idx) (x3 : Vec F S8x128x128 .bf16) (a : Vec F S2048x256 .f32) :
    ∃ pc ∈ outL x3 a, y ∈ pc.1.set := View.cover_of_tiledL (outL x3 a) S256x128.size (by rfl) y

/-- The output block. -/
def outBlk (x3 : Vec F S8x128x128 .bf16) (a : Vec F S2048x256 .f32) : Vec F S256x1024 .bf16 := View.canon (outL x3 a)

theorem body1 (c : Dev nD) (E : Set ℕ) (i : grid0.Coords) (arg2 : Memref sig .tc .vmem S2048x256 .bf16) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S8x128x128 .bf16) (harg5 : arg5.IsWhole) (arg6 : Memref sig .tc .vmem S256x1024 .bf16) (harg6 : arg6.IsWhole) (arg7 : Memref sig .tc .vmem S2048x512 .f32) (harg7 : arg7.IsWhole) (arg8 : Memref sig .tc .vmem S2048x512 .f32) (harg8 : arg8.IsWhole) (arg9 : Memref sig .tc .vmem S2048x128 .f32) (harg9 : arg9.IsWhole) (arg10 : Memref sig .tc .vmem S2048x256 .f32) (harg10 : arg10.IsWhole)
    (x0 : Vec F S2048x256 .bf16) (x1 x2 : Vec F S8192x256 .bf16) (x3 : Vec F S8x128x128 .bf16) (d8 : Vec F S2048x512 .f32) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ (∃ d, owns (c : Thread nD τ) arg7 fullShare d)
        ∗ owns (c : Thread nD τ) arg8 fullShare d8 ∗ (∃ d, owns (c : Thread nD τ) arg9 fullShare d)
        ∗ (∃ d, owns (c : Thread nD τ) arg10 fullShare d))
      ⊢ wp (M := 𝕄G F) Idealize.ShloMosaic.frame (wpE (defs₀ (F := F)) Variants.none (c : Thread nD τ) none) E (cc0_mla_attn (F := F) i arg2 harg2 arg3 harg3 arg4 harg4 arg5 harg5 arg6 harg6 arg7 harg7 arg8 harg8 arg9 harg9 arg10 harg10)
        (fun _ => iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare (outBlk x3 (finSt i x0 x1 x2 d8).ac) ∗ (∃ d, owns (c : Thread nD τ) arg7 fullShare d)
        ∗ (∃ d, owns (c : Thread nD τ) arg8 fullShare d) ∗ (∃ d, owns (c : Thread nD τ) arg9 fullShare d)
        ∗ (∃ d, owns (c : Thread nD τ) arg10 fullShare d))) := by
  simp only [cc0_mla_attn_eq_skeleton]; unfold cc0_mla_attn_skel
  simp only [k0_part14_eq_skeleton, k0_part15_eq_skeleton, k0_part16_eq_skeleton, k0_part17_eq_skeleton, part15_eq]
  unfold k0_part14_skel part15 k0_part16_skel k0_part17_skel
  iintro ⟨H2, H3, H4, H5, H6, H7, H8, H9, H10⟩
  unfold owns
  icases H2 with ⟨%f2, %hf2, H2⟩
  icases H3 with ⟨%f3, %hf3, H3⟩
  icases H4 with ⟨%f4, %hf4, H4⟩
  icases H5 with ⟨%f5, %hf5, H5⟩
  icases H6 with ⟨%d6, %f6, -, H6⟩
  icases H7 with ⟨%d7, %f7, -, H7⟩
  icases H8 with ⟨%f8, %hf8, H8⟩
  icases H9 with ⟨%d9, %f9, -, H9⟩
  icases H10 with ⟨%d10, %f10, -, H10⟩
  obtain rfl := harg2.eq_unread hf2; obtain rfl := harg3.eq_unread hf3; obtain rfl := harg4.eq_unread hf4
  obtain rfl := harg5.eq_unread hf5; obtain rfl := harg8.eq_unread hf8
  sl_exec
  rw [wp_bind]
  iapply (run_then (loop1 Variants.none c none E i arg2 harg2 arg3 harg3 arg4 harg4 arg5 harg5 arg6 harg6 arg7 harg7 arg8 harg8 arg9 harg9 arg10 harg10 _ _ _ _ x0 x1 x2 (initSt x0 x1 d8)) _ _)
  isplitl [H2 H3 H4 H7 H8 H9 H10]
  · unfold owns
    isplitl [H2]
    · iexists _; isplitr; swap; · iexact H2
      ipureintro; exact hf2
    isplitl [H3]
    · iexists _; isplitr; swap; · iexact H3
      ipureintro; exact hf3
    isplitl [H4]
    · iexists _; isplitr; swap; · iexact H4
      ipureintro; exact hf4
    isplitl [H7]
    · iexists _; isplitr; swap; · iexact H7
      ipureintro
      sl_unfold_run_names
      rw [rw_whole]
      simp (disch := decide) only [↓ View.readCov_cons_unit_lit', ↓ View.readCov_unit_lit', View.ld_unit_lit', View.readAt_eq_ld, Memref.IsWhole.read_unread]
      rfl
    isplitl [H8]
    · iexists _; isplitr; swap; · iexact H8
      ipureintro; exact hf8
    isplitl [H9]
    · iexists _; isplitr; swap; · iexact H9
      ipureintro
      rw [rw_whole]
      rfl
    · iexists _; isplitr; swap; · iexact H10
      ipureintro
      rw [rw_whole]
      rfl
  iintro ⟨H2, H3, H4, H7, H8, H9, H10⟩
  sl_exec
  iapply (run_then (pair1 Variants.none c none E i arg2 harg2 arg3 harg3 arg4 harg4 arg5 harg5 arg6 harg6 arg7 harg7 arg8 harg8 arg9 harg9 arg10 harg10 _ x0 x1 x2 _) _ _)
  isplitl [H2 H3 H4 H7 H8 H9 H10]
  · isplitl [H2]; · iexact H2
    isplitl [H3]; · iexact H3
    isplitl [H4]; · iexact H4
    isplitl [H7]; · iexact H7
    isplitl [H8]; · iexact H8
    isplitl [H9]; · iexact H9
    iexact H10
  iintro ⟨H2, H3, H4, H7, H8, H9, H10⟩
  iapply (run_then (lastE Variants.none c none E i arg2 harg2 arg3 harg3 arg4 harg4 arg5 harg5 arg6 harg6 arg7 harg7 arg8 harg8 arg9 harg9 arg10 harg10 _ _ x0 x1 x2 _) _ _)
  isplitl [H2 H3 H4 H7 H8 H9 H10]
  · isplitl [H2]; · iexact H2
    isplitl [H3]; · iexact H3
    isplitl [H4]; · iexact H4
    isplitl [H7]; · iexact H7
    isplitl [H8]; · iexact H8
    isplitl [H9]; · iexact H9
    iexact H10
  iintro ⟨H2, H3, H4, H7, H8, H9, H10⟩
  iapply (run_then (lastO Variants.none c none E i arg2 harg2 arg3 harg3 arg4 harg4 arg5 harg5 arg6 harg6 arg7 harg7 arg8 harg8 arg9 harg9 arg10 harg10 _ _ x0 x1 x2 _) _ _)
  isplitl [H2 H3 H4 H7 H8 H9 H10]
  · isplitl [H2]; · iexact H2
    isplitl [H3]; · iexact H3
    isplitl [H4]; · iexact H4
    isplitl [H7]; · iexact H7
    isplitl [H8]; · iexact H8
    isplitl [H9]; · iexact H9
    iexact H10
  iintro ⟨H2, H3, H4, H7, H8, H9, H10⟩
  unfold owns
  icases H7 with ⟨%f7, -, H7⟩
  icases H8 with ⟨%f8, -, H8⟩
  icases H9 with ⟨%f9, -, H9⟩
  icases H10 with ⟨%f10, %hf10, H10⟩
  icases H2 with ⟨%f2, %hf2, H2⟩
  icases H3 with ⟨%f3, %hf3, H3⟩
  icases H4 with ⟨%f4, %hf4, H4⟩
  change _ = (finSt i x0 x1 x2 d8).ac at hf10
  obtain rfl := harg10.eq_unread hf10
  sl_exec
  sl_step
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro; exact hf5
  isplitl [H6]
  · iexists _; isplitr; swap; · iexact H6
    ipureintro
    sl_unfold_run_names
    simp (disch := decide) only [↓ View.readCov_cons_unit_lit', ↓ View.readCov_unit_lit', View.ld_unit_lit', View.readAt_eq_ld, Memref.IsWhole.read_unread]
    exact View.read_writes_eq_canon _ _ (outL x3 (finSt i x0 x1 x2 d8).ac) (fun y => outL_covers y x3 (finSt i x0 x1 x2 d8).ac)
  isplitl [H7]
  · iexists _; iexists _; isplitr; swap; · iexact H7
    ipureintro; rfl
  isplitl [H8]
  · iexists _; iexists _; isplitr; swap; · iexact H8
    ipureintro; rfl
  isplitl [H9]
  · iexists _; iexists _; isplitr; swap; · iexact H9
    ipureintro; rfl
  iexists _; iexists _; isplitr; swap; · iexact H10
  ipureintro; rfl

/-- Two scratches that agree but for the second score buffer. -/
def AgreeS (s s' : St F) : Prop := s.sa = s'.sa ∧ s.mx = s'.mx ∧ s.ac = s'.ac

theorem tripSt_agree (i : grid0.Coords) (x0 : Vec F S2048x256 .bf16) (x1 x2 : Vec F S8192x256 .bf16) (k : Fin (k0_t1_loop i).trips)
    {s s' : St F} (h : AgreeS s s') : tripSt i x0 x1 x2 k s = tripSt i x0 x1 x2 k s' := by
  obtain ⟨a, b, m, d⟩ := s; obtain ⟨a', b', m', d'⟩ := s'
  obtain ⟨h1, h2, h3⟩ := h
  dsimp only at h1 h2 h3
  subst h1 h2 h3; rfl

theorem loopSt_agree (i : grid0.Coords) (x0 : Vec F S2048x256 .bf16) (x1 x2 : Vec F S8192x256 .bf16)
    {s s' : St F} (h : AgreeS s s') (n : ℕ) : AgreeS (loopSt i x0 x1 x2 s n) (loopSt i x0 x1 x2 s' n) := by
  induction n with
  | zero => exact h
  | succ n ih =>
    by_cases hn : n < (k0_t1_loop i).trips
    · rw [show n + 1 = ((⟨n, hn⟩ : Fin (k0_t1_loop i).trips) : ℕ) + 1 from rfl, loopSt_succ, loopSt_succ, tripSt_agree i x0 x1 x2 ⟨n, hn⟩ ih]
      exact ⟨rfl, rfl, rfl⟩
    · simpa only [loopSt, hn, ↓reduceDIte] using ih

theorem finSt_sb (i : grid0.Coords) (x0 : Vec F S2048x256 .bf16) (x1 x2 : Vec F S8192x256 .bf16) (d d' : Vec F S2048x512 .f32) :
    (finSt i x0 x1 x2 d).ac = (finSt i x0 x1 x2 d').ac := by
  have h1 := loopSt_agree i x0 x1 x2 (s := initSt x0 x1 d) (s' := initSt x0 x1 d') ⟨rfl, rfl, rfl⟩ (k0_t1_loop i).trips
  unfold finSt
  generalize loopSt i x0 x1 x2 (initSt x0 x1 d) (k0_t1_loop i).trips = s at h1 ⊢
  generalize loopSt i x0 x1 x2 (initSt x0 x1 d') (k0_t1_loop i).trips = s' at h1 ⊢
  have h2 : AgreeS (pairSt i x0 x1 x2 s) (pairSt i x0 x1 x2 s') := by
    obtain ⟨a, b, m, e⟩ := s; obtain ⟨a', b', m', e'⟩ := s'
    obtain ⟨h1, h2, h3⟩ := h1
    dsimp only at h1 h2 h3
    subst h1 h2 h3
    unfold pairSt; split_ifs <;> exact ⟨rfl, rfl, rfl⟩
  generalize pairSt i x0 x1 x2 s = s at h2 ⊢
  generalize pairSt i x0 x1 x2 s' = s' at h2 ⊢
  obtain ⟨a, b, m, e⟩ := s; obtain ⟨a', b', m', e'⟩ := s'
  obtain ⟨h1, h2, h3⟩ := h2
  dsimp only at h1 h2 h3
  subst h1 h2 h3
  unfold lastESt lastOSt; split_ifs <;> rfl

end Cert.MlaIdeal.Attn
end
-- ==== Proof.MlaMath.lean ====
module

public import Idealize.ShloMosaic.Lib.Pointwise

@[expose] public section

noncomputable section

open Idealize.ShloMosaic

/-! One row of attention in the extended reals: the online softmax, tile by tile, and the softmax taken at once. -/

namespace Cert.MlaIdeal.Row

theorem coe_sum' {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The largest of finitely many scores, some of them masked out, is a real number. -/
theorem sup_real {ι : Type*} [Fintype ι] (s : ι → EReal) (P : ι → Prop) [DecidablePred P] (x : ι → ℝ)
    (hs : ∀ j, s j = if P j then (x j : EReal) else ⊥) (hP : ∃ j, P j) : ∃ y : ℝ, Finset.univ.sup s = y := by
  obtain ⟨j0, h0⟩ := hP
  have hlo : (x j0 : EReal) ≤ Finset.univ.sup s := by
    have := Finset.le_sup (f := s) (Finset.mem_univ j0)
    rwa [hs j0, if_pos h0] at this
  have hhi : Finset.univ.sup s < ⊤ := by
    rw [Finset.sup_lt_iff (by exact bot_lt_top)]
    intro j _
    rw [hs j]
    split
    · exact EReal.coe_lt_top _
    · exact bot_lt_top
  have hb : Finset.univ.sup s ≠ ⊥ := fun h => by
    rw [h] at hlo; exact absurd (le_bot_iff.mp hlo) (EReal.coe_ne_bot _)
  exact ⟨(Finset.univ.sup s).toReal, (EReal.coe_toReal hhi.ne hb).symm⟩

/-- What a row's running maximum and running sums hold when the keys in `K` have been folded in: nothing yet,
or the sums of the values weighted by powers of two, relative to some real number. -/
def Inv (σ : ℕ → ℝ) (v : ℕ → Fin 256 → ℝ) (K : Finset ℕ) (m : Fin 128 → EReal) (a : Fin 256 → EReal) : Prop :=
  (K = ∅ ∧ (∀ l, m l = ⊥) ∧ ∀ e, a e = 0)
  ∨ ∃ μ : ℝ, (∀ l, m l = μ) ∧ ∀ e, a e = ((∑ κ ∈ K, Real.rpow 2 (σ κ - μ) * v κ e : ℝ) : EReal)

/-- One tile of 512 scores folded in. -/
theorem step (σ : ℕ → ℝ) (v : ℕ → Fin 256 → ℝ) (K K' : Finset ℕ) (T : ℕ) (P : Fin 512 → Prop) [DecidablePred P]
    (hK : ∀ f : ℕ → ℝ, ∑ κ ∈ K', f κ = ∑ κ ∈ K, f κ + ∑ j : Fin 512, if P j then f (512 * T + j.val) else 0)
    (hP : ∃ j, P j) (m m' : Fin 128 → EReal) (a a' : Fin 256 → EReal) (s : Fin 512 → EReal) (w : Fin 512 → Fin 256 → EReal)
    (hs : ∀ j, s j = if P j then ((σ (512 * T + j.val) : ℝ) : EReal) else ⊥)
    (hw : ∀ j e, w j e = ((v (512 * T + j.val) e : ℝ) : EReal))
    (hm : ∀ l, m' l = max (m l) (Finset.univ.sup s))
    (ha : ∀ e, ∃ l, ∃ l' : Fin 512 → Fin 128, a' e = Ideal.exp2 (m l - m' l) * a e + ∑ j, Ideal.exp2 (s j - m' (l' j)) * w j e)
    (h : Inv σ v K m a) : Inv σ v K' m' a' := by
  obtain ⟨y, hy⟩ := sup_real s P _ hs hP
  have key : ∀ (μ' : ℝ), (∀ l, m' l = μ') → (∀ l e, Ideal.exp2 (m l - m' l) * a e = ((∑ κ ∈ K, Real.rpow 2 (σ κ - μ') * v κ e : ℝ) : EReal)) →
      Inv σ v K' m' a' := by
    intro μ' hμ hA
    refine .inr ⟨μ', hμ, fun e => ?_⟩
    obtain ⟨l, l', e1⟩ := ha e
    rw [e1, hA, hK fun κ => Real.rpow 2 (σ κ - μ') * v κ e, EReal.coe_add, coe_sum' Finset.univ]
    refine congrArg (_ + ·) (Finset.sum_congr rfl fun j _ => ?_)
    rw [hμ, hs, hw]
    split
    · rw [← EReal.coe_sub, Ideal.exp2_coe, ← EReal.coe_mul]
    · rw [EReal.bot_sub, Ideal.exp2_bot, zero_mul]; rfl
  rcases h with ⟨hK0, hm0, ha0⟩ | ⟨μ, hm0, ha0⟩
  · refine key y (fun l => by rw [hm, hm0, hy]; exact max_eq_right bot_le) fun l e => ?_
    rw [ha0, mul_zero, hK0, Finset.sum_empty]; rfl
  · have hμ : ∀ l, m' l = ((max μ y : ℝ) : EReal) := fun l => by
      rw [hm, hm0, hy]; exact (EReal.coe_strictMono.monotone.map_max).symm
    refine key (max μ y) hμ fun l e => ?_
    rw [hμ, hm0, ha0, ← EReal.coe_sub, Ideal.exp2_coe, ← EReal.coe_mul, Finset.mul_sum]
    refine congrArg Real.toEReal (Finset.sum_congr rfl fun κ _ => ?_)
    rw [← mul_assoc]
    refine congrArg (· * v κ e) ?_
    show (2:ℝ) ^ (μ - max μ y) * (2:ℝ) ^ (σ κ - μ) = (2:ℝ) ^ (σ κ - max μ y)
    rw [← Real.rpow_add (by norm_num)]
    congr 1; ring

/-- A row of attention: the values projected by `w`, averaged with weights `2 ^ score`. -/
def att (σ : ℕ → ℝ) (v : ℕ → Fin 128 → ℝ) (w : Fin 128 → ℝ) (K : Finset ℕ) : ℝ :=
  (∑ κ ∈ K, (2:ℝ) ^ σ κ * ∑ c, v κ c * w c) / ∑ κ ∈ K, (2:ℝ) ^ σ κ

theorem pos_sum (σ : ℕ → ℝ) (K : Finset ℕ) (hK : K.Nonempty) : 0 < ∑ κ ∈ K, (2:ℝ) ^ σ κ :=
  Finset.sum_pos (fun κ _ => Real.rpow_pos_of_pos (by norm_num) _) hK

theorem shift (σ : ℕ → ℝ) (f : ℕ → ℝ) (K : Finset ℕ) (μ : ℝ) :
    ∑ κ ∈ K, Real.rpow 2 (σ κ - μ) * f κ = (2:ℝ) ^ (-μ) * ∑ κ ∈ K, (2:ℝ) ^ σ κ * f κ := by
  rw [Finset.mul_sum]
  refine Finset.sum_congr rfl fun κ _ => ?_
  rw [← mul_assoc]
  refine congrArg (· * f κ) ?_
  show (2:ℝ) ^ (σ κ - μ) = _
  rw [← Real.rpow_add (by norm_num)]
  congr 1; ring

theorem att_eq (σ : ℕ → ℝ) (v : ℕ → Fin 128 → ℝ) (w : Fin 128 → ℝ) (K : Finset ℕ) :
    att σ v w K = ∑ c, ((∑ κ ∈ K, (2:ℝ) ^ σ κ * v κ c) / ∑ κ ∈ K, (2:ℝ) ^ σ κ) * w c := by
  unfold att
  simp only [Finset.mul_sum, Finset.sum_div, Finset.sum_mul]
  rw [Finset.sum_comm]
  refine Finset.sum_congr rfl fun c _ => Finset.sum_congr rfl fun κ _ => ?_
  ring

/-- The sums the tiles leave, divided and projected. -/
theorem online (σ : ℕ → ℝ) (v : ℕ → Fin 256 → ℝ) (K : Finset ℕ) (hK : K.Nonempty) (m : Fin 128 → EReal) (a : Fin 256 → EReal)
    (h : Inv σ v K m a) (hone : ∀ κ ∈ K, ∀ c : Fin 128, v κ ⟨128 + c.val, by omega⟩ = 1) (w : Fin 128 → EReal) (wr : Fin 128 → ℝ)
    (hw : ∀ c, w c = (wr c : EReal)) :
    ∑ c : Fin 128, Ideal.div (a ⟨c.val, by omega⟩) (a ⟨128 + c.val, by omega⟩) * w c
      = ((att σ (fun κ c => v κ ⟨c.val, by omega⟩) wr K : ℝ) : EReal) := by
  rcases h with ⟨h, _⟩ | ⟨μ, _, ha⟩
  · exact absurd h hK.ne_empty
  rw [att_eq, coe_sum']
  refine Finset.sum_congr rfl fun c _ => ?_
  have e1 : ∑ κ ∈ K, (2:ℝ) ^ σ κ * v κ ⟨128 + c.val, by omega⟩ = ∑ κ ∈ K, (2:ℝ) ^ σ κ :=
    Finset.sum_congr rfl fun κ hκ => by rw [hone κ hκ c, mul_one]
  rw [ha, ha, hw, shift, shift, e1]
  have hp := pos_sum σ K hK
  have h2 : (0:ℝ) < (2:ℝ) ^ (-μ) := Real.rpow_pos_of_pos (by norm_num) _
  rw [Ideal.div_coe (mul_pos h2 hp).ne', ← EReal.coe_mul, ← EReal.coe_mul, mul_one_div, mul_div_mul_left _ _ h2.ne']

/-- The softmax taken at once over all keys, those not visible at minus infinity. -/
theorem direct (N : ℕ) (σ : ℕ → ℝ) (v : ℕ → Fin 128 → ℝ) (wr : Fin 128 → ℝ) (P : ℕ → Prop) [DecidablePred P] (hP : ∃ κ, κ < N ∧ P κ)
    (sc : Fin N → EReal) (hsc : ∀ κ, sc κ = if P κ.val then ((σ κ.val * Real.log 2 : ℝ) : EReal) else ⊥)
    (M : EReal) (hM : M = Finset.univ.sup sc) (u : Fin N → EReal) (hu : ∀ κ, u κ = ((∑ c, v κ.val c * wr c : ℝ) : EReal)) :
    ∑ κ, Ideal.div (Ideal.exp (sc κ - M)) (∑ κ, Ideal.exp (sc κ - M)) * u κ
      = ((att σ v wr ((Finset.range N).filter P) : ℝ) : EReal) := by
  obtain ⟨κ0, h0, p0⟩ := hP
  obtain ⟨y, hy⟩ := sup_real sc (fun κ => P κ.val) _ hsc ⟨⟨κ0, h0⟩, p0⟩
  have hl : (0:ℝ) < Real.log 2 := Real.log_pos (by norm_num)
  obtain ⟨μ, hμ⟩ : ∃ μ : ℝ, y = μ * Real.log 2 := ⟨y / Real.log 2, by field_simp⟩
  have he : ∀ κ : Fin N, Ideal.exp (sc κ - M) = ((if P κ.val then Real.rpow 2 (σ κ.val - μ) else 0 : ℝ) : EReal) := by
    intro κ
    rw [hM, hy, hsc]
    split
    · rw [← EReal.coe_sub, Ideal.exp_coe, hμ]
      refine congrArg Real.toEReal ?_
      show _ = (2:ℝ) ^ (σ κ.val - μ)
      rw [Real.rpow_def_of_pos (by norm_num)]
      congr 1; ring
    · rw [EReal.bot_sub, Ideal.exp_bot]; rfl
  have sumK : ∀ f : ℕ → ℝ, ∑ κ : Fin N, (if P κ.val then Real.rpow 2 (σ κ.val - μ) else 0) * f κ.val
      = ∑ κ ∈ (Finset.range N).filter P, Real.rpow 2 (σ κ - μ) * f κ := by
    intro f
    rw [Finset.sum_filter, ← Fin.sum_univ_eq_sum_range (fun κ => if P κ then Real.rpow 2 (σ κ - μ) * f κ else 0)]
    refine Finset.sum_congr rfl fun κ _ => ?_
    split <;> simp
  have hne : ((Finset.range N).filter P).Nonempty := ⟨κ0, by simp [h0, p0]⟩
  have hp := pos_sum σ _ hne
  have h2 : (0:ℝ) < (2:ℝ) ^ (-μ) := Real.rpow_pos_of_pos (by norm_num) _
  have hZ : ∑ κ, Ideal.exp (sc κ - M) = (((2:ℝ) ^ (-μ) * ∑ κ ∈ (Finset.range N).filter P, (2:ℝ) ^ σ κ : ℝ) : EReal) := by
    simp only [he]
    rw [← coe_sum']
    refine congrArg Real.toEReal ?_
    have := sumK (fun _ => 1)
    rw [shift] at this
    simpa using this
  rw [hZ]
  have hpos : (0:ℝ) < (2:ℝ) ^ (-μ) * ∑ κ ∈ (Finset.range N).filter P, (2:ℝ) ^ σ κ := by positivity
  have hterm : ∀ κ : Fin N, Ideal.div (Ideal.exp (sc κ - M)) (((2:ℝ) ^ (-μ) * ∑ κ ∈ (Finset.range N).filter P, (2:ℝ) ^ σ κ : ℝ) : EReal) * u κ
      = (((if P κ.val then Real.rpow 2 (σ κ.val - μ) else 0) * ((∑ c, v κ.val c * wr c) / ((2:ℝ) ^ (-μ) * ∑ κ ∈ (Finset.range N).filter P, (2:ℝ) ^ σ κ)) : ℝ) : EReal) := by
    intro κ
    rw [he, hu, Ideal.div_coe hpos.ne', ← EReal.coe_mul, ← EReal.coe_mul]
    refine congrArg Real.toEReal ?_
    ring
  rw [Finset.sum_congr rfl fun κ _ => hterm κ, ← coe_sum']
  refine congrArg Real.toEReal ?_
  rw [sumK fun κ => (∑ c, v κ c * wr c) / ((2:ℝ) ^ (-μ) * ∑ κ ∈ (Finset.range N).filter P, (2:ℝ) ^ σ κ), shift]
  unfold att
  simp only [mul_div_assoc']
  rw [← Finset.sum_div, mul_div_assoc', mul_div_mul_left _ _ h2.ne']

end Cert.MlaIdeal.Row
end
-- ==== Proof.MlaRead.lean ====
module

public import proofs.«01_k».proof.Proof.MlaRun
public import proofs.«01_k».proof.Proof.MlaMath
public import Idealize.ShloMosaic.Lib.Pipeline.ValueKit
public import Idealize.ShloMosaic.Lib.Pipeline.ReadBack
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.MlaIdeal.Attn

open Cert.MlaIdeal Cert.MlaIdeal.Gen

/-! What each step of the attention body computes, an entry at a time. -/

theorem sc_at (q : FVec Ideal S2048x256 .bf16) (k : FVec Ideal S512x256 .bf16) (r : Fin 2048) (j : Fin 512) :
    (sc (F := Ideal) q k : FVec Ideal S2048x512 .f32) (ix2 r j) = ∑ d : Fin 256, (q (ix2 r d) : EReal) * k (ix2 j d) := by
  pointwise [k0_pay2]

theorem sc0_at (q : FVec Ideal S2048x256 .bf16) (k : FVec Ideal S512x256 .bf16) (r : Fin 2048) (j : Fin 512) :
    (k0_pay65 (k0_pay64 (F := Ideal) q k) : FVec Ideal S2048x512 .f32) (ix2 r j) = ∑ d : Fin 256, (q (ix2 r d) : EReal) * k (ix2 j d) := by
  pointwise [k0_pay65, k0_pay64]

theorem neg_inf : Ideal.ofBits FTy.f32 0xFF800000#32 = ⊥ := by simp [Ideal.ofBits, Ideal.ieee]

theorem mx0_at (r : Fin 2048) (l : Fin 128) : (k0_pay62 (F := Ideal) : FVec Ideal S2048x128 .f32) (ix2 r l) = (⊥ : EReal) := by
  pointwise [k0_pay62]
  rfl

theorem ac0_at (r : Fin 2048) (l : Fin 256) : (k0_pay63 (F := Ideal) : FVec Ideal S2048x256 .f32) (ix2 r l) = (0 : EReal) := by
  pointwise [k0_pay63]

theorem updM_at (s : FVec Ideal S2048x512 .f32) (m : FVec Ideal S2048x128 .f32) (r : Fin 2048) (l : Fin 128) :
    (updM (F := Ideal) s m : FVec Ideal S2048x128 .f32) (ix2 r l) = max (m (ix2 r l) : EReal) (Finset.univ.sup fun j : Fin 512 => (s (ix2 r j) : EReal)) := by
  pointwise [k0_pay6, k0_pay3]
  rw [neg_inf]; rfl

theorem updA_at (s : FVec Ideal S2048x512 .f32) (m : FVec Ideal S2048x128 .f32) (v : FVec Ideal S512x256 .bf16) (a : FVec Ideal S2048x256 .f32) (r : Fin 2048) (e : Fin 256) :
    ∃ l : Fin 128, ∃ l' : Fin 512 → Fin 128, ((updA (F := Ideal) s m v a : FVec Ideal S2048x256 .f32) (ix2 r e) : EReal) =
      Ideal.exp2 ((m (ix2 r l) : EReal) - updM (F := Ideal) s m (ix2 r l)) * (a (ix2 r e) : EReal)
        + ∑ j : Fin 512, Ideal.exp2 ((s (ix2 r j) : EReal) - updM (F := Ideal) s m (ix2 r (l' j))) * (v (ix2 j e) : EReal) := by
  have hm : ∀ l : Fin 128, (updM (F := Ideal) s m : FVec Ideal S2048x128 .f32) (ix2 r l) = k0_pay3 (F := Ideal) s m (ix2 r l) := fun l => by
    pointwise [k0_pay6]
  simp only [hm]
  refine ⟨⟨e.val % 128, by omega⟩, fun j => ⟨j.val % 128, by omega⟩, ?_⟩
  unfold updA
  pointwise [k0_pay5, k0_pay4]
  have lane : ∀ (x y : ℕ) (hx : x < 128) (hy : y < 128), x = y → k0_pay3 (F := Ideal) s m (ix2 r ⟨x, hx⟩) = k0_pay3 (F := Ideal) s m (ix2 r ⟨y, hy⟩) := by
    rintro x y _ _ rfl; rfl
  have lane' : ∀ (x y : ℕ) (hx : x < 128) (hy : y < 128), x = y → m (ix2 r ⟨x, hx⟩) = m (ix2 r ⟨y, hy⟩) := by
    rintro x y _ _ rfl; rfl
  have pick : ∀ j : Fin 512, (if h : j.val < 128 then k0_pay3 (F := Ideal) s m (ix2 r ⟨j.val, h⟩)
      else if h : j.val - 128 < 128 then k0_pay3 (F := Ideal) s m (ix2 r ⟨j.val - 128, h⟩)
      else if h : j.val - 128 - 128 < 128 then k0_pay3 (F := Ideal) s m (ix2 r ⟨j.val - 128 - 128, h⟩)
      else k0_pay3 (F := Ideal) s m (ix2 r ⟨j.val - 128 - 128 - 128, by omega⟩)) = k0_pay3 (F := Ideal) s m (ix2 r ⟨j.val % 128, by omega⟩) := by
    intro j
    split
    · exact lane _ _ _ _ (by omega)
    split
    · exact lane _ _ _ _ (by omega)
    split
    · exact lane _ _ _ _ (by omega)
    exact lane _ _ _ _ (by omega)
  refine congrArg₂ (· + ·) ?_ (Finset.sum_congr rfl fun j _ => congrArg (fun x => Ideal.exp2 ((s (ix2 r j) : EReal) - x) * (v (ix2 j e) : EReal)) (pick j))
  split
  · exact congrArg₂ (fun x y : EReal => Ideal.exp2 (x - y) * (a (ix2 r e) : EReal)) (lane' _ _ _ _ (by omega)) (lane _ _ _ _ (by omega))
  · exact congrArg₂ (fun x y : EReal => Ideal.exp2 (x - y) * (a (ix2 r e) : EReal)) (lane' _ _ _ _ (by omega)) (lane _ _ _ _ (by omega))

/-- The masked step is the plain step on the masked scores. -/
theorem maskM (b w : BitVec 32) (s : FVec Ideal S2048x512 .f32) (m : FVec Ideal S2048x128 .f32) :
    k0_pay73 (k0_pay52 (F := Ideal) b w s m) = updM (F := Ideal) (k0_pay51 (F := Ideal) b w s) m := rfl

theorem maskA (b w : BitVec 32) (s : FVec Ideal S2048x512 .f32) (m : FVec Ideal S2048x128 .f32) (v : FVec Ideal S512x256 .bf16) (a : FVec Ideal S2048x256 .f32) :
    k0_pay72 (k0_pay53 (F := Ideal) b w s m v a) = updA (F := Ideal) (k0_pay51 (F := Ideal) b w s) m v a := rfl

theorem shr6 : ∀ n : Fin 8192, IntOp.shrsi .vector (BitVec.ofNat 32 n.val) 6#32 = BitVec.ofNat 32 (n.val / 64) := by decide +kernel

theorem sle7 : ∀ a b : Fin 128, IntOp.cmpi .sle (BitVec.ofNat 32 a.val) (BitVec.ofNat 32 b.val) = if a.val ≤ b.val then 1#1 else 0#1 := by decide +kernel

theorem word (a x c : ℕ) : IntOp.addi (Scalar.muli (BitVec.ofNat 32 a) (BitVec.ofNat 32 c)) (BitVec.ofNat 32 x) = BitVec.ofNat 32 (a * c + x) := by
  show BitVec.ofNat 32 a * BitVec.ofNat 32 c + BitVec.ofNat 32 x = _
  rw [← BitVec.ofNat_mul, ← BitVec.ofNat_add]

/-- The last tile's scores, masked: key `512 n + j` is kept when its chunk of 64 is not after the query's. -/
theorem bias_at (i n : ℕ) (hi : i < 32) (hn : n < 16) (s : FVec Ideal S2048x512 .f32) (r : Fin 2048) (j : Fin 512) :
    (k0_pay51 (F := Ideal) (BitVec.ofNat 32 i) (BitVec.ofNat 32 n) s : FVec Ideal S2048x512 .f32) (ix2 r j)
      = if (512 * n + j.val) / 64 ≤ (256 * i + r.val % 256) / 64 then (s (ix2 r j) : EReal) else ⊥ := by
  have key : ∀ x : ℕ, x = r.val % 256 → (s (ix2 r j) : EReal) + Scalar.select
      (IntOp.cmpi CmpIPredicate.sle (IntOp.shrsi ArithUnit.vector (IntOp.addi (Scalar.muli (BitVec.ofNat 32 n) 512#32) (BitVec.ofNat 32 j.val)) 6#32)
        (IntOp.shrsi ArithUnit.vector (IntOp.addi (Scalar.muli (BitVec.ofNat 32 i) 256#32) (BitVec.ofNat 32 x)) 6#32))
      (0 : EReal) (Named.named (F := Ideal) κ "mask" 4048155338#32 : Ideal .f32)
      = if (512 * n + j.val) / 64 ≤ (256 * i + r.val % 256) / 64 then (s (ix2 r j) : EReal) else ⊥ := by
    rintro x rfl
    rw [word, word, mul_comm n, mul_comm i, shr6 ⟨512 * n + j.val, by omega⟩, shr6 ⟨256 * i + r.val % 256, by omega⟩,
      sle7 ⟨(512 * n + j.val) / 64, by omega⟩ ⟨(256 * i + r.val % 256) / 64, by omega⟩]
    have hnm : (Named.named (F := Ideal) κ "mask" 4048155338#32 : Ideal .f32) = (⊥ : EReal) := rfl
    rw [hnm]
    by_cases h : (512 * n + j.val) / 64 ≤ (256 * i + r.val % 256) / 64
    · simp only [h, if_true]
      show (s (ix2 r j) : EReal) + 0 = _
      rw [add_zero]
    · simp only [h, if_false]
      show (s (ix2 r j) : EReal) + ⊥ = _
      rw [EReal.add_bot]
  generalize (if (512 * n + j.val) / 64 ≤ (256 * i + r.val % 256) / 64 then (s (ix2 r j) : EReal) else ⊥) = R at key ⊢
  pointwise [k0_pay51]
  split_ifs <;> exact key _ (by omega)

theorem tileAt_at (x : FVec Ideal S8192x256 .bf16) (o : Fin 2 → ℕ) (h) (T : ℕ) (ho : o = ![512 * T, 0]) (j : Fin 512) (d : Fin 256) (hb : 512 * T + j.val < 8192) :
    (tileAt (F := Ideal) x o h : FVec Ideal S512x256 .bf16) (ix2 j d) = x (ix2 ⟨512 * T + j.val, hb⟩ d) := by
  subst ho
  unfold tileAt
  congr 1
  funext a
  match a with
  | ⟨0, _⟩ => apply Fin.ext; simp [Rect.emb, Rect.unit, ix2]
  | ⟨1, _⟩ => apply Fin.ext; simp [Rect.emb, Rect.unit, ix2]

/-! The tiles' places, over the whole grid. -/

theorem trips_eq : ∀ i : grid0.Coords, (k0_t1_loop i).trips = (i 1).val / 8 := by decide +kernel
theorem cond1_iff : ∀ i : grid0.Coords, k0_cond1 i = 1#1 ↔ (i 1).val / 4 % 2 = 1 := by decide +kernel
theorem cond2_iff : ∀ i : grid0.Coords, k0_cond2 i = 1#1 ↔ (i 1).val / 2 % 2 = 0 := by decide +kernel
theorem cond3_iff : ∀ i : grid0.Coords, k0_cond3 i = 1#1 ↔ (i 1).val / 2 % 2 = 1 := by decide +kernel
theorem w17_eq : ∀ i : grid0.Coords, w17 i = BitVec.ofNat 32 ((i 1).val / 2) := by decide +kernel
theorem off1a : ∀ i : grid0.Coords, ∀ k : Fin (k0_t1_loop i).trips, k0_off1 i k 1#32 = ![512 * (4 * k.val + 1), 0] := by decide +kernel
theorem off1b : ∀ i : grid0.Coords, ∀ k : Fin (k0_t1_loop i).trips, k0_off1 i k 2#32 = ![512 * (4 * k.val + 2), 0] := by decide +kernel
theorem off2a : ∀ i : grid0.Coords, ∀ k : Fin (k0_t1_loop i).trips, k0_off2 i k = ![512 * (4 * k.val), 0] := by decide +kernel
theorem off3a : ∀ i : grid0.Coords, ∀ k : Fin (k0_t1_loop i).trips, k0_off3 i k 1#32 = ![512 * (4 * k.val + 3), 0] := by decide +kernel
theorem off3b : ∀ i : grid0.Coords, ∀ k : Fin (k0_t1_loop i).trips, k0_off3 i k 2#32 = ![512 * (4 * k.val + 4), 0] := by decide +kernel
theorem off7a : ∀ i : grid0.Coords, k0_cond1 i = 1#1 → k0_off7 i 1#32 = ![512 * (4 * ((i 1).val / 8) + 1), 0] := by decide +kernel
theorem off7b : ∀ i : grid0.Coords, k0_cond1 i = 1#1 → k0_off7 i 2#32 = ![512 * (4 * ((i 1).val / 8) + 2), 0] := by decide +kernel
theorem off8a : ∀ i : grid0.Coords, k0_cond1 i = 1#1 → k0_off8 i = ![512 * (4 * ((i 1).val / 8)), 0] := by decide +kernel
theorem off9a : ∀ i : grid0.Coords, k0_cond2 i = 1#1 → k0_off9 i = ![512 * ((i 1).val / 2), 0] := by decide +kernel
theorem off10a : ∀ i : grid0.Coords, k0_cond3 i = 1#1 → k0_off10 i = ![512 * ((i 1).val / 2), 0] := by decide +kernel
theorem off11a : ∀ i : grid0.Coords, k0_cond3 i = 1#1 → k0_off11 i = ![512 * ((i 1).val / 2 - 1), 0] := by decide +kernel

end Cert.MlaIdeal.Attn
end
-- ==== Proof.MlaFold.lean ====
module

public import proofs.«01_k».proof.Proof.MlaRead

@[expose] public section

set_option maxRecDepth 16384

noncomputable section

open Idealize.ShloMosaic Idealize.ShloMosaic.TcCoe Idealize.SL.Sem

namespace Cert.MlaIdeal.Attn

open Cert.MlaIdeal Cert.MlaIdeal.Gen Cert.MlaIdeal.Row

/-! The whole body, one row of queries at a time: every tile folded in leaves the softmax's sums over the visible keys. -/

section Fold

variable (x0 : FVec Ideal S2048x256 .bf16) (x1 x2 : FVec Ideal S8192x256 .bf16) (r : Fin 2048)
  (σ : ℕ → ℝ) (v : ℕ → Fin 256 → ℝ)
  (hσ : ∀ κ : Fin 8192, ∑ d : Fin 256, (x0 (ix2 r d) : EReal) * x1 (ix2 κ d) = ((σ κ.val : ℝ) : EReal))
  (hv : ∀ (κ : Fin 8192) (e : Fin 256), (x2 (ix2 κ e) : EReal) = ((v κ.val e : ℝ) : EReal))

/-- The score buffer holds tile `T`'s scores. -/
def Sc (T : ℕ) (s : FVec Ideal S2048x512 .f32) : Prop := ∀ j : Fin 512, (s (ix2 r j) : EReal) = ((σ (512 * T + j.val) : ℝ) : EReal)

/-- The row's running maximum and sums are those of the keys in `K`. -/
def In (K : Finset ℕ) (m : FVec Ideal S2048x128 .f32) (a : FVec Ideal S2048x256 .f32) : Prop :=
  Inv σ v K (fun l => m (ix2 r l)) (fun e => a (ix2 r e))

/-- Tiles before `T` are folded in, tile `T` is scored. -/
def Good (T : ℕ) (s : St Ideal) : Prop := Sc r σ T s.sa ∧ In r σ v (Finset.range (512 * T)) s.mx s.ac

include hσ in
theorem scT (o : Fin 2 → ℕ) (h) (T : ℕ) (hT : T < 16) (ho : o = ![512 * T, 0]) : Sc r σ T (sc (F := Ideal) x0 (tileAt (F := Ideal) x1 o h)) := by
  intro j
  rw [sc_at, ← hσ ⟨512 * T + j.val, by omega⟩]
  exact Finset.sum_congr rfl fun d _ => by rw [tileAt_at x1 o h T ho j d (by omega)]

include hv in
theorem fold1 (o : Fin 2 → ℕ) (h) (T : ℕ) (hT : T < 16) (ho : o = ![512 * T, 0]) (s : FVec Ideal S2048x512 .f32) (m : FVec Ideal S2048x128 .f32)
    (a : FVec Ideal S2048x256 .f32) (hs : Sc r σ T s) (hi : In r σ v (Finset.range (512 * T)) m a) :
    In r σ v (Finset.range (512 * (T + 1))) (updM (F := Ideal) s m) (updA (F := Ideal) s m (tileAt (F := Ideal) x2 o h) a) := by
  refine step σ v (Finset.range (512 * T)) _ T (fun _ => True) (fun f => ?_) ⟨0, trivial⟩ _ _ _ _ (fun j => s (ix2 r j))
    (fun j e => (tileAt (F := Ideal) x2 o h : FVec Ideal S512x256 .bf16) (ix2 j e)) (fun j => by rw [if_pos trivial]; exact hs j) (fun j e => ?_) (fun l => updM_at s m r l)
    (fun e => updA_at s m (tileAt (F := Ideal) x2 o h) a r e) hi
  · rw [Nat.mul_succ, Finset.sum_range_add, ← Fin.sum_univ_eq_sum_range (fun x => f (512 * T + x))]
    simp only [if_true]
  · rw [tileAt_at x2 o h T ho j e (by omega), hv]

include hv in
theorem fold2 (i : ℕ) (hi : i < 32) (o : Fin 2 → ℕ) (h) (ho : o = ![512 * (i / 2), 0]) (s : FVec Ideal S2048x512 .f32) (m : FVec Ideal S2048x128 .f32)
    (a : FVec Ideal S2048x256 .f32) (hs : Sc r σ (i / 2) s) (hin : In r σ v (Finset.range (512 * (i / 2))) m a) :
    In r σ v ((Finset.range 8192).filter fun κ => κ / 64 ≤ (256 * i + r.val % 256) / 64)
      (k0_pay73 (k0_pay52 (F := Ideal) (BitVec.ofNat 32 i) (BitVec.ofNat 32 (i / 2)) s m))
      (k0_pay72 (k0_pay53 (F := Ideal) (BitVec.ofNat 32 i) (BitVec.ofNat 32 (i / 2)) s m (tileAt (F := Ideal) x2 o h) a)) := by
  rw [maskM, maskA]
  refine step σ v (Finset.range (512 * (i / 2))) _ (i / 2) (fun j => (512 * (i / 2) + j.val) / 64 ≤ (256 * i + r.val % 256) / 64) (fun f => ?_)
    ⟨0, by show (512 * (i / 2) + 0) / 64 ≤ _; omega⟩ _ _ _ _
    (fun j => (k0_pay51 (F := Ideal) (BitVec.ofNat 32 i) (BitVec.ofNat 32 (i / 2)) s : FVec Ideal S2048x512 .f32) (ix2 r j))
    (fun j e => (tileAt (F := Ideal) x2 o h : FVec Ideal S512x256 .bf16) (ix2 j e)) (fun j => ?_) (fun j e => ?_) (fun l => updM_at _ m r l)
    (fun e => updA_at _ m (tileAt (F := Ideal) x2 o h) a r e) hin
  · have e1 : (Finset.range 8192).filter (fun κ => κ / 64 ≤ (256 * i + r.val % 256) / 64)
        = (Finset.range (512 * (i / 2) + 512)).filter (fun κ => κ / 64 ≤ (256 * i + r.val % 256) / 64) := by
      ext κ; simp only [Finset.mem_filter, Finset.mem_range]; omega
    rw [e1, Finset.sum_filter, Finset.sum_range_add,
      ← Fin.sum_univ_eq_sum_range (fun x => if (512 * (i / 2) + x) / 64 ≤ (256 * i + r.val % 256) / 64 then f (512 * (i / 2) + x) else 0)]
    refine congrArg (· + _) (Finset.sum_congr rfl fun κ hκ => if_pos ?_)
    have := Finset.mem_range.mp hκ
    omega
  · rw [bias_at i (i / 2) hi (by omega), hs j]
  · rw [tileAt_at x2 o h (i / 2) ho j e (by omega), hv]

include hσ hv in
theorem good_trip (i : grid0.Coords) (k : Fin (k0_t1_loop i).trips) (s : St Ideal) (h : Good r σ v (4 * k.val) s) :
    Good r σ v (4 * (k.val + 1)) (tripSt (F := Ideal) i x0 x1 x2 k s) := by
  have hk : k.val < (i 1).val / 8 := lt_of_lt_of_eq k.isLt (trips_eq i)
  have hi : (i 1).val < 32 := (i 1).isLt
  have s1 := scT x0 x1 r σ hσ _ (k0_off1_inb i k 0) _ (by omega) (off1a i k)
  have s2 := scT x0 x1 r σ hσ _ (k0_off1_inb i k 1) _ (by omega) (off1b i k)
  have s3 := scT x0 x1 r σ hσ _ (k0_off3_inb i k 0) _ (by omega) (off3a i k)
  have s4 := scT x0 x1 r σ hσ _ (k0_off3_inb i k 1) _ (by omega) (off3b i k)
  have f1 := fold1 x2 r σ v hv _ (k0_off2_inb i k) _ (by omega) (off2a i k) _ _ _ h.1 h.2
  have f2 := fold1 x2 r σ v hv _ (k0_off1_inb i k 0) _ (by omega) (off1a i k) _ _ _ s1 f1
  have f3 := fold1 x2 r σ v hv _ (k0_off1_inb i k 1) _ (by omega) (off1b i k) _ _ _ s2 f2
  have f4 := fold1 x2 r σ v hv _ (k0_off3_inb i k 0) _ (by omega) (off3a i k) _ _ _ s3 f3
  exact ⟨s4, f4⟩

include hσ hv in
theorem good_loop (i : grid0.Coords) (s : St Ideal) (h : Good r σ v 0 s) :
    ∀ n, n ≤ (k0_t1_loop i).trips → Good r σ v (4 * n) (loopSt (F := Ideal) i x0 x1 x2 s n) := by
  intro n
  induction n with
  | zero => exact fun _ => h
  | succ n ih =>
    intro hn
    have := good_trip x0 x1 x2 r σ v hσ hv i ⟨n, hn⟩ _ (ih (by omega))
    rwa [← loopSt_succ i x0 x1 x2 s ⟨n, hn⟩] at this

include hσ hv in
theorem good_pair (i : grid0.Coords) (s : St Ideal) (h : Good r σ v (4 * ((i 1).val / 8)) s) :
    Good r σ v (2 * ((i 1).val / 4)) (pairSt (F := Ideal) i x0 x1 x2 s) := by
  have hi : (i 1).val < 32 := (i 1).isLt
  unfold pairSt
  split
  · rename_i hc
    have hc' := (cond1_iff i).mp hc
    have s1 := scT x0 x1 r σ hσ _ (k0_off7_inb i hc 0) _ (by omega) (off7a i hc)
    have s2 := scT x0 x1 r σ hσ _ (k0_off7_inb i hc 1) _ (by omega) (off7b i hc)
    have f1 := fold1 x2 r σ v hv _ (k0_off8_inb i hc) _ (by omega) (off8a i hc) _ _ _ h.1 h.2
    have f2 := fold1 x2 r σ v hv _ (k0_off7_inb i hc 0) _ (by omega) (off7a i hc) _ _ _ s1 f1
    have e : 2 * ((i 1).val / 4) = 4 * ((i 1).val / 8) + 2 := by omega
    rw [e]
    exact ⟨s2, f2⟩
  · rename_i hc
    have hc' := mt (cond1_iff i).mpr hc
    have e : 2 * ((i 1).val / 4) = 4 * ((i 1).val / 8) := by omega
    rw [e]
    exact h

include hσ hv in
/-- The row's sums when the body is done are those over the keys it may see. -/
theorem good_fin (i : grid0.Coords) (sb : FVec Ideal S2048x512 .f32) :
    In r σ v ((Finset.range 8192).filter fun κ => κ / 64 ≤ (256 * (i 1).val + r.val % 256) / 64)
      (finSt (F := Ideal) i x0 x1 x2 sb).mx (finSt (F := Ideal) i x0 x1 x2 sb).ac := by
  have hi : (i 1).val < 32 := (i 1).isLt
  have h0 : Good r σ v 0 (initSt (F := Ideal) x0 x1 sb) := by
    refine ⟨fun j => ?_, .inl ⟨rfl, fun l => mx0_at r l, fun e => ac0_at r e⟩⟩
    show (k0_pay65 (k0_pay64 (F := Ideal) x0 _) : FVec Ideal S2048x512 .f32) (ix2 r j) = _
    rw [sc0_at, ← hσ ⟨512 * 0 + j.val, by omega⟩]
    exact Finset.sum_congr rfl fun d _ => by rw [tileAt_at x1 _ _ 0 rfl j d (by omega)]
  have h1 := good_loop x0 x1 x2 r σ v hσ hv i _ h0 _ le_rfl
  rw [show 4 * (k0_t1_loop i).trips = 4 * ((i 1).val / 8) by rw [trips_eq]] at h1
  have h2 := good_pair x0 x1 x2 r σ v hσ hv i _ h1
  unfold finSt
  rw [w17_eq]
  generalize pairSt (F := Ideal) i x0 x1 x2 _ = s at h2 ⊢
  by_cases hc : k0_cond2 i = 1#1
  · have hc' := (cond2_iff i).mp hc
    have hn : ¬ k0_cond3 i = 1#1 := fun h => by have := (cond3_iff i).mp h; omega
    unfold lastOSt lastESt
    rw [dif_neg hn, dif_pos hc]
    rw [show 2 * ((i 1).val / 4) = (i 1).val / 2 by omega] at h2
    exact fold2 x2 r σ v hv _ hi _ (k0_off9_inb i hc) (off9a i hc) _ _ _ h2.1 h2.2
  · have hc' := mt (cond2_iff i).mpr hc
    have h3 : k0_cond3 i = 1#1 := (cond3_iff i).mpr (by omega)
    unfold lastOSt lastESt
    rw [dif_pos h3, dif_neg hc]
    have s1 := scT x0 x1 r σ hσ _ (k0_off10_inb i h3) _ (by omega) (off10a i h3)
    rw [show 2 * ((i 1).val / 4) = (i 1).val / 2 - 1 by omega] at h2
    have f1 := fold1 x2 r σ v hv _ (k0_off11_inb i h3) _ (by omega) (off11a i h3) _ _ _ h2.1 h2.2
    rw [show (i 1).val / 2 - 1 + 1 = (i 1).val / 2 by omega] at f1
    exact fold2 x2 r σ v hv _ hi _ (k0_off10_inb i h3) (off10a i h3) _ _ _ s1 f1

end Fold

end Cert.MlaIdeal.Attn
end
-- ==== Proof.MlaOut.lean ====
module

public import proofs.«01_k».proof.Proof.MlaFold

@[expose] public section

set_option maxRecDepth 16384

noncomputable section

open Idealize.ShloMosaic Idealize.ShloMosaic.TcCoe Idealize.SL.Sem

namespace Cert.MlaIdeal.Attn

open Cert.MlaIdeal Cert.MlaIdeal.Gen Cert.MlaIdeal.Row

/-! The output block at an index: a head's sums, divided by its weights' sum, through its value projection. -/

/-- An entry of the output block. -/
def head (x3 : FVec Ideal S8x128x128 .bf16) (a : FVec Ideal S2048x256 .f32) (h : Fin 8) (tok : Fin 256) (d : Fin 128) : EReal :=
  ∑ c : Fin 128, Ideal.div (a (ix2 ⟨256 * h.val + tok.val, by omega⟩ ⟨c.val, by omega⟩)) (a (ix2 ⟨256 * h.val + tok.val, by omega⟩ ⟨128 + c.val, by omega⟩)) * (x3 (ix3 h c d) : EReal)

theorem acc_at (a : FVec Ideal S2048x256 .f32) (h : Fin 8) (o : Fin 2 → ℕ) (hi) (ho : o = ![256 * h.val, 0]) (t : Fin 256) (c : Fin 256) :
    (accAt (F := Ideal) a o hi : FVec Ideal S256x256 .f32) (ix2 t c) = a (ix2 ⟨256 * h.val + t.val, by omega⟩ c) := by
  subst ho
  unfold accAt
  congr 1
  funext j
  match j with
  | ⟨0, _⟩ => apply Fin.ext; simp [Rect.emb, Rect.unit, ix2]
  | ⟨1, _⟩ => apply Fin.ext; simp [Rect.emb, Rect.unit, ix2]

theorem uv_at (x : FVec Ideal S8x128x128 .bf16) (h : Fin 8) (o : Fin 3 → ℕ) (hi) (ho : o = ![h.val, 0, 0]) (c d : Fin 128) :
    (uvAt (F := Ideal) x o hi : FVec Ideal S1x128x128 .bf16) (ix3 0 c d) = x (ix3 h c d) := by
  subst ho
  unfold uvAt
  congr 1
  funext j
  match j with
  | ⟨0, _⟩ => apply Fin.ext; simp [Rect.emb, Rect.unit, ix3]
  | ⟨1, _⟩ => apply Fin.ext; simp [Rect.emb, Rect.unit, ix3]
  | ⟨2, _⟩ => apply Fin.ext; simp [Rect.emb, Rect.unit, ix3]

/-- What one head's piece holds. -/
def one (A : FVec Ideal S256x256 .f32) (U : FVec Ideal S1x128x128 .bf16) (t : Fin 256) (d : Fin 128) : EReal :=
  ∑ c : Fin 128, Ideal.div (A (ix2 t ⟨c.val, by omega⟩)) (A (ix2 t ⟨128 + c.val, by omega⟩)) * (U (ix3 0 c d) : EReal)

variable (A : FVec Ideal S256x256 .f32) (U : FVec Ideal S1x128x128 .bf16) (t : Fin 256) (d : Fin 128)

theorem one0 : (k0_pay76 (F := Ideal) A U : FVec Ideal S256x128 .bf16) (ix2 t d) = one A U t d := by pointwise [k0_pay76, one]
theorem one1 : (k0_pay77 (F := Ideal) A U : FVec Ideal S256x128 .bf16) (ix2 t d) = one A U t d := by pointwise [k0_pay77, one]
theorem one2 : (k0_pay78 (F := Ideal) A U : FVec Ideal S256x128 .bf16) (ix2 t d) = one A U t d := by pointwise [k0_pay78, one]
theorem one3 : (k0_pay79 (F := Ideal) A U : FVec Ideal S256x128 .bf16) (ix2 t d) = one A U t d := by pointwise [k0_pay79, one]
theorem one4 : (k0_pay80 (F := Ideal) A U : FVec Ideal S256x128 .bf16) (ix2 t d) = one A U t d := by pointwise [k0_pay80, one]
theorem one5 : (k0_pay81 (F := Ideal) A U : FVec Ideal S256x128 .bf16) (ix2 t d) = one A U t d := by pointwise [k0_pay81, one]
theorem one6 : (k0_pay82 (F := Ideal) A U : FVec Ideal S256x128 .bf16) (ix2 t d) = one A U t d := by pointwise [k0_pay82, one]
theorem one7 : (k0_pay1 (F := Ideal) (k0_pay83 A) (k0_pay84 A) U : FVec Ideal S256x128 .bf16) (ix2 t d) = one A U t d := by pointwise [k0_pay1, k0_pay83, k0_pay84, one]

theorem one_head (x3 : FVec Ideal S8x128x128 .bf16) (a : FVec Ideal S2048x256 .f32) (h : Fin 8) (o : Fin 2 → ℕ) (hi) (ho : o = ![256 * h.val, 0])
    (p : Fin 3 → ℕ) (hj) (hp : p = ![h.val, 0, 0]) :
    one (accAt (F := Ideal) a o hi) (uvAt (F := Ideal) x3 p hj) t d = head x3 a h t d := by
  unfold one head
  refine Finset.sum_congr rfl fun c _ => ?_
  rw [acc_at a h o hi ho, acc_at a h o hi ho, uv_at x3 h p hj hp]

/-- Where an index of a head's piece lies in the block. -/
theorem piece_emb (h : Fin 8) (o : Fin 2 → ℕ) (hi) (ho : o = ![0, 128 * h.val]) (x : S256x128.Idx) :
    (Rect.unit (s := S256x1024) o S256x128.size hi).emb x = (ix2 ⟨(x 0).val, (x 0).isLt⟩ ⟨128 * h.val + (x 1).val, by have := (x 1).isLt; have : (x 1).val < 128 := this; omega⟩ : S256x1024.Idx) := by
  subst ho
  funext j
  match j with
  | ⟨0, _⟩ => apply Fin.ext; simp [Rect.emb, Rect.unit, ix2]
  | ⟨1, _⟩ => apply Fin.ext; simp [Rect.emb, Rect.unit, ix2]

/-- The block as a function of its index. -/
def blkFn (x3 : FVec Ideal S8x128x128 .bf16) (a : FVec Ideal S2048x256 .f32) (y : S256x1024.Idx) : EReal :=
  head x3 a ⟨(y 1).val / 128, by have : (y 1).val < 1024 := (y 1).isLt; omega⟩ ⟨(y 0).val, (y 0).isLt⟩ ⟨(y 1).val % 128, by omega⟩

theorem blkFn_emb (x3 : FVec Ideal S8x128x128 .bf16) (a : FVec Ideal S2048x256 .f32) (h : Fin 8) (o : Fin 2 → ℕ) (hi) (ho : o = ![0, 128 * h.val]) (t : Fin 256) (d : Fin 128) :
    blkFn x3 a ((Rect.unit (s := S256x1024) o S256x128.size hi).emb (ix2 t d : S256x128.Idx)) = head x3 a h t d := by
  rw [piece_emb h o hi ho]
  unfold blkFn
  have e1 : (128 * h.val + d.val) / 128 = h.val := by omega
  have e2 : (128 * h.val + d.val) % 128 = d.val := by omega
  congr 1
  · exact Fin.ext e1
  · exact Fin.ext e2

theorem two_idx (x : S256x128.Idx) : ∃ t d, x = ix2 t d := ⟨x 0, x 1, funext fun j => match j with | ⟨0, _⟩ => rfl | ⟨1, _⟩ => rfl⟩

variable (x3 : FVec Ideal S8x128x128 .bf16) (a : FVec Ideal S2048x256 .f32) (x : S256x128.Idx)

theorem piece7 : (k0_pay1 (F := Ideal) (k0_pay83 (accAt a ![1792, 0] inb_S2048x256_S256x256_1792_0)) (k0_pay84 (accAt a ![1792, 0] inb_S2048x256_S256x256_1792_0)) (uvAt x3 ![7, 0, 0] inb_S8x128x128_S1x128x128_7_0_0) : FVec Ideal S256x128 .bf16) x
    = blkFn x3 a ((Rect.unit (s := S256x1024) ![0, 896] S256x128.size inb_S256x1024_S256x128_0_896).emb x) := by
  obtain ⟨t, d, rfl⟩ := two_idx x
  exact (one7 _ _ t d).trans ((one_head t d x3 a 7 ![1792, 0] inb_S2048x256_S256x256_1792_0 rfl ![7, 0, 0] inb_S8x128x128_S1x128x128_7_0_0 rfl).trans (blkFn_emb x3 a 7 ![0, 896] inb_S256x1024_S256x128_0_896 rfl t d).symm)

theorem piece6 : (k0_pay82 (F := Ideal) (accAt a ![1536, 0] inb_S2048x256_S256x256_1536_0) (uvAt x3 ![6, 0, 0] inb_S8x128x128_S1x128x128_6_0_0) : FVec Ideal S256x128 .bf16) x
    = blkFn x3 a ((Rect.unit (s := S256x1024) ![0, 768] S256x128.size inb_S256x1024_S256x128_0_768).emb x) := by
  obtain ⟨t, d, rfl⟩ := two_idx x
  exact (one6 _ _ t d).trans ((one_head t d x3 a 6 ![1536, 0] inb_S2048x256_S256x256_1536_0 rfl ![6, 0, 0] inb_S8x128x128_S1x128x128_6_0_0 rfl).trans (blkFn_emb x3 a 6 ![0, 768] inb_S256x1024_S256x128_0_768 rfl t d).symm)

theorem piece5 : (k0_pay81 (F := Ideal) (accAt a ![1280, 0] inb_S2048x256_S256x256_1280_0) (uvAt x3 ![5, 0, 0] inb_S8x128x128_S1x128x128_5_0_0) : FVec Ideal S256x128 .bf16) x
    = blkFn x3 a ((Rect.unit (s := S256x1024) ![0, 640] S256x128.size inb_S256x1024_S256x128_0_640).emb x) := by
  obtain ⟨t, d, rfl⟩ := two_idx x
  exact (one5 _ _ t d).trans ((one_head t d x3 a 5 ![1280, 0] inb_S2048x256_S256x256_1280_0 rfl ![5, 0, 0] inb_S8x128x128_S1x128x128_5_0_0 rfl).trans (blkFn_emb x3 a 5 ![0, 640] inb_S256x1024_S256x128_0_640 rfl t d).symm)

theorem piece4 : (k0_pay80 (F := Ideal) (accAt a ![1024, 0] inb_S2048x256_S256x256_1024_0) (uvAt x3 ![4, 0, 0] inb_S8x128x128_S1x128x128_4_0_0) : FVec Ideal S256x128 .bf16) x
    = blkFn x3 a ((Rect.unit (s := S256x1024) ![0, 512] S256x128.size inb_S256x1024_S256x128_0_512).emb x) := by
  obtain ⟨t, d, rfl⟩ := two_idx x
  exact (one4 _ _ t d).trans ((one_head t d x3 a 4 ![1024, 0] inb_S2048x256_S256x256_1024_0 rfl ![4, 0, 0] inb_S8x128x128_S1x128x128_4_0_0 rfl).trans (blkFn_emb x3 a 4 ![0, 512] inb_S256x1024_S256x128_0_512 rfl t d).symm)

theorem piece3 : (k0_pay79 (F := Ideal) (accAt a ![768, 0] inb_S2048x256_S256x256_768_0) (uvAt x3 ![3, 0, 0] inb_S8x128x128_S1x128x128_3_0_0) : FVec Ideal S256x128 .bf16) x
    = blkFn x3 a ((Rect.unit (s := S256x1024) ![0, 384] S256x128.size inb_S256x1024_S256x128_0_384).emb x) := by
  obtain ⟨t, d, rfl⟩ := two_idx x
  exact (one3 _ _ t d).trans ((one_head t d x3 a 3 ![768, 0] inb_S2048x256_S256x256_768_0 rfl ![3, 0, 0] inb_S8x128x128_S1x128x128_3_0_0 rfl).trans (blkFn_emb x3 a 3 ![0, 384] inb_S256x1024_S256x128_0_384 rfl t d).symm)

theorem piece2 : (k0_pay78 (F := Ideal) (accAt a ![512, 0] inb_S2048x256_S256x256_512_0) (uvAt x3 ![2, 0, 0] inb_S8x128x128_S1x128x128_2_0_0) : FVec Ideal S256x128 .bf16) x
    = blkFn x3 a ((Rect.unit (s := S256x1024) ![0, 256] S256x128.size inb_S256x1024_S256x128_0_256).emb x) := by
  obtain ⟨t, d, rfl⟩ := two_idx x
  exact (one2 _ _ t d).trans ((one_head t d x3 a 2 ![512, 0] inb_S2048x256_S256x256_512_0 rfl ![2, 0, 0] inb_S8x128x128_S1x128x128_2_0_0 rfl).trans (blkFn_emb x3 a 2 ![0, 256] inb_S256x1024_S256x128_0_256 rfl t d).symm)

theorem piece1 : (k0_pay77 (F := Ideal) (accAt a ![256, 0] inb_S2048x256_S256x256_256_0) (uvAt x3 ![1, 0, 0] inb_S8x128x128_S1x128x128_1_0_0) : FVec Ideal S256x128 .bf16) x
    = blkFn x3 a ((Rect.unit (s := S256x1024) ![0, 128] S256x128.size inb_S256x1024_S256x128_0_128).emb x) := by
  obtain ⟨t, d, rfl⟩ := two_idx x
  exact (one1 _ _ t d).trans ((one_head t d x3 a 1 ![256, 0] inb_S2048x256_S256x256_256_0 rfl ![1, 0, 0] inb_S8x128x128_S1x128x128_1_0_0 rfl).trans (blkFn_emb x3 a 1 ![0, 128] inb_S256x1024_S256x128_0_128 rfl t d).symm)

theorem piece0 : (k0_pay76 (F := Ideal) (accAt a ![0, 0] inb_S2048x256_S256x256_0_0) (uvAt x3 ![0, 0, 0] inb_S8x128x128_S1x128x128_0_0_0) : FVec Ideal S256x128 .bf16) x
    = blkFn x3 a ((Rect.unit (s := S256x1024) ![0, 0] S256x128.size inb_S256x1024_S256x128_0_0).emb x) := by
  obtain ⟨t, d, rfl⟩ := two_idx x
  exact (one0 _ _ t d).trans ((one_head t d x3 a 0 ![0, 0] inb_S2048x256_S256x256_0_0 rfl ![0, 0, 0] inb_S8x128x128_S1x128x128_0_0_0 rfl).trans (blkFn_emb x3 a 0 ![0, 0] inb_S256x1024_S256x128_0_0 rfl t d).symm)

theorem out_fn (y : S256x1024.Idx) : (outBlk (F := Ideal) x3 a : FVec Ideal S256x1024 .bf16) y = blkFn x3 a y := by
  refine View.canon_apply_of_pieces (Val := Elt Ideal) (S := S256x1024) (e := .bf16) (blkFn x3 a) (outL (F := Ideal) x3 a) ?_ y (outL_covers (F := Ideal) y x3 a)
  intro p hp
  have hp' : p ∈ [_, _, _, _, _, _, _, _] := hp
  rcases List.mem_cons.mp hp' with rfl | hp'
  · exact fun x => piece7 x3 a x
  rcases List.mem_cons.mp hp' with rfl | hp'
  · exact fun x => piece6 x3 a x
  rcases List.mem_cons.mp hp' with rfl | hp'
  · exact fun x => piece5 x3 a x
  rcases List.mem_cons.mp hp' with rfl | hp'
  · exact fun x => piece4 x3 a x
  rcases List.mem_cons.mp hp' with rfl | hp'
  · exact fun x => piece3 x3 a x
  rcases List.mem_cons.mp hp' with rfl | hp'
  · exact fun x => piece2 x3 a x
  rcases List.mem_cons.mp hp' with rfl | hp'
  · exact fun x => piece1 x3 a x
  rcases List.mem_cons.mp hp' with rfl | hp'
  · exact fun x => piece0 x3 a x
  exact absurd hp' List.not_mem_nil

end Cert.MlaIdeal.Attn
end
-- ==== Proof.MlaLaunch.lean ====
module

public import proofs.«01_k».proof.Proof.MlaRun
public import proofs.«01_k».proof.Proof.Gen.MlaIdeal.Frame
public import Idealize.ShloMosaic.Lib.Claim
public import Idealize.ShloMosaic.Lib.Pipeline.Value

@[expose] public section

set_option maxRecDepth 16384

noncomputable section

namespace Cert.MlaIdeal.Attn

open Cert.MlaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]
variable (m : (ℓ : Loc nD τ sig) → Buf (Elt F) ℓ) (ρ : Dev nD → PrngReg)

/-- The block of queries, keys, values and value projections a point works on. -/
abbrev qBlk (c : Dev nD) (t : Fin cfg0.N) : Vec F S2048x256 .bf16 := iblk m c 0 t
abbrev kBlk (c : Dev nD) (t : Fin cfg0.N) : Vec F S8192x256 .bf16 := iblk m c 1 t
abbrev vBlk (c : Dev nD) (t : Fin cfg0.N) : Vec F S8192x256 .bf16 := iblk m c 2 t
abbrev wBlk (c : Dev nD) (t : Fin cfg0.N) : Vec F S8x128x128 .bf16 := iblk m c 3 t

/-- What the second score buffer is taken to hold at the start: nothing the result depends on. -/
def sb0 : Vec F S2048x512 .f32 := k0_pay65 (k0_pay64 (fun _ => Scalar.ofBits .bf16 0x0000#16) (fun _ => Scalar.ofBits .bf16 0x0000#16))

/-- The output block a point leaves. -/
def blkAt (c : Dev nD) (t : Fin cfg0.N) : Vec F S256x1024 .bf16 :=
  outBlk (wBlk m c t) (finSt (grid0.coords t) (qBlk m c t) (kBlk m c t) (vBlk m c t) sb0).ac

/-- The pipeline's proof data: inputs left at their blocks, the output at `blkAt`. -/
def pdat (_ : Fin 1) (c : Dev nD) : Dat τ (Elt F) Unit ℕ (UR sig nD τ) ℕ cfg0 c where
  A w := V m c (Pipeline.arrRef spec0 w)
  after w t := match w with
    | ⟨0, _⟩ => qBlk m c t
    | ⟨1, _⟩ => kBlk m c t
    | ⟨2, _⟩ => vBlk m c t
    | ⟨3, _⟩ => wBlk m c t
    | ⟨4, _⟩ => blkAt m c t
  Φ _ := Pipeline.ΦA spec0 c
  q _ := fullShare
  owed _ := 0

theorem arr_pdat (c : Dev nD) (w : Fin cfg0.W) : (pdat m 0 c).A w = V m c (Pipeline.arrRef spec0 w) := by
  dsimp only [pdat]

theorem left0 (c : Dev nD) (t : Fin cfg0.N) : (pdat m 0 c).after 0 t = iblk m c 0 t := by dsimp only [pdat]
theorem left1 (c : Dev nD) (t : Fin cfg0.N) : (pdat m 0 c).after 1 t = iblk m c 1 t := by dsimp only [pdat]
theorem left2 (c : Dev nD) (t : Fin cfg0.N) : (pdat m 0 c).after 2 t = iblk m c 2 t := by dsimp only [pdat]
theorem left3 (c : Dev nD) (t : Fin cfg0.N) : (pdat m 0 c).after 3 t = iblk m c 3 t := by dsimp only [pdat]
theorem left4 (c : Dev nD) (t : Fin cfg0.N) : (pdat m 0 c).after 4 t = blkAt m c t := by dsimp only [pdat]

theorem found0 (c : Dev nD) (t : Fin cfg0.N) (d) : (pdat m 0 c).before 0 t d = iblk m c 0 t :=
  before0_0_of m (pdat m 0 c) (arr_pdat m c 0) (left0 m c) t d
theorem found1 (c : Dev nD) (t : Fin cfg0.N) (d) : (pdat m 0 c).before 1 t d = iblk m c 1 t :=
  before0_1_of m (pdat m 0 c) (arr_pdat m c 1) (left1 m c) t d
theorem found2 (c : Dev nD) (t : Fin cfg0.N) (d) : (pdat m 0 c).before 2 t d = iblk m c 2 t :=
  before0_2_of m (pdat m 0 c) (arr_pdat m c 2) (left2 m c) t d
theorem found3 (c : Dev nD) (t : Fin cfg0.N) (d) : (pdat m 0 c).before 3 t d = iblk m c 3 t :=
  before0_3_of m (pdat m 0 c) (arr_pdat m c 3) (left3 m c) t d

/-- The staging buffers at a point, whole. -/
abbrev st0 (t : Fin cfg0.N) : Memref sig .tc .vmem S2048x256 .bf16 := win0_0.stage (cfg0.slots t 0)
abbrev wst0 (t : Fin cfg0.N) : (st0 t).IsWhole := hstage0_0 ((cfg0.slots t 0).cast nbuf0_0)
abbrev st1 (t : Fin cfg0.N) : Memref sig .tc .vmem S8192x256 .bf16 := win0_1.stage (cfg0.slots t 1)
abbrev wst1 (t : Fin cfg0.N) : (st1 t).IsWhole := hstage0_1 ((cfg0.slots t 1).cast nbuf0_1)
abbrev st2 (t : Fin cfg0.N) : Memref sig .tc .vmem S8192x256 .bf16 := win0_2.stage (cfg0.slots t 2)
abbrev wst2 (t : Fin cfg0.N) : (st2 t).IsWhole := hstage0_2 ((cfg0.slots t 2).cast nbuf0_2)
abbrev st3 (t : Fin cfg0.N) : Memref sig .tc .vmem S8x128x128 .bf16 := win0_3.stage (cfg0.slots t 3)
abbrev wst3 (t : Fin cfg0.N) : (st3 t).IsWhole := hstage0_3 ((cfg0.slots t 3).cast nbuf0_3)
abbrev st4 (t : Fin cfg0.N) : Memref sig .tc .vmem S256x1024 .bf16 := win0_4.stage (cfg0.slots t 4)
abbrev wst4 (t : Fin cfg0.N) : (st4 t).IsWhole := hstage0_4 ((cfg0.slots t 4).cast nbuf0_4)
abbrev scA : Memref sig .tc .vmem S2048x512 .f32 := Memref.whole cc0_scratch0
abbrev scB : Memref sig .tc .vmem S2048x512 .f32 := Memref.whole cc0_scratch1
abbrev scMx : Memref sig .tc .vmem S2048x128 .f32 := Memref.whole cc0_scratch2
abbrev scAc : Memref sig .tc .vmem S2048x256 .f32 := Memref.whole cc0_scratch3

/-- The scratch in the pipeline's invariant. -/
theorem inv_eq (c : Dev nD) :
    (Pipeline.ΦA spec0 c : sProp (𝕄G F))
      = iprop(iprop((∃ d, owns (c : Thread nD τ) scA fullShare d) ∗ (∃ d, owns (c : Thread nD τ) scB fullShare d) ∗ (∃ d, owns (c : Thread nD τ) scMx fullShare d) ∗ (∃ d, owns (c : Thread nD τ) scAc fullShare d)) ∗ (∃ r, prngReg c r)) := by
  unfold Pipeline.ΦA; rw [scopedRest0_eq]; simp only [scA, scB, scMx, scAc, owns_whole]; try rfl

/-- What the body is entered with, and what it leaves. -/
def enter (c : Dev nD) (t : Fin cfg0.N) : sProp (𝕄G F) :=
  iprop((pdat m 0 c).Φ t.castSucc ∗ (pdat m 0 c).owesAt () t.castSucc
    ∗ (∃ d, owns (c : Thread nD τ) (st0 t) fullShare ((pdat m 0 c).before 0 t d))
    ∗ (∃ d, owns (c : Thread nD τ) (st1 t) fullShare ((pdat m 0 c).before 1 t d))
    ∗ (∃ d, owns (c : Thread nD τ) (st2 t) fullShare ((pdat m 0 c).before 2 t d))
    ∗ (∃ d, owns (c : Thread nD τ) (st3 t) fullShare ((pdat m 0 c).before 3 t d))
    ∗ (∃ d, owns (c : Thread nD τ) (st4 t) fullShare ((pdat m 0 c).before 4 t d)))
def leave (c : Dev nD) (t : Fin cfg0.N) : sProp (𝕄G F) :=
  iprop((pdat m 0 c).Φ t.succ ∗ (pdat m 0 c).owesAt () t.succ
    ∗ owns (c : Thread nD τ) (st0 t) fullShare ((pdat m 0 c).after 0 t)
    ∗ owns (c : Thread nD τ) (st1 t) fullShare ((pdat m 0 c).after 1 t)
    ∗ owns (c : Thread nD τ) (st2 t) fullShare ((pdat m 0 c).after 2 t)
    ∗ owns (c : Thread nD τ) (st3 t) fullShare ((pdat m 0 c).after 3 t)
    ∗ owns (c : Thread nD τ) (st4 t) fullShare ((pdat m 0 c).after 4 t))

theorem body_at (c : Dev nD) (t : Fin cfg0.N) :
    enter m c t ⊢ wp Idealize.ShloMosaic.frame (wpE (defs₀ (F := F)) Variants.none (c : Thread nD τ) none) Set.univ (bodyAt0 t) (fun _ => leave m c t) := by
  unfold enter leave bodyAt0
  simp only [found0, found1, found2, found3]
  rw [show (pdat m 0 c).Φ t.succ = (pdat m 0 c).Φ t.castSucc from rfl,
    show (pdat m 0 c).owesAt () t.succ = (pdat m 0 c).owesAt () t.castSucc from rfl,
    left0, left1, left2, left3, left4]
  rw [show (pdat m 0 c).Φ t.castSucc = Pipeline.ΦA spec0 c from rfl, inv_eq]
  iintro ⟨⟨⟨HS0, ⟨%d8, HS1⟩, HS2, HS3⟩, Hg⟩, Ho, ⟨%d0, H0⟩, ⟨%d1, H1⟩, ⟨%d2, H2⟩, ⟨%d3, H3⟩, ⟨%d4, H4⟩⟩
  iapply (wp_wand_r Idealize.ShloMosaic.frame (wpE (defs₀ (F := F)) Variants.none (c : Thread nD τ) none) Set.univ)
  isplitl [H0 H1 H2 H3 H4 HS0 HS1 HS2 HS3]
  · iapply (body1 c Set.univ (grid0.coords t) _ _ _ _ _ _ _ _ _ _ _ _ _ _ _ _ _ _ (qBlk m c t) (kBlk m c t) (vBlk m c t) (wBlk m c t) d8)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    isplitl [HS2]; · iexact HS2
    iexact HS3
  rw [finSt_sb (grid0.coords t) (qBlk m c t) (kBlk m c t) (vBlk m c t) d8 sb0]
  iintro %_ ⟨H0, H1, H2, H3, H4, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  isplitl [H3]; · iexact H3
  iexact H4

theorem row_body (t : Fin cfg0.N) : defs₀ (F := F) .tc cfg0.body (cfg0.bodyArgs t (cfg0.slots t)) = bodyAt0 t := by
  unfold defs₀; rw [Defs.onTc_tc]

theorem obliged (c : Dev nD) : BodyObligation (pdat (F := F) m 0 c) (defs₀ (F := F)) Variants.none () Set.univ := fun t => by
  rw [bigSep_W0, bigSep_W0, row_body]
  exact triple_restated (body_at m c t) rfl .rfl fun _ => .rfl

set_option backward.isDefEq.respectTransparency.types false in
/-- The launch: every execution ends, the arrays at what the proof data says and every counter at zero. -/
theorem launched : θ_run defs (onTc (τ := τ) (main (F := F))) (s₀ m ρ) (fun r => (Pipeline.FramePost cfgs (pdat m) 0 (V m)) r ∧ r.2.sem = fun _ => 0) :=
  Pipeline.θ_run_frame (Q' := _) cfgs (pdat m) (0 : Fin 1) launch0 defs₀ Variants.none m ρ main
    (hbody := fun c => (obliged m c).loose) (hshare := fun c => (pdat m 0 c).share_full fun _ => rfl)
    (howed := fun _ _ => rfl) (V := V m) (hmain := hmain m Variants.none) (hA := arr_pdat m) (hΦ := fun _ _ => rfl)

/-- The argument arrays end as they were, and every counter is zero. -/
theorem framed : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (pdat m) (arr_pdat m) ((θ_run defs _ _).mono (fun _ h => h.1) (launched m ρ)))
    ((θ_run defs _ _).mono (fun _ h => h.2) (launched m ρ))

/-- The result array's name for what the run leaves in it. -/
theorem valued : θ_run defs (onTc (τ := τ) (main (F := F))) ⟨m, fun _ => 0, ρ⟩ (fun r => ∀ c : Dev nD,
      r.2.mem ((c.tc : Thread nD τ).loc main_v7) = (pdat m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h.1 c).1 4,
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩)
    (launched m ρ)

theorem idx_apart : ∀ t t' : Fin cfg0.N, win0_4.index t = win0_4.index t' → t = t' :=
  (by decide +kernel : ∀ t t' : Fin grid0.N, win0_4.index t = win0_4.index t' → t = t')

/-- The block of the result a point wrote is read back from the final array. -/
theorem result_block (c : Dev nD) (t : Fin cfg0.N) (hf : (cfg0.win 4).flush t = true) :
    ((cfg0.win 4).blk t).view.read (Elt F) ((pdat m 0 c).arrAt 4 cfg0.N) = (cfg0.win 4).cut (grid0.coords t) (blkAt m c t) := by
  rw [(pdat m 0 c).read_blk_arrAt_eq_flushed 4 (fun t t' _ _ hne => (cfg0.win 4).disjoint_blk fun h => hne (idx_apart t t' h)) cfg0.N t t.isLt hf]
  show (cfg0.win 4).cut (grid0.coords t) ((pdat m 0 c).after 4 t) = _
  rw [left4]

end Cert.MlaIdeal.Attn
end
-- ==== Proof.MlaBlocks.lean ====
module

public import proofs.«01_k».proof.Proof.MlaLaunch
public import Idealize.ShloMosaic.Lib.Pipeline.ValueKit
public import Idealize.ShloMosaic.Lib.Pipeline.ReadBack
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.MlaIdeal.Attn

open Cert.MlaIdeal Cert.MlaIdeal.Gen

variable (m : (ℓ : Loc nD τ sig) → Buf (Elt Ideal) ℓ)

/-! The blocks the body is given, as entries of the arguments, and the result array as entries of the blocks it leaves. -/

theorem idx : ∀ t : Fin cfg0.N, win0_0.index t = ![t.val, 0] ∧ win0_1.index t = ![t.val / 32, 0] ∧ win0_2.index t = ![t.val / 32, 0]
    ∧ win0_3.index t = ![0, 0, 0] ∧ win0_4.index t = ![t.val, 0] := by decide +kernel

theorem tlt (t : Fin cfg0.N) : t.val < 64 := lt_of_lt_of_eq t.isLt N_0

/-- A block of queries: eight heads of 256 tokens. -/
theorem readq (c : Dev nD) (t : Fin cfg0.N) (r : Fin 2048) (d : Fin 256) (hb hs hh) :
    (qBlk m c t : FVec Ideal S2048x256 .bf16) (ix2 r d) = (m ((c.tc : Thread nD τ).loc main_arg0) : FVec Ideal S2x8192x8x256 .bf16)
      (ix4 ⟨t.val / 32, hb⟩ ⟨256 * (t.val % 32) + r.val % 256, hs⟩ ⟨r.val / 256, hh⟩ d) := by
  blk_ext! [qBlk, iblk, V, idx t]

theorem readk (c : Dev nD) (t : Fin cfg0.N) (j : Fin 8192) (d : Fin 256) (hb) :
    (kBlk m c t : FVec Ideal S8192x256 .bf16) (ix2 j d) = (m ((c.tc : Thread nD τ).loc main_arg1) : FVec Ideal S2x8192x256 .bf16) (ix3 ⟨t.val / 32, hb⟩ j d) := by
  blk_ext! [kBlk, iblk, V, idx t]

theorem readv (c : Dev nD) (t : Fin cfg0.N) (j : Fin 8192) (d : Fin 256) (hb) :
    (vBlk m c t : FVec Ideal S8192x256 .bf16) (ix2 j d) = (m ((c.tc : Thread nD τ).loc main_arg2) : FVec Ideal S2x8192x256 .bf16) (ix3 ⟨t.val / 32, hb⟩ j d) := by
  blk_ext! [vBlk, iblk, V, idx t]

theorem readw (c : Dev nD) (t : Fin cfg0.N) (h : Fin 8) (e d : Fin 128) :
    (wBlk m c t : FVec Ideal S8x128x128 .bf16) (ix3 h e d) = (m ((c.tc : Thread nD τ).loc main_arg3) : FVec Ideal S128x8x128 .f32) (ix3 e h d) := by
  blk_ext! [wBlk, iblk, V, idx t]

end Cert.MlaIdeal.Attn
end
-- ==== Proof.MlaRef.lean ====
module

public import proofs.«01_k».proof.Proof.MlaMath
public import proofs.«01_k».proof.Proof.Gen.MlaReferenceIdeal.Run
public import Idealize.ShloMosaic.Lib.Pipeline.ValueKit
public import Idealize.ShloMosaic.Lib.Pipeline.ReadBack
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.MlaReferenceIdeal.Attn

open Cert.MlaReferenceIdeal Cert.MlaReferenceIdeal.Gen

/-! The reference's attention, stage by stage, and each stage at an index. -/

/-- The chunk of every position. -/
def hchunk : IVec S8192 32 :=
  select (andi (cmpi .ne (signi (iotaInDim S8192 32 0)) (broadcastInDim S8192 ![] bcast_S_S8192 (signi (id (constantI S_ 32 64#32))))) (cmpi .ne (Host.remsi (iotaInDim S8192 32 0) (broadcastInDim S8192 ![] bcast_S_S8192 (id (constantI S_ 32 64#32)))) (broadcastInDim S8192 ![] bcast_S_S8192 (constantI S_ 32 0#32)))) (subi (Host.divsi (iotaInDim S8192 32 0) (broadcastInDim S8192 ![] bcast_S_S8192 (id (constantI S_ 32 64#32)))) (broadcastInDim S8192 ![] bcast_S_S8192 (constantI S_ 32 1#32))) (Host.divsi (iotaInDim S8192 32 0) (broadcastInDim S8192 ![] bcast_S_S8192 (id (constantI S_ 32 64#32))))

/-- Which key each query may see. -/
def hmask : IVec S8192x8192 1 :=
  cmpi .sle (broadcastInDim S8192x8192 ![0, 1] bcast_S1x8192_S8192x8192_0_1 (broadcastInDim S1x8192 ![1] bcast_S8192_S1x8192_1 hchunk)) (broadcastInDim S8192x8192 ![0, 1] bcast_S8192x1_S8192x8192_0_1 (broadcastInDim S8192x1 ![0] bcast_S8192_S8192x1_0 hchunk))

/-- The scores. -/
def hsc (a0 : FVec Ideal S2x8192x8x256 .bf16) (a1 : FVec Ideal S2x8192x256 .bf16) : FVec Ideal S2x8x8192x8192 .f32 :=
  mulf (Host.dotGeneral dot_S2x8x8192x256_S2x8192x256_S2x8x8192x8192_3_2_12_1_0_0 none (transpose S2x8x8192x256 [0, 2, 1, 3] (extf .f32 a0 bitsLt_bf16_f32) transposes_S2x8192x8x256_S2x8x8192x256_0_2_1_3) (extf .f32 a1 bitsLt_bf16_f32)) (broadcastInDim S2x8x8192x8192 ![] bcast_S_S2x8x8192x8192 (Host.log (constant S_ .f32 0x40000000#32)))

/-- The scores with the invisible keys' taken away. -/
def hvis (s : FVec Ideal S2x8x8192x8192 .f32) : FVec Ideal S2x8x8192x8192 .f32 :=
  select (broadcastInDim S2x8x8192x8192 ![2, 3] bcast_S8192x8192_S2x8x8192x8192_2_3 hmask) s (broadcastInDim S2x8x8192x8192 ![] bcast_S_S2x8x8192x8192 (id (constant S_ .f32 0xFF800000#32)))

/-- Every row's largest score. -/
def hmx (w : FVec Ideal S2x8x8192x8192 .f32) : FVec Ideal S2x8x8192 .f32 :=
  maximumf (broadcastInDim S2x8x8192 ![] bcast_S_S2x8x8192 (constant S_ .f32 0xFF800000#32)) (Host.reduce FloatOps.maximumf w (constant S_ .f32 0xFF800000#32) reducesTo_S2x8x8192x8192_S2x8x8192_d3 h_S_)

def hex (w : FVec Ideal S2x8x8192x8192 .f32) (M : FVec Ideal S2x8x8192 .f32) : FVec Ideal S2x8x8192x8192 .f32 :=
  Host.exp (subf w (broadcastInDim S2x8x8192x8192 ![0, 1, 2, 3] bcast_S2x8x8192x1_S2x8x8192x8192_0_1_2_3 (broadcastInDim S2x8x8192x1 ![0, 1, 2] bcast_S2x8x8192_S2x8x8192x1_0_1_2 M)))

/-- The softmax's weights. -/
def hsm (e : FVec Ideal S2x8x8192x8192 .f32) : FVec Ideal S2x8x8192x8192 .f32 :=
  Host.divf e (broadcastInDim S2x8x8192x8192 ![0, 1, 2, 3] bcast_S2x8x8192x1_S2x8x8192x8192_0_1_2_3 (broadcastInDim S2x8x8192x1 ![0, 1, 2] bcast_S2x8x8192_S2x8x8192x1_0_1_2 (Host.reduceAdd e (constant S_ .f32 0x00000000#32) reducesTo_S2x8x8192x8192_S2x8x8192_d3 h_S_)))

/-- The heads' values. -/
def hval (a2 : FVec Ideal S2x8192x256 .bf16) (a3 : FVec Ideal S128x8x128 .f32) : FVec Ideal S2x8x8192x128 .f32 :=
  transpose S2x8x8192x128 [2, 0, 3, 1] (Host.dotGeneral dot_S128x8x128_S2x8192x128_S8x128x2x8192_0_2_12_01_n_n none a3 (extf .f32 (extractStridedSlice S2x8192x128 ![0, 0, 0] a2 slices_S2x8192x256_S2x8192x128_0_0_0) bitsLt_bf16_f32)) transposes_S8x128x2x8192_S2x8x8192x128_2_0_3_1

def hout (p : FVec Ideal S2x8x8192x8192 .f32) (u : FVec Ideal S2x8x8192x128 .f32) : FVec Ideal S16384x1024 .bf16 :=
  truncf .bf16 (shapeCast _ (transpose S2x8192x8x128 [0, 2, 1, 3] (Host.dotGeneral dot_S2x8x8192x8192_S2x8x8192x128_S2x8x8192x128_3_2_2_3_01_01 none p u) transposes_S2x8x8192x128_S2x8192x8x128_0_2_1_3) shapeCasts_S2x8192x8x128_S16384x1024) bitsLt_bf16_f32

def hres (a0 : FVec Ideal S2x8192x8x256 .bf16) (a1 a2 : FVec Ideal S2x8192x256 .bf16) (a3 : FVec Ideal S128x8x128 .f32) : FVec Ideal S16384x1024 .bf16 :=
  hout (hsm (hex (hvis (hsc a0 a1)) (hmx (hvis (hsc a0 a1))))) (hval a2 a3)

theorem res_eq (m : (ℓ : Loc nD τ sig) → Buf (Elt Ideal) ℓ) (c : Dev nD) : Value.res_out0 (F := Ideal) m c
    = hres (m ((c.tc : Thread nD τ).loc main_arg0)) (m ((c.tc : Thread nD τ).loc main_arg1)) (m ((c.tc : Thread nD τ).loc main_arg2)) (m ((c.tc : Thread nD τ).loc main_arg3)) := rfl

theorem chunk_word : ∀ n : Fin 8192, Scalar.select
      (IntOp.andi
        (IntOp.cmpi CmpIPredicate.ne (if BitVec.ofNat 32 n.val = 0 then (0 : BitVec 32) else if (BitVec.ofNat 32 n.val).msb = true then -1 else 1)
          (if 64#32 = 0 then (0 : BitVec 32) else if (64#32).msb = true then -1 else 1))
        (IntOp.cmpi CmpIPredicate.ne (IntOp.remsi ArithUnit.host (BitVec.ofNat 32 n.val) 64#32) 0#32))
      (IntOp.subi (IntOp.divsi ArithUnit.host (BitVec.ofNat 32 n.val) 64#32) 1#32)
      (IntOp.divsi ArithUnit.host (BitVec.ofNat 32 n.val) 64#32) = BitVec.ofNat 32 (n.val / 64) := by decide +kernel

theorem chunk_at (n : Fin 8192) : hchunk (ix1 n) = BitVec.ofNat 32 (n.val / 64) := by
  pointwise [hchunk]
  exact chunk_word n

theorem sle7 : ∀ a b : Fin 128, IntOp.cmpi .sle (BitVec.ofNat 32 a.val) (BitVec.ofNat 32 b.val) = if a.val ≤ b.val then 1#1 else 0#1 := by decide +kernel

theorem mask_at (q k : Fin 8192) : hmask (ix2 q k) = if k.val / 64 ≤ q.val / 64 then 1#1 else 0#1 := by
  have h : hmask (ix2 q k) = IntOp.cmpi .sle (hchunk (ix1 k)) (hchunk (ix1 q)) := by
    pointwise [hmask]
  rw [h, chunk_at, chunk_at]
  exact sle7 ⟨k.val / 64, by omega⟩ ⟨q.val / 64, by omega⟩

theorem neg_inf : Ideal.ofBits FTy.f32 0xFF800000#32 = ⊥ := by simp [Ideal.ofBits, Ideal.ieee]

theorem two : Ideal.ofBits FTy.f32 0x40000000#32 = ((2 : ℝ) : EReal) := by
  simp [Ideal.ofBits, Ideal.ieee]
  rw [← EReal.coe_mul]
  exact congrArg Real.toEReal (by norm_num)

theorem log_two : Ideal.log (Ideal.ofBits FTy.f32 0x40000000#32) = ((Real.log 2 : ℝ) : EReal) := by
  rw [two, Ideal.log_coe, if_neg (by norm_num)]

/-- A fold by maxima from the least element is the supremum. -/
theorem fold_sup {ι : Type} (s : Finset ι) (op : EReal → EReal → EReal) [Std.Commutative op] [Std.Associative op]
    (hop : ∀ x y, op x y = max x y) (f : ι → EReal) : s.fold op ⊥ f = s.sup f := by
  classical
  induction s using Finset.induction_on with
  | empty => rw [Finset.fold_empty, Finset.sup_empty]
  | insert a s ha ih => rw [Finset.fold_insert ha, hop, ih, Finset.sup_insert]

theorem sc_at (a0 : FVec Ideal S2x8192x8x256 .bf16) (a1 : FVec Ideal S2x8192x256 .bf16) (b : Fin 2) (h : Fin 8) (q k : Fin 8192) :
    hsc a0 a1 (ix4 b h q k) = (∑ d : Fin 256, (a0 (ix4 b q h d) : EReal) * a1 (ix3 b k d)) * Ideal.log (Ideal.ofBits .f32 0x40000000#32) := by
  pointwise [hsc]

theorem vis_at (s : FVec Ideal S2x8x8192x8192 .f32) (b : Fin 2) (h : Fin 8) (q k : Fin 8192) :
    hvis s (ix4 b h q k) = if k.val / 64 ≤ q.val / 64 then (s (ix4 b h q k) : EReal) else ⊥ := by
  have e : hvis s (ix4 b h q k) = Scalar.select (hmask (ix2 q k)) (s (ix4 b h q k)) (Ideal.ofBits .f32 0xFF800000#32) := by
    pointwise [hvis]
    rfl
  rw [e, mask_at, neg_inf]
  by_cases hk : k.val / 64 ≤ q.val / 64
  · simp only [hk, if_true]; rfl
  · simp only [hk, if_false]; rfl

theorem mxtop_at (R : FVec Ideal S2x8x8192 .f32) (j : S2x8x8192.Idx) :
    (maximumf (broadcastInDim S2x8x8192 ![] bcast_S_S2x8x8192 (constant (F := Ideal) S_ .f32 0xFF800000#32)) R : FVec Ideal S2x8x8192 .f32) j = (R j : EReal) := by
  have e : (maximumf (broadcastInDim S2x8x8192 ![] bcast_S_S2x8x8192 (constant (F := Ideal) S_ .f32 0xFF800000#32)) R : FVec Ideal S2x8x8192 .f32) j
    = max (Ideal.ofBits .f32 0xFF800000#32) (R j) := rfl
  rw [e, neg_inf]
  exact max_eq_right bot_le

theorem mx_at (w : FVec Ideal S2x8x8192x8192 .f32) (b : Fin 2) (h : Fin 8) (q : Fin 8192) :
    hmx w (ix3 b h q) = Finset.univ.sup fun k : Fin 8192 => (w (ix4 b h q k) : EReal) := by
  have e2 : (constant (F := Ideal) S_ .f32 0xFF800000#32 : FVec Ideal S_ .f32) = fun _ => (⊥ : EReal) := funext fun _ => neg_inf
  refine (mxtop_at _ _).trans ?_
  rw [e2, Host.reduce_eq_fold, Shape.ReducesTo.fold_fiber_r4_a3]
  exact fold_sup _ _ (fun _ _ => rfl) _

theorem ex_at (w : FVec Ideal S2x8x8192x8192 .f32) (M : FVec Ideal S2x8x8192 .f32) (b : Fin 2) (h : Fin 8) (q k : Fin 8192) :
    hex w M (ix4 b h q k) = Ideal.exp (w (ix4 b h q k) - M (ix3 b h q)) := by
  pointwise [hex]

theorem sm_at (e : FVec Ideal S2x8x8192x8192 .f32) (b : Fin 2) (h : Fin 8) (q k : Fin 8192) :
    hsm e (ix4 b h q k) = Ideal.div (e (ix4 b h q k)) (∑ k : Fin 8192, (e (ix4 b h q k) : EReal)) := by
  pointwise [hsm]

theorem val_at (a2 : FVec Ideal S2x8192x256 .bf16) (a3 : FVec Ideal S128x8x128 .f32) (b : Fin 2) (h : Fin 8) (k : Fin 8192) (d : Fin 128) :
    hval a2 a3 (ix4 b h k d) = ∑ c : Fin 128, (a3 (ix3 c h d) : EReal) * a2 (ix3 b k ⟨c.val, by omega⟩) := by
  pointwise [hval]

theorem out_at (p : FVec Ideal S2x8x8192x8192 .f32) (u : FVec Ideal S2x8x8192x128 .f32) (n : Fin 16384) (l : Fin 1024) :
    hout p u (ix2 n l) = ∑ k : Fin 8192, (p (ix4 ⟨n.val / 8192, by omega⟩ ⟨l.val / 128, by omega⟩ ⟨n.val % 8192, by omega⟩ k) : EReal)
      * u (ix4 ⟨n.val / 8192, by omega⟩ ⟨l.val / 128, by omega⟩ k ⟨l.val % 128, by omega⟩) := by
  pointwise [hout]

end Cert.MlaReferenceIdeal.Attn
end
-- ==== Proof.MlaValue.lean ====
module

public import proofs.«01_k».proof.Proof.MlaOut
public import proofs.«01_k».proof.Proof.MlaBlocks
public import proofs.«01_k».proof.Proof.MlaRef

@[expose] public section

set_option maxRecDepth 16384

noncomputable section

open Idealize.ShloMosaic Idealize.ShloMosaic.TcCoe Idealize.SL.Sem

namespace Cert.MlaIdeal.Attn

open Cert.MlaIdeal Cert.MlaIdeal.Gen Cert.MlaIdeal.Row

/-! The attention as real numbers, and both programs' results as that. -/

section Real

variable (Q : S2x8192x8x256.Idx → ℝ) (K V : S2x8192x256.Idx → ℝ) (W : S128x8x128.Idx → ℝ)

/-- A query's score at a key, in powers of two. -/
def σR (b : Fin 2) (h : Fin 8) (q : Fin 8192) (κ : ℕ) : ℝ :=
  if hκ : κ < 8192 then ∑ d : Fin 256, Q (ix4 b q h d) * K (ix3 b ⟨κ, hκ⟩ d) else 0

/-- A key's latent value. -/
def vR (b : Fin 2) (κ : ℕ) (e : Fin 256) : ℝ := if hκ : κ < 8192 then V (ix3 b ⟨κ, hκ⟩ e) else 0

/-- The attention's output: the softmax over the keys whose chunk is not after the query's, on the latent values taken through the head's projection. -/
def attR (b : Fin 2) (h : Fin 8) (q : Fin 8192) (d : Fin 128) : ℝ :=
  att (σR Q K b h q) (fun κ c => vR V b κ ⟨c.val, by omega⟩) (fun c => W (ix3 c h d)) ((Finset.range 8192).filter fun κ => κ / 64 ≤ q.val / 64)

/-- The output at a row of the result and one of its lanes. -/
def resR (n : Fin 16384) (l : Fin 1024) : ℝ :=
  attR Q K V W ⟨n.val / 8192, by omega⟩ ⟨l.val / 128, by omega⟩ ⟨n.val % 8192, by omega⟩ ⟨l.val % 128, by omega⟩

/-- The upper lanes are ones. -/
def OnesR : Prop := ∀ (b : Fin 2) (k : Fin 8192) (e : Fin 128), V (ix3 b k ⟨128 + e.val, by omega⟩) = 1

variable (a0 : FVec Ideal S2x8192x8x256 .bf16) (a1 a2 : FVec Ideal S2x8192x256 .bf16) (a3 : FVec Ideal S128x8x128 .f32)
  (hQ : ∀ i, (a0 i : EReal) = ((Q i : ℝ) : EReal)) (hK : ∀ i, (a1 i : EReal) = ((K i : ℝ) : EReal))
  (hV : ∀ i, (a2 i : EReal) = ((V i : ℝ) : EReal)) (hW : ∀ i, (a3 i : EReal) = ((W i : ℝ) : EReal))

include hQ hK in
theorem score (b : Fin 2) (h : Fin 8) (q κ : Fin 8192) :
    ∑ d : Fin 256, (a0 (ix4 b q h d) : EReal) * a1 (ix3 b κ d) = ((σR Q K b h q κ.val : ℝ) : EReal) := by
  unfold σR
  rw [dif_pos κ.isLt, coe_sum']
  exact Finset.sum_congr rfl fun d _ => by rw [hQ, hK, EReal.coe_mul]

include hQ hK hV hW in
/-- The reference's result, an entry at a time. -/
theorem ref_at (n : Fin 16384) (l : Fin 1024) : (Cert.MlaReferenceIdeal.Attn.hres a0 a1 a2 a3 : FVec Ideal S16384x1024 .bf16) (ix2 n l)
    = ((resR Q K V W n l : ℝ) : EReal) := by
  unfold resR
  unfold Cert.MlaReferenceIdeal.Attn.hres
  rw [Cert.MlaReferenceIdeal.Attn.out_at]
  generalize (⟨n.val / 8192, by omega⟩ : Fin 2) = b
  generalize (⟨l.val / 128, by omega⟩ : Fin 8) = h
  generalize (⟨n.val % 8192, by omega⟩ : Fin 8192) = q
  generalize (⟨l.val % 128, by omega⟩ : Fin 128) = d
  unfold attR
  rw [← direct 8192 (σR Q K b h q) (fun κ c => vR V b κ ⟨c.val, by omega⟩) (fun c => W (ix3 c h d)) (fun κ => κ / 64 ≤ q.val / 64) ⟨0, by omega, by omega⟩
    (fun k => Cert.MlaReferenceIdeal.Attn.hvis (Cert.MlaReferenceIdeal.Attn.hsc a0 a1) (ix4 b h q k)) (fun k => ?_)
    (Cert.MlaReferenceIdeal.Attn.hmx (Cert.MlaReferenceIdeal.Attn.hvis (Cert.MlaReferenceIdeal.Attn.hsc a0 a1)) (ix3 b h q)) (Cert.MlaReferenceIdeal.Attn.mx_at _ b h q)
    (fun k => Cert.MlaReferenceIdeal.Attn.hval a2 a3 (ix4 b h k d)) (fun k => ?_)]
  · refine Finset.sum_congr rfl fun k _ => ?_
    rw [Cert.MlaReferenceIdeal.Attn.sm_at, Cert.MlaReferenceIdeal.Attn.ex_at]
    refine congrArg (fun x => Ideal.div _ x * _) (Finset.sum_congr rfl fun k _ => ?_)
    rw [Cert.MlaReferenceIdeal.Attn.ex_at]
  · rw [Cert.MlaReferenceIdeal.Attn.vis_at, Cert.MlaReferenceIdeal.Attn.sc_at, Cert.MlaReferenceIdeal.Attn.log_two, score Q K a0 a1 hQ hK, ← EReal.coe_mul]
  · rw [Cert.MlaReferenceIdeal.Attn.val_at, coe_sum']
    refine Finset.sum_congr rfl fun c _ => ?_
    unfold vR
    rw [dif_pos k.isLt, hW, hV, ← EReal.coe_mul, mul_comm]

end Real

section Kernel

variable (m : (ℓ : Loc nD τ sig) → Buf (Elt Ideal) ℓ) (c : Dev nD)
  (Q : S2x8192x8x256.Idx → ℝ) (K V : S2x8192x256.Idx → ℝ) (W : S128x8x128.Idx → ℝ)
  (hQ : ∀ i, ((m ((c.tc : Thread nD τ).loc main_arg0) : FVec Ideal S2x8192x8x256 .bf16) i : EReal) = ((Q i : ℝ) : EReal))
  (hK : ∀ i, ((m ((c.tc : Thread nD τ).loc main_arg1) : FVec Ideal S2x8192x256 .bf16) i : EReal) = ((K i : ℝ) : EReal))
  (hV : ∀ i, ((m ((c.tc : Thread nD τ).loc main_arg2) : FVec Ideal S2x8192x256 .bf16) i : EReal) = ((V i : ℝ) : EReal))
  (hW : ∀ i, ((m ((c.tc : Thread nD τ).loc main_arg3) : FVec Ideal S128x8x128 .f32) i : EReal) = ((W i : ℝ) : EReal))
  (hone : OnesR V)

include hQ hK hV hW hone in
/-- The block a point leaves, an entry at a time. -/
theorem blk_at (t : Fin cfg0.N) (tok : Fin 256) (l : Fin 1024) (hb hq) :
    (blkAt m c t : FVec Ideal S256x1024 .bf16) (ix2 tok l)
      = ((attR Q K V W ⟨t.val / 32, hb⟩ ⟨l.val / 128, by omega⟩ ⟨256 * (t.val % 32) + tok.val, hq⟩ ⟨l.val % 128, by omega⟩ : ℝ) : EReal) := by
  have h64 := tlt t
  unfold blkAt
  rw [out_fn]
  show head _ _ ⟨l.val / 128, _⟩ ⟨tok.val, _⟩ ⟨l.val % 128, _⟩ = _
  generalize hh : (⟨l.val / 128, by omega⟩ : Fin 8) = h
  generalize (⟨l.val % 128, by omega⟩ : Fin 128) = d
  have hi : ((grid0.coords t) 1).val = t.val % 32 := (by decide +kernel : ∀ t : Fin grid0.N, ((grid0.coords t) 1).val = t.val % 32) t
  have hr1 : (256 * h.val + tok.val) % 256 = tok.val := by omega
  have hr2 : (256 * h.val + tok.val) / 256 = h.val := by omega
  have hfin := good_fin (qBlk m c t) (kBlk m c t) (vBlk m c t) ⟨256 * h.val + tok.val, by omega⟩
    (σR Q K ⟨t.val / 32, hb⟩ h ⟨256 * (t.val % 32) + tok.val, hq⟩) (vR V ⟨t.val / 32, hb⟩)
    (fun κ => by
      rw [← score Q K (m ((c.tc : Thread nD τ).loc main_arg0) : FVec Ideal S2x8192x8x256 .bf16) (m ((c.tc : Thread nD τ).loc main_arg1) : FVec Ideal S2x8192x256 .bf16) hQ hK]
      refine Finset.sum_congr rfl fun e _ => ?_
      rw [readq m c t _ e hb (by omega) (by omega), readk m c t κ e hb]
      refine congrArg (fun x : EReal => x * (_ : EReal)) (congrArg (m ((c.tc : Thread nD τ).loc main_arg0) : FVec Ideal S2x8192x8x256 .bf16) ?_)
      exact congrArg₂ (fun x y => ix4 _ x y e) (Fin.ext (by dsimp only; omega)) (Fin.ext (by dsimp only; omega)))
    (fun κ e => by
      rw [readv m c t κ e hb, hV]
      unfold vR
      rw [dif_pos κ.isLt])
    (grid0.coords t) (sb0 (F := Ideal))
  rw [hi] at hfin
  dsimp only at hfin
  rw [hr1] at hfin
  have ho := online _ _ _ ⟨0, by simp⟩ _ _ hfin (fun κ hκ e => by
      have hκ' : κ < 8192 := Finset.mem_range.mp (Finset.mem_filter.mp hκ).1
      unfold vR
      exact (dif_pos hκ').trans (hone _ _ e))
    (fun e => (wBlk m c t : FVec Ideal S8x128x128 .bf16) (ix3 h e d)) (fun e => W (ix3 e h d)) (fun e => by rw [readw, hW])
  unfold head attR
  exact ho

include hQ hK hV hW hone in
/-- The result array, an entry at a time. -/
theorem arr_at (n : Fin 16384) (l : Fin 1024) : ((pdat m 0 c).arrAt 4 cfg0.N : FVec Ideal S16384x1024 .bf16) (ix2 n l)
    = ((resR Q K V W n l : ℝ) : EReal) := by
  unfold resR
  have hN : n.val / 256 < cfg0.N := lt_of_lt_of_eq (by omega) N_0.symm
  have hf : (cfg0.win 4).flush ⟨n.val / 256, hN⟩ = true := (by decide +kernel : ∀ t : Fin grid0.N, (cfg0.win 4).flush t = true) ⟨n.val / 256, hN⟩
  have hb := congrFun (result_block m c ⟨n.val / 256, hN⟩ hf) (ix2 ⟨n.val % 256, by omega⟩ l)
  have hx := blk_at m c Q K V W hQ hK hV hW hone ⟨n.val / 256, hN⟩ ⟨n.val % 256, by omega⟩ l (by dsimp only; omega) (by dsimp only; omega)
  have hg : (((cfg0.win 4).cut (grid0.coords ⟨n.val / 256, hN⟩) (blkAt m c ⟨n.val / 256, hN⟩)) (ix2 ⟨n.val % 256, by omega⟩ l) : EReal)
      = (blkAt m c ⟨n.val / 256, hN⟩ : FVec Ideal S256x1024 .bf16) (ix2 ⟨n.val % 256, by omega⟩ l) := rfl
  have he : ((pdat m 0 c).arrAt 4 cfg0.N : FVec Ideal S16384x1024 .bf16) (ix2 n l)
      = (((cfg0.win 4).blk ⟨n.val / 256, hN⟩).view.read (Elt Ideal) ((pdat m 0 c).arrAt 4 cfg0.N)) (ix2 ⟨n.val % 256, by omega⟩ l) := by
    refine congrArg ((pdat m 0 c).arrAt 4 cfg0.N : FVec Ideal S16384x1024 .bf16) ?_
    have hi := (idx ⟨n.val / 256, hN⟩).2.2.2.2
    funext a
    match a with
    | ⟨0, _⟩ =>
      refine Fin.ext (Eq.trans ?_ (ValueKit.view_emb_slice_whole_unit_val _ _ _ _ _ _).symm)
      show n.val = win0_4.index ⟨n.val / 256, hN⟩ 0 * 256 + n.val % 256
      rw [hi]
      show n.val = n.val / 256 * 256 + n.val % 256
      omega
    | ⟨1, _⟩ =>
      refine Fin.ext (Eq.trans ?_ (ValueKit.view_emb_slice_whole_unit_val _ _ _ _ _ _).symm)
      show l.val = win0_4.index ⟨n.val / 256, hN⟩ 1 * 1024 + l.val
      rw [hi]
      show l.val = 0 * 1024 + l.val
      omega
  refine he.trans (hb.trans (hg.trans (hx.trans ?_)))
  exact congrArg Real.toEReal (congrArg₂ (fun b q => attR Q K V W b _ q _) (Fin.ext (by dsimp only; omega)) (Fin.ext (by dsimp only; omega)))

include hQ hK hV hW hone in
/-- The two results are one. -/
theorem tie : Cert.MlaReferenceIdeal.Attn.hres (m ((c.tc : Thread nD τ).loc main_arg0)) (m ((c.tc : Thread nD τ).loc main_arg1)) (m ((c.tc : Thread nD τ).loc main_arg2)) (m ((c.tc : Thread nD τ).loc main_arg3))
    = ((pdat m 0 c).arrAt 4 cfg0.N : FVec Ideal S16384x1024 .bf16) := by
  refine funext fun (y : S16384x1024.Idx) => ?_
  obtain ⟨n, l, rfl⟩ : ∃ n l, y = ix2 n l := ⟨y 0, y 1, funext fun a => match a with | ⟨0, _⟩ => rfl | ⟨1, _⟩ => rfl⟩
  exact (ref_at Q K V W _ _ _ _ hQ hK hV hW n l).trans (arr_at m c Q K V W hQ hK hV hW hone n l).symm

end Kernel

end Cert.MlaIdeal.Attn
end
-- ==== Proof.MlaPre.lean ====
module

public import proofs.«01_k».proof.Pre_finite_latents
public import Idealize.ShloMosaic.Lib.Pipeline.ValueKit
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.Pre_finite_latents.Read

open Cert.Pre_finite_latents

/-! The precondition read: real arrays, and ones in the upper lanes of the third. -/

theorem inf16 : Ideal.ofBits FTy.bf16 0x7F80#16 = ⊤ := by simp [Ideal.ofBits, Ideal.ieee]
theorem inf32 : Ideal.ofBits FTy.f32 0x7F800000#32 = ⊤ := by simp [Ideal.ofBits, Ideal.ieee]
theorem one16 : Ideal.ofBits FTy.bf16 0x3F80#16 = ((1 : ℝ) : EReal) := by
  simp [Ideal.ofBits, Ideal.ieee]
  rw [← EReal.coe_mul, ← EReal.coe_one]
  exact congrArg Real.toEReal (by norm_num)

/-- A value whose absolute value is below infinity is a real number. -/
theorem real_of (x : EReal) (h : Ideal.cmp .olt (max x (-x)) ⊤ = 1#1) : x = ((x.toReal : ℝ) : EReal) := by
  have h' : max x (-x) < ⊤ := by
    by_contra hn
    simp [Ideal.cmp, hn] at h
  refine (EReal.coe_toReal ?_ ?_).symm
  · rintro rfl; simp at h'
  · rintro rfl; simp at h'

theorem one_of (x : EReal) (h : Ideal.cmp .oeq x ((1 : ℝ) : EReal) = 1#1) : x.toReal = 1 := by
  have h' : x = ((1 : ℝ) : EReal) := by
    by_contra hn
    rw [EReal.coe_one] at h hn
    simp [Ideal.cmp, hn] at h
  rw [h', EReal.toReal_coe]

variable [Facts] (a0 : FVec Ideal S2x8192x8x256 .bf16) (a1 a2 : FVec Ideal S2x8192x256 .bf16) (a3 : FVec Ideal S128x8x128 .f32)

theorem real0 (h : (fn (F := Ideal) a0 a1 a2 a3).1 = fun _ => 1#1) (i) : (a0 i : EReal) = (((a0 i : EReal).toReal : ℝ) : EReal) := by
  have hi : Ideal.cmp .olt (max (a0 i : EReal) (-(a0 i : EReal))) (Ideal.ofBits FTy.bf16 0x7F80#16) = 1#1 := congrFun h i
  rw [inf16] at hi
  exact real_of _ hi

theorem real1 (h : (fn (F := Ideal) a0 a1 a2 a3).2.1 = fun _ => 1#1) (i) : (a1 i : EReal) = (((a1 i : EReal).toReal : ℝ) : EReal) := by
  have hi : Ideal.cmp .olt (max (a1 i : EReal) (-(a1 i : EReal))) (Ideal.ofBits FTy.bf16 0x7F80#16) = 1#1 := congrFun h i
  rw [inf16] at hi
  exact real_of _ hi

theorem real2 (h : (fn (F := Ideal) a0 a1 a2 a3).2.2.1 = fun _ => 1#1) (i) : (a2 i : EReal) = (((a2 i : EReal).toReal : ℝ) : EReal) := by
  have hi : Ideal.cmp .olt (max (a2 i : EReal) (-(a2 i : EReal))) (Ideal.ofBits FTy.bf16 0x7F80#16) = 1#1 := congrFun h i
  rw [inf16] at hi
  exact real_of _ hi

theorem real3 (h : (fn (F := Ideal) a0 a1 a2 a3).2.2.2.2 = fun _ => 1#1) (i) : (a3 i : EReal) = (((a3 i : EReal).toReal : ℝ) : EReal) := by
  have hi : Ideal.cmp .olt (max (a3 i : EReal) (-(a3 i : EReal))) (Ideal.ofBits FTy.f32 0x7F800000#32) = 1#1 := congrFun h i
  rw [inf32] at hi
  exact real_of _ hi

theorem ones (h : (fn (F := Ideal) a0 a1 a2 a3).2.2.2.1 = fun _ => 1#1) (b : Fin 2) (k : Fin 8192) (e : Fin 128) :
    (a2 (ix3 b k ⟨128 + e.val, by omega⟩) : EReal).toReal = 1 := by
  have hi := congrFun h (ix3 b k e)
  have hs : (extractStridedSlice S2x8192x128 ![0, 0, 128] a2 Facts.slices_S2x8192x256_S2x8192x128_0_0_128 : FVec Ideal S2x8192x128 .bf16) (ix3 b k e)
      = a2 (ix3 b k ⟨128 + e.val, by omega⟩) := by
    refine extractStridedSlice_apply _ _ _ _ _ fun a => ?_
    match a with
    | ⟨0, _⟩ => exact (Nat.zero_add _).symm
    | ⟨1, _⟩ => exact (Nat.zero_add _).symm
    | ⟨2, _⟩ => rfl
  have hj : Ideal.cmp .oeq ((extractStridedSlice S2x8192x128 ![0, 0, 128] a2 Facts.slices_S2x8192x256_S2x8192x128_0_0_128 : FVec Ideal S2x8192x128 .bf16) (ix3 b k e) : EReal)
      (Ideal.ofBits FTy.bf16 0x3F80#16) = 1#1 := hi
  rw [hs, one16] at hj
  exact one_of _ hj

end Cert.Pre_finite_latents.Read
end
-- ==== Proof.lean ====
module

public import proofs.«01_k».proof.Defs
public import proofs.«01_k».proof.Proof.Gen.MlaIdeal.Frame
public import proofs.«01_k».proof.Proof.Gen.Mla.Skeleton
public import proofs.«01_k».proof.Proof.Gen.MlaIdeal.Skeleton
public import proofs.«01_k».proof.Proof.Gen.Mla.Frame
public import proofs.«01_k».proof.Proof.Gen.MlaReferenceIdeal.Run
public import proofs.«01_k».proof.Proof.Gen.Mlp.Frame
public import proofs.«01_k».proof.Proof.Gen.MlpIdeal.Value
public import proofs.«01_k».proof.Proof.Gen.MlpReferenceIdeal.Run
public import proofs.«01_k».proof.Proof.Gen.OprojReferenceIdeal.Run
public import proofs.«01_k».proof.Proof.Gen.OprojIdeal.Value
public import proofs.«01_k».proof.Proof.Gen.Oproj.Frame
public import proofs.«01_k».proof.Proof.Gen.InprojReferenceIdeal.Run
public import proofs.«01_k».proof.Proof.Gen.Inproj.Frame
public import proofs.«01_k».proof.Proof.Gen.InprojIdeal.Value
public import proofs.«01_k».proof.Proof.Gen.Pre_finite_latents
public import proofs.«01_k».proof.Proof.Gen.MlpFirst.Frame
public import proofs.«01_k».proof.Proof.Gen.MlpFirstIdeal.Value
public import proofs.«01_k».proof.Proof.Gen.MlpFirstReferenceIdeal.Run
public import proofs.«01_k».proof.Proof.Gen.OprojFirst.Frame
public import proofs.«01_k».proof.Proof.Gen.OprojFirstIdeal.Value
public import proofs.«01_k».proof.Proof.Gen.OprojFirstReferenceIdeal.Run
public import proofs.«01_k».proof.Proof.Gen.MlaPrep.Frame
public import proofs.«01_k».proof.Proof.Gen.MlaPrepIdeal.Value
public import proofs.«01_k».proof.Proof.Gen.MlaPrepReferenceIdeal.Run
public import proofs.«01_k».proof.Proof.MlpRef
public import proofs.«01_k».proof.Proof.MlpFirst
public import proofs.«01_k».proof.Proof.Oproj
public import proofs.«01_k».proof.Proof.OprojFirst
public import proofs.«01_k».proof.Proof.Inproj
public import proofs.«01_k».proof.Proof.PrepRef
public import proofs.«01_k».proof.Proof.MlaValue
public import proofs.«01_k».proof.Proof.MlaPre
public import proofs.«01_k».proof.Proof.MlaBitsLaunch
public import Idealize.ShloMosaic.Adequacy
public import Idealize.ShloMosaic.Init
public import Idealize.ShloMosaic.Lib.Quiescent
public import Idealize.ShloMosaic.Lib.Tactic.ValueTie

@[expose] public section

noncomputable section

namespace Cert.Proof

open Idealize.ShloMosaic Idealize.SL.Sem

theorem quiescent_MlpReferenceIdeal : quiescent_MlpReferenceIdeal := fun m ρ _ =>
  (θ_run Cert.MlpReferenceIdeal.defs _ _).mono (fun r h => ⟨fun c => (h c).2, sem_eq_zero_of_no_sems (by decide) r.2⟩)
    (Cert.MlpReferenceIdeal.Value.run (F := Ideal) m ρ)

theorem algebraic_MlpIdeal_MlpReferenceIdeal : algebraic_MlpIdeal_MlpReferenceIdeal := by
  intro m ρ m' ρ' _ hagree
  refine ⟨_, Cert.MlpIdeal.Value.run (F := Ideal) m ρ, ?_⟩
  refine (θ_run Cert.MlpReferenceIdeal.defs _ _).mono (fun _ h c => ⟨?_, (h c).2⟩) (Cert.MlpReferenceIdeal.Value.run (F := Ideal) m' ρ')
  rw [(h c).1, Cert.MlpReferenceIdeal.Body.res_eq]
  obtain ⟨e0, e1, e2, e3, e4⟩ := hagree c
  rw [e0, e1, e2, e3, e4]
  refine funext fun (y : Cert.MlpIdeal.S16384x2048.Idx) => ?_
  obtain ⟨n, l, rfl⟩ : ∃ n l, y = ix2 n l := ⟨y 0, y 1, funext fun a => match a with | ⟨0, _⟩ => rfl | ⟨1, _⟩ => rfl⟩
  exact (Cert.MlpReferenceIdeal.Body.res_apply _ _ _ _ _ n l).trans (Cert.MlpIdeal.Body.G5_apply m c n l).symm

theorem quiescent_MlaReferenceIdeal : quiescent_MlaReferenceIdeal := fun m ρ _ =>
  (θ_run Cert.MlaReferenceIdeal.defs _ _).mono (fun r h => ⟨fun c => (h c).2, sem_eq_zero_of_no_sems (by decide) r.2⟩)
    (Cert.MlaReferenceIdeal.Value.run (F := Ideal) m ρ)

/-- The attention call at the ideal instance computes the reference's attention, from finite arrays whose third has ones in its upper lanes. -/
theorem algebraic_Mla : algebraic_MlaIdeal_MlaReferenceIdeal_pre_finite_latents := by
  intro m ρ m' ρ' hpre hagree
  refine ⟨_, Cert.MlaIdeal.Attn.valued (F := Ideal) m ρ, ?_⟩
  refine (θ_run Cert.MlaReferenceIdeal.defs _ _).mono (fun _ h c => ⟨?_, (h c).2⟩) (Cert.MlaReferenceIdeal.Value.run (F := Ideal) m' ρ')
  refine (h c).1.trans ((Cert.MlaReferenceIdeal.Attn.res_eq m' c).trans ?_)
  obtain ⟨e0, e1, e2, e3⟩ := hagree c
  rw [e0, e1, e2, e3]
  obtain ⟨p0, p1, p2, pone, p3⟩ := hpre c
  have h0 := Cert.Pre_finite_latents.Read.real0 _ _ _ _ p0
  have h1 := Cert.Pre_finite_latents.Read.real1 _ _ _ _ p1
  have h2 := Cert.Pre_finite_latents.Read.real2 _ _ _ _ p2
  have h3 := Cert.Pre_finite_latents.Read.real3 _ _ _ _ p3
  have ho := Cert.Pre_finite_latents.Read.ones _ _ _ _ pone
  exact Cert.MlaIdeal.Attn.tie m c _ _ _ _ h0 h1 h2 h3 ho

theorem quiescent_OprojReferenceIdeal : quiescent_OprojReferenceIdeal := fun m ρ _ =>
  (θ_run Cert.OprojReferenceIdeal.defs _ _).mono (fun r h => ⟨fun c => (h c).2, sem_eq_zero_of_no_sems (by decide) r.2⟩)
    (Cert.OprojReferenceIdeal.Value.run (F := Ideal) m ρ)

/-- The output projection's call at the ideal instance computes the reference's projection and residual. -/
theorem algebraic_Oproj : algebraic_OprojIdeal_OprojReferenceIdeal := by
  intro m ρ m' ρ' _ hagree
  refine ⟨_, Cert.OprojIdeal.Value.run_blocks (F := Ideal) m ρ, ?_⟩
  refine (θ_run Cert.OprojReferenceIdeal.defs _ _).mono (fun _ h c => ⟨?_, (h c).2⟩) (Cert.OprojReferenceIdeal.Value.run (F := Ideal) m' ρ')
  refine (h c).1.trans ?_
  obtain ⟨e0, e1, e2, e3, e4⟩ := hagree c
  rw [e0, e1, e2, e3, e4]
  exact Cert.OprojReferenceIdeal.Body.tie m c

theorem quiescent_InprojReferenceIdeal : quiescent_InprojReferenceIdeal := fun m ρ _ =>
  (θ_run Cert.InprojReferenceIdeal.defs _ _).mono (fun r h => ⟨fun c => (h c).2.2, sem_eq_zero_of_no_sems (by decide) r.2⟩)
    (Cert.InprojReferenceIdeal.Value.run (F := Ideal) m ρ)

/-- The input projection's call at the ideal instance computes the reference's normalisation and projections. -/
theorem algebraic_Inproj : algebraic_InprojIdeal_InprojReferenceIdeal := by
  intro m ρ m' ρ' _ hagree
  refine ⟨_, _, Cert.InprojIdeal.Value.run_blocks (F := Ideal) m ρ, ?_⟩
  refine (θ_run Cert.InprojReferenceIdeal.defs _ _).mono (fun _ h c => ⟨?_, ?_, (h c).2.2⟩) (Cert.InprojReferenceIdeal.Value.run (F := Ideal) m' ρ')
  · refine (h c).1.trans ?_
    obtain ⟨e0, e1, e2⟩ := hagree c
    rw [e0, e1, e2]
    exact Cert.InprojReferenceIdeal.Body.tie4 m c
  · refine (h c).2.1.trans ?_
    obtain ⟨e0, e1, e2⟩ := hagree c
    rw [e0, e1, e2]
    exact Cert.InprojReferenceIdeal.Body.tie5 m c

theorem quiescent_MlpFirstReferenceIdeal : quiescent_MlpFirstReferenceIdeal := fun m ρ _ =>
  (θ_run Cert.MlpFirstReferenceIdeal.defs _ _).mono (fun r h => ⟨fun c => (h c).2, sem_eq_zero_of_no_sems (by decide) r.2⟩)
    (Cert.MlpFirstReferenceIdeal.Value.run (F := Ideal) m ρ)

/-- The first layer's feed-forward call at the ideal instance computes the reference's feed-forward block. -/
theorem algebraic_MlpFirst : algebraic_MlpFirstIdeal_MlpFirstReferenceIdeal := by
  intro m ρ m' ρ' _ hagree
  refine ⟨_, Cert.MlpFirstIdeal.Value.run (F := Ideal) m ρ, ?_⟩
  refine (θ_run Cert.MlpFirstReferenceIdeal.defs _ _).mono (fun _ h c => ⟨?_, (h c).2⟩) (Cert.MlpFirstReferenceIdeal.Value.run (F := Ideal) m' ρ')
  refine (h c).1.trans ?_
  obtain ⟨e0, e1, e2, e3, e4⟩ := hagree c
  refine Eq.trans ?_ (Cert.MlpFirstReferenceIdeal.Body.tie m c)
  rw [← e0, ← e1, ← e2, ← e3]
  rfl

theorem quiescent_OprojFirstReferenceIdeal : quiescent_OprojFirstReferenceIdeal := fun m ρ _ =>
  (θ_run Cert.OprojFirstReferenceIdeal.defs _ _).mono (fun r h => ⟨fun c => (h c).2, sem_eq_zero_of_no_sems (by decide) r.2⟩)
    (Cert.OprojFirstReferenceIdeal.Value.run (F := Ideal) m ρ)

/-- The first layer's output projection at the ideal instance computes the reference's projection and residual. -/
theorem algebraic_OprojFirst : algebraic_OprojFirstIdeal_OprojFirstReferenceIdeal := by
  intro m ρ m' ρ' _ hagree
  refine ⟨_, Cert.OprojFirstIdeal.Value.run_blocks (F := Ideal) m ρ, ?_⟩
  refine (θ_run Cert.OprojFirstReferenceIdeal.defs _ _).mono (fun _ h c => ⟨?_, (h c).2⟩) (Cert.OprojFirstReferenceIdeal.Value.run (F := Ideal) m' ρ')
  refine (h c).1.trans ?_
  obtain ⟨e0, e1, e2, e3, e4⟩ := hagree c
  rw [e0, e1, e2, e3, e4]
  exact Cert.OprojFirstReferenceIdeal.Body.tie m c

theorem quiescent_MlaPrepReferenceIdeal : quiescent_MlaPrepReferenceIdeal := fun m ρ _ =>
  (θ_run Cert.MlaPrepReferenceIdeal.defs _ _).mono (fun r h => ⟨fun c => (h c).2.2.2, sem_eq_zero_of_no_sems (by decide) r.2⟩)
    (Cert.MlaPrepReferenceIdeal.Value.run (F := Ideal) m ρ)

/-- The latent attention's prep call at the ideal instance computes the reference's queries, keys and values. -/
theorem algebraic_MlaPrep : algebraic_MlaPrepIdeal_MlaPrepReferenceIdeal := by
  intro m ρ m' ρ' _ hagree
  refine ⟨_, _, _, Cert.MlaPrepIdeal.Value.run_blocks (F := Ideal) m ρ, ?_⟩
  refine (θ_run Cert.MlaPrepReferenceIdeal.defs _ _).mono (fun _ h c => ⟨?_, ?_, ?_, (h c).2.2.2⟩) (Cert.MlaPrepReferenceIdeal.Value.run (F := Ideal) m' ρ')
  · refine (h c).1.trans ((Cert.MlaPrepReferenceIdeal.Body.res0 m' c).trans ?_)
    obtain ⟨e0, e1, e2, e3, e4, e5, e6⟩ := hagree c
    rw [e0, e3, e5, e6]
    exact Cert.MlaPrepReferenceIdeal.Body.tie6 m c
  · refine (h c).2.1.trans ((Cert.MlaPrepReferenceIdeal.Body.res1 m' c).trans ?_)
    obtain ⟨e0, e1, e2, e3, e4, e5, e6⟩ := hagree c
    rw [e1, e2, e4]
    exact Cert.MlaPrepReferenceIdeal.Body.tie7 m c
  · refine (h c).2.2.1.trans ?_
    obtain ⟨e0, e1, e2, e3, e4, e5, e6⟩ := hagree c
    rw [e1, e4]
    exact Cert.MlaPrepReferenceIdeal.Body.tie8 m c

theorem claim : Cert.Claim := ⟨Cert.Mlp.Gen.facts, Cert.MlpIdeal.Gen.facts, Cert.MlpReferenceIdeal.Gen.facts,
  Cert.Mla.Gen.facts, Cert.MlaIdeal.Gen.facts, Cert.MlaReferenceIdeal.Gen.facts,
  Cert.Oproj.Gen.facts, Cert.OprojIdeal.Gen.facts, Cert.OprojReferenceIdeal.Gen.facts,
  Cert.Inproj.Gen.facts, Cert.InprojIdeal.Gen.facts, Cert.InprojReferenceIdeal.Gen.facts,
  Cert.MlpFirst.Gen.facts, Cert.MlpFirstIdeal.Gen.facts, Cert.MlpFirstReferenceIdeal.Gen.facts,
  Cert.OprojFirst.Gen.facts, Cert.OprojFirstIdeal.Gen.facts, Cert.OprojFirstReferenceIdeal.Gen.facts,
  Cert.MlaPrep.Gen.facts, Cert.MlaPrepIdeal.Gen.facts, Cert.MlaPrepReferenceIdeal.Gen.facts, Cert.Pre_finite_latents.Gen.facts,
  fun m ρ _ => Cert.Mlp.Gen.frame m ρ, fun m ρ _ => Cert.MlpIdeal.Gen.frame m ρ, quiescent_MlpReferenceIdeal,
  fun m ρ _ => Cert.Mla.Attn.framed m ρ, fun m ρ _ => Cert.MlaIdeal.Attn.framed m ρ, fun m ρ _ => Cert.MlaIdeal.Attn.framed m ρ,
  quiescent_MlaReferenceIdeal, fun m ρ _ => quiescent_MlaReferenceIdeal m ρ trivial,
  fun m ρ _ => Cert.Oproj.Gen.frame m ρ, fun m ρ _ => Cert.OprojIdeal.Gen.frame m ρ, quiescent_OprojReferenceIdeal,
  fun m ρ _ => Cert.Inproj.Gen.frame m ρ, fun m ρ _ => Cert.InprojIdeal.Gen.frame m ρ, quiescent_InprojReferenceIdeal,
  fun m ρ _ => Cert.MlpFirst.Gen.frame m ρ, fun m ρ _ => Cert.MlpFirstIdeal.Gen.frame m ρ, quiescent_MlpFirstReferenceIdeal,
  fun m ρ _ => Cert.OprojFirst.Gen.frame m ρ, fun m ρ _ => Cert.OprojFirstIdeal.Gen.frame m ρ, quiescent_OprojFirstReferenceIdeal,
  fun m ρ _ => Cert.MlaPrep.Gen.frame m ρ, fun m ρ _ => Cert.MlaPrepIdeal.Gen.frame m ρ, quiescent_MlaPrepReferenceIdeal,
  (trivial : preserves_Mlp_MlpIdeal), algebraic_MlpIdeal_MlpReferenceIdeal,
  IdealRules.named_const.statement Cert.MlaIdeal.κ "mask" .f32 0xF149F2CA#32 ⊥ rfl, algebraic_Mla,
  (trivial : preserves_Oproj_OprojIdeal), algebraic_Oproj,
  (trivial : preserves_Inproj_InprojIdeal), algebraic_Inproj,
  (trivial : preserves_MlpFirst_MlpFirstIdeal), algebraic_MlpFirst,
  (trivial : preserves_OprojFirst_OprojFirstIdeal), algebraic_OprojFirst,
  (trivial : preserves_MlaPrep_MlaPrepIdeal), algebraic_MlaPrep⟩

end Cert.Proof

end
